-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x640x768 : Shape := ⟨3, ![3, 640, 768]⟩
abbrev S3x640x24 : Shape := ⟨3, ![3, 640, 24]⟩
abbrev S7x768x768 : Shape := ⟨3, ![7, 768, 768]⟩
abbrev S768 : Shape := ⟨1, ![768]⟩
abbrev S1x768 : Shape := ⟨2, ![1, 768]⟩
abbrev S1x640x256 : Shape := ⟨3, ![1, 640, 256]⟩
abbrev S1x640x24 : Shape := ⟨3, ![1, 640, 24]⟩
abbrev S1x640x768 : Shape := ⟨3, ![1, 640, 768]⟩
abbrev S872x128 : Shape := ⟨2, ![872, 128]⟩
abbrev S32x128 : Shape := ⟨2, ![32, 128]⟩
abbrev S736x128 : Shape := ⟨2, ![736, 128]⟩
abbrev S2x928x256 : Shape := ⟨3, ![2, 928, 256]⟩
abbrev S3x1792x768 : Shape := ⟨3, ![3, 1792, 768]⟩
abbrev S640x768 : Shape := ⟨2, ![640, 768]⟩
abbrev S3x7 : Shape := ⟨2, ![3, 7]⟩
abbrev S1x1 : Shape := ⟨2, ![1, 1]⟩
abbrev S_ : Shape := ⟨0, ![]⟩
abbrev S1x256x768 : Shape := ⟨3, ![1, 256, 768]⟩
abbrev S256x768 : Shape := ⟨2, ![256, 768]⟩
abbrev S1x40x24 : Shape := ⟨3, ![1, 40, 24]⟩
abbrev S40x24 : Shape := ⟨2, ![40, 24]⟩
abbrev S16x128 : Shape := ⟨2, ![16, 128]⟩
abbrev S8x128 : Shape := ⟨2, ![8, 128]⟩
abbrev S1x80x128 : Shape := ⟨3, ![1, 80, 128]⟩
abbrev S80x128 : Shape := ⟨2, ![80, 128]⟩
abbrev S40x128 : Shape := ⟨2, ![40, 128]⟩
abbrev S8x128x1 : Shape := ⟨3, ![8, 128, 1]⟩
abbrev S1x928x256 : Shape := ⟨3, ![1, 928, 256]⟩
abbrev S928x256 : Shape := ⟨2, ![928, 256]⟩
abbrev S1x32x128 : Shape := ⟨3, ![1, 32, 128]⟩
abbrev S1x16x128 : Shape := ⟨3, ![1, 16, 128]⟩
abbrev S320x256 : Shape := ⟨2, ![320, 256]⟩
abbrev S320x1792 : Shape := ⟨2, ![320, 1792]⟩
abbrev S1x1792x768 : Shape := ⟨3, ![1, 1792, 768]⟩
abbrev S1792x768 : Shape := ⟨2, ![1792, 768]⟩
abbrev S1792x256 : Shape := ⟨2, ![1792, 256]⟩
abbrev S1x128 : Shape := ⟨2, ![1, 128]⟩

abbrev nBuf : Space → Nat
  | .hbm => 9
  | .vmem => 17
  | .smem => 0
  | _ => 0

abbrev bufTy : (tb : Table) → Fin (tcTables nBuf tb) → BufTy
  | .hbm, ⟨0, _⟩ => ⟨S3x640x768, .fp8e4m3⟩
  | .hbm, ⟨1, _⟩ => ⟨S3x640x24, .f32⟩
  | .hbm, ⟨2, _⟩ => ⟨S3x640x768, .bf16⟩
  | .hbm, ⟨3, _⟩ => ⟨S7x768x768, .fp8e4m3⟩
  | .hbm, ⟨4, _⟩ => ⟨S768, .f32⟩
  | .hbm, ⟨5, _⟩ => ⟨S768, .f32⟩
  | .hbm, ⟨6, _⟩ => ⟨S1x768, .f32⟩
  | .hbm, ⟨7, _⟩ => ⟨S1x768, .f32⟩
  | .hbm, ⟨8, _⟩ => ⟨S3x640x768, .bf16⟩
  | .local _ .vmem, ⟨0, _⟩ => ⟨S1x640x256, .fp8e4m3⟩
  | .local _ .vmem, ⟨1, _⟩ => ⟨S1x640x256, .fp8e4m3⟩
  | .local _ .vmem, ⟨2, _⟩ => ⟨S1x640x24, .f32⟩
  | .local _ .vmem, ⟨3, _⟩ => ⟨S1x640x24, .f32⟩
  | .local _ .vmem, ⟨4, _⟩ => ⟨S1x640x768, .bf16⟩
  | .local _ .vmem, ⟨5, _⟩ => ⟨S1x640x768, .bf16⟩
  | .local _ .vmem, ⟨6, _⟩ => ⟨S1x768, .f32⟩
  | .local _ .vmem, ⟨7, _⟩ => ⟨S1x768, .f32⟩
  | .local _ .vmem, ⟨8, _⟩ => ⟨S1x640x768, .bf16⟩
  | .local _ .vmem, ⟨9, _⟩ => ⟨S1x640x768, .bf16⟩
  | .local _ .vmem, ⟨10, _⟩ => ⟨S872x128, .f32⟩
  | .local _ .vmem, ⟨11, _⟩ => ⟨S32x128, .f32⟩
  | .local _ .vmem, ⟨12, _⟩ => ⟨S736x128, .f32⟩
  | .local _ .vmem, ⟨13, _⟩ => ⟨S736x128, .f32⟩
  | .local _ .vmem, ⟨14, _⟩ => ⟨S2x928x256, .bf16⟩
  | .local _ .vmem, ⟨15, _⟩ => ⟨S3x1792x768, .fp8e4m3⟩
  | .local _ .vmem, ⟨16, _⟩ => ⟨S640x768, .f32⟩
  | _, _ => ⟨S3x640x768, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c1_i32_3 : BitVec 32 := 1#32
  let v8 : BitVec 1 := Scalar.cmpi .sge arg0 c1_i32_3
  let c3_i32_4 : BitVec 32 := 3#32
  let v9 : BitVec 1 := Scalar.cmpi .sle arg0 c3_i32_4
  let v10 : BitVec 1 := Scalar.andi v8 v9
  let v11 : BitVec 32 := Scalar.extui v10
  let c0_i32_5 : BitVec 32 := 0#32
  let v12 : BitVec 1 := Scalar.cmpi .ne v11 c0_i32_5
  v12

def k0_off1 (i : grid0.Coords) : Fin 2 → Nat :=
  let arg0 : BitVec 32 := BitVec.ofNat 32 (i 0).val
  let c1_i32_15 : BitVec 32 := 1#32
  let v29 : BitVec 32 := Scalar.subi arg0 c1_i32_15
  let c0_i32_17 : BitVec 32 := 0#32
  ![v29.toNat, 0]
def k0_off2 (i : grid0.Coords) : Fin 3 → Nat :=
  let arg0 : BitVec 32 := BitVec.ofNat 32 (i 0).val
  let c1_i32_15 : BitVec 32 := 1#32
  let v29 : BitVec 32 := Scalar.subi arg0 c1_i32_15
  let c0_i32_18 : BitVec 32 := 0#32
  let c0_i32_19 : BitVec 32 := 0#32
  ![v29.toNat, 0, 0]
def k0_off3 (i : grid0.Coords) : Fin 3 → Nat :=
  let c0_i32_16 : BitVec 32 := 0#32
  let arg0 : BitVec 32 := BitVec.ofNat 32 (i 0).val
  let c1_i32_15 : BitVec 32 := 1#32
  let v29 : BitVec 32 := Scalar.subi arg0 c1_i32_15
  let c256_i32 : BitVec 32 := 256#32
  let v30 : BitVec 32 := Scalar.muli v29 c256_i32
  let c0_i32_20 : BitVec 32 := 0#32
  ![0, v30.toNat, 0]
def k0_off4 (i : grid0.Coords) : Fin 2 → Nat :=
  let arg0 : BitVec 32 := BitVec.ofNat 32 (i 0).val
  let c1_i32_21 : BitVec 32 := 1#32
  let v37 : BitVec 32 := Scalar.subi arg0 c1_i32_21
  let c1_i32_24 : BitVec 32 := 1#32
  ![v37.toNat, 1]
def k0_off5 (i : grid0.Coords) : Fin 3 → Nat :=
  let arg0 : BitVec 32 := BitVec.ofNat 32 (i 0).val
  let c1_i32_21 : BitVec 32 := 1#32
  let v37 : BitVec 32 := Scalar.subi arg0 c1_i32_21
  let c256_i32_25 : BitVec 32 := 256#32
  let c0_i32_26 : BitVec 32 := 0#32
  ![v37.toNat, 256, 0]
def k0_off6 (i : grid0.Coords) : Fin 3 → Nat :=
  let c1_i32_23 : BitVec 32 := 1#32
  let arg0 : BitVec 32 := BitVec.ofNat 32 (i 0).val
  let c1_i32_21 : BitVec 32 := 1#32
  let v37 : BitVec 32 := Scalar.subi arg0 c1_i32_21
  let c256_i32_22 : BitVec 32 := 256#32
  let v38 : BitVec 32 := Scalar.muli v37 c256_i32_22
  let c0_i32_27 : BitVec 32 := 0#32
  ![1, v38.toNat, 0]
def k0_off7 (i : grid0.Coords) : Fin 2 → Nat :=
  let arg0 : BitVec 32 := BitVec.ofNat 32 (i 0).val
  let c1_i32_28 : BitVec 32 := 1#32
  let v45 : BitVec 32 := Scalar.subi arg0 c1_i32_28
  let c2_i32_31 : BitVec 32 := 2#32
  ![v45.toNat, 2]
def k0_off8 (i : grid0.Coords) : Fin 3 → Nat :=
  let arg0 : BitVec 32 := BitVec.ofNat 32 (i 0).val
  let c1_i32_28 : BitVec 32 := 1#32
  let v45 : BitVec 32 := Scalar.subi arg0 c1_i32_28
  let c512_i32 : BitVec 32 := 512#32
  let c0_i32_32 : BitVec 32 := 0#32
  ![v45.toNat, 512, 0]
def k0_off9 (i : grid0.Coords) : Fin 3 → Nat :=
  let c2_i32_30 : BitVec 32 := 2#32
  let arg0 : BitVec 32 := BitVec.ofNat 32 (i 0).val
  let c1_i32_28 : BitVec 32 := 1#32
  let v45 : BitVec 32 := Scalar.subi arg0 c1_i32_28
  let c256_i32_29 : BitVec 32 := 256#32
  let v46 : BitVec 32 := Scalar.muli v45 c256_i32_29
  let c0_i32_33 : BitVec 32 := 0#32
  ![2, v46.toNat, 0]
def k0_off10 (i : grid0.Coords) : Fin 2 → Nat :=
  let arg0 : BitVec 32 := BitVec.ofNat 32 (i 0).val
  let c1_i32_34 : BitVec 32 := 1#32
  let v53 : BitVec 32 := Scalar.subi arg0 c1_i32_34
  let c3_i32_37 : BitVec 32 := 3#32
  ![v53.toNat, 3]
def k0_off11 (i : grid0.Coords) : Fin 3 → Nat :=
  let arg0 : BitVec 32 := BitVec.ofNat 32 (i 0).val
  let c1_i32_34 : BitVec 32 := 1#32
  let v53 : BitVec 32 := Scalar.subi arg0 c1_i32_34
  let c768_i32 : BitVec 32 := 768#32
  let c0_i32_38 : BitVec 32 := 0#32
  ![v53.toNat, 768, 0]
def k0_off12 (i : grid0.Coords) : Fin 3 → Nat :=
  let c3_i32_36 : BitVec 32 := 3#32
  let arg0 : BitVec 32 := BitVec.ofNat 32 (i 0).val
  let c1_i32_34 : BitVec 32 := 1#32
  let v53 : BitVec 32 := Scalar.subi arg0 c1_i32_34
  let c256_i32_35 : BitVec 32 := 256#32
  let v54 : BitVec 32 := Scalar.muli v53 c256_i32_35
  let c0_i32_39 : BitVec 32 := 0#32
  ![3, v54.toNat, 0]
def k0_off13 (i : grid0.Coords) : Fin 2 → Nat :=
  let arg0 : BitVec 32 := BitVec.ofNat 32 (i 0).val
  let c1_i32_40 : BitVec 32 := 1#32
  let v61 : BitVec 32 := Scalar.subi arg0 c1_i32_40
  let c4_i32_42 : BitVec 32 := 4#32
  ![v61.toNat, 4]
def k0_off14 (i : grid0.Coords) : Fin 3 → Nat :=
  let arg0 : BitVec 32 := BitVec.ofNat 32 (i 0).val
  let c1_i32_40 : BitVec 32 := 1#32
  let v61 : BitVec 32 := Scalar.subi arg0 c1_i32_40
  let c1024_i32 : BitVec 32 := 1024#32
  let c0_i32_43 : BitVec 32 := 0#32
  ![v61.toNat, 1024, 0]
def k0_off15 (i : grid0.Coords) : Fin 3 → Nat :=
  let c4_i32 : BitVec 32 := 4#32
  let arg0 : BitVec 32 := BitVec.ofNat 32 (i 0).val
  let c1_i32_40 : BitVec 32 := 1#32
  let v61 : BitVec 32 := Scalar.subi arg0 c1_i32_40
  let c256_i32_41 : BitVec 32 := 256#32
  let v62 : BitVec 32 := Scalar.muli v61 c256_i32_41
  let c0_i32_44 : BitVec 32 := 0#32
  ![4, v62.toNat, 0]
def k0_off16 (i : grid0.Coords) : Fin 2 → Nat :=
  let arg0 : BitVec 32 := BitVec.ofNat 32 (i 0).val
  let c1_i32_45 : BitVec 32 := 1#32
  let v69 : BitVec 32 := Scalar.subi arg0 c1_i32_45
  let c5_i32_47 : BitVec 32 := 5#32
  ![v69.toNat, 5]
def k0_off17 (i : grid0.Coords) : Fin 3 → Nat :=
  let arg0 : BitVec 32 := BitVec.ofNat 32 (i 0).val
  let c1_i32_45 : BitVec 32 := 1#32
  let v69 : BitVec 32 := Scalar.subi arg0 c1_i32_45
  let c1280_i32 : BitVec 32 := 1280#32
  let c0_i32_48 : BitVec 32 := 0#32
  ![v69.toNat, 1280, 0]
def k0_off18 (i : grid0.Coords) : Fin 3 → Nat :=
  let c5_i32 : BitVec 32 := 5#32
  let arg0 : BitVec 32 := BitVec.ofNat 32 (i 0).val
  let c1_i32_45 : BitVec 32 := 1#32
  let v69 : BitVec 32 := Scalar.subi arg0 c1_i32_45
  let c256_i32_46 : BitVec 32 := 256#32
  let v70 : BitVec 32 := Scalar.muli v69 c256_i32_46
  let c0_i32_49 : BitVec 32 := 0#32
  ![5, v70.toNat, 0]
def k0_off19 (i : grid0.Coords) : Fin 2 → Nat :=
  let arg0 : BitVec 32 := BitVec.ofNat 32 (i 0).val
  let c1_i32_50 : BitVec 32 := 1#32
  let v77 : BitVec 32 := Scalar.subi arg0 c1_i32_50
  let c6_i32_52 : BitVec 32 := 6#32
  ![v77.toNat, 6]
def k0_off20 (i : grid0.Coords) : Fin 3 → Nat :=
  let arg0 : BitVec 32 := BitVec.ofNat 32 (i 0).val
  let c1_i32_50 : BitVec 32 := 1#32
  let v77 : BitVec 32 := Scalar.subi arg0 c1_i32_50
  let c1536_i32 : BitVec 32 := 1536#32
  let c0_i32_53 : BitVec 32 := 0#32
  ![v77.toNat, 1536, 0]
def k0_off21 (i : grid0.Coords) : Fin 3 → Nat :=
  let c6_i32 : BitVec 32 := 6#32
  let arg0 : BitVec 32 := BitVec.ofNat 32 (i 0).val
  let c1_i32_50 : BitVec 32 := 1#32
  let v77 : BitVec 32 := Scalar.subi arg0 c1_i32_50
  let c256_i32_51 : BitVec 32 := 256#32
  let v78 : BitVec 32 := Scalar.muli v77 c256_i32_51
  let c0_i32_54 : BitVec 32 := 0#32
  ![6, v78.toNat, 0]
def k0_cond3 (i : grid0.Coords) : BitVec 1 :=
  let arg0 : BitVec 32 := BitVec.ofNat 32 (i 0).val
  let c9_i32 : BitVec 32 := 9#32
  let v13 : BitVec 1 := Scalar.cmpi .slt arg0 c9_i32
  let v14 : BitVec 32 := Scalar.extui v13
  let c0_i32_6 : BitVec 32 := 0#32
  let v15 : BitVec 1 := Scalar.cmpi .ne v14 c0_i32_6
  v15

def k0_off22 (i : grid0.Coords) : Fin 3 → Nat :=
  let arg0 : BitVec 32 := BitVec.ofNat 32 (i 0).val
  let c2_i32 : BitVec 32 := 2#32
  let v4 : BitVec 32 := Scalar.remsi arg0 c2_i32
  let c0_i32_165 : BitVec 32 := 0#32
  let c0_i32_166 : BitVec 32 := 0#32
  ![v4.toNat, 0, 0]
def k0_off23 (i : grid0.Coords) : Fin 3 → Nat :=
  let arg0 : BitVec 32 := BitVec.ofNat 32 (i 0).val
  let c2_i32 : BitVec 32 := 2#32
  let v4 : BitVec 32 := Scalar.remsi arg0 c2_i32
  let c0_i32_166 : BitVec 32 := 0#32
  ![v4.toNat, 144, 0]
def k0_off24 (i : grid0.Coords) : Fin 3 → Nat :=
  let arg0 : BitVec 32 := BitVec.ofNat 32 (i 0).val
  let c2_i32 : BitVec 32 := 2#32
  let v4 : BitVec 32 := Scalar.remsi arg0 c2_i32
  let c0_i32_169 : BitVec 32 := 0#32
  ![v4.toNat, 176, 0]
def k0_off25 (i : grid0.Coords) : Fin 3 → Nat :=
  let arg0 : BitVec 32 := BitVec.ofNat 32 (i 0).val
  let c2_i32 : BitVec 32 := 2#32
  let v4 : BitVec 32 := Scalar.remsi arg0 c2_i32
  let c0_i32_172 : BitVec 32 := 0#32
  ![v4.toNat, 208, 0]
def k0_off26 (i : grid0.Coords) : Fin 3 → Nat :=
  let arg0 : BitVec 32 := BitVec.ofNat 32 (i 0).val
  let c2_i32 : BitVec 32 := 2#32
  let v4 : BitVec 32 := Scalar.remsi arg0 c2_i32
  let c0_i32_175 : BitVec 32 := 0#32
  ![v4.toNat, 240, 0]
def k0_off27 (i : grid0.Coords) : Fin 3 → Nat :=
  let arg0 : BitVec 32 := BitVec.ofNat 32 (i 0).val
  let c2_i32 : BitVec 32 := 2#32
  let v4 : BitVec 32 := Scalar.remsi arg0 c2_i32
  let c0_i32_243 : BitVec 32 := 0#32
  ![v4.toNat, 272, 0]
def k0_off28 (i : grid0.Coords) : Fin 3 → Nat :=
  let arg0 : BitVec 32 := BitVec.ofNat 32 (i 0).val
  let c2_i32 : BitVec 32 := 2#32
  let v4 : BitVec 32 := Scalar.remsi arg0 c2_i32
  let c0_i32_246 : BitVec 32 := 0#32
  ![v4.toNat, 304, 0]
def k0_off29 (i : grid0.Coords) : Fin 3 → Nat :=
  let arg0 : BitVec 32 := BitVec.ofNat 32 (i 0).val
  let c2_i32 : BitVec 32 := 2#32
  let v4 : BitVec 32 := Scalar.remsi arg0 c2_i32
  let c0_i32_249 : BitVec 32 := 0#32
  ![v4.toNat, 336, 0]
def k0_off30 (i : grid0.Coords) : Fin 3 → Nat :=
  let arg0 : BitVec 32 := BitVec.ofNat 32 (i 0).val
  let c2_i32 : BitVec 32 := 2#32
  let v4 : BitVec 32 := Scalar.remsi arg0 c2_i32
  let c0_i32_252 : BitVec 32 := 0#32
  ![v4.toNat, 368, 0]
def k0_off31 (i : grid0.Coords) : Fin 3 → Nat :=
  let arg0 : BitVec 32 := BitVec.ofNat 32 (i 0).val
  let c2_i32 : BitVec 32 := 2#32
  let v4 : BitVec 32 := Scalar.remsi arg0 c2_i32
  let c0_i32_321 : BitVec 32 := 0#32
  ![v4.toNat, 400, 0]
def k0_off32 (i : grid0.Coords) : Fin 3 → Nat :=
  let arg0 : BitVec 32 := BitVec.ofNat 32 (i 0).val
  let c2_i32 : BitVec 32 := 2#32
  let v4 : BitVec 32 := Scalar.remsi arg0 c2_i32
  let c0_i32_325 : BitVec 32 := 0#32
  ![v4.toNat, 432, 0]
def k0_off33 (i : grid0.Coords) : Fin 3 → Nat :=
  let arg0 : BitVec 32 := BitVec.ofNat 32 (i 0).val
  let c2_i32 : BitVec 32 := 2#32
  let v4 : BitVec 32 := Scalar.remsi arg0 c2_i32
  let c0_i32_328 : BitVec 32 := 0#32
  ![v4.toNat, 464, 0]
def k0_off34 (i : grid0.Coords) : Fin 3 → Nat :=
  let arg0 : BitVec 32 := BitVec.ofNat 32 (i 0).val
  let c2_i32 : BitVec 32 := 2#32
  let v4 : BitVec 32 := Scalar.remsi arg0 c2_i32
  let c0_i32_331 : BitVec 32 := 0#32
  ![v4.toNat, 496, 0]
def k0_off35 (i : grid0.Coords) : Fin 3 → Nat :=
  let arg0 : BitVec 32 := BitVec.ofNat 32 (i 0).val
  let c2_i32 : BitVec 32 := 2#32
  let v4 : BitVec 32 := Scalar.remsi arg0 c2_i32
  let c0_i32_398 : BitVec 32 := 0#32
  ![v4.toNat, 528, 0]
def k0_off36 (i : grid0.Coords) : Fin 3 → Nat :=
  let arg0 : BitVec 32 := BitVec.ofNat 32 (i 0).val
  let c2_i32 : BitVec 32 := 2#32
  let v4 : BitVec 32 := Scalar.remsi arg0 c2_i32
  let c0_i32_401 : BitVec 32 := 0#32
  ![v4.toNat, 560, 0]
def k0_off37 (i : grid0.Coords) : Fin 3 → Nat :=
  let arg0 : BitVec 32 := BitVec.ofNat 32 (i 0).val
  let c2_i32 : BitVec 32 := 2#32
  let v4 : BitVec 32 := Scalar.remsi arg0 c2_i32
  let c0_i32_405 : BitVec 32 := 0#32
  ![v4.toNat, 592, 0]
def k0_off38 (i : grid0.Coords) : Fin 3 → Nat :=
  let arg0 : BitVec 32 := BitVec.ofNat 32 (i 0).val
  let c2_i32 : BitVec 32 := 2#32
  let v4 : BitVec 32 := Scalar.remsi arg0 c2_i32
  let c0_i32_408 : BitVec 32 := 0#32
  ![v4.toNat, 624, 0]
def k0_off39 (i : grid0.Coords) : Fin 3 → Nat :=
  let arg0 : BitVec 32 := BitVec.ofNat 32 (i 0).val
  let c2_i32 : BitVec 32 := 2#32
  let v4 : BitVec 32 := Scalar.remsi arg0 c2_i32
  let c0_i32_478 : BitVec 32 := 0#32
  ![v4.toNat, 656, 0]
def k0_off40 (i : grid0.Coords) : Fin 3 → Nat :=
  let arg0 : BitVec 32 := BitVec.ofNat 32 (i 0).val
  let c2_i32 : BitVec 32 := 2#32
  let v4 : BitVec 32 := Scalar.remsi arg0 c2_i32
  let c0_i32_482 : BitVec 32 := 0#32
  ![v4.toNat, 688, 0]
def k0_off41 (i : grid0.Coords) : Fin 3 → Nat :=
  let arg0 : BitVec 32 := BitVec.ofNat 32 (i 0).val
  let c2_i32 : BitVec 32 := 2#32
  let v4 : BitVec 32 := Scalar.remsi arg0 c2_i32
  let c0_i32_485 : BitVec 32 := 0#32
  ![v4.toNat, 720, 0]
def k0_off42 (i : grid0.Coords) : Fin 3 → Nat :=
  let arg0 : BitVec 32 := BitVec.ofNat 32 (i 0).val
  let c2_i32 : BitVec 32 := 2#32
  let v4 : BitVec 32 := Scalar.remsi arg0 c2_i32
  let c0_i32_488 : BitVec 32 := 0#32
  ![v4.toNat, 752, 0]
def k0_off43 (i : grid0.Coords) : Fin 3 → Nat :=
  let arg0 : BitVec 32 := BitVec.ofNat 32 (i 0).val
  let c2_i32 : BitVec 32 := 2#32
  let v4 : BitVec 32 := Scalar.remsi arg0 c2_i32
  let c0_i32_499 : BitVec 32 := 0#32
  ![v4.toNat, 784, 0]
def k0_off44 (i : grid0.Coords) : Fin 3 → Nat :=
  let arg0 : BitVec 32 := BitVec.ofNat 32 (i 0).val
  let c2_i32 : BitVec 32 := 2#32
  let v4 : BitVec 32 := Scalar.remsi arg0 c2_i32
  let c0_i32_510 : BitVec 32 := 0#32
  let c0_i32_511 : BitVec 32 := 0#32
  ![v4.toNat, 0, 0]
def k0_off45 (i : grid0.Coords) : Fin 3 → Nat :=
  let arg0 : BitVec 32 := BitVec.ofNat 32 (i 0).val
  let c2_i32 : BitVec 32 := 2#32
  let v4 : BitVec 32 := Scalar.remsi arg0 c2_i32
  let c0_i32_525 : BitVec 32 := 0#32
  ![v4.toNat, 800, 0]
def k0_off46 (i : grid0.Coords) : Fin 3 → Nat :=
  let arg0 : BitVec 32 := BitVec.ofNat 32 (i 0).val
  let c2_i32 : BitVec 32 := 2#32
  let v4 : BitVec 32 := Scalar.remsi arg0 c2_i32
  let c0_i32_538 : BitVec 32 := 0#32
  ![v4.toNat, 16, 0]
def k0_off47 (i : grid0.Coords) : Fin 3 → Nat :=
  let arg0 : BitVec 32 := BitVec.ofNat 32 (i 0).val
  let c2_i32 : BitVec 32 := 2#32
  let v4 : BitVec 32 := Scalar.remsi arg0 c2_i32
  let c0_i32_552 : BitVec 32 := 0#32
  ![v4.toNat, 816, 0]
def k0_off48 (i : grid0.Coords) : Fin 3 → Nat :=
  let arg0 : BitVec 32 := BitVec.ofNat 32 (i 0).val
  let c2_i32 : BitVec 32 := 2#32
  let v4 : BitVec 32 := Scalar.remsi arg0 c2_i32
  let c0_i32_564 : BitVec 32 := 0#32
  ![v4.toNat, 32, 0]
def k0_off49 (i : grid0.Coords) : Fin 3 → Nat :=
  let arg0 : BitVec 32 := BitVec.ofNat 32 (i 0).val
  let c2_i32 : BitVec 32 := 2#32
  let v4 : BitVec 32 := Scalar.remsi arg0 c2_i32
  let c0_i32_577 : BitVec 32 := 0#32
  ![v4.toNat, 832, 0]
def k0_off50 (i : grid0.Coords) : Fin 3 → Nat :=
  let arg0 : BitVec 32 := BitVec.ofNat 32 (i 0).val
  let c2_i32 : BitVec 32 := 2#32
  let v4 : BitVec 32 := Scalar.remsi arg0 c2_i32
  let c0_i32_590 : BitVec 32 := 0#32
  ![v4.toNat, 48, 0]
def k0_off51 (i : grid0.Coords) : Fin 3 → Nat :=
  let arg0 : BitVec 32 := BitVec.ofNat 32 (i 0).val
  let c2_i32 : BitVec 32 := 2#32
  let v4 : BitVec 32 := Scalar.remsi arg0 c2_i32
  let c0_i32_603 : BitVec 32 := 0#32
  ![v4.toNat, 848, 0]
def k0_off52 (i : grid0.Coords) : Fin 3 → Nat :=
  let arg0 : BitVec 32 := BitVec.ofNat 32 (i 0).val
  let c2_i32 : BitVec 32 := 2#32
  let v4 : BitVec 32 := Scalar.remsi arg0 c2_i32
  let c0_i32_615 : BitVec 32 := 0#32
  ![v4.toNat, 64, 0]
def k0_off53 (i : grid0.Coords) : Fin 3 → Nat :=
  let arg0 : BitVec 32 := BitVec.ofNat 32 (i 0).val
  let c2_i32 : BitVec 32 := 2#32
  let v4 : BitVec 32 := Scalar.remsi arg0 c2_i32
  let c0_i32_628 : BitVec 32 := 0#32
  ![v4.toNat, 864, 0]
def k0_off54 (i : grid0.Coords) : Fin 3 → Nat :=
  let arg0 : BitVec 32 := BitVec.ofNat 32 (i 0).val
  let c2_i32 : BitVec 32 := 2#32
  let v4 : BitVec 32 := Scalar.remsi arg0 c2_i32
  let c0_i32_641 : BitVec 32 := 0#32
  ![v4.toNat, 80, 0]
def k0_off55 (i : grid0.Coords) : Fin 3 → Nat :=
  let arg0 : BitVec 32 := BitVec.ofNat 32 (i 0).val
  let c2_i32 : BitVec 32 := 2#32
  let v4 : BitVec 32 := Scalar.remsi arg0 c2_i32
  let c0_i32_655 : BitVec 32 := 0#32
  ![v4.toNat, 880, 0]
def k0_off56 (i : grid0.Coords) : Fin 3 → Nat :=
  let arg0 : BitVec 32 := BitVec.ofNat 32 (i 0).val
  let c2_i32 : BitVec 32 := 2#32
  let v4 : BitVec 32 := Scalar.remsi arg0 c2_i32
  let c0_i32_667 : BitVec 32 := 0#32
  ![v4.toNat, 96, 0]
def k0_off57 (i : grid0.Coords) : Fin 3 → Nat :=
  let arg0 : BitVec 32 := BitVec.ofNat 32 (i 0).val
  let c2_i32 : BitVec 32 := 2#32
  let v4 : BitVec 32 := Scalar.remsi arg0 c2_i32
  let c0_i32_679 : BitVec 32 := 0#32
  ![v4.toNat, 896, 0]
def k0_off58 (i : grid0.Coords) : Fin 3 → Nat :=
  let arg0 : BitVec 32 := BitVec.ofNat 32 (i 0).val
  let c2_i32 : BitVec 32 := 2#32
  let v4 : BitVec 32 := Scalar.remsi arg0 c2_i32
  let c0_i32_692 : BitVec 32 := 0#32
  ![v4.toNat, 112, 0]
def k0_off59 (i : grid0.Coords) : Fin 3 → Nat :=
  let arg0 : BitVec 32 := BitVec.ofNat 32 (i 0).val
  let c2_i32 : BitVec 32 := 2#32
  let v4 : BitVec 32 := Scalar.remsi arg0 c2_i32
  let c0_i32_705 : BitVec 32 := 0#32
  ![v4.toNat, 912, 0]
def k0_off60 (i : grid0.Coords) : Fin 3 → Nat :=
  let arg0 : BitVec 32 := BitVec.ofNat 32 (i 0).val
  let c2_i32 : BitVec 32 := 2#32
  let v4 : BitVec 32 := Scalar.remsi arg0 c2_i32
  let c0_i32_717 : BitVec 32 := 0#32
  ![v4.toNat, 128, 0]
def k0_off61 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 144, 128]
def k0_off62 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 176, 128]
def k0_off63 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 208, 128]
def k0_off64 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 240, 128]
def k0_off65 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 272, 128]
def k0_off66 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 304, 128]
def k0_off67 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 336, 128]
def k0_off68 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 368, 128]
def k0_off69 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 400, 128]
def k0_off70 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 432, 128]
def k0_off71 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 464, 128]
def k0_off72 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 496, 128]
def k0_off73 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 528, 128]
def k0_off74 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 560, 128]
def k0_off75 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 592, 128]
def k0_off76 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 624, 128]
def k0_off77 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 656, 128]
def k0_off78 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 688, 128]
def k0_off79 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 720, 128]
def k0_off80 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 752, 128]
def k0_off81 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 784, 128]
def k0_off82 (i : grid0.Coords) : Fin 3 → Nat :=
  let arg0 : BitVec 32 := BitVec.ofNat 32 (i 0).val
  let c2_i32 : BitVec 32 := 2#32
  let v4 : BitVec 32 := Scalar.remsi arg0 c2_i32
  let c0_i32_1284 : BitVec 32 := 0#32
  ![v4.toNat, 0, 128]
def k0_off83 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 800, 128]
def k0_off84 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 16, 128]
def k0_off85 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 816, 128]
def k0_off86 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 32, 128]
def k0_off87 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 832, 128]
def k0_off88 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 48, 128]
def k0_off89 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 848, 128]
def k0_off90 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 64, 128]
def k0_off91 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 864, 128]
def k0_off92 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 80, 128]
def k0_off93 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 880, 128]
def k0_off94 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 96, 128]
def k0_off95 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 896, 128]
def k0_off96 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 112, 128]
def k0_off97 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 912, 128]
def k0_off98 (i : grid0.Coords) : Fin 3 → Nat :=
  let arg0 : BitVec 32 := BitVec.ofNat 32 (i 0).val
  let c2_i32 : BitVec 32 := 2#32
  let v4 : BitVec 32 := Scalar.remsi arg0 c2_i32
  ![v4.toNat, 128, 128]
def k0_cond5 (i : grid0.Coords) : BitVec 1 :=
  let arg0 : BitVec 32 := BitVec.ofNat 32 (i 0).val
  let c1_i32_10 : BitVec 32 := 1#32
  let v21 : BitVec 1 := Scalar.cmpi .sge arg0 c1_i32_10
  let v22 : BitVec 32 := Scalar.extui v21
  let c0_i32_11 : BitVec 32 := 0#32
  let v23 : BitVec 1 := Scalar.cmpi .ne v22 c0_i32_11
  v23

def k0_off99 (i : grid0.Coords) : Fin 3 → Nat :=
  let c1_i32_15 : BitVec 32 := 1#32
  let arg0 : BitVec 32 := BitVec.ofNat 32 (i 0).val
  let c2_i32 : BitVec 32 := 2#32
  let v4 : BitVec 32 := Scalar.remsi arg0 c2_i32
  let v29 : BitVec 32 := Scalar.subi c1_i32_15 v4
  let c0_i32_16 : BitVec 32 := 0#32
  let c0_i32_17 : BitVec 32 := 0#32
  ![v29.toNat, 0, 0]
def k0_off100 (i : grid0.Coords) : Fin 3 → Nat :=
  let arg0 : BitVec 32 := BitVec.ofNat 32 (i 0).val
  let c3_i32_0 : BitVec 32 := 3#32
  let v1 : BitVec 32 := Scalar.addi arg0 c3_i32_0
  let c1_i32 : BitVec 32 := 1#32
  let v2 : BitVec 32 := Scalar.subi v1 c1_i32
  let c3_i32_1 : BitVec 32 := 3#32
  let v3 : BitVec 32 := Scalar.remsi v2 c3_i32_1
  let c0_i32_37 : BitVec 32 := 0#32
  let c0_i32_38 : BitVec 32 := 0#32
  ![v3.toNat, 0, 0]
def k0_cond6 (i : grid0.Coords) : BitVec 1 :=
  let arg0 : BitVec 32 := BitVec.ofNat 32 (i 0).val
  let c1_i32_12 : BitVec 32 := 1#32
  let v24 : BitVec 1 := Scalar.cmpi .sge arg0 c1_i32_12
  let c3_i32_0 : BitVec 32 := 3#32
  let v1 : BitVec 32 := Scalar.addi arg0 c3_i32_0
  let c1_i32 : BitVec 32 := 1#32
  let v2 : BitVec 32 := Scalar.subi v1 c1_i32
  let c3_i32_1 : BitVec 32 := 3#32
  let v3 : BitVec 32 := Scalar.remsi v2 c3_i32_1
  let c2_i32_13 : BitVec 32 := 2#32
  let v25 : BitVec 1 := Scalar.cmpi .eq v3 c2_i32_13
  let v26 : BitVec 1 := Scalar.andi v24 v25
  let v27 : BitVec 32 := Scalar.extui v26
  let c0_i32_14 : BitVec 32 := 0#32
  let v28 : BitVec 1 := Scalar.cmpi .ne v27 c0_i32_14
  v28

def cc0_transform_0 (i : grid0.Coords) : Fin 3 → Nat :=
  let arg0 : BitVec 32 := BitVec.ofNat 32 (i 0).val
  let c8_i32 : BitVec 32 := 8#32
  let v0 : BitVec 32 := Scalar.minsi arg0 c8_i32
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32_4 : BitVec 32 := 3#32
  let c0_i32_5 : BitVec 32 := 0#32
  let v18 : BitVec 1 := Scalar.cmpi .eq c3_i32_4 c0_i32_5
  let c1_i32_6 : BitVec 32 := 1#32
  let v19 : BitVec 32 := Scalar.select v18 c1_i32_6 c3_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

def cc0_transform_1 (i : grid0.Coords) : Fin 3 → Nat :=
  let arg0 : BitVec 32 := BitVec.ofNat 32 (i 0).val
  let c8_i32 : BitVec 32 := 8#32
  let v0 : BitVec 32 := Scalar.minsi arg0 c8_i32
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c3_i32 : BitVec 32 := 3#32
  let v2 : BitVec 32 := Scalar.divsi v1 c3_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c3_i32 c0_i32_2
  let v9 : BitVec 32 := Scalar.extui v8
  let c0_i32_3 : BitVec 32 := 0#32
  let v10 : BitVec 1 := Scalar.cmpi .slt c3_i32 c0_i32_3
  let v11 : BitVec 32 := Scalar.extui v10
  let v12 : BitVec 32 := Scalar.subi v9 v11
  let v13 : BitVec 1 := Scalar.cmpi .ne v7 v12
  let v14 : BitVec 32 := Scalar.remsi v1 c3_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c3_i32 : BitVec 32 := 3#32
  let v2 : BitVec 32 := Scalar.divsi v1 c3_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c3_i32 c0_i32_2
  let v9 : BitVec 32 := Scalar.extui v8
  let c0_i32_3 : BitVec 32 := 0#32
  let v10 : BitVec 1 := Scalar.cmpi .slt c3_i32 c0_i32_3
  let v11 : BitVec 32 := Scalar.extui v10
  let v12 : BitVec 32 := Scalar.subi v9 v11
  let v13 : BitVec 1 := Scalar.cmpi .ne v7 v12
  let v14 : BitVec 32 := Scalar.remsi v1 c3_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

abbrev stage0_0 : Fin 2 → Memref sig .tc .vmem S1x640x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x640x24 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x640x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x640x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S3x640x768 : Shape := ⟨3, ![3, 640, 768]⟩
abbrev S3x640x24 : Shape := ⟨3, ![3, 640, 24]⟩
abbrev S7x768x768 : Shape := ⟨3, ![7, 768, 768]⟩
abbrev S768 : Shape := ⟨1, ![768]⟩
abbrev S3x640x24x1 : Shape := ⟨4, ![3, 640, 24, 1]⟩
abbrev S3x640x24x32 : Shape := ⟨4, ![3, 640, 24, 32]⟩
abbrev S1x768 : Shape := ⟨2, ![1, 768]⟩
abbrev S1x640x768 : Shape := ⟨3, ![1, 640, 768]⟩
abbrev S640x768 : Shape := ⟨2, ![640, 768]⟩
abbrev S1x768x768 : Shape := ⟨3, ![1, 768, 768]⟩
abbrev S768x768 : Shape := ⟨2, ![768, 768]⟩
abbrev S9x768 : Shape := ⟨2, ![9, 768]⟩
abbrev S631x768 : Shape := ⟨2, ![631, 768]⟩
abbrev S6x768 : Shape := ⟨2, ![6, 768]⟩
abbrev S634x768 : Shape := ⟨2, ![634, 768]⟩
abbrev S3x768 : Shape := ⟨2, ![3, 768]⟩
abbrev S637x768 : Shape := ⟨2, ![637, 768]⟩

abbrev nBuf : Space → Nat
  | .hbm => 12
  | .vmem => 7
  | .smem => 0
  | _ => 0

abbrev bufTy : (tb : Table) → Fin (tcTables nBuf tb) → BufTy
  | .hbm, ⟨0, _⟩ => ⟨S3x640x768, .fp8e4m3⟩
  | .hbm, ⟨1, _⟩ => ⟨S3x640x24, .f32⟩
  | .hbm, ⟨2, _⟩ => ⟨S3x640x768, .bf16⟩
  | .hbm, ⟨3, _⟩ => ⟨S7x768x768, .fp8e4m3⟩
  | .hbm, ⟨4, _⟩ => ⟨S768, .f32⟩
  | .hbm, ⟨5, _⟩ => ⟨S768, .f32⟩
  | .hbm, ⟨6, _⟩ => ⟨S3x640x24x1, .f32⟩
  | .hbm, ⟨7, _⟩ => ⟨S3x640x24x32, .f32⟩
  | .hbm, ⟨8, _⟩ => ⟨S3x640x768, .f32⟩
  | .hbm, ⟨9, _⟩ => ⟨S1x768, .f32⟩
  | .hbm, ⟨10, _⟩ => ⟨S1x768, .f32⟩
  | .hbm, ⟨11, _⟩ => ⟨S3x640x768, .bf16⟩
  | .local _ .vmem, ⟨0, _⟩ => ⟨S3x640x768, .fp8e4m3⟩
  | .local _ .vmem, ⟨1, _⟩ => ⟨S3x640x768, .f32⟩
  | .local _ .vmem, ⟨2, _⟩ => ⟨S3x640x768, .bf16⟩
  | .local _ .vmem, ⟨3, _⟩ => ⟨S7x768x768, .fp8e4m3⟩
  | .local _ .vmem, ⟨4, _⟩ => ⟨S1x768, .f32⟩
  | .local _ .vmem, ⟨5, _⟩ => ⟨S1x768, .f32⟩
  | .local _ .vmem, ⟨6, _⟩ => ⟨S3x640x768, .bf16⟩
  | _, _ => ⟨S3x640x768, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S3x640x768 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x640x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7x768x768 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x640x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.IBody.lean ====
/- The kernel's body as its six guarded parts: the statements under each condition under one name. -/
module

public import proofs.«01_k».proof.Proof.Gen.KernelIdeal.Frame
public import proofs.«01_k».proof.Proof.Gen.KernelIdeal.Skeleton
public import Idealize.ShloMosaic.Lib.Tactic

@[expose] public section

noncomputable section

namespace Cert.KernelIdeal.Prf

open Cert.KernelIdeal Cert.KernelIdeal.Gen
open Idealize.ShloMosaic Idealize.SL.Sem

variable {F : FTy → Type} [FloatOps F]

/-- The part of the body that starts the 21 copies of the weights (the statements under its condition), then `kk`. -/
def region1 (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) (k0_h1 : (let arg0 : BitVec 32 := BitVec.ofNat 32 (i 0).val; let v0 : BitVec 32 := Scalar.remsi arg0 3#32; let v1 : BitVec 32 := Scalar.addi arg0 3#32; let v2 : BitVec 32 := Scalar.subi v1 1#32; let v3 : BitVec 32 := Scalar.remsi v2 3#32; let v4 : BitVec 32 := Scalar.remsi arg0 2#32; let v5 : BitVec 1 := Scalar.cmpi .eq arg0 0#32; let v6 : BitVec 32 := Scalar.extui v5; let v7 : BitVec 1 := Scalar.cmpi .ne v6 0#32; v7) = 1#1)
    (kk : PUnit.{1} → Prog (TpuEff nD τ sig (Elt F) Λ₀ .tc) PUnit.{1}) :
    Prog (TpuEff nD τ sig (Elt F) Λ₀ .tc) PUnit.{1} := do
  let arg0 : BitVec 32 := BitVec.ofNat 32 (i 0).val
  let v0 : BitVec 32 := Scalar.remsi arg0 3#32
  let v1 : BitVec 32 := Scalar.addi arg0 3#32
  let v2 : BitVec 32 := Scalar.subi v1 1#32
  let v3 : BitVec 32 := Scalar.remsi v2 3#32
  let v4 : BitVec 32 := Scalar.remsi arg0 2#32
  let v5 : BitVec 1 := Scalar.cmpi .eq arg0 0#32
  let v6 : BitVec 32 := Scalar.extui v5
  let v7 : BitVec 1 := Scalar.cmpi .ne v6 0#32
  k0_part1 i arg1 harg1 arg2 harg2 arg3 harg3 arg4 harg4 arg5 harg5 arg6 harg6 arg7 harg7 arg8 harg8 arg9 harg9 arg10 harg10 arg11 harg11 arg12 harg12 arg13 harg13 arg14 harg14 arg15
  k0_part2 i arg1 harg1 arg2 harg2 arg3 harg3 arg4 harg4 arg5 harg5 arg6 harg6 arg7 harg7 arg8 harg8 arg9 harg9 arg10 harg10 arg11 harg11 arg12 harg12 arg13 harg13 arg14 harg14 arg15
  k0_part3 i arg1 harg1 arg2 harg2 arg3 harg3 arg4 harg4 arg5 harg5 arg6 harg6 arg7 harg7 arg8 harg8 arg9 harg9 arg10 harg10 arg11 harg11 arg12 harg12 arg13 harg13 arg14 harg14 arg15
  k0_part4 i arg1 harg1 arg2 harg2 arg3 harg3 arg4 harg4 arg5 harg5 arg6 harg6 arg7 harg7 arg8 harg8 arg9 harg9 arg10 harg10 arg11 harg11 arg12 harg12 arg13 harg13 arg14 harg14 arg15
  k0_part5 i arg1 harg1 arg2 harg2 arg3 harg3 arg4 harg4 arg5 harg5 arg6 harg6 arg7 harg7 arg8 harg8 arg9 harg9 arg10 harg10 arg11 harg11 arg12 harg12 arg13 harg13 arg14 harg14 arg15
  let v149 : DmaSems sig S1x1 := arg15.slice (Rect.unit (s := S3x7) ![2, 6] S1x1.size inb_S3x7_S1x1_2_6)
  let v150 : DmaSems sig S_ := v149.squeeze S_ squeezes_S1x1_S_
  let v151 : Memref sig .tc .vmem S1x256x768 .fp8e4m3 := arg13.slice (Rect.unit (s := S3x1792x768) ![2, 1536, 0] S1x256x768.size inb_S3x1792x768_S1x256x768_2_1536_0) (fun _ => rfl)
  let v152 : Memref sig .tc .vmem S256x768 .fp8e4m3 := v151.squeeze S256x768 squeezes_S1x256x768_S256x768
  let v153 : Memref sig .tc .hbm S1x256x768 .fp8e4m3 := arg4.slice (Rect.unit (s := S7x768x768) ![6, 512, 0] S1x256x768.size inb_S7x768x768_S1x256x768_6_512_0) (fun _ => rfl)
  let v154 : Memref sig .tc .hbm S256x768 .fp8e4m3 := v153.squeeze S256x768 squeezes_S1x256x768_S256x768
  Prog.lift (.enqueueDma v154 (.here v152) (.dma v150.sem) ((harg4.wordExact_slice rfl _ wordsfp8e4m3_S7x768x768_S1x256x768_6_512_0).reshape _ _) ((harg13.wordExact_slice rfl _ wordsfp8e4m3_S3x1792x768_S1x256x768_2_1536_0).reshape _ _) ⟨Or.inl rfl, trivial⟩)
  kk ⟨⟩

/-- The part of the body that waits for the seven copies of one group of input channels (the statements under its condition), then `kk`. -/
def region2 (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) (k0_h2 : k0_cond2 i = 1#1)
    (kk : PUnit.{1} → Prog (TpuEff nD τ sig (Elt F) Λ₀ .tc) PUnit.{1}) :
    Prog (TpuEff nD τ sig (Elt F) Λ₀ .tc) PUnit.{1} := do
  let arg0 : BitVec 32 := BitVec.ofNat 32 (i 0).val
  let v0 : BitVec 32 := Scalar.remsi arg0 3#32
  let v1 : BitVec 32 := Scalar.addi arg0 3#32
  let v2 : BitVec 32 := Scalar.subi v1 1#32
  let v3 : BitVec 32 := Scalar.remsi v2 3#32
  let v4 : BitVec 32 := Scalar.remsi arg0 2#32
  let v5 : BitVec 1 := Scalar.cmpi .eq arg0 0#32
  let v6 : BitVec 32 := Scalar.extui v5
  let v7 : BitVec 1 := Scalar.cmpi .ne v6 0#32
  k0_part6 i arg1 harg1 arg2 harg2 arg3 harg3 arg4 harg4 arg5 harg5 arg6 harg6 arg7 harg7 arg8 harg8 arg9 harg9 arg10 harg10 arg11 harg11 arg12 harg12 arg13 harg13 arg14 harg14 arg15 arg0 k0_h2
  let v59 : Memref sig .tc .hbm S1x256x768 .fp8e4m3 := arg4.slice (Rect.unit (s := S7x768x768) (k0_off12 i) S1x256x768.size (k0_off12_inb i k0_h2)) (fun _ => rfl)
  let v60 : Memref sig .tc .hbm S256x768 .fp8e4m3 := v59.squeeze S256x768 squeezes_S1x256x768_S256x768
  let v55 : DmaSems sig S1x1 := arg15.slice (Rect.unit (s := S3x7) (k0_off10 i) S1x1.size (k0_off10_inb i k0_h2))
  let v56 : DmaSems sig S_ := v55.squeeze S_ squeezes_S1x1_S_
  let v57 : Memref sig .tc .vmem S1x256x768 .fp8e4m3 := arg13.slice (Rect.unit (s := S3x1792x768) (k0_off11 i) S1x256x768.size (k0_off11_inb i k0_h2)) (fun _ => rfl)
  let v58 : Memref sig .tc .vmem S256x768 .fp8e4m3 := v57.squeeze S256x768 squeezes_S1x256x768_S256x768
  Prog.lift (.waitDma2 v56.sem v60 v58 ((harg4.wordExact_slice rfl _ (k0_off12_wordsfp8e4m3 i k0_h2)).reshape _ _) ((harg13.wordExact_slice rfl _ (k0_off11_wordsfp8e4m3 i k0_h2)).reshape _ _))
  let v63 : DmaSems sig S1x1 := arg15.slice (Rect.unit (s := S3x7) (k0_off13 i) S1x1.size (k0_off13_inb i k0_h2))
  let v64 : DmaSems sig S_ := v63.squeeze S_ squeezes_S1x1_S_
  let v65 : Memref sig .tc .vmem S1x256x768 .fp8e4m3 := arg13.slice (Rect.unit (s := S3x1792x768) (k0_off14 i) S1x256x768.size (k0_off14_inb i k0_h2)) (fun _ => rfl)
  let v66 : Memref sig .tc .vmem S256x768 .fp8e4m3 := v65.squeeze S256x768 squeezes_S1x256x768_S256x768
  let v67 : Memref sig .tc .hbm S1x256x768 .fp8e4m3 := arg4.slice (Rect.unit (s := S7x768x768) (k0_off15 i) S1x256x768.size (k0_off15_inb i k0_h2)) (fun _ => rfl)
  let v68 : Memref sig .tc .hbm S256x768 .fp8e4m3 := v67.squeeze S256x768 squeezes_S1x256x768_S256x768
  Prog.lift (.waitDma2 v64.sem v68 v66 ((harg4.wordExact_slice rfl _ (k0_off15_wordsfp8e4m3 i k0_h2)).reshape _ _) ((harg13.wordExact_slice rfl _ (k0_off14_wordsfp8e4m3 i k0_h2)).reshape _ _))
  let v71 : DmaSems sig S1x1 := arg15.slice (Rect.unit (s := S3x7) (k0_off16 i) S1x1.size (k0_off16_inb i k0_h2))
  let v72 : DmaSems sig S_ := v71.squeeze S_ squeezes_S1x1_S_
  let v73 : Memref sig .tc .vmem S1x256x768 .fp8e4m3 := arg13.slice (Rect.unit (s := S3x1792x768) (k0_off17 i) S1x256x768.size (k0_off17_inb i k0_h2)) (fun _ => rfl)
  let v74 : Memref sig .tc .vmem S256x768 .fp8e4m3 := v73.squeeze S256x768 squeezes_S1x256x768_S256x768
  let v75 : Memref sig .tc .hbm S1x256x768 .fp8e4m3 := arg4.slice (Rect.unit (s := S7x768x768) (k0_off18 i) S1x256x768.size (k0_off18_inb i k0_h2)) (fun _ => rfl)
  let v76 : Memref sig .tc .hbm S256x768 .fp8e4m3 := v75.squeeze S256x768 squeezes_S1x256x768_S256x768
  Prog.lift (.waitDma2 v72.sem v76 v74 ((harg4.wordExact_slice rfl _ (k0_off18_wordsfp8e4m3 i k0_h2)).reshape _ _) ((harg13.wordExact_slice rfl _ (k0_off17_wordsfp8e4m3 i k0_h2)).reshape _ _))
  let v79 : DmaSems sig S1x1 := arg15.slice (Rect.unit (s := S3x7) (k0_off19 i) S1x1.size (k0_off19_inb i k0_h2))
  let v80 : DmaSems sig S_ := v79.squeeze S_ squeezes_S1x1_S_
  let v81 : Memref sig .tc .vmem S1x256x768 .fp8e4m3 := arg13.slice (Rect.unit (s := S3x1792x768) (k0_off20 i) S1x256x768.size (k0_off20_inb i k0_h2)) (fun _ => rfl)
  let v82 : Memref sig .tc .vmem S256x768 .fp8e4m3 := v81.squeeze S256x768 squeezes_S1x256x768_S256x768
  let v83 : Memref sig .tc .hbm S1x256x768 .fp8e4m3 := arg4.slice (Rect.unit (s := S7x768x768) (k0_off21 i) S1x256x768.size (k0_off21_inb i k0_h2)) (fun _ => rfl)
  let v84 : Memref sig .tc .hbm S256x768 .fp8e4m3 := v83.squeeze S256x768 squeezes_S1x256x768_S256x768
  Prog.lift (.waitDma2 v80.sem v84 v82 ((harg4.wordExact_slice rfl _ (k0_off21_wordsfp8e4m3 i k0_h2)).reshape _ _) ((harg13.wordExact_slice rfl _ (k0_off20_wordsfp8e4m3 i k0_h2)).reshape _ _))
  kk ⟨⟩

/-- The part of the body that fills one slot of the dequantised codes (the statements under its condition), then `kk`. -/
def region3 (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) (k0_h3 : k0_cond3 i = 1#1)
    (kk : PUnit.{1} → Prog (TpuEff nD τ sig (Elt F) Λ₀ .tc) PUnit.{1}) :
    Prog (TpuEff nD τ sig (Elt F) Λ₀ .tc) PUnit.{1} := do
  let arg0 : BitVec 32 := BitVec.ofNat 32 (i 0).val
  let v0 : BitVec 32 := Scalar.remsi arg0 3#32
  let v1 : BitVec 32 := Scalar.addi arg0 3#32
  let v2 : BitVec 32 := Scalar.subi v1 1#32
  let v3 : BitVec 32 := Scalar.remsi v2 3#32
  let v4 : BitVec 32 := Scalar.remsi arg0 2#32
  let v5 : BitVec 1 := Scalar.cmpi .eq arg0 0#32
  let v6 : BitVec 32 := Scalar.extui v5
  let v7 : BitVec 1 := Scalar.cmpi .ne v6 0#32
  let ⟨v109, v1686, v2112, v2113, v2122, v2131, v2133, v2134, v2143, v2152, v2154, v2155, v2164, v2173, v2175, v2176, v2185, v2194, v2196, v2197, v2206, v2215, v2217, v2218, v2227, v2236, v2238, v2239, v2248, v2257, v2259, v2260, v2261, v2268⟩ : Σ' (v109 : IVec S16x128 32) (v1686 : IVec S8x128 32) (v2112 : FVec F S8x128 .f32) (v2113 : FVec F S8x128 .f32) (v2122 : FVec F S8x128 .f32) (v2131 : FVec F S8x128 .f32) (v2133 : FVec F S8x128 .f32) (v2134 : FVec F S8x128 .f32) (v2143 : FVec F S8x128 .f32) (v2152 : FVec F S8x128 .f32) (v2154 : FVec F S8x128 .f32) (v2155 : FVec F S8x128 .f32) (v2164 : FVec F S8x128 .f32) (v2173 : FVec F S8x128 .f32) (v2175 : FVec F S8x128 .f32) (v2176 : FVec F S8x128 .f32) (v2185 : FVec F S8x128 .f32) (v2194 : FVec F S8x128 .f32) (v2196 : FVec F S8x128 .f32) (v2197 : FVec F S8x128 .f32) (v2206 : FVec F S8x128 .f32) (v2215 : FVec F S8x128 .f32) (v2217 : FVec F S8x128 .f32) (v2218 : FVec F S8x128 .f32) (v2227 : FVec F S8x128 .f32) (v2236 : FVec F S8x128 .f32) (v2238 : FVec F S8x128 .f32) (v2239 : FVec F S8x128 .f32) (v2248 : FVec F S8x128 .f32) (v2257 : FVec F S8x128 .f32) (v2259 : FVec F S8x128 .f32) (v2260 : FVec F S8x128 .f32) (v2261 : Vec F S8x128 .f32), IVec S8x128 32 ← k0_part89 i arg1 harg1 arg2 harg2 arg3 harg3 arg4 harg4 arg5 harg5 arg6 harg6 arg7 harg7 arg8 harg8 arg9 harg9 arg10 harg10 arg11 harg11 arg12 harg12 arg13 harg13 arg14 harg14 arg15 v0 k0_h3
  let ⟨v2269, v2278, v2306⟩ : Σ' (v2269 : FVec F S8x128 .f32) (v2278 : FVec F S8x128 .f32), FVec F S32x128 .bf16 ← k0_part67 i arg1 harg1 arg2 harg2 arg3 harg3 arg4 harg4 arg5 harg5 arg6 harg6 arg7 harg7 arg8 harg8 arg9 harg9 arg10 harg10 arg11 harg11 arg12 harg12 arg13 harg13 arg14 harg14 arg15 k0_h3 v1686 v2112 v2113 v2122 v2131 v2133 v2134 v2143 v2152 v2154 v2155 v2164 v2173 v2175 v2176 v2185 v2194 v2196 v2197 v2206 v2215 v2217 v2218 v2227 v2236 v2261 v2268
  let ⟨v2324, v2325, v2334, v2343, v2345, v2346⟩ : Σ' (v2324 : FVec F S8x128 .f32) (v2325 : FVec F S8x128 .f32) (v2334 : FVec F S8x128 .f32) (v2343 : FVec F S8x128 .f32) (v2345 : FVec F S8x128 .f32), FVec F S8x128 .f32 ← k0_part68 i arg1 harg1 arg2 harg2 arg3 harg3 arg4 harg4 arg5 harg5 arg6 harg6 arg7 harg7 arg8 harg8 arg9 harg9 arg10 harg10 arg11 harg11 arg12 harg12 arg13 harg13 arg14 harg14 arg15 k0_h3 v1686 v2238 v2239 v2248 v2257 v2259 v2260 v2269 v2278 v2306
  let ⟨v2355, v2364, v2366, v2367, v2376, v2385, v2387, v2388⟩ : Σ' (v2355 : FVec F S8x128 .f32) (v2364 : FVec F S8x128 .f32) (v2366 : FVec F S8x128 .f32) (v2367 : FVec F S8x128 .f32) (v2376 : FVec F S8x128 .f32) (v2385 : FVec F S8x128 .f32) (v2387 : FVec F S8x128 .f32), FVec F S8x128 .f32 ← k0_part69 i arg1 harg1 arg2 harg2 arg3 harg3 arg4 harg4 arg5 harg5 arg6 harg6 arg7 harg7 arg8 harg8 arg9 harg9 arg10 harg10 arg11 harg11 arg12 harg12 arg13 harg13 arg14 harg14 arg15 v1686
  let ⟨v2397, v2406, v2408, v2409, v2418, v2427, v2428⟩ : Σ' (v2397 : FVec F S8x128 .f32) (v2406 : FVec F S8x128 .f32) (v2408 : FVec F S8x128 .f32) (v2409 : FVec F S8x128 .f32) (v2418 : FVec F S8x128 .f32) (v2427 : FVec F S8x128 .f32), Vec F S16x128 .f32 ← k0_part70 i arg1 harg1 arg2 harg2 arg3 harg3 arg4 harg4 arg5 harg5 arg6 harg6 arg7 harg7 arg8 harg8 arg9 harg9 arg10 harg10 arg11 harg11 arg12 harg12 arg13 harg13 arg14 harg14 arg15 v1686
  let ⟨v2429, v2430, v2439, v2448, v2450, v2451, v2460, v2469⟩ : Σ' (v2429 : FVec F S8x128 .f32) (v2430 : FVec F S8x128 .f32) (v2439 : FVec F S8x128 .f32) (v2448 : FVec F S8x128 .f32) (v2450 : FVec F S8x128 .f32) (v2451 : FVec F S8x128 .f32) (v2460 : FVec F S8x128 .f32), FVec F S8x128 .f32 ← k0_part71 i arg1 harg1 arg2 harg2 arg3 harg3 arg4 harg4 arg5 harg5 arg6 harg6 arg7 harg7 arg8 harg8 arg9 harg9 arg10 harg10 arg11 harg11 arg12 harg12 arg13 harg13 arg14 harg14 arg15 v1686 v2428
  let ⟨v2471, v2472, v2481, v2490, v2507, v2510⟩ : Σ' (v2471 : FVec F S8x128 .f32) (v2472 : FVec F S8x128 .f32) (v2481 : FVec F S8x128 .f32) (v2490 : FVec F S8x128 .f32) (v2507 : FVec F S32x128 .bf16), Vec F S32x128 .bf16 ← k0_part72 i arg1 harg1 arg2 harg2 arg3 harg3 arg4 harg4 arg5 harg5 arg6 harg6 arg7 harg7 arg8 harg8 arg9 harg9 arg10 harg10 arg11 harg11 arg12 harg12 arg13 harg13 arg14 harg14 arg15 k0_h3 v1686 v2324 v2325 v2334 v2343 v2345 v2346 v2355 v2364 v2366 v2367 v2376 v2385 v2387 v2388 v2397 v2406
  let ⟨v2536, v2537, v2546, v2547, c0_i32_1172⟩ : Σ' (v2536 : FVec F S8x128 .f32) (v2537 : FVec F S8x128 .f32) (v2546 : FVec F S8x128 .f32) (v2547 : Vec F S8x128 .f32), BitVec 32 ← k0_part73 i arg1 harg1 arg2 harg2 arg3 harg3 arg4 harg4 arg5 harg5 arg6 harg6 arg7 harg7 arg8 harg8 arg9 harg9 arg10 harg10 arg11 harg11 arg12 harg12 arg13 harg13 arg14 harg14 arg15 k0_h3 v1686 v2408 v2409 v2418 v2427 v2429 v2430 v2439 v2448 v2450 v2451 v2460 v2469 v2471 v2472 v2481 v2490 v2507 v2510
  let ⟨v2555, v2557, v2558, v2567, v2576, v2578, v2579, v2588⟩ : Σ' (v2555 : FVec F S8x128 .f32) (v2557 : FVec F S8x128 .f32) (v2558 : FVec F S8x128 .f32) (v2567 : FVec F S8x128 .f32) (v2576 : FVec F S8x128 .f32) (v2578 : FVec F S8x128 .f32) (v2579 : FVec F S8x128 .f32), FVec F S8x128 .f32 ← k0_part74 i arg1 harg1 arg2 harg2 arg3 harg3 arg4 harg4 arg5 harg5 arg6 harg6 arg7 harg7 arg8 harg8 arg9 harg9 arg10 harg10 arg11 harg11 arg12 harg12 arg13 harg13 arg14 harg14 arg15 v1686 v2547 c0_i32_1172
  let ⟨v2597, v2599, v2600, v2609, v2618, v2620, v2621, v2630⟩ : Σ' (v2597 : FVec F S8x128 .f32) (v2599 : FVec F S8x128 .f32) (v2600 : FVec F S8x128 .f32) (v2609 : FVec F S8x128 .f32) (v2618 : FVec F S8x128 .f32) (v2620 : FVec F S8x128 .f32) (v2621 : FVec F S8x128 .f32), FVec F S8x128 .f32 ← k0_part75 i arg1 harg1 arg2 harg2 arg3 harg3 arg4 harg4 arg5 harg5 arg6 harg6 arg7 harg7 arg8 harg8 arg9 harg9 arg10 harg10 arg11 harg11 arg12 harg12 arg13 harg13 arg14 harg14 arg15 v1686
  let ⟨v2639, v2641, v2642, v2651, v2660, v2662, v2663, v2664, v2670⟩ : Σ' (v2639 : FVec F S8x128 .f32) (v2641 : FVec F S8x128 .f32) (v2642 : FVec F S8x128 .f32) (v2651 : FVec F S8x128 .f32) (v2660 : FVec F S8x128 .f32) (v2662 : FVec F S8x128 .f32) (v2663 : FVec F S8x128 .f32) (v2664 : Vec F S8x128 .f32), IVec S8x128x1 32 ← k0_part76 i arg1 harg1 arg2 harg2 arg3 harg3 arg4 harg4 arg5 harg5 arg6 harg6 arg7 harg7 arg8 harg8 arg9 harg9 arg10 harg10 arg11 harg11 arg12 harg12 arg13 harg13 arg14 harg14 arg15 v1686
  let ⟨v2672, v2681, v2683, v2684, v2693, v2702, v2708⟩ : Σ' (v2672 : FVec F S8x128 .f32) (v2681 : FVec F S8x128 .f32) (v2683 : FVec F S8x128 .f32) (v2684 : FVec F S8x128 .f32) (v2693 : FVec F S8x128 .f32) (v2702 : FVec F S8x128 .f32), FVec F S32x128 .bf16 ← k0_part77 i arg1 harg1 arg2 harg2 arg3 harg3 arg4 harg4 arg5 harg5 arg6 harg6 arg7 harg7 arg8 harg8 arg9 harg9 arg10 harg10 arg11 harg11 arg12 harg12 arg13 harg13 arg14 harg14 arg15 k0_h3 v1686 v2536 v2537 v2546 v2555 v2557 v2558 v2567 v2576 v2664 v2670
  k0_part78 i arg1 harg1 arg2 harg2 arg3 harg3 arg4 harg4 arg5 harg5 arg6 harg6 arg7 harg7 arg8 harg8 arg9 harg9 arg10 harg10 arg11 harg11 arg12 harg12 arg13 harg13 arg14 harg14 arg15 k0_h3 v2578 v2579 v2588 v2597 v2599 v2600 v2609 v2618 v2620 v2621 v2630 v2639 v2641 v2642 v2651 v2660 v2662 v2663 v2672 v2681 v2683 v2684 v2693 v2702 v2708
  let ⟨v2777, v2780⟩ : Σ' (v2777 : FVec F S16x128 .bf16), Vec F S16x128 .bf16 ← k0_part79 i arg1 harg1 arg2 harg2 arg3 harg3 arg4 harg4 arg5 harg5 arg6 harg6 arg7 harg7 arg8 harg8 arg9 harg9 arg10 harg10 arg11 harg11 arg12 harg12 arg13 harg13 arg14 harg14 arg15 k0_h3 v109
  let ⟨v2809, v2810, cst_1311⟩ : Σ' (v2809 : IVec S16x128 1) (v2810 : Vec F S16x128 .f32), F .f32 ← k0_part80 i arg1 harg1 arg2 harg2 arg3 harg3 arg4 harg4 arg5 harg5 arg6 harg6 arg7 harg7 arg8 harg8 arg9 harg9 arg10 harg10 arg11 harg11 arg12 harg12 arg13 harg13 arg14 harg14 arg15 k0_h3 v109 v2777 v2780
  let ⟨v2840, v2841⟩ : Σ' (v2840 : FVec F S16x128 .f32), Vec F S16x128 .f32 ← k0_part81 i arg1 harg1 arg2 harg2 arg3 harg3 arg4 harg4 arg5 harg5 arg6 harg6 arg7 harg7 arg8 harg8 arg9 harg9 arg10 harg10 arg11 harg11 arg12 harg12 arg13 harg13 arg14 harg14 arg15 k0_h3 v109 v2809 v2810 cst_1311
  k0_part82 i arg1 harg1 arg2 harg2 arg3 harg3 arg4 harg4 arg5 harg5 arg6 harg6 arg7 harg7 arg8 harg8 arg9 harg9 arg10 harg10 arg11 harg11 arg12 harg12 arg13 harg13 arg14 harg14 arg15 k0_h3 v109 v2840 v2841
  let v2903 : FVec F S16x128 .bf16 ← k0_part83 i arg1 harg1 arg2 harg2 arg3 harg3 arg4 harg4 arg5 harg5 arg6 harg6 arg7 harg7 arg8 harg8 arg9 harg9 arg10 harg10 arg11 harg11 arg12 harg12 arg13 harg13 arg14 harg14 arg15 k0_h3 v109
  let v2934 : IVec S16x128 32 ← k0_part84 i arg1 harg1 arg2 harg2 arg3 harg3 arg4 harg4 arg5 harg5 arg6 harg6 arg7 harg7 arg8 harg8 arg9 harg9 arg10 harg10 arg11 harg11 arg12 harg12 arg13 harg13 arg14 harg14 arg15 k0_h3 v109 v2903
  k0_part85 i arg1 harg1 arg2 harg2 arg3 harg3 arg4 harg4 arg5 harg5 arg6 harg6 arg7 harg7 arg8 harg8 arg9 harg9 arg10 harg10 arg11 harg11 arg12 harg12 arg13 harg13 arg14 harg14 arg15 k0_h3 v109 v2934
  let ⟨v2993, v2996⟩ : Σ' (v2993 : FVec F S16x128 .bf16), Vec F S16x128 .bf16 ← k0_part86 i arg1 harg1 arg2 harg2 arg3 harg3 arg4 harg4 arg5 harg5 arg6 harg6 arg7 harg7 arg8 harg8 arg9 harg9 arg10 harg10 arg11 harg11 arg12 harg12 arg13 harg13 arg14 harg14 arg15 k0_h3 v109
  let ⟨v3025, v3026, cst_1479⟩ : Σ' (v3025 : IVec S16x128 1) (v3026 : Vec F S16x128 .f32), F .f32 ← k0_part87 i arg1 harg1 arg2 harg2 arg3 harg3 arg4 harg4 arg5 harg5 arg6 harg6 arg7 harg7 arg8 harg8 arg9 harg9 arg10 harg10 arg11 harg11 arg12 harg12 arg13 harg13 arg14 harg14 arg15 k0_h3 v109 v2993 v2996
  let ⟨v3056, v3057⟩ : Σ' (v3056 : FVec F S16x128 .f32), Vec F S16x128 .f32 ← k0_part88 i arg1 harg1 arg2 harg2 arg3 harg3 arg4 harg4 arg5 harg5 arg6 harg6 arg7 harg7 arg8 harg8 arg9 harg9 arg10 harg10 arg11 harg11 arg12 harg12 arg13 harg13 arg14 harg14 arg15 k0_h3 v109 v3025 v3026 cst_1479
  Prog.lift (.store arg9 (Rect.unit (s := S32x128) ![8, 0] S16x128.size inb_S32x128_S16x128_8_0) (k0_pay1 v3056) Finset.univ (View.stores_vmem_bits_univ h_S16x128 rfl) (.inl rfl))
  let v3062 : Vec F S16x128 .f32 ← Prog.lift (.load arg9 (Rect.unit (s := S32x128) ![7, 0] S16x128.size inb_S32x128_S16x128_7_0).toLoadRect (View.loadsAt_vmem h_S16x128))
  let v3066 : Memref sig .tc .vmem S1x928x256 .bf16 := arg12.slice (Rect.unit (s := S2x928x256) (k0_off22 i) S1x928x256.size (k0_off22_inb i k0_h3)) (fun _ => rfl)
  let v3067 : Memref sig .tc .vmem S928x256 .bf16 := v3066.squeeze S928x256 squeezes_S1x928x256_S928x256
  let v3068 : Vec F S16x128 .bf16 ← Prog.lift (.load v3067 (Rect.unit (s := S928x256) ![128, 128] S16x128.size inb_S928x256_S16x128_128_128).toLoadRect (View.loadsAt_vmem h_S16x128))
  Prog.lift (.store arg12 (Rect.unit (s := S2x928x256) (k0_off98 i) S1x16x128.size (k0_off98_inb i k0_h3)) (k0_pay2 v109 v3062) Finset.univ (View.stores_vmem h_S1x16x128 (harg12.storeExact_slice rfl _ (k0_off98_packedbf16 i k0_h3)) (fun _ => rfl)) (.inl rfl))
  kk ⟨⟩

/-- The part of the body that zeroes the accumulator (the statements under its condition), then `kk`. -/
def region4 (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) (k0_h4 : (let arg0 : BitVec 32 := BitVec.ofNat 32 (i 0).val; let v0 : BitVec 32 := Scalar.remsi arg0 3#32; let v1 : BitVec 32 := Scalar.addi arg0 3#32; let v2 : BitVec 32 := Scalar.subi v1 1#32; let v3 : BitVec 32 := Scalar.remsi v2 3#32; let v4 : BitVec 32 := Scalar.remsi arg0 2#32; let v5 : BitVec 1 := Scalar.cmpi .eq arg0 0#32; let v6 : BitVec 32 := Scalar.extui v5; let v7 : BitVec 1 := Scalar.cmpi .ne v6 0#32; let v16 : BitVec 1 := Scalar.cmpi .sge arg0 1#32; let v17 : BitVec 1 := Scalar.cmpi .eq v3 0#32; let v18 : BitVec 1 := Scalar.andi v16 v17; let v19 : BitVec 32 := Scalar.extui v18; let v20 : BitVec 1 := Scalar.cmpi .ne v19 0#32; v20) = 1#1)
    (kk : PUnit.{1} → Prog (TpuEff nD τ sig (Elt F) Λ₀ .tc) PUnit.{1}) :
    Prog (TpuEff nD τ sig (Elt F) Λ₀ .tc) PUnit.{1} := do
  let arg0 : BitVec 32 := BitVec.ofNat 32 (i 0).val
  let v0 : BitVec 32 := Scalar.remsi arg0 3#32
  let v1 : BitVec 32 := Scalar.addi arg0 3#32
  let v2 : BitVec 32 := Scalar.subi v1 1#32
  let v3 : BitVec 32 := Scalar.remsi v2 3#32
  let v4 : BitVec 32 := Scalar.remsi arg0 2#32
  let v5 : BitVec 1 := Scalar.cmpi .eq arg0 0#32
  let v6 : BitVec 32 := Scalar.extui v5
  let v7 : BitVec 1 := Scalar.cmpi .ne v6 0#32
  let v16 : BitVec 1 := Scalar.cmpi .sge arg0 1#32
  let v17 : BitVec 1 := Scalar.cmpi .eq v3 0#32
  let v18 : BitVec 1 := Scalar.andi v16 v17
  let v19 : BitVec 32 := Scalar.extui v18
  let v20 : BitVec 1 := Scalar.cmpi .ne v19 0#32
  let v30 : Vec F S640x768 .f32 ← Prog.lift (.load arg14 (Rect.unit (s := S640x768) ![0, 0] S640x768.size inb_S640x768_S640x768_0_0).toLoadRect (View.loadsAt_vmem h_S640x768))
  Prog.lift (.store arg14 (Rect.unit (s := S640x768) ![0, 0] S640x768.size inb_S640x768_S640x768_0_0) (k0_pay3 (F := F)) Finset.univ (View.stores_vmem_bits_univ h_S640x768 rfl) (.inl rfl))
  kk ⟨⟩

/-- The part of the body that adds one group of input channels to the accumulator (the statements under its condition), then `kk`. -/
def region5 (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) (k0_h5 : k0_cond5 i = 1#1)
    (kk : PUnit.{1} → Prog (TpuEff nD τ sig (Elt F) Λ₀ .tc) PUnit.{1}) :
    Prog (TpuEff nD τ sig (Elt F) Λ₀ .tc) PUnit.{1} := do
  let arg0 : BitVec 32 := BitVec.ofNat 32 (i 0).val
  let v0 : BitVec 32 := Scalar.remsi arg0 3#32
  let v1 : BitVec 32 := Scalar.addi arg0 3#32
  let v2 : BitVec 32 := Scalar.subi v1 1#32
  let v3 : BitVec 32 := Scalar.remsi v2 3#32
  let v4 : BitVec 32 := Scalar.remsi arg0 2#32
  let v5 : BitVec 1 := Scalar.cmpi .eq arg0 0#32
  let v6 : BitVec 32 := Scalar.extui v5
  let v7 : BitVec 1 := Scalar.cmpi .ne v6 0#32
  let v16 : BitVec 1 := Scalar.cmpi .sge arg0 1#32
  let v17 : BitVec 1 := Scalar.cmpi .eq v3 0#32
  let v18 : BitVec 1 := Scalar.andi v16 v17
  let v19 : BitVec 32 := Scalar.extui v18
  let v20 : BitVec 1 := Scalar.cmpi .ne v19 0#32
  let ⟨v51, v54⟩ : Σ' (v51 : FVec F S320x1792 .bf16), Vec F S1792x256 .fp8e4m3 ← k0_part90 i arg1 harg1 arg2 harg2 arg3 harg3 arg4 harg4 arg5 harg5 arg6 harg6 arg7 harg7 arg8 harg8 arg9 harg9 arg10 harg10 arg11 harg11 arg12 harg12 arg13 harg13 arg14 harg14 arg15 v4 k0_h5
  let v81 : Vec F S320x256 .bf16 ← k0_part91 i arg1 harg1 arg2 harg2 arg3 harg3 arg4 harg4 arg5 harg5 arg6 harg6 arg7 harg7 arg8 harg8 arg9 harg9 arg10 harg10 arg11 harg11 arg12 harg12 arg13 harg13 arg14 harg14 arg15 k0_h5 v51 v54
  let v100 : FVec F S320x1792 .bf16 ← k0_part92 i arg1 harg1 arg2 harg2 arg3 harg3 arg4 harg4 arg5 harg5 arg6 harg6 arg7 harg7 arg8 harg8 arg9 harg9 arg10 harg10 arg11 harg11 arg12 harg12 arg13 harg13 arg14 harg14 arg15 k0_h5 v81
  let v110 : Memref sig .tc .vmem S1x1792x768 .fp8e4m3 := arg13.slice (Rect.unit (s := S3x1792x768) (k0_off100 i) S1x1792x768.size (k0_off100_inb i k0_h5)) (fun _ => rfl)
  let v111 : Memref sig .tc .vmem S1792x768 .fp8e4m3 := v110.squeeze S1792x768 squeezes_S1x1792x768_S1792x768
  let v112 : Vec F S1792x256 .fp8e4m3 ← Prog.lift (.load v111 (Rect.unit (s := S1792x768) ![0, 256] S1792x256.size inb_S1792x768_S1792x256_0_256).toLoadRect (View.loadsAt_vmem h_S1792x256))
  let v113 : Vec F S320x256 .f32 ← Prog.lift (.load arg14 (Rect.unit (s := S640x768) ![320, 256] S320x256.size inb_S640x768_S320x256_320_256).toLoadRect (View.loadsAt_vmem h_S320x256))
  let v116 : Vec F S320x256 .f32 ← Prog.lift (.load arg14 (Rect.unit (s := S640x768) ![320, 256] S320x256.size inb_S640x768_S320x256_320_256).toLoadRect (View.loadsAt_vmem h_S320x256))
  Prog.lift (.store arg14 (Rect.unit (s := S640x768) ![320, 256] S320x256.size inb_S640x768_S320x256_320_256) (k0_pay4 v100 v112 v113) Finset.univ (View.stores_vmem_bits_univ h_S320x256 rfl) (.inl rfl))
  let v119 : Memref sig .tc .vmem S1x1792x768 .fp8e4m3 := arg13.slice (Rect.unit (s := S3x1792x768) (k0_off100 i) S1x1792x768.size (k0_off100_inb i k0_h5)) (fun _ => rfl)
  let v120 : Memref sig .tc .vmem S1792x768 .fp8e4m3 := v119.squeeze S1792x768 squeezes_S1x1792x768_S1792x768
  let v121 : Vec F S1792x256 .fp8e4m3 ← Prog.lift (.load v120 (Rect.unit (s := S1792x768) ![0, 512] S1792x256.size inb_S1792x768_S1792x256_0_512).toLoadRect (View.loadsAt_vmem h_S1792x256))
  let v122 : Vec F S320x256 .f32 ← Prog.lift (.load arg14 (Rect.unit (s := S640x768) ![320, 512] S320x256.size inb_S640x768_S320x256_320_512).toLoadRect (View.loadsAt_vmem h_S320x256))
  let v125 : Vec F S320x256 .f32 ← Prog.lift (.load arg14 (Rect.unit (s := S640x768) ![320, 512] S320x256.size inb_S640x768_S320x256_320_512).toLoadRect (View.loadsAt_vmem h_S320x256))
  Prog.lift (.store arg14 (Rect.unit (s := S640x768) ![320, 512] S320x256.size inb_S640x768_S320x256_320_512) (k0_pay5 v100 v121 v122) Finset.univ (View.stores_vmem_bits_univ h_S320x256 rfl) (.inl rfl))
  kk ⟨⟩

/-- The part of the body that writes one batch of the result (the statements under its condition), then `kk`. -/
def region6 (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) (k0_h6 : k0_cond6 i = 1#1)
    (kk : PUnit.{1} → Prog (TpuEff nD τ sig (Elt F) Λ₀ .tc) PUnit.{1}) :
    Prog (TpuEff nD τ sig (Elt F) Λ₀ .tc) PUnit.{1} := do
  let arg0 : BitVec 32 := BitVec.ofNat 32 (i 0).val
  let v0 : BitVec 32 := Scalar.remsi arg0 3#32
  let v1 : BitVec 32 := Scalar.addi arg0 3#32
  let v2 : BitVec 32 := Scalar.subi v1 1#32
  let v3 : BitVec 32 := Scalar.remsi v2 3#32
  let v4 : BitVec 32 := Scalar.remsi arg0 2#32
  let v5 : BitVec 1 := Scalar.cmpi .eq arg0 0#32
  let v6 : BitVec 32 := Scalar.extui v5
  let v7 : BitVec 1 := Scalar.cmpi .ne v6 0#32
  let v16 : BitVec 1 := Scalar.cmpi .sge arg0 1#32
  let v17 : BitVec 1 := Scalar.cmpi .eq v3 0#32
  let v18 : BitVec 1 := Scalar.andi v16 v17
  let v19 : BitVec 32 := Scalar.extui v18
  let v20 : BitVec 1 := Scalar.cmpi .ne v19 0#32
  let ⟨v1760, v1764, v1974⟩ : Σ' (v1760 : FVec F S8x128 .f32) (v1764 : FVec F S8x128 .f32), FVec F S8x128 .f32 ← k0_part199 i arg1 harg1 arg2 harg2 arg3 harg3 arg4 harg4 arg5 harg5 arg6 harg6 arg7 harg7 arg8 harg8 arg9 harg9 arg10 harg10 arg11 harg11 arg12 harg12 arg13 harg13 arg14 harg14 arg15
  let v3465 : FVec F S80x128 .f32 ← k0_part200 i arg1 harg1 arg2 harg2 arg3 harg3 arg4 harg4 arg5 harg5 arg6 harg6 arg7 harg7 arg8 harg8 arg9 harg9 arg10 harg10 arg11 harg11 arg12 harg12 arg13 harg13 arg14 harg14 arg15 v1760 v1764 v1974
  let v3466 : Vec F S1x80x128 .bf16 ← Prog.lift (.load arg3 (Rect.unit (s := S1x640x768) ![0, 480, 640] S1x80x128.size inb_S1x640x768_S1x80x128_0_480_640).toLoadRect (View.loadsAt_vmem h_S1x80x128))
  let v3471 : Vec F S1x80x128 .bf16 ← Prog.lift (.load arg7 (Rect.unit (s := S1x640x768) ![0, 480, 640] S1x80x128.size inb_S1x640x768_S1x80x128_0_480_640).toLoadRect (View.loadsAt_vmem h_S1x80x128))
  Prog.lift (.store arg7 (Rect.unit (s := S1x640x768) ![0, 480, 640] S1x80x128.size inb_S1x640x768_S1x80x128_0_480_640) (k0_pay6 v3465 v3466) Finset.univ (View.stores_vmem h_S1x80x128 (harg7.storeExact_slice rfl _ packedbf16_S1x640x768_S1x80x128_0_480_640) (fun _ => rfl)) (.inl rfl))
  let v3474 : Vec F S40x128 .f32 ← Prog.lift (.load arg11 (Rect.unit (s := S736x128) ![644, 0] S40x128.size inb_S736x128_S40x128_644_0).toLoadRect (View.loadsAt_vmem h_S40x128))
  let v3475 : Vec F S40x128 .f32 ← Prog.lift (.load arg11 (Rect.unit (s := S736x128) ![690, 0] S40x128.size inb_S736x128_S40x128_690_0).toLoadRect (View.loadsAt_vmem h_S40x128))
  let v3477 : Vec F S1x80x128 .bf16 ← Prog.lift (.load arg3 (Rect.unit (s := S1x640x768) ![0, 560, 640] S1x80x128.size inb_S1x640x768_S1x80x128_0_560_640).toLoadRect (View.loadsAt_vmem h_S1x80x128))
  let v3482 : Vec F S1x80x128 .bf16 ← Prog.lift (.load arg7 (Rect.unit (s := S1x640x768) ![0, 560, 640] S1x80x128.size inb_S1x640x768_S1x80x128_0_560_640).toLoadRect (View.loadsAt_vmem h_S1x80x128))
  Prog.lift (.store arg7 (Rect.unit (s := S1x640x768) ![0, 560, 640] S1x80x128.size inb_S1x640x768_S1x80x128_0_560_640) (k0_pay7 v3474 v3475 v3477) Finset.univ (View.stores_vmem h_S1x80x128 (harg7.storeExact_slice rfl _ packedbf16_S1x640x768_S1x80x128_0_560_640) (fun _ => rfl)) (.inl rfl))
  kk ⟨⟩

/-- The body from its guarded part number 6 on. -/
def rest6 (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) :
    Prog (TpuEff nD τ sig (Elt F) Λ₀ .tc) PUnit.{1} :=
  if k0_h6 : k0_cond6 i = 1#1 then region6 i arg1 harg1 arg2 harg2 arg3 harg3 arg4 harg4 arg5 harg5 arg6 harg6 arg7 harg7 arg8 harg8 arg9 harg9 arg10 harg10 arg11 harg11 arg12 harg12 arg13 harg13 arg14 harg14 arg15 k0_h6 (fun _ => pure ⟨⟩) else pure ⟨⟩

/-- The body from its guarded part number 5 on. -/
def rest5 (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) :
    Prog (TpuEff nD τ sig (Elt F) Λ₀ .tc) PUnit.{1} :=
  if k0_h5 : k0_cond5 i = 1#1 then region5 i arg1 harg1 arg2 harg2 arg3 harg3 arg4 harg4 arg5 harg5 arg6 harg6 arg7 harg7 arg8 harg8 arg9 harg9 arg10 harg10 arg11 harg11 arg12 harg12 arg13 harg13 arg14 harg14 arg15 k0_h5 (fun _ => rest6 i arg1 harg1 arg2 harg2 arg3 harg3 arg4 harg4 arg5 harg5 arg6 harg6 arg7 harg7 arg8 harg8 arg9 harg9 arg10 harg10 arg11 harg11 arg12 harg12 arg13 harg13 arg14 harg14 arg15) else rest6 i arg1 harg1 arg2 harg2 arg3 harg3 arg4 harg4 arg5 harg5 arg6 harg6 arg7 harg7 arg8 harg8 arg9 harg9 arg10 harg10 arg11 harg11 arg12 harg12 arg13 harg13 arg14 harg14 arg15

/-- The body from its guarded part number 4 on. -/
def rest4 (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) :
    Prog (TpuEff nD τ sig (Elt F) Λ₀ .tc) PUnit.{1} :=
  if k0_h4 : (let arg0 : BitVec 32 := BitVec.ofNat 32 (i 0).val; let v0 : BitVec 32 := Scalar.remsi arg0 3#32; let v1 : BitVec 32 := Scalar.addi arg0 3#32; let v2 : BitVec 32 := Scalar.subi v1 1#32; let v3 : BitVec 32 := Scalar.remsi v2 3#32; let v4 : BitVec 32 := Scalar.remsi arg0 2#32; let v5 : BitVec 1 := Scalar.cmpi .eq arg0 0#32; let v6 : BitVec 32 := Scalar.extui v5; let v7 : BitVec 1 := Scalar.cmpi .ne v6 0#32; let v16 : BitVec 1 := Scalar.cmpi .sge arg0 1#32; let v17 : BitVec 1 := Scalar.cmpi .eq v3 0#32; let v18 : BitVec 1 := Scalar.andi v16 v17; let v19 : BitVec 32 := Scalar.extui v18; let v20 : BitVec 1 := Scalar.cmpi .ne v19 0#32; v20) = 1#1 then region4 i arg1 harg1 arg2 harg2 arg3 harg3 arg4 harg4 arg5 harg5 arg6 harg6 arg7 harg7 arg8 harg8 arg9 harg9 arg10 harg10 arg11 harg11 arg12 harg12 arg13 harg13 arg14 harg14 arg15 k0_h4 (fun _ => rest5 i arg1 harg1 arg2 harg2 arg3 harg3 arg4 harg4 arg5 harg5 arg6 harg6 arg7 harg7 arg8 harg8 arg9 harg9 arg10 harg10 arg11 harg11 arg12 harg12 arg13 harg13 arg14 harg14 arg15) else rest5 i arg1 harg1 arg2 harg2 arg3 harg3 arg4 harg4 arg5 harg5 arg6 harg6 arg7 harg7 arg8 harg8 arg9 harg9 arg10 harg10 arg11 harg11 arg12 harg12 arg13 harg13 arg14 harg14 arg15

/-- The body from its guarded part number 3 on. -/
def rest3 (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) :
    Prog (TpuEff nD τ sig (Elt F) Λ₀ .tc) PUnit.{1} :=
  if k0_h3 : k0_cond3 i = 1#1 then region3 i arg1 harg1 arg2 harg2 arg3 harg3 arg4 harg4 arg5 harg5 arg6 harg6 arg7 harg7 arg8 harg8 arg9 harg9 arg10 harg10 arg11 harg11 arg12 harg12 arg13 harg13 arg14 harg14 arg15 k0_h3 (fun _ => rest4 i arg1 harg1 arg2 harg2 arg3 harg3 arg4 harg4 arg5 harg5 arg6 harg6 arg7 harg7 arg8 harg8 arg9 harg9 arg10 harg10 arg11 harg11 arg12 harg12 arg13 harg13 arg14 harg14 arg15) else rest4 i arg1 harg1 arg2 harg2 arg3 harg3 arg4 harg4 arg5 harg5 arg6 harg6 arg7 harg7 arg8 harg8 arg9 harg9 arg10 harg10 arg11 harg11 arg12 harg12 arg13 harg13 arg14 harg14 arg15

/-- The body from its guarded part number 2 on. -/
def rest2 (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) :
    Prog (TpuEff nD τ sig (Elt F) Λ₀ .tc) PUnit.{1} :=
  if k0_h2 : k0_cond2 i = 1#1 then region2 i arg1 harg1 arg2 harg2 arg3 harg3 arg4 harg4 arg5 harg5 arg6 harg6 arg7 harg7 arg8 harg8 arg9 harg9 arg10 harg10 arg11 harg11 arg12 harg12 arg13 harg13 arg14 harg14 arg15 k0_h2 (fun _ => rest3 i arg1 harg1 arg2 harg2 arg3 harg3 arg4 harg4 arg5 harg5 arg6 harg6 arg7 harg7 arg8 harg8 arg9 harg9 arg10 harg10 arg11 harg11 arg12 harg12 arg13 harg13 arg14 harg14 arg15) else rest3 i arg1 harg1 arg2 harg2 arg3 harg3 arg4 harg4 arg5 harg5 arg6 harg6 arg7 harg7 arg8 harg8 arg9 harg9 arg10 harg10 arg11 harg11 arg12 harg12 arg13 harg13 arg14 harg14 arg15

/-- The body from its guarded part number 1 on. -/
def rest1 (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) :
    Prog (TpuEff nD τ sig (Elt F) Λ₀ .tc) PUnit.{1} :=
  if k0_h1 : (let arg0 : BitVec 32 := BitVec.ofNat 32 (i 0).val; let v0 : BitVec 32 := Scalar.remsi arg0 3#32; let v1 : BitVec 32 := Scalar.addi arg0 3#32; let v2 : BitVec 32 := Scalar.subi v1 1#32; let v3 : BitVec 32 := Scalar.remsi v2 3#32; let v4 : BitVec 32 := Scalar.remsi arg0 2#32; let v5 : BitVec 1 := Scalar.cmpi .eq arg0 0#32; let v6 : BitVec 32 := Scalar.extui v5; let v7 : BitVec 1 := Scalar.cmpi .ne v6 0#32; v7) = 1#1 then region1 i arg1 harg1 arg2 harg2 arg3 harg3 arg4 harg4 arg5 harg5 arg6 harg6 arg7 harg7 arg8 harg8 arg9 harg9 arg10 harg10 arg11 harg11 arg12 harg12 arg13 harg13 arg14 harg14 arg15 k0_h1 (fun _ => rest2 i arg1 harg1 arg2 harg2 arg3 harg3 arg4 harg4 arg5 harg5 arg6 harg6 arg7 harg7 arg8 harg8 arg9 harg9 arg10 harg10 arg11 harg11 arg12 harg12 arg13 harg13 arg14 harg14 arg15) else rest2 i arg1 harg1 arg2 harg2 arg3 harg3 arg4 harg4 arg5 harg5 arg6 harg6 arg7 harg7 arg8 harg8 arg9 harg9 arg10 harg10 arg11 harg11 arg12 harg12 arg13 harg13 arg14 harg14 arg15

set_option maxRecDepth 65536 in
/-- The printed body is its six guarded parts in sequence. -/
theorem body_eq_regions : cc0_amp_unit (F := F) = rest1 (F := F) := cc0_amp_unit_eq_skeleton.trans rfl

end Cert.KernelIdeal.Prf

end
-- ==== Proof.ICommon.lean ====
/- Names the proof's modules share. -/
module

public import proofs.«01_k».proof.Proof.IBody
public import Idealize.ShloMosaic.Lib.Pipeline.FrameBody
public import Idealize.ShloMosaic.Lib.MixedBatch
public import Idealize.ShloMosaic.Lib.Ring
public import Idealize.ShloMosaic.Lib.Tactic

@[expose] public section

noncomputable section

namespace Cert.KernelIdeal.Prf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The proof's resources: the pipeline library's beside the transfers' counters. -/
local notation "𝕄" => MT nD τ sig Unit (Elt F) ℕ (Pipeline.UD sig nD τ) ℕ

/-- The contents of a memref's buffer on core `c`. -/
abbrev Bf (c : Dev nD) {sp : Space} {S : Shape} {e : EltTy} (M : Memref sig .tc sp S e) : Type := Buf (Elt F) (M.view.loc (c : Thread nD τ))
/-- A memref's buffer on core `c` held whole at contents `f`. -/
abbrev pt (c : Dev nD) {sp : Space} {S : Shape} {e : EltTy} (M : Memref sig .tc sp S e) (f : Bf (F := F) c M) : sProp 𝕄 :=
  M.view.loc (c : Thread nD τ) ↦{fullShare} f

/-- A memref's own elements on core `c` at contents `f` of its buffer. -/
abbrev own (c : Dev nD) {sp : Space} {S : Shape} {e : EltTy} (M : Memref sig .tc sp S e) (f : Bf (F := F) c M) : sProp 𝕄 :=
  M.view.loc (c : Thread nD τ) ↦[M.view.set]{fullShare} f

/-- The semaphore cell at offsets `o`. -/
abbrev semG (A : DmaSems sig S3x7) (o : Fin 2 → ℕ) (h : ∀ a, o a + S1x1.size a ≤ S3x7.size a) : DmaSem sig :=
  ((A.slice (Rect.unit (s := S3x7) o S1x1.size h)).squeeze S_ squeezes_S1x1_S_).sem
/-- The window of the weight buffer at offsets `o` that one copy writes. -/
abbrev dstG (M : Memref sig .tc .vmem S3x1792x768 .fp8e4m3) (o : Fin 3 → ℕ) (h : ∀ a, o a + S1x256x768.size a ≤ S3x1792x768.size a) :
    Memref sig .tc .vmem S256x768 .fp8e4m3 :=
  (M.slice (Rect.unit (s := S3x1792x768) o S1x256x768.size h) (fun _ => rfl)).squeeze S256x768 squeezes_S1x256x768_S256x768
/-- The window of the weight operand at offsets `o` that one copy reads. -/
abbrev srcG (M : Memref sig .tc .hbm S7x768x768 .fp8e4m3) (o : Fin 3 → ℕ) (h : ∀ a, o a + S1x256x768.size a ≤ S7x768x768.size a) :
    Memref sig .tc .hbm S256x768 .fp8e4m3 :=
  (M.slice (Rect.unit (s := S7x768x768) o S1x256x768.size h) (fun _ => rfl)).squeeze S256x768 squeezes_S1x256x768_S256x768
/-- The plane of the weight buffer at offsets `o`: seven windows. -/
abbrev planeG (M : Memref sig .tc .vmem S3x1792x768 .fp8e4m3) (o : Fin 3 → ℕ) (h : ∀ a, o a + S1x1792x768.size a ≤ S3x1792x768.size a) :
    Memref sig .tc .vmem S1792x768 .fp8e4m3 :=
  (M.slice (Rect.unit (s := S3x1792x768) o S1x1792x768.size h) (fun _ => rfl)).squeeze S1792x768 squeezes_S1x1792x768_S1792x768

/-- Owning a whole memref that reads `X` is holding its buffer at contents that read `X`. -/
theorem owns_pt (c : Dev nD) {sp : Space} {S : Shape} {e : EltTy} (M : Memref sig .tc sp S e) (hM : M.IsWhole) (X : S.Idx → Elt F e) :
    (owns (c : Thread nD τ) M fullShare X : sProp 𝕄) = iprop(∃ f, ⌜M.view.read (Elt F) f = X⌝ ∗ pt c M f) := by
  unfold owns; rw [hM.set_eq_univ]

end Cert.KernelIdeal.Prf

end
-- ==== Proof.IWts.lean ====
/- The weight buffer and the twenty-one copies that fill it: the windows, what arrives in them, and how the buffer, the operand and
   the semaphores are held at each point. -/
module

public import proofs.«01_k».proof.Proof.ICommon
public import Idealize.ShloMosaic.Lib.Pipeline.Frame
public import Idealize.ShloMosaic.Lib.Pipeline.Value
public import Idealize.ShloMosaic.Lib.Pipeline.ValueKit.Geometry
public import Idealize.ShloMosaic.Lib.ValueLayout
public import Idealize.ShloMosaic.Lib.ValueIdx
public import Idealize.ShloMosaic.Lib.Transfers

@[expose] public section

set_option maxRecDepth 16384

noncomputable section

namespace Cert.KernelIdeal.Prf

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

/-- The weight buffer and the weight operand, whole. -/
abbrev wM : Memref sig .tc .vmem S3x1792x768 .fp8e4m3 := Memref.whole cc0_scratch5
abbrev sM : Memref sig .tc .hbm S7x768x768 .fp8e4m3 := Memref.whole main_arg3

theorem inbD (q : Fin 3) (k : Fin 7) : ∀ a, (![q.val, 256 * k.val, 0] : Fin 3 → ℕ) a + S1x256x768.size a ≤ S3x1792x768.size a := by
  have := q.isLt; have := k.isLt
  intro a
  match a with
  | ⟨0, _⟩ => show q.val + 1 ≤ 3; omega
  | ⟨1, _⟩ => show 256 * k.val + 256 ≤ 1792; omega
  | ⟨2, _⟩ => show 0 + 768 ≤ 768; omega
theorem inbS (q : Fin 3) (k : Fin 7) : ∀ a, (![k.val, 256 * q.val, 0] : Fin 3 → ℕ) a + S1x256x768.size a ≤ S7x768x768.size a := by
  have := q.isLt; have := k.isLt
  intro a
  match a with
  | ⟨0, _⟩ => show k.val + 1 ≤ 7; omega
  | ⟨1, _⟩ => show 256 * q.val + 256 ≤ 768; omega
  | ⟨2, _⟩ => show 0 + 768 ≤ 768; omega
theorem inbM (q : Fin 3) (k : Fin 7) : ∀ a, (![q.val, k.val] : Fin 2 → ℕ) a + S1x1.size a ≤ S3x7.size a := by
  have := q.isLt; have := k.isLt
  intro a
  match a with
  | ⟨0, _⟩ => show q.val + 1 ≤ 3; omega
  | ⟨1, _⟩ => show k.val + 1 ≤ 7; omega
theorem inbP (q : Fin 3) : ∀ a, (![q.val, 0, 0] : Fin 3 → ℕ) a + S1x1792x768.size a ≤ S3x1792x768.size a := by
  have := q.isLt
  intro a
  match a with
  | ⟨0, _⟩ => show q.val + 1 ≤ 3; omega
  | ⟨1, _⟩ => show 0 + 1792 ≤ 1792; omega
  | ⟨2, _⟩ => show 0 + 768 ≤ 768; omega

/-- The window copy `(q, k)` writes, the window it reads, its semaphore cell, and plane `q` of the weight buffer. -/
abbrev dstF (q : Fin 3) (k : Fin 7) := dstG wM ![q.val, 256 * k.val, 0] (inbD q k)
abbrev srcF (q : Fin 3) (k : Fin 7) := srcG sM ![k.val, 256 * q.val, 0] (inbS q k)
abbrev semF (q : Fin 3) (k : Fin 7) : DmaSem sig := semG cc0_scratch7 ![q.val, k.val] (inbM q k)
abbrev planeF (q : Fin 3) := planeG wM ![q.val, 0, 0] (inbP q)

/-- The elements of window `p`. -/
def dstI (p : Fin 3 × Fin 7) : Finset S3x1792x768.Idx := (dstF p.1 p.2).view.set
theorem mem_dst (q : Fin 3) (k : Fin 7) (x : S3x1792x768.Idx) :
    x ∈ (dstF q k).view.set ↔ (x 0).val = q.val ∧ 256 * k.val ≤ (x 1).val ∧ (x 1).val < 256 * k.val + 256 := by
  rw [show (dstF q k).view.set = (Rect.unit (s := S3x1792x768) ![q.val, 256 * k.val, 0] S1x256x768.size (inbD q k)).set from
    (View.set_reshape _ _).trans (View.set_slice_whole _ _), Rect.mem_set_unit]
  refine Fin.forall_fin_succ.trans ?_
  rw [Fin.forall_fin_succ, Fin.forall_fin_one]
  have h2 : (x 2).val < 768 := (x 2).isLt
  constructor
  · rintro ⟨⟨a, b⟩, ⟨c, d⟩, -⟩
    change q.val ≤ (x 0).val at a; change (x 0).val < q.val + 1 at b
    exact ⟨by omega, c, d⟩
  · rintro ⟨a, b, c⟩
    refine ⟨⟨?_, ?_⟩, ⟨b, c⟩, ?_, ?_⟩
    · show q.val ≤ (x 0).val; omega
    · show (x 0).val < q.val + 1; omega
    · exact Nat.zero_le _
    · show (x 2).val < 0 + 768; omega
/-- The elements of window `p`. -/
def srcI (p : Fin 3 × Fin 7) : Finset S7x768x768.Idx := (srcF p.1 p.2).view.set
theorem mem_src (q : Fin 3) (k : Fin 7) (x : S7x768x768.Idx) :
    x ∈ (srcF q k).view.set ↔ (x 0).val = k.val ∧ 256 * q.val ≤ (x 1).val ∧ (x 1).val < 256 * q.val + 256 := by
  rw [show (srcF q k).view.set = (Rect.unit (s := S7x768x768) ![k.val, 256 * q.val, 0] S1x256x768.size (inbS q k)).set from
    (View.set_reshape _ _).trans (View.set_slice_whole _ _), Rect.mem_set_unit]
  refine Fin.forall_fin_succ.trans ?_
  rw [Fin.forall_fin_succ, Fin.forall_fin_one]
  have h2 : (x 2).val < 768 := (x 2).isLt
  constructor
  · rintro ⟨⟨a, b⟩, ⟨c, d⟩, -⟩
    change k.val ≤ (x 0).val at a; change (x 0).val < k.val + 1 at b
    exact ⟨by omega, c, d⟩
  · rintro ⟨a, b, c⟩
    refine ⟨⟨?_, ?_⟩, ⟨b, c⟩, ?_, ?_⟩
    · show k.val ≤ (x 0).val; omega
    · show (x 0).val < k.val + 1; omega
    · exact Nat.zero_le _
    · show (x 2).val < 0 + 768; omega
theorem mem_plane (q : Fin 3) (x : S3x1792x768.Idx) : x ∈ (planeF q).view.set ↔ (x 0).val = q.val := by
  rw [show (planeF q).view.set = (Rect.unit (s := S3x1792x768) ![q.val, 0, 0] S1x1792x768.size (inbP q)).set from
    (View.set_reshape _ _).trans (View.set_slice_whole _ _), Rect.mem_set_unit]
  refine Fin.forall_fin_succ.trans ?_
  rw [Fin.forall_fin_succ, Fin.forall_fin_one]
  have h2 : (x 2).val < 768 := (x 2).isLt
  have h1 : (x 1).val < 1792 := (x 1).isLt
  constructor
  · rintro ⟨⟨a, b⟩, -⟩
    change q.val ≤ (x 0).val at a; change (x 0).val < q.val + 1 at b
    omega
  · intro a
    refine ⟨⟨?_, ?_⟩, ⟨Nat.zero_le _, ?_⟩, Nat.zero_le _, ?_⟩
    · show q.val ≤ (x 0).val; omega
    · show (x 0).val < q.val + 1; omega
    · show (x 1).val < 0 + 1792; omega
    · show (x 2).val < 0 + 768; omega

/-- The weight buffer's contents once every copy has arrived, from the operand's: row `256 k + i` of plane `q` is row
    `256 q + i` of tap `k`. -/
def WF (c : Dev nD) (f4 : Bf (F := F) c sM) : Bf (F := F) c wM := fun (x : S3x1792x768.Idx) =>
  f4 (ix3 (n0 := 7) (n1 := 768) (n2 := 768) ⟨(x 1).val / 256, by have : (x 1).val < 1792 := (x 1).isLt; omega⟩
    ⟨256 * (x 0).val + (x 1).val % 256, by have : (x 0).val < 3 := (x 0).isLt; omega⟩ (x 2))

theorem emb_dst (q : Fin 3) (k : Fin 7) (a : Fin 256) (b : Fin 768) :
    (dstF q k).view.emb (ix2 a b) = ix3 (n0 := 3) (n1 := 1792) (n2 := 768) q ⟨256 * k.val + a.val, by omega⟩ b := by
  show ((View.whole cc0_scratch5).slice (Rect.unit (s := S3x1792x768) ![q.val, 256 * k.val, 0] S1x256x768.size (inbD q k))).emb (Shape.reshapeEquiv _ (ix2 a b)) = _
  rw [reshapeEquiv_ix2_1ab]
  funext d
  apply Fin.ext
  refine (ValueKit.view_emb_slice_whole_unit_val cc0_scratch5 _ _ (inbD q k) _ d).trans ?_
  match d with
  | ⟨0, _⟩ => rfl
  | ⟨1, _⟩ => rfl
  | ⟨2, _⟩ => show 0 + b.val = b.val; omega
theorem emb_src (q : Fin 3) (k : Fin 7) (a : Fin 256) (b : Fin 768) :
    (srcF q k).view.emb (ix2 a b) = ix3 (n0 := 7) (n1 := 768) (n2 := 768) k ⟨256 * q.val + a.val, by omega⟩ b := by
  show ((View.whole main_arg3).slice (Rect.unit (s := S7x768x768) ![k.val, 256 * q.val, 0] S1x256x768.size (inbS q k))).emb (Shape.reshapeEquiv _ (ix2 a b)) = _
  rw [reshapeEquiv_ix2_1ab]
  funext d
  apply Fin.ext
  refine (ValueKit.view_emb_slice_whole_unit_val main_arg3 _ _ (inbS q k) _ d).trans ?_
  match d with
  | ⟨0, _⟩ => rfl
  | ⟨1, _⟩ => rfl
  | ⟨2, _⟩ => show 0 + b.val = b.val; omega

/-- What copy `(q, k)` leaves in its window is the final contents there. -/
theorem landed (c : Dev nD) (q : Fin 3) (k : Fin 7) (f4 : Bf (F := F) c sM) (f13 : Bf (F := F) c wM)
    (x : S3x1792x768.Idx) (hx : x ∈ (dstF q k).view.set) :
    (dstF q k).view.writes (Elt F) f13 [⟨Rect.whole S256x768, ReadAs.same.apply ((srcF q k).view.read (Elt F) f4)⟩] x = WF c f4 x := by
  obtain ⟨j, rfl⟩ := View.exists_emb_of_mem_set (dstF q k).view hx
  rw [View.writes_singleton]
  have e : (dstF q k).view.emb j = ((dstF q k).view.slice (Rect.whole S256x768)).emb j :=
    congrArg (dstF q k).view.emb (Rect.emb_whole_apply S256x768 j).symm
  conv_lhs => rw [e]
  rw [View.write_emb_of_mem _ _ (Finset.mem_univ _)]
  show f4 ((srcF q k).view.emb j) = WF c f4 ((dstF q k).view.emb j)
  rw [show (dstF q k).view.emb j = _ from (congrArg (dstF q k).view.emb (eq_ix2 j)).trans (emb_dst q k (j 0) (j 1)),
    show (srcF q k).view.emb j = _ from (congrArg (srcF q k).view.emb (eq_ix2 j)).trans (emb_src q k (j 0) (j 1))]
  unfold WF
  congr 1
  have ha : (j 0).val < 256 := (j 0).isLt
  funext d
  apply Fin.ext
  match d with
  | ⟨0, _⟩ => show k.val = (256 * k.val + (j 0).val) / 256; omega
  | ⟨1, _⟩ => show 256 * q.val + (j 0).val = 256 * q.val + (256 * k.val + (j 0).val) % 256; omega
  | ⟨2, _⟩ => rfl

theorem own_landed (c : Dev nD) (q : Fin 3) (k : Fin 7) (f4 : Bf (F := F) c sM) (f13 : Bf (F := F) c wM) :
    (own c (dstF q k) ((dstF q k).view.writes (Elt F) f13 [⟨Rect.whole S256x768, ReadAs.same.apply ((srcF q k).view.read (Elt F) f4)⟩]) : sProp 𝕄)
      = own c (dstF q k) (WF c f4) :=
  pointsTo_congr (fun x hx => landed c q k f4 f13 x hx)

/-- The weight buffer held whole is its twenty-one windows held apart; the operand likewise. -/
theorem split_dst (c : Dev nD) (f : Bf (F := F) c wM) :
    (pt c wM f : sProp 𝕄) = bigSep Finset.univ fun p : Fin 3 × Fin 7 => own c (dstF p.1 p.2) f := by
  have hd : ∀ p p' : Fin 3 × Fin 7, p ≠ p' → Disjoint (dstI p) (dstI p') := by
    intro p p' hne
    rw [Finset.disjoint_left]
    intro x hx hx'
    unfold dstI at hx hx'
    rw [mem_dst] at hx hx'
    refine hne (Prod.ext (Fin.ext ?_) (Fin.ext ?_)) <;> omega
  have hc : Finset.univ.biUnion dstI = Finset.univ := by
    refine Finset.eq_univ_iff_forall.mpr fun (x : S3x1792x768.Idx) => ?_
    have h0 : (x 0).val < 3 := (x 0).isLt
    have h1 : (x 1).val < 1792 := (x 1).isLt
    refine Finset.mem_biUnion.mpr ⟨(⟨(x 0).val, h0⟩, ⟨(x 1).val / 256, by omega⟩), Finset.mem_univ _, ?_⟩
    unfold dstI
    rw [mem_dst]
    refine ⟨rfl, ?_, ?_⟩
    · show 256 * ((x 1).val / 256) ≤ _; omega
    · show _ < 256 * ((x 1).val / 256) + 256; omega
  exact Ring.pointsTo_blocks (ℓ := (c : Thread nD τ).loc cc0_scratch5) dstI hd hc f
theorem split_src (c : Dev nD) (f : Bf (F := F) c sM) :
    (pt c sM f : sProp 𝕄) = bigSep Finset.univ fun p : Fin 3 × Fin 7 => own c (srcF p.1 p.2) f := by
  have hd : ∀ p p' : Fin 3 × Fin 7, p ≠ p' → Disjoint (srcI p) (srcI p') := by
    intro p p' hne
    rw [Finset.disjoint_left]
    intro x hx hx'
    unfold srcI at hx hx'
    rw [mem_src] at hx hx'
    refine hne (Prod.ext (Fin.ext ?_) (Fin.ext ?_)) <;> omega
  have hc : Finset.univ.biUnion srcI = Finset.univ := by
    refine Finset.eq_univ_iff_forall.mpr fun (x : S7x768x768.Idx) => ?_
    have h0 : (x 0).val < 7 := (x 0).isLt
    have h1 : (x 1).val < 768 := (x 1).isLt
    refine Finset.mem_biUnion.mpr ⟨(⟨(x 1).val / 256, by omega⟩, ⟨(x 0).val, h0⟩), Finset.mem_univ _, ?_⟩
    unfold srcI
    rw [mem_src]
    refine ⟨rfl, ?_, ?_⟩
    · show 256 * ((x 1).val / 256) ≤ _; omega
    · show _ < 256 * ((x 1).val / 256) + 256; omega
  exact Ring.pointsTo_blocks (ℓ := (c : Thread nD τ).loc main_arg3) srcI hd hc f
/-- A plane of the weight buffer is its seven windows. -/
theorem split_plane (c : Dev nD) (q : Fin 3) (f : Bf (F := F) c wM) :
    (own c (planeF q) f : sProp 𝕄) = bigSep Finset.univ fun k : Fin 7 => own c (dstF q k) f := by
  have hd : ∀ k k' : Fin 7, k ≠ k' → Disjoint (dstF q k).view.set (dstF q k').view.set := by
    intro p p' hne
    rw [Finset.disjoint_left]
    intro x hx hx'
    rw [mem_dst] at hx hx'
    refine hne (Fin.ext ?_); omega
  have hc : Finset.univ.biUnion (fun k : Fin 7 => (dstF q k).view.set) = (planeF q).view.set := by
    ext x
    have h1 : ((x : S3x1792x768.Idx) 1).val < 1792 := ((x : S3x1792x768.Idx) 1).isLt
    rw [mem_plane, Finset.mem_biUnion]
    constructor
    · rintro ⟨k, -, hk⟩; rw [mem_dst] at hk; exact hk.1
    · intro h
      refine ⟨⟨((x : S3x1792x768.Idx) 1).val / 256, by omega⟩, Finset.mem_univ _, ?_⟩
      rw [mem_dst]
      refine ⟨h, ?_, ?_⟩
      · show 256 * (((x : S3x1792x768.Idx) 1).val / 256) ≤ _; omega
      · show _ < 256 * (((x : S3x1792x768.Idx) 1).val / 256) + 256; omega
  exact Ring.pointsTo_sub_blocks (ℓ := (c : Thread nD τ).loc cc0_scratch5) (fun k : Fin 7 => (dstF q k).view.set) hd _ hc f

/-- The kernel's own semaphore cells. -/
def osem0 : Fin 3 × Fin 7 → SemLoc sig := fun p => .dma ⟨10 + (7 * p.1.val + p.2.val), by have := p.1.isLt; have := p.2.isLt; show _ < 31; omega⟩
theorem osem0_eq : ∀ q : Fin 3, ∀ k : Fin 7, osem0 (q, k) = .dma (semF q k) := by decide
theorem ownSemFacts0 : Pipeline.OwnSemFacts spec0 osem0 := by decide

end Cert.KernelIdeal.Prf
end
-- ==== Proof.IRun1.lean ====
module

public import proofs.«01_k».proof.Proof.ICommon
@[expose] public section
set_option maxRecDepth 16384
noncomputable section
namespace Cert.KernelIdeal.Prf
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

set_option maxHeartbeats 4000000 in
/-- At the first point the 21 copies of weight blocks start, each on a semaphore cell of its own. -/
theorem run1 (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) (h : (let arg0 : BitVec 32 := BitVec.ofNat 32 (i 0).val; let v0 : BitVec 32 := Scalar.remsi arg0 3#32; let v1 : BitVec 32 := Scalar.addi arg0 3#32; let v2 : BitVec 32 := Scalar.subi v1 1#32; let v3 : BitVec 32 := Scalar.remsi v2 3#32; let v4 : BitVec 32 := Scalar.remsi arg0 2#32; let v5 : BitVec 1 := Scalar.cmpi .eq arg0 0#32; let v6 : BitVec 32 := Scalar.extui v5; let v7 : BitVec 1 := Scalar.cmpi .ne v6 0#32; v7) = 1#1)
    (f4 : Bf (F := F) c arg4) (f13 : Bf (F := F) c arg13) (kk : PUnit.{1} → Prog (TpuEff nD τ sig (Elt F) Λ₀ .tc) PUnit.{1}) (K : PUnit → sProp 𝕄) :
    iprop(own c (srcG arg4 ![0, 0, 0] inb_S7x768x768_S1x256x768_0_0_0) f4 ∗ own c (dstG arg13 ![0, 0, 0] inb_S3x1792x768_S1x256x768_0_0_0) f13 ∗ semVal ((c : Thread nD τ), .dma (semG arg15 ![0, 0] inb_S3x7_S1x1_0_0)) 0 ∗ own c (srcG arg4 ![1, 0, 0] inb_S7x768x768_S1x256x768_1_0_0) f4 ∗ own c (dstG arg13 ![0, 256, 0] inb_S3x1792x768_S1x256x768_0_256_0) f13 ∗ semVal ((c : Thread nD τ), .dma (semG arg15 ![0, 1] inb_S3x7_S1x1_0_1)) 0 ∗ own c (srcG arg4 ![2, 0, 0] inb_S7x768x768_S1x256x768_2_0_0) f4 ∗ own c (dstG arg13 ![0, 512, 0] inb_S3x1792x768_S1x256x768_0_512_0) f13 ∗ semVal ((c : Thread nD τ), .dma (semG arg15 ![0, 2] inb_S3x7_S1x1_0_2)) 0 ∗ own c (srcG arg4 ![3, 0, 0] inb_S7x768x768_S1x256x768_3_0_0) f4 ∗ own c (dstG arg13 ![0, 768, 0] inb_S3x1792x768_S1x256x768_0_768_0) f13 ∗ semVal ((c : Thread nD τ), .dma (semG arg15 ![0, 3] inb_S3x7_S1x1_0_3)) 0 ∗ own c (srcG arg4 ![4, 0, 0] inb_S7x768x768_S1x256x768_4_0_0) f4 ∗ own c (dstG arg13 ![0, 1024, 0] inb_S3x1792x768_S1x256x768_0_1024_0) f13 ∗ semVal ((c : Thread nD τ), .dma (semG arg15 ![0, 4] inb_S3x7_S1x1_0_4)) 0 ∗ own c (srcG arg4 ![5, 0, 0] inb_S7x768x768_S1x256x768_5_0_0) f4 ∗ own c (dstG arg13 ![0, 1280, 0] inb_S3x1792x768_S1x256x768_0_1280_0) f13 ∗ semVal ((c : Thread nD τ), .dma (semG arg15 ![0, 5] inb_S3x7_S1x1_0_5)) 0 ∗ own c (srcG arg4 ![6, 0, 0] inb_S7x768x768_S1x256x768_6_0_0) f4 ∗ own c (dstG arg13 ![0, 1536, 0] inb_S3x1792x768_S1x256x768_0_1536_0) f13 ∗ semVal ((c : Thread nD τ), .dma (semG arg15 ![0, 6] inb_S3x7_S1x1_0_6)) 0 ∗ own c (srcG arg4 ![0, 256, 0] inb_S7x768x768_S1x256x768_0_256_0) f4 ∗ own c (dstG arg13 ![1, 0, 0] inb_S3x1792x768_S1x256x768_1_0_0) f13 ∗ semVal ((c : Thread nD τ), .dma (semG arg15 ![1, 0] inb_S3x7_S1x1_1_0)) 0 ∗ own c (srcG arg4 ![1, 256, 0] inb_S7x768x768_S1x256x768_1_256_0) f4 ∗ own c (dstG arg13 ![1, 256, 0] inb_S3x1792x768_S1x256x768_1_256_0) f13 ∗ semVal ((c : Thread nD τ), .dma (semG arg15 ![1, 1] inb_S3x7_S1x1_1_1)) 0 ∗ own c (srcG arg4 ![2, 256, 0] inb_S7x768x768_S1x256x768_2_256_0) f4 ∗ own c (dstG arg13 ![1, 512, 0] inb_S3x1792x768_S1x256x768_1_512_0) f13 ∗ semVal ((c : Thread nD τ), .dma (semG arg15 ![1, 2] inb_S3x7_S1x1_1_2)) 0 ∗ own c (srcG arg4 ![3, 256, 0] inb_S7x768x768_S1x256x768_3_256_0) f4 ∗ own c (dstG arg13 ![1, 768, 0] inb_S3x1792x768_S1x256x768_1_768_0) f13 ∗ semVal ((c : Thread nD τ), .dma (semG arg15 ![1, 3] inb_S3x7_S1x1_1_3)) 0 ∗ own c (srcG arg4 ![4, 256, 0] inb_S7x768x768_S1x256x768_4_256_0) f4 ∗ own c (dstG arg13 ![1, 1024, 0] inb_S3x1792x768_S1x256x768_1_1024_0) f13 ∗ semVal ((c : Thread nD τ), .dma (semG arg15 ![1, 4] inb_S3x7_S1x1_1_4)) 0 ∗ own c (srcG arg4 ![5, 256, 0] inb_S7x768x768_S1x256x768_5_256_0) f4 ∗ own c (dstG arg13 ![1, 1280, 0] inb_S3x1792x768_S1x256x768_1_1280_0) f13 ∗ semVal ((c : Thread nD τ), .dma (semG arg15 ![1, 5] inb_S3x7_S1x1_1_5)) 0 ∗ own c (srcG arg4 ![6, 256, 0] inb_S7x768x768_S1x256x768_6_256_0) f4 ∗ own c (dstG arg13 ![1, 1536, 0] inb_S3x1792x768_S1x256x768_1_1536_0) f13 ∗ semVal ((c : Thread nD τ), .dma (semG arg15 ![1, 6] inb_S3x7_S1x1_1_6)) 0 ∗ own c (srcG arg4 ![0, 512, 0] inb_S7x768x768_S1x256x768_0_512_0) f4 ∗ own c (dstG arg13 ![2, 0, 0] inb_S3x1792x768_S1x256x768_2_0_0) f13 ∗ semVal ((c : Thread nD τ), .dma (semG arg15 ![2, 0] inb_S3x7_S1x1_2_0)) 0 ∗ own c (srcG arg4 ![1, 512, 0] inb_S7x768x768_S1x256x768_1_512_0) f4 ∗ own c (dstG arg13 ![2, 256, 0] inb_S3x1792x768_S1x256x768_2_256_0) f13 ∗ semVal ((c : Thread nD τ), .dma (semG arg15 ![2, 1] inb_S3x7_S1x1_2_1)) 0 ∗ own c (srcG arg4 ![2, 512, 0] inb_S7x768x768_S1x256x768_2_512_0) f4 ∗ own c (dstG arg13 ![2, 512, 0] inb_S3x1792x768_S1x256x768_2_512_0) f13 ∗ semVal ((c : Thread nD τ), .dma (semG arg15 ![2, 2] inb_S3x7_S1x1_2_2)) 0 ∗ own c (srcG arg4 ![3, 512, 0] inb_S7x768x768_S1x256x768_3_512_0) f4 ∗ own c (dstG arg13 ![2, 768, 0] inb_S3x1792x768_S1x256x768_2_768_0) f13 ∗ semVal ((c : Thread nD τ), .dma (semG arg15 ![2, 3] inb_S3x7_S1x1_2_3)) 0 ∗ own c (srcG arg4 ![4, 512, 0] inb_S7x768x768_S1x256x768_4_512_0) f4 ∗ own c (dstG arg13 ![2, 1024, 0] inb_S3x1792x768_S1x256x768_2_1024_0) f13 ∗ semVal ((c : Thread nD τ), .dma (semG arg15 ![2, 4] inb_S3x7_S1x1_2_4)) 0 ∗ own c (srcG arg4 ![5, 512, 0] inb_S7x768x768_S1x256x768_5_512_0) f4 ∗ own c (dstG arg13 ![2, 1280, 0] inb_S3x1792x768_S1x256x768_2_1280_0) f13 ∗ semVal ((c : Thread nD τ), .dma (semG arg15 ![2, 5] inb_S3x7_S1x1_2_5)) 0 ∗ own c (srcG arg4 ![6, 512, 0] inb_S7x768x768_S1x256x768_6_512_0) f4 ∗ own c (dstG arg13 ![2, 1536, 0] inb_S3x1792x768_S1x256x768_2_1536_0) f13 ∗ semVal ((c : Thread nD τ), .dma (semG arg15 ![2, 6] inb_S3x7_S1x1_2_6)) 0
        ∗ (iprop(Transfers.Flight countersEmb (c : Thread nD τ) (.dma (semG arg15 ![0, 0] inb_S3x7_S1x1_0_0)) default 6144 iprop(own c (dstG arg13 ![0, 0, 0] inb_S3x1792x768_S1x256x768_0_0_0) ((dstG arg13 ![0, 0, 0] inb_S3x1792x768_S1x256x768_0_0_0).view.writes (Elt F) f13 [⟨Rect.whole S256x768, ReadAs.same.apply ((srcG arg4 ![0, 0, 0] inb_S7x768x768_S1x256x768_0_0_0).view.read (Elt F) f4)⟩]) ∗ own c (srcG arg4 ![0, 0, 0] inb_S7x768x768_S1x256x768_0_0_0) f4) ∗ Transfers.Flight countersEmb (c : Thread nD τ) (.dma (semG arg15 ![0, 1] inb_S3x7_S1x1_0_1)) default 6144 iprop(own c (dstG arg13 ![0, 256, 0] inb_S3x1792x768_S1x256x768_0_256_0) ((dstG arg13 ![0, 256, 0] inb_S3x1792x768_S1x256x768_0_256_0).view.writes (Elt F) f13 [⟨Rect.whole S256x768, ReadAs.same.apply ((srcG arg4 ![1, 0, 0] inb_S7x768x768_S1x256x768_1_0_0).view.read (Elt F) f4)⟩]) ∗ own c (srcG arg4 ![1, 0, 0] inb_S7x768x768_S1x256x768_1_0_0) f4) ∗ Transfers.Flight countersEmb (c : Thread nD τ) (.dma (semG arg15 ![0, 2] inb_S3x7_S1x1_0_2)) default 6144 iprop(own c (dstG arg13 ![0, 512, 0] inb_S3x1792x768_S1x256x768_0_512_0) ((dstG arg13 ![0, 512, 0] inb_S3x1792x768_S1x256x768_0_512_0).view.writes (Elt F) f13 [⟨Rect.whole S256x768, ReadAs.same.apply ((srcG arg4 ![2, 0, 0] inb_S7x768x768_S1x256x768_2_0_0).view.read (Elt F) f4)⟩]) ∗ own c (srcG arg4 ![2, 0, 0] inb_S7x768x768_S1x256x768_2_0_0) f4) ∗ Transfers.Flight countersEmb (c : Thread nD τ) (.dma (semG arg15 ![0, 3] inb_S3x7_S1x1_0_3)) default 6144 iprop(own c (dstG arg13 ![0, 768, 0] inb_S3x1792x768_S1x256x768_0_768_0) ((dstG arg13 ![0, 768, 0] inb_S3x1792x768_S1x256x768_0_768_0).view.writes (Elt F) f13 [⟨Rect.whole S256x768, ReadAs.same.apply ((srcG arg4 ![3, 0, 0] inb_S7x768x768_S1x256x768_3_0_0).view.read (Elt F) f4)⟩]) ∗ own c (srcG arg4 ![3, 0, 0] inb_S7x768x768_S1x256x768_3_0_0) f4) ∗ Transfers.Flight countersEmb (c : Thread nD τ) (.dma (semG arg15 ![0, 4] inb_S3x7_S1x1_0_4)) default 6144 iprop(own c (dstG arg13 ![0, 1024, 0] inb_S3x1792x768_S1x256x768_0_1024_0) ((dstG arg13 ![0, 1024, 0] inb_S3x1792x768_S1x256x768_0_1024_0).view.writes (Elt F) f13 [⟨Rect.whole S256x768, ReadAs.same.apply ((srcG arg4 ![4, 0, 0] inb_S7x768x768_S1x256x768_4_0_0).view.read (Elt F) f4)⟩]) ∗ own c (srcG arg4 ![4, 0, 0] inb_S7x768x768_S1x256x768_4_0_0) f4) ∗ Transfers.Flight countersEmb (c : Thread nD τ) (.dma (semG arg15 ![0, 5] inb_S3x7_S1x1_0_5)) default 6144 iprop(own c (dstG arg13 ![0, 1280, 0] inb_S3x1792x768_S1x256x768_0_1280_0) ((dstG arg13 ![0, 1280, 0] inb_S3x1792x768_S1x256x768_0_1280_0).view.writes (Elt F) f13 [⟨Rect.whole S256x768, ReadAs.same.apply ((srcG arg4 ![5, 0, 0] inb_S7x768x768_S1x256x768_5_0_0).view.read (Elt F) f4)⟩]) ∗ own c (srcG arg4 ![5, 0, 0] inb_S7x768x768_S1x256x768_5_0_0) f4) ∗ Transfers.Flight countersEmb (c : Thread nD τ) (.dma (semG arg15 ![0, 6] inb_S3x7_S1x1_0_6)) default 6144 iprop(own c (dstG arg13 ![0, 1536, 0] inb_S3x1792x768_S1x256x768_0_1536_0) ((dstG arg13 ![0, 1536, 0] inb_S3x1792x768_S1x256x768_0_1536_0).view.writes (Elt F) f13 [⟨Rect.whole S256x768, ReadAs.same.apply ((srcG arg4 ![6, 0, 0] inb_S7x768x768_S1x256x768_6_0_0).view.read (Elt F) f4)⟩]) ∗ own c (srcG arg4 ![6, 0, 0] inb_S7x768x768_S1x256x768_6_0_0) f4) ∗ Transfers.Flight countersEmb (c : Thread nD τ) (.dma (semG arg15 ![1, 0] inb_S3x7_S1x1_1_0)) default 6144 iprop(own c (dstG arg13 ![1, 0, 0] inb_S3x1792x768_S1x256x768_1_0_0) ((dstG arg13 ![1, 0, 0] inb_S3x1792x768_S1x256x768_1_0_0).view.writes (Elt F) f13 [⟨Rect.whole S256x768, ReadAs.same.apply ((srcG arg4 ![0, 256, 0] inb_S7x768x768_S1x256x768_0_256_0).view.read (Elt F) f4)⟩]) ∗ own c (srcG arg4 ![0, 256, 0] inb_S7x768x768_S1x256x768_0_256_0) f4) ∗ Transfers.Flight countersEmb (c : Thread nD τ) (.dma (semG arg15 ![1, 1] inb_S3x7_S1x1_1_1)) default 6144 iprop(own c (dstG arg13 ![1, 256, 0] inb_S3x1792x768_S1x256x768_1_256_0) ((dstG arg13 ![1, 256, 0] inb_S3x1792x768_S1x256x768_1_256_0).view.writes (Elt F) f13 [⟨Rect.whole S256x768, ReadAs.same.apply ((srcG arg4 ![1, 256, 0] inb_S7x768x768_S1x256x768_1_256_0).view.read (Elt F) f4)⟩]) ∗ own c (srcG arg4 ![1, 256, 0] inb_S7x768x768_S1x256x768_1_256_0) f4) ∗ Transfers.Flight countersEmb (c : Thread nD τ) (.dma (semG arg15 ![1, 2] inb_S3x7_S1x1_1_2)) default 6144 iprop(own c (dstG arg13 ![1, 512, 0] inb_S3x1792x768_S1x256x768_1_512_0) ((dstG arg13 ![1, 512, 0] inb_S3x1792x768_S1x256x768_1_512_0).view.writes (Elt F) f13 [⟨Rect.whole S256x768, ReadAs.same.apply ((srcG arg4 ![2, 256, 0] inb_S7x768x768_S1x256x768_2_256_0).view.read (Elt F) f4)⟩]) ∗ own c (srcG arg4 ![2, 256, 0] inb_S7x768x768_S1x256x768_2_256_0) f4) ∗ Transfers.Flight countersEmb (c : Thread nD τ) (.dma (semG arg15 ![1, 3] inb_S3x7_S1x1_1_3)) default 6144 iprop(own c (dstG arg13 ![1, 768, 0] inb_S3x1792x768_S1x256x768_1_768_0) ((dstG arg13 ![1, 768, 0] inb_S3x1792x768_S1x256x768_1_768_0).view.writes (Elt F) f13 [⟨Rect.whole S256x768, ReadAs.same.apply ((srcG arg4 ![3, 256, 0] inb_S7x768x768_S1x256x768_3_256_0).view.read (Elt F) f4)⟩]) ∗ own c (srcG arg4 ![3, 256, 0] inb_S7x768x768_S1x256x768_3_256_0) f4) ∗ Transfers.Flight countersEmb (c : Thread nD τ) (.dma (semG arg15 ![1, 4] inb_S3x7_S1x1_1_4)) default 6144 iprop(own c (dstG arg13 ![1, 1024, 0] inb_S3x1792x768_S1x256x768_1_1024_0) ((dstG arg13 ![1, 1024, 0] inb_S3x1792x768_S1x256x768_1_1024_0).view.writes (Elt F) f13 [⟨Rect.whole S256x768, ReadAs.same.apply ((srcG arg4 ![4, 256, 0] inb_S7x768x768_S1x256x768_4_256_0).view.read (Elt F) f4)⟩]) ∗ own c (srcG arg4 ![4, 256, 0] inb_S7x768x768_S1x256x768_4_256_0) f4) ∗ Transfers.Flight countersEmb (c : Thread nD τ) (.dma (semG arg15 ![1, 5] inb_S3x7_S1x1_1_5)) default 6144 iprop(own c (dstG arg13 ![1, 1280, 0] inb_S3x1792x768_S1x256x768_1_1280_0) ((dstG arg13 ![1, 1280, 0] inb_S3x1792x768_S1x256x768_1_1280_0).view.writes (Elt F) f13 [⟨Rect.whole S256x768, ReadAs.same.apply ((srcG arg4 ![5, 256, 0] inb_S7x768x768_S1x256x768_5_256_0).view.read (Elt F) f4)⟩]) ∗ own c (srcG arg4 ![5, 256, 0] inb_S7x768x768_S1x256x768_5_256_0) f4) ∗ Transfers.Flight countersEmb (c : Thread nD τ) (.dma (semG arg15 ![1, 6] inb_S3x7_S1x1_1_6)) default 6144 iprop(own c (dstG arg13 ![1, 1536, 0] inb_S3x1792x768_S1x256x768_1_1536_0) ((dstG arg13 ![1, 1536, 0] inb_S3x1792x768_S1x256x768_1_1536_0).view.writes (Elt F) f13 [⟨Rect.whole S256x768, ReadAs.same.apply ((srcG arg4 ![6, 256, 0] inb_S7x768x768_S1x256x768_6_256_0).view.read (Elt F) f4)⟩]) ∗ own c (srcG arg4 ![6, 256, 0] inb_S7x768x768_S1x256x768_6_256_0) f4) ∗ Transfers.Flight countersEmb (c : Thread nD τ) (.dma (semG arg15 ![2, 0] inb_S3x7_S1x1_2_0)) default 6144 iprop(own c (dstG arg13 ![2, 0, 0] inb_S3x1792x768_S1x256x768_2_0_0) ((dstG arg13 ![2, 0, 0] inb_S3x1792x768_S1x256x768_2_0_0).view.writes (Elt F) f13 [⟨Rect.whole S256x768, ReadAs.same.apply ((srcG arg4 ![0, 512, 0] inb_S7x768x768_S1x256x768_0_512_0).view.read (Elt F) f4)⟩]) ∗ own c (srcG arg4 ![0, 512, 0] inb_S7x768x768_S1x256x768_0_512_0) f4) ∗ Transfers.Flight countersEmb (c : Thread nD τ) (.dma (semG arg15 ![2, 1] inb_S3x7_S1x1_2_1)) default 6144 iprop(own c (dstG arg13 ![2, 256, 0] inb_S3x1792x768_S1x256x768_2_256_0) ((dstG arg13 ![2, 256, 0] inb_S3x1792x768_S1x256x768_2_256_0).view.writes (Elt F) f13 [⟨Rect.whole S256x768, ReadAs.same.apply ((srcG arg4 ![1, 512, 0] inb_S7x768x768_S1x256x768_1_512_0).view.read (Elt F) f4)⟩]) ∗ own c (srcG arg4 ![1, 512, 0] inb_S7x768x768_S1x256x768_1_512_0) f4) ∗ Transfers.Flight countersEmb (c : Thread nD τ) (.dma (semG arg15 ![2, 2] inb_S3x7_S1x1_2_2)) default 6144 iprop(own c (dstG arg13 ![2, 512, 0] inb_S3x1792x768_S1x256x768_2_512_0) ((dstG arg13 ![2, 512, 0] inb_S3x1792x768_S1x256x768_2_512_0).view.writes (Elt F) f13 [⟨Rect.whole S256x768, ReadAs.same.apply ((srcG arg4 ![2, 512, 0] inb_S7x768x768_S1x256x768_2_512_0).view.read (Elt F) f4)⟩]) ∗ own c (srcG arg4 ![2, 512, 0] inb_S7x768x768_S1x256x768_2_512_0) f4) ∗ Transfers.Flight countersEmb (c : Thread nD τ) (.dma (semG arg15 ![2, 3] inb_S3x7_S1x1_2_3)) default 6144 iprop(own c (dstG arg13 ![2, 768, 0] inb_S3x1792x768_S1x256x768_2_768_0) ((dstG arg13 ![2, 768, 0] inb_S3x1792x768_S1x256x768_2_768_0).view.writes (Elt F) f13 [⟨Rect.whole S256x768, ReadAs.same.apply ((srcG arg4 ![3, 512, 0] inb_S7x768x768_S1x256x768_3_512_0).view.read (Elt F) f4)⟩]) ∗ own c (srcG arg4 ![3, 512, 0] inb_S7x768x768_S1x256x768_3_512_0) f4) ∗ Transfers.Flight countersEmb (c : Thread nD τ) (.dma (semG arg15 ![2, 4] inb_S3x7_S1x1_2_4)) default 6144 iprop(own c (dstG arg13 ![2, 1024, 0] inb_S3x1792x768_S1x256x768_2_1024_0) ((dstG arg13 ![2, 1024, 0] inb_S3x1792x768_S1x256x768_2_1024_0).view.writes (Elt F) f13 [⟨Rect.whole S256x768, ReadAs.same.apply ((srcG arg4 ![4, 512, 0] inb_S7x768x768_S1x256x768_4_512_0).view.read (Elt F) f4)⟩]) ∗ own c (srcG arg4 ![4, 512, 0] inb_S7x768x768_S1x256x768_4_512_0) f4) ∗ Transfers.Flight countersEmb (c : Thread nD τ) (.dma (semG arg15 ![2, 5] inb_S3x7_S1x1_2_5)) default 6144 iprop(own c (dstG arg13 ![2, 1280, 0] inb_S3x1792x768_S1x256x768_2_1280_0) ((dstG arg13 ![2, 1280, 0] inb_S3x1792x768_S1x256x768_2_1280_0).view.writes (Elt F) f13 [⟨Rect.whole S256x768, ReadAs.same.apply ((srcG arg4 ![5, 512, 0] inb_S7x768x768_S1x256x768_5_512_0).view.read (Elt F) f4)⟩]) ∗ own c (srcG arg4 ![5, 512, 0] inb_S7x768x768_S1x256x768_5_512_0) f4) ∗ Transfers.Flight countersEmb (c : Thread nD τ) (.dma (semG arg15 ![2, 6] inb_S3x7_S1x1_2_6)) default 6144 iprop(own c (dstG arg13 ![2, 1536, 0] inb_S3x1792x768_S1x256x768_2_1536_0) ((dstG arg13 ![2, 1536, 0] inb_S3x1792x768_S1x256x768_2_1536_0).view.writes (Elt F) f13 [⟨Rect.whole S256x768, ReadAs.same.apply ((srcG arg4 ![6, 512, 0] inb_S7x768x768_S1x256x768_6_512_0).view.read (Elt F) f4)⟩]) ∗ own c (srcG arg4 ![6, 512, 0] inb_S7x768x768_S1x256x768_6_512_0) f4)) -∗ wp frame (wpE (defs₀ (F := F)) Variants.none c none) Set.univ (kk ⟨⟩) K))
      ⊢ wp frame (wpE (defs₀ (F := F)) Variants.none c none) Set.univ (region1 i arg1 harg1 arg2 harg2 arg3 harg3 arg4 harg4 arg5 harg5 arg6 harg6 arg7 harg7 arg8 harg8 arg9 harg9 arg10 harg10 arg11 harg11 arg12 harg12 arg13 harg13 arg14 harg14 arg15 h kk) K := by
  unfold region1
  iintro ⟨R00, D00, S00, R01, D01, S01, R02, D02, S02, R03, D03, S03, R04, D04, S04, R05, D05, S05, R06, D06, S06, R10, D10, S10, R11, D11, S11, R12, D12, S12, R13, D13, S13, R14, D14, S14, R15, D15, S15, R16, D16, S16, R20, D20, S20, R21, D21, S21, R22, D22, S22, R23, D23, S23, R24, D24, S24, R25, D25, S25, R26, D26, S26, Hk⟩
  sl_exec_parts
  iapply Hk
  isplitl [S00]; · iexact S00
  isplitl [S01]; · iexact S01
  isplitl [S02]; · iexact S02
  isplitl [S03]; · iexact S03
  isplitl [S04]; · iexact S04
  isplitl [S05]; · iexact S05
  isplitl [S06]; · iexact S06
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S20]; · iexact S20
  isplitl [S21]; · iexact S21
  isplitl [S22]; · iexact S22
  isplitl [S23]; · iexact S23
  isplitl [S24]; · iexact S24
  isplitl [S25]; · iexact S25
  iexact S26

end Cert.KernelIdeal.Prf
end
-- ==== Proof.IRun2.lean ====
module

public import proofs.«01_k».proof.Proof.ICommon
@[expose] public section
set_option maxRecDepth 16384
noncomputable section
namespace Cert.KernelIdeal.Prf
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

/-- A point that waits for one group of seven copies gets their windows back, each at the contents the copy delivers. -/
theorem run2 (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) (h : k0_cond2 i = 1#1)
    (W : Waits sig Unit) (f4 : Bf (F := F) c arg4) (f13 : Bf (F := F) c arg13) (kk : PUnit.{1} → Prog (TpuEff nD τ sig (Elt F) Λ₀ .tc) PUnit.{1}) (K : PUnit → sProp 𝕄) :
    iprop(owes (c : Thread nD τ) 0 W ∗ Transfers.Flight countersEmb (c : Thread nD τ) (.dma (semG arg15 (k0_off1 i) (k0_off1_inb i h))) default 6144 iprop(own c (dstG arg13 (k0_off2 i) (k0_off2_inb i h)) f13 ∗ own c (srcG arg4 (k0_off3 i) (k0_off3_inb i h)) f4) ∗ Transfers.Flight countersEmb (c : Thread nD τ) (.dma (semG arg15 (k0_off4 i) (k0_off4_inb i h))) default 6144 iprop(own c (dstG arg13 (k0_off5 i) (k0_off5_inb i h)) f13 ∗ own c (srcG arg4 (k0_off6 i) (k0_off6_inb i h)) f4) ∗ Transfers.Flight countersEmb (c : Thread nD τ) (.dma (semG arg15 (k0_off7 i) (k0_off7_inb i h))) default 6144 iprop(own c (dstG arg13 (k0_off8 i) (k0_off8_inb i h)) f13 ∗ own c (srcG arg4 (k0_off9 i) (k0_off9_inb i h)) f4) ∗ Transfers.Flight countersEmb (c : Thread nD τ) (.dma (semG arg15 (k0_off10 i) (k0_off10_inb i h))) default 6144 iprop(own c (dstG arg13 (k0_off11 i) (k0_off11_inb i h)) f13 ∗ own c (srcG arg4 (k0_off12 i) (k0_off12_inb i h)) f4) ∗ Transfers.Flight countersEmb (c : Thread nD τ) (.dma (semG arg15 (k0_off13 i) (k0_off13_inb i h))) default 6144 iprop(own c (dstG arg13 (k0_off14 i) (k0_off14_inb i h)) f13 ∗ own c (srcG arg4 (k0_off15 i) (k0_off15_inb i h)) f4) ∗ Transfers.Flight countersEmb (c : Thread nD τ) (.dma (semG arg15 (k0_off16 i) (k0_off16_inb i h))) default 6144 iprop(own c (dstG arg13 (k0_off17 i) (k0_off17_inb i h)) f13 ∗ own c (srcG arg4 (k0_off18 i) (k0_off18_inb i h)) f4) ∗ Transfers.Flight countersEmb (c : Thread nD τ) (.dma (semG arg15 (k0_off19 i) (k0_off19_inb i h))) default 6144 iprop(own c (dstG arg13 (k0_off20 i) (k0_off20_inb i h)) f13 ∗ own c (srcG arg4 (k0_off21 i) (k0_off21_inb i h)) f4)
        ∗ (iprop((∃ W, owes (c : Thread nD τ) 0 W) ∗ own c (dstG arg13 (k0_off2 i) (k0_off2_inb i h)) f13 ∗ own c (srcG arg4 (k0_off3 i) (k0_off3_inb i h)) f4 ∗ semVal ((c : Thread nD τ), .dma (semG arg15 (k0_off1 i) (k0_off1_inb i h))) 0 ∗ own c (dstG arg13 (k0_off5 i) (k0_off5_inb i h)) f13 ∗ own c (srcG arg4 (k0_off6 i) (k0_off6_inb i h)) f4 ∗ semVal ((c : Thread nD τ), .dma (semG arg15 (k0_off4 i) (k0_off4_inb i h))) 0 ∗ own c (dstG arg13 (k0_off8 i) (k0_off8_inb i h)) f13 ∗ own c (srcG arg4 (k0_off9 i) (k0_off9_inb i h)) f4 ∗ semVal ((c : Thread nD τ), .dma (semG arg15 (k0_off7 i) (k0_off7_inb i h))) 0 ∗ own c (dstG arg13 (k0_off11 i) (k0_off11_inb i h)) f13 ∗ own c (srcG arg4 (k0_off12 i) (k0_off12_inb i h)) f4 ∗ semVal ((c : Thread nD τ), .dma (semG arg15 (k0_off10 i) (k0_off10_inb i h))) 0 ∗ own c (dstG arg13 (k0_off14 i) (k0_off14_inb i h)) f13 ∗ own c (srcG arg4 (k0_off15 i) (k0_off15_inb i h)) f4 ∗ semVal ((c : Thread nD τ), .dma (semG arg15 (k0_off13 i) (k0_off13_inb i h))) 0 ∗ own c (dstG arg13 (k0_off17 i) (k0_off17_inb i h)) f13 ∗ own c (srcG arg4 (k0_off18 i) (k0_off18_inb i h)) f4 ∗ semVal ((c : Thread nD τ), .dma (semG arg15 (k0_off16 i) (k0_off16_inb i h))) 0 ∗ own c (dstG arg13 (k0_off20 i) (k0_off20_inb i h)) f13 ∗ own c (srcG arg4 (k0_off21 i) (k0_off21_inb i h)) f4 ∗ semVal ((c : Thread nD τ), .dma (semG arg15 (k0_off19 i) (k0_off19_inb i h))) 0) -∗ wp frame (wpE (defs₀ (F := F)) Variants.none c none) Set.univ (kk ⟨⟩) K))
      ⊢ wp frame (wpE (defs₀ (F := F)) Variants.none c none) Set.univ (region2 i arg1 harg1 arg2 harg2 arg3 harg3 arg4 harg4 arg5 harg5 arg6 harg6 arg7 harg7 arg8 harg8 arg9 harg9 arg10 harg10 arg11 harg11 arg12 harg12 arg13 harg13 arg14 harg14 arg15 h kk) K := by
  unfold region2
  iintro ⟨HO, F0, F1, F2, F3, F4, F5, F6, Hk⟩
  sl_exec_parts
  iapply Hk
  isplitl [HO]; · iexists _; iexact HO
  isplitl [F0_dst]; · iexact F0_dst
  isplitl [F0_src]; · iexact F0_src
  isplitl [F0]; · iexact F0
  isplitl [F1_dst]; · iexact F1_dst
  isplitl [F1_src]; · iexact F1_src
  isplitl [F1]; · iexact F1
  isplitl [F2_dst]; · iexact F2_dst
  isplitl [F2_src]; · iexact F2_src
  isplitl [F2]; · iexact F2
  isplitl [F3_dst]; · iexact F3_dst
  isplitl [F3_src]; · iexact F3_src
  isplitl [F3]; · iexact F3
  isplitl [F4_dst]; · iexact F4_dst
  isplitl [F4_src]; · iexact F4_src
  isplitl [F4]; · iexact F4
  isplitl [F5_dst]; · iexact F5_dst
  isplitl [F5_src]; · iexact F5_src
  isplitl [F5]; · iexact F5
  isplitl [F6_dst]; · iexact F6_dst
  isplitl [F6_src]; · iexact F6_src
  iexact F6

end Cert.KernelIdeal.Prf
end
-- ==== Proof.IRun3.lean ====
module

public import proofs.«01_k».proof.Proof.ICommon
@[expose] public section
set_option maxRecDepth 16384
noncomputable section
namespace Cert.KernelIdeal.Prf
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

/-- The part that fills one slot of the activation buffer, and what it leaves there. -/
def run3 (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) (h : k0_cond3 i = 1#1)
    (f1 : Bf (F := F) c arg1) (f2 : Bf (F := F) c arg2) (f8 : Bf (F := F) c arg8) (f9 : Bf (F := F) c arg9) (f10 : Bf (F := F) c arg10) (f12 : Bf (F := F) c arg12) :
    { W : Bf (F := F) c arg12 //
      ∀ (kk : PUnit.{1} → Prog (TpuEff nD τ sig (Elt F) Λ₀ .tc) PUnit.{1}) (K : PUnit → sProp 𝕄),
        iprop(pt c arg1 f1 ∗ pt c arg2 f2 ∗ pt c arg8 f8 ∗ pt c arg9 f9 ∗ pt c arg10 f10 ∗ pt c arg12 f12
            ∗ (iprop(pt c arg1 f1 ∗ pt c arg2 f2 ∗ (∃ f, pt c arg8 f) ∗ (∃ f, pt c arg9 f) ∗ (∃ f, pt c arg10 f) ∗ pt c arg12 W) -∗ wp frame (wpE (defs₀ (F := F)) Variants.none c none) Set.univ (kk ⟨⟩) K))
          ⊢ wp frame (wpE (defs₀ (F := F)) Variants.none c none) Set.univ (region3 i arg1 harg1 arg2 harg2 arg3 harg3 arg4 harg4 arg5 harg5 arg6 harg6 arg7 harg7 arg8 harg8 arg9 harg9 arg10 harg10 arg11 harg11 arg12 harg12 arg13 harg13 arg14 harg14 arg15 h kk) K } := by
  refine ⟨?_, fun kk K => ?run⟩
  case run =>
    unfold region3
    iintro ⟨H1, H2, H8, H9, H10, H12, Hk⟩
    sl_exec_parts
    iapply Hk
    isplitl [H1]; · iexact H1
    isplitl [H2]; · iexact H2
    isplitl [H8]; · iexists _; iexact H8
    isplitl [H9]; · iexists _; iexact H9
    isplitl [H10]; · iexists _; iexact H10
    iexact H12

end Cert.KernelIdeal.Prf
end
-- ==== Proof.IRun4.lean ====
module

public import proofs.«01_k».proof.Proof.ICommon
@[expose] public section
set_option maxRecDepth 16384
noncomputable section
namespace Cert.KernelIdeal.Prf
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

/-- The part that clears the accumulator. -/
def run4 (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) (h : (let arg0 : BitVec 32 := BitVec.ofNat 32 (i 0).val; let v0 : BitVec 32 := Scalar.remsi arg0 3#32; let v1 : BitVec 32 := Scalar.addi arg0 3#32; let v2 : BitVec 32 := Scalar.subi v1 1#32; let v3 : BitVec 32 := Scalar.remsi v2 3#32; let v4 : BitVec 32 := Scalar.remsi arg0 2#32; let v5 : BitVec 1 := Scalar.cmpi .eq arg0 0#32; let v6 : BitVec 32 := Scalar.extui v5; let v7 : BitVec 1 := Scalar.cmpi .ne v6 0#32; let v16 : BitVec 1 := Scalar.cmpi .sge arg0 1#32; let v17 : BitVec 1 := Scalar.cmpi .eq v3 0#32; let v18 : BitVec 1 := Scalar.andi v16 v17; let v19 : BitVec 32 := Scalar.extui v18; let v20 : BitVec 1 := Scalar.cmpi .ne v19 0#32; v20) = 1#1)
    (f14 : Bf (F := F) c arg14) :
    { W : Bf (F := F) c arg14 //
      ∀ (kk : PUnit.{1} → Prog (TpuEff nD τ sig (Elt F) Λ₀ .tc) PUnit.{1}) (K : PUnit → sProp 𝕄),
        iprop(pt c arg14 f14
            ∗ (iprop(pt c arg14 W) -∗ wp frame (wpE (defs₀ (F := F)) Variants.none c none) Set.univ (kk ⟨⟩) K))
          ⊢ wp frame (wpE (defs₀ (F := F)) Variants.none c none) Set.univ (region4 i arg1 harg1 arg2 harg2 arg3 harg3 arg4 harg4 arg5 harg5 arg6 harg6 arg7 harg7 arg8 harg8 arg9 harg9 arg10 harg10 arg11 harg11 arg12 harg12 arg13 harg13 arg14 harg14 arg15 h kk) K } := by
  refine ⟨?_, fun kk K => ?run⟩
  case run =>
    unfold region4
    iintro ⟨H14, Hk⟩
    sl_exec_parts
    iapply Hk
    iexact H14

end Cert.KernelIdeal.Prf
end
-- ==== Proof.IRun5.lean ====
module

public import proofs.«01_k».proof.Proof.ICommon
@[expose] public section
set_option maxRecDepth 16384
noncomputable section
namespace Cert.KernelIdeal.Prf
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

/-- The part that adds one group of input channels into the accumulator, and what it leaves there. Of the weights it holds the plane of that group only. -/
def run5 (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) (h : k0_cond5 i = 1#1)
    (f12 : Bf (F := F) c arg12) (f13 : Bf (F := F) c arg13) (f14 : Bf (F := F) c arg14) :
    { W : Bf (F := F) c arg14 //
      ∀ (kk : PUnit.{1} → Prog (TpuEff nD τ sig (Elt F) Λ₀ .tc) PUnit.{1}) (K : PUnit → sProp 𝕄),
        iprop(pt c arg12 f12 ∗ (((arg13.slice (Rect.unit (s := S3x1792x768) (k0_off100 i) S1x1792x768.size (k0_off100_inb i h)) (fun _ => rfl)).squeeze S1792x768 squeezes_S1x1792x768_S1792x768).view.loc (c : Thread nD τ) ↦[((arg13.slice (Rect.unit (s := S3x1792x768) (k0_off100 i) S1x1792x768.size (k0_off100_inb i h)) (fun _ => rfl)).squeeze S1792x768 squeezes_S1x1792x768_S1792x768).view.set]{fullShare} f13) ∗ pt c arg14 f14
            ∗ (iprop(pt c arg12 f12 ∗ (((arg13.slice (Rect.unit (s := S3x1792x768) (k0_off100 i) S1x1792x768.size (k0_off100_inb i h)) (fun _ => rfl)).squeeze S1792x768 squeezes_S1x1792x768_S1792x768).view.loc (c : Thread nD τ) ↦[((arg13.slice (Rect.unit (s := S3x1792x768) (k0_off100 i) S1x1792x768.size (k0_off100_inb i h)) (fun _ => rfl)).squeeze S1792x768 squeezes_S1x1792x768_S1792x768).view.set]{fullShare} f13) ∗ pt c arg14 W) -∗ wp frame (wpE (defs₀ (F := F)) Variants.none c none) Set.univ (kk ⟨⟩) K))
          ⊢ wp frame (wpE (defs₀ (F := F)) Variants.none c none) Set.univ (region5 i arg1 harg1 arg2 harg2 arg3 harg3 arg4 harg4 arg5 harg5 arg6 harg6 arg7 harg7 arg8 harg8 arg9 harg9 arg10 harg10 arg11 harg11 arg12 harg12 arg13 harg13 arg14 harg14 arg15 h kk) K } := by
  refine ⟨?_, fun kk K => ?run⟩
  case run =>
    have hS0 : ((arg13.slice (Rect.unit (s := S3x1792x768) (k0_off100 i) S1x1792x768.size (k0_off100_inb i h)) (fun _ => rfl)).squeeze S1792x768 squeezes_S1x1792x768_S1792x768).view.setOn (Rect.unit (s := S1792x768) ![0, 0] S1792x256.size inb_S1792x768_S1792x256_0_0).toLoadRect.set ⊆ ((arg13.slice (Rect.unit (s := S3x1792x768) (k0_off100 i) S1x1792x768.size (k0_off100_inb i h)) (fun _ => rfl)).squeeze S1792x768 squeezes_S1x1792x768_S1792x768).view.set := View.setOn_subset_set _ _
    have hS256 : ((arg13.slice (Rect.unit (s := S3x1792x768) (k0_off100 i) S1x1792x768.size (k0_off100_inb i h)) (fun _ => rfl)).squeeze S1792x768 squeezes_S1x1792x768_S1792x768).view.setOn (Rect.unit (s := S1792x768) ![0, 256] S1792x256.size inb_S1792x768_S1792x256_0_256).toLoadRect.set ⊆ ((arg13.slice (Rect.unit (s := S3x1792x768) (k0_off100 i) S1x1792x768.size (k0_off100_inb i h)) (fun _ => rfl)).squeeze S1792x768 squeezes_S1x1792x768_S1792x768).view.set := View.setOn_subset_set _ _
    have hS512 : ((arg13.slice (Rect.unit (s := S3x1792x768) (k0_off100 i) S1x1792x768.size (k0_off100_inb i h)) (fun _ => rfl)).squeeze S1792x768 squeezes_S1x1792x768_S1792x768).view.setOn (Rect.unit (s := S1792x768) ![0, 512] S1792x256.size inb_S1792x768_S1792x256_0_512).toLoadRect.set ⊆ ((arg13.slice (Rect.unit (s := S3x1792x768) (k0_off100 i) S1x1792x768.size (k0_off100_inb i h)) (fun _ => rfl)).squeeze S1792x768 squeezes_S1x1792x768_S1792x768).view.set := View.setOn_subset_set _ _
    unfold region5
    iintro ⟨H12, H13, H14, Hk⟩
    sl_exec_parts
    iapply Hk
    isplitl [H12]; · iexact H12
    isplitl [H13]; · iexact H13
    iexact H14

end Cert.KernelIdeal.Prf
end
-- ==== Proof.IRun6.lean ====
module

public import proofs.«01_k».proof.Proof.ICommon
@[expose] public section
set_option maxRecDepth 16384
noncomputable section
namespace Cert.KernelIdeal.Prf
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

/-- The part that writes one batch of the result, and what it leaves in the block. -/
def run6 (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) (h : k0_cond6 i = 1#1)
    (f3 : Bf (F := F) c arg3) (f5 : Bf (F := F) c arg5) (f6 : Bf (F := F) c arg6) (f7 : Bf (F := F) c arg7) (f11 : Bf (F := F) c arg11) (f14 : Bf (F := F) c arg14) :
    { W : Bf (F := F) c arg7 //
      ∀ (kk : PUnit.{1} → Prog (TpuEff nD τ sig (Elt F) Λ₀ .tc) PUnit.{1}) (K : PUnit → sProp 𝕄),
        iprop(pt c arg3 f3 ∗ pt c arg5 f5 ∗ pt c arg6 f6 ∗ pt c arg7 f7 ∗ pt c arg11 f11 ∗ pt c arg14 f14
            ∗ (iprop(pt c arg3 f3 ∗ pt c arg5 f5 ∗ pt c arg6 f6 ∗ pt c arg7 W ∗ (∃ f, pt c arg11 f) ∗ pt c arg14 f14) -∗ wp frame (wpE (defs₀ (F := F)) Variants.none c none) Set.univ (kk ⟨⟩) K))
          ⊢ wp frame (wpE (defs₀ (F := F)) Variants.none c none) Set.univ (region6 i arg1 harg1 arg2 harg2 arg3 harg3 arg4 harg4 arg5 harg5 arg6 harg6 arg7 harg7 arg8 harg8 arg9 harg9 arg10 harg10 arg11 harg11 arg12 harg12 arg13 harg13 arg14 harg14 arg15 h kk) K } := by
  refine ⟨?_, fun kk K => ?run⟩
  case run =>
    unfold region6
    iintro ⟨H3, H5, H6, H7, H11, H14, Hk⟩
    sl_exec_parts
    iapply Hk
    isplitl [H3]; · iexact H3
    isplitl [H5]; · iexact H5
    isplitl [H6]; · iexact H6
    isplitl [H7]; · iexact H7
    isplitl [H11]; · iexists _; iexact H11
    iexact H14

end Cert.KernelIdeal.Prf
end
-- ==== Proof.IStep.lean ====
/- Each guarded part of the body, taken or skipped, as one step on what the proof holds. -/
module

public import proofs.«01_k».proof.Proof.IWts
public import proofs.«01_k».proof.Proof.IRun1
public import proofs.«01_k».proof.Proof.IRun2
public import proofs.«01_k».proof.Proof.IRun3
public import proofs.«01_k».proof.Proof.IRun4
public import proofs.«01_k».proof.Proof.IRun5
public import proofs.«01_k».proof.Proof.IRun6

@[expose] public section

set_option maxRecDepth 16384

noncomputable section

namespace Cert.KernelIdeal.Prf

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

/-- The guards the body spells out: of the first point, and of the first of every three points after it. -/
abbrev cond1 (i : grid0.Coords) : Prop := (let arg0 : BitVec 32 := BitVec.ofNat 32 (i 0).val; let v0 : BitVec 32 := Scalar.remsi arg0 3#32; let v1 : BitVec 32 := Scalar.addi arg0 3#32; let v2 : BitVec 32 := Scalar.subi v1 1#32; let v3 : BitVec 32 := Scalar.remsi v2 3#32; let v4 : BitVec 32 := Scalar.remsi arg0 2#32; let v5 : BitVec 1 := Scalar.cmpi .eq arg0 0#32; let v6 : BitVec 32 := Scalar.extui v5; let v7 : BitVec 1 := Scalar.cmpi .ne v6 0#32; v7) = 1#1
abbrev cond4 (i : grid0.Coords) : Prop := (let arg0 : BitVec 32 := BitVec.ofNat 32 (i 0).val; let v0 : BitVec 32 := Scalar.remsi arg0 3#32; let v1 : BitVec 32 := Scalar.addi arg0 3#32; let v2 : BitVec 32 := Scalar.subi v1 1#32; let v3 : BitVec 32 := Scalar.remsi v2 3#32; let v4 : BitVec 32 := Scalar.remsi arg0 2#32; let v5 : BitVec 1 := Scalar.cmpi .eq arg0 0#32; let v6 : BitVec 32 := Scalar.extui v5; let v7 : BitVec 1 := Scalar.cmpi .ne v6 0#32; let v16 : BitVec 1 := Scalar.cmpi .sge arg0 1#32; let v17 : BitVec 1 := Scalar.cmpi .eq v3 0#32; let v18 : BitVec 1 := Scalar.andi v16 v17; let v19 : BitVec 32 := Scalar.extui v18; let v20 : BitVec 1 := Scalar.cmpi .ne v19 0#32; v20) = 1#1

/-- Copy in flight on one window, at offsets; the copy delivered. -/
abbrev FLg (c : Dev nD) (o1 : Fin 2 → ℕ) (h1 : ∀ a, o1 a + S1x1.size a ≤ S3x7.size a)
    (o2 : Fin 3 → ℕ) (h2 : ∀ a, o2 a + S1x256x768.size a ≤ S3x1792x768.size a)
    (o3 : Fin 3 → ℕ) (h3 : ∀ a, o3 a + S1x256x768.size a ≤ S7x768x768.size a) (f4 : Bf (F := F) c sM) (f13 : Bf (F := F) c wM) : sProp 𝕄 :=
  Transfers.Flight countersEmb (c : Thread nD τ) (.dma (semG cc0_scratch7 o1 h1)) default 6144
    iprop(own c (dstG wM o2 h2) f13 ∗ own c (srcG sM o3 h3) f4)
theorem FLg_ent (c : Dev nD) {o1 o1' : Fin 2 → ℕ} {h1 : ∀ a, o1 a + S1x1.size a ≤ S3x7.size a} {h1' : ∀ a, o1' a + S1x1.size a ≤ S3x7.size a}
    {o2 o2' : Fin 3 → ℕ} {h2 : ∀ a, o2 a + S1x256x768.size a ≤ S3x1792x768.size a} {h2' : ∀ a, o2' a + S1x256x768.size a ≤ S3x1792x768.size a}
    {o3 o3' : Fin 3 → ℕ} {h3 : ∀ a, o3 a + S1x256x768.size a ≤ S7x768x768.size a} {h3' : ∀ a, o3' a + S1x256x768.size a ≤ S7x768x768.size a}
    (f4 : Bf (F := F) c sM) (f13 : Bf (F := F) c wM) (e1 : o1' = o1) (e2 : o2' = o2) (e3 : o3' = o3) :
    FLg c o1 h1 o2 h2 o3 h3 f4 f13 ⊢ FLg c o1' h1' o2' h2' o3' h3' f4 f13 := by
  subst e1 e2 e3; exact .rfl
theorem DLd_ent (c : Dev nD) {o2 o2' : Fin 3 → ℕ} {h2 : ∀ a, o2 a + S1x256x768.size a ≤ S3x1792x768.size a} {h2' : ∀ a, o2' a + S1x256x768.size a ≤ S3x1792x768.size a}
    (f13 : Bf (F := F) c wM) (e2 : o2' = o2) : (own c (dstG wM o2' h2') f13 : sProp 𝕄) ⊢ own c (dstG wM o2 h2) f13 := by
  subst e2; exact .rfl
theorem DLs_ent (c : Dev nD) {o3 o3' : Fin 3 → ℕ} {h3 : ∀ a, o3 a + S1x256x768.size a ≤ S7x768x768.size a} {h3' : ∀ a, o3' a + S1x256x768.size a ≤ S7x768x768.size a}
    (f4 : Bf (F := F) c sM) (e3 : o3' = o3) : (own c (srcG sM o3' h3') f4 : sProp 𝕄) ⊢ own c (srcG sM o3 h3) f4 := by
  subst e3; exact .rfl
theorem DLm_ent (c : Dev nD) {o1 o1' : Fin 2 → ℕ} {h1 : ∀ a, o1 a + S1x1.size a ≤ S3x7.size a} {h1' : ∀ a, o1' a + S1x1.size a ≤ S3x7.size a}
    (e1 : o1' = o1) : (semVal ((c : Thread nD τ), .dma (semG cc0_scratch7 o1' h1')) 0 : sProp 𝕄) ⊢ semVal ((c : Thread nD τ), .dma (semG cc0_scratch7 o1 h1)) 0 := by
  subst e1; exact .rfl
theorem planeG_eq (c : Dev nD) {o o' : Fin 3 → ℕ} {h : ∀ a, o a + S1x1792x768.size a ≤ S3x1792x768.size a} {h' : ∀ a, o' a + S1x1792x768.size a ≤ S3x1792x768.size a}
    (f : Bf (F := F) c wM) (e : o' = o) : (own c (planeG wM o' h') f : sProp 𝕄) = own c (planeG wM o h) f := by
  subst e; rfl

/-- The seven copies of plane `q` in flight; delivered. -/
def FlQ (c : Dev nD) (f4 : Bf (F := F) c sM) (q : Fin 3) : sProp 𝕄 :=
  bigSep Finset.univ fun k : Fin 7 => FLg c ![q.val, k.val] (inbM q k) ![q.val, 256 * k.val, 0] (inbD q k) ![k.val, 256 * q.val, 0] (inbS q k) f4 (WF c f4)
def DlQ (c : Dev nD) (f4 : Bf (F := F) c sM) (q : Fin 3) : sProp 𝕄 :=
  iprop(own c (planeF q) (WF c f4) ∗ bigSep Finset.univ fun k : Fin 7 => iprop(own c (srcF q k) f4 ∗ semVal ((c : Thread nD τ), .dma (semF q k)) 0))

theorem b7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem b3 (Φ : Fin 3 → sProp 𝕄) : bigSep Finset.univ Φ = iprop(Φ 0 ∗ Φ 1 ∗ Φ 2) :=
  bigSep_univ_eq_bigSepL [0, 1, 2] (by decide) (by decide) Φ
theorem b21 (Φ : Fin 3 × Fin 7 → sProp 𝕄) : bigSep Finset.univ Φ = iprop(Φ (0, 0) ∗ Φ (0, 1) ∗ Φ (0, 2) ∗ Φ (0, 3) ∗ Φ (0, 4) ∗ Φ (0, 5) ∗ Φ (0, 6) ∗ Φ (1, 0) ∗ Φ (1, 1) ∗ Φ (1, 2) ∗ Φ (1, 3) ∗ Φ (1, 4) ∗ Φ (1, 5) ∗ Φ (1, 6) ∗ Φ (2, 0) ∗ Φ (2, 1) ∗ Φ (2, 2) ∗ Φ (2, 3) ∗ Φ (2, 4) ∗ Φ (2, 5) ∗ Φ (2, 6)) :=
  bigSep_univ_eq_bigSepL [(0, 0), (0, 1), (0, 2), (0, 3), (0, 4), (0, 5), (0, 6), (1, 0), (1, 1), (1, 2), (1, 3), (1, 4), (1, 5), (1, 6), (2, 0), (2, 1), (2, 2), (2, 3), (2, 4), (2, 5), (2, 6)] (by decide) (by decide) Φ

/-- What a started copy will deliver is the final contents of its window. -/
theorem fl (c : Dev nD) (f4 : Bf (F := F) c sM) (f13 : Bf (F := F) c wM) (q : Fin 3) (k : Fin 7) :
    Transfers.Flight countersEmb (c : Thread nD τ) (.dma (semF q k)) default 6144
        iprop(own c (dstF q k) ((dstF q k).view.writes (Elt F) f13 [⟨Rect.whole S256x768, ReadAs.same.apply ((srcF q k).view.read (Elt F) f4)⟩]) ∗ own c (srcF q k) f4)
      ⊢ (FLg c ![q.val, k.val] (inbM q k) ![q.val, 256 * k.val, 0] (inbD q k) ![k.val, 256 * q.val, 0] (inbS q k) f4 (WF c f4) : sProp 𝕄) :=
  Transfers.Flight_mono _ _ (BIBase.Entails.of_eq (by rw [own_landed]))

set_option maxHeartbeats 4000000 in
/-- The first point's part: the buffer and the operand cut in windows, every copy started. -/
theorem step1 (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (h : cond1 i) (f4 : Bf (F := F) c sM) (f13 : Bf (F := F) c wM) (K : PUnit → sProp 𝕄) :
    iprop(pt c sM f4 ∗ pt c wM f13 ∗ (bigSep Finset.univ fun p : Fin 3 × Fin 7 => semVal ((c : Thread nD τ), .dma (semF p.1 p.2)) 0)
        ∗ (iprop(FlQ c f4 0 ∗ FlQ c f4 1 ∗ FlQ c f4 2) -∗ wp frame (wpE (defs₀ (F := F)) Variants.none c none) Set.univ (rest2 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K))
      ⊢ wp frame (wpE (defs₀ (F := F)) Variants.none c none) Set.univ (rest1 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K := by
  unfold rest1
  rw [dif_pos h]
  refine BIBase.Entails.trans ?_ (run1 c i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7 h f4 f13 (fun _ => rest2 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K)
  rw [split_src, split_dst]
  rw [b21, b21, b21]
  iintro ⟨⟨S00, S01, S02, S03, S04, S05, S06, S10, S11, S12, S13, S14, S15, S16, S20, S21, S22, S23, S24, S25, S26⟩, ⟨D00, D01, D02, D03, D04, D05, D06, D10, D11, D12, D13, D14, D15, D16, D20, D21, D22, D23, D24, D25, D26⟩, ⟨M00, M01, M02, M03, M04, M05, M06, M10, M11, M12, M13, M14, M15, M16, M20, M21, M22, M23, M24, M25, M26⟩, Hk⟩
  isplitl [S00]; · iexact S00
  isplitl [D00]; · iexact D00
  isplitl [M00]; · iexact M00
  isplitl [S01]; · iexact S01
  isplitl [D01]; · iexact D01
  isplitl [M01]; · iexact M01
  isplitl [S02]; · iexact S02
  isplitl [D02]; · iexact D02
  isplitl [M02]; · iexact M02
  isplitl [S03]; · iexact S03
  isplitl [D03]; · iexact D03
  isplitl [M03]; · iexact M03
  isplitl [S04]; · iexact S04
  isplitl [D04]; · iexact D04
  isplitl [M04]; · iexact M04
  isplitl [S05]; · iexact S05
  isplitl [D05]; · iexact D05
  isplitl [M05]; · iexact M05
  isplitl [S06]; · iexact S06
  isplitl [D06]; · iexact D06
  isplitl [M06]; · iexact M06
  isplitl [S10]; · iexact S10
  isplitl [D10]; · iexact D10
  isplitl [M10]; · iexact M10
  isplitl [S11]; · iexact S11
  isplitl [D11]; · iexact D11
  isplitl [M11]; · iexact M11
  isplitl [S12]; · iexact S12
  isplitl [D12]; · iexact D12
  isplitl [M12]; · iexact M12
  isplitl [S13]; · iexact S13
  isplitl [D13]; · iexact D13
  isplitl [M13]; · iexact M13
  isplitl [S14]; · iexact S14
  isplitl [D14]; · iexact D14
  isplitl [M14]; · iexact M14
  isplitl [S15]; · iexact S15
  isplitl [D15]; · iexact D15
  isplitl [M15]; · iexact M15
  isplitl [S16]; · iexact S16
  isplitl [D16]; · iexact D16
  isplitl [M16]; · iexact M16
  isplitl [S20]; · iexact S20
  isplitl [D20]; · iexact D20
  isplitl [M20]; · iexact M20
  isplitl [S21]; · iexact S21
  isplitl [D21]; · iexact D21
  isplitl [M21]; · iexact M21
  isplitl [S22]; · iexact S22
  isplitl [D22]; · iexact D22
  isplitl [M22]; · iexact M22
  isplitl [S23]; · iexact S23
  isplitl [D23]; · iexact D23
  isplitl [M23]; · iexact M23
  isplitl [S24]; · iexact S24
  isplitl [D24]; · iexact D24
  isplitl [M24]; · iexact M24
  isplitl [S25]; · iexact S25
  isplitl [D25]; · iexact D25
  isplitl [M25]; · iexact M25
  isplitl [S26]; · iexact S26
  isplitl [D26]; · iexact D26
  isplitl [M26]; · iexact M26
  iintro ⟨F00, F01, F02, F03, F04, F05, F06, F10, F11, F12, F13, F14, F15, F16, F20, F21, F22, F23, F24, F25, F26⟩
  iapply Hk
  unfold FlQ
  rw [b7, b7, b7]
  isplitl [F00 F01 F02 F03 F04 F05 F06]
  · isplitl [F00]; · iapply (fl c f4 f13 0 0); iexact F00
    isplitl [F01]; · iapply (fl c f4 f13 0 1); iexact F01
    isplitl [F02]; · iapply (fl c f4 f13 0 2); iexact F02
    isplitl [F03]; · iapply (fl c f4 f13 0 3); iexact F03
    isplitl [F04]; · iapply (fl c f4 f13 0 4); iexact F04
    isplitl [F05]; · iapply (fl c f4 f13 0 5); iexact F05
    iapply (fl c f4 f13 0 6); iexact F06
  isplitl [F10 F11 F12 F13 F14 F15 F16]
  · isplitl [F10]; · iapply (fl c f4 f13 1 0); iexact F10
    isplitl [F11]; · iapply (fl c f4 f13 1 1); iexact F11
    isplitl [F12]; · iapply (fl c f4 f13 1 2); iexact F12
    isplitl [F13]; · iapply (fl c f4 f13 1 3); iexact F13
    isplitl [F14]; · iapply (fl c f4 f13 1 4); iexact F14
    isplitl [F15]; · iapply (fl c f4 f13 1 5); iexact F15
    iapply (fl c f4 f13 1 6); iexact F16
  isplitl [F20]; · iapply (fl c f4 f13 2 0); iexact F20
  isplitl [F21]; · iapply (fl c f4 f13 2 1); iexact F21
  isplitl [F22]; · iapply (fl c f4 f13 2 2); iexact F22
  isplitl [F23]; · iapply (fl c f4 f13 2 3); iexact F23
  isplitl [F24]; · iapply (fl c f4 f13 2 4); iexact F24
  isplitl [F25]; · iapply (fl c f4 f13 2 5); iexact F25
  iapply (fl c f4 f13 2 6); iexact F26

theorem step1n (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (h : ¬ cond1 i) (K : PUnit → sProp 𝕄) :
    wp frame (wpE (defs₀ (F := F)) Variants.none c none) Set.univ (rest2 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K ⊢ wp frame (wpE (defs₀ (F := F)) Variants.none c none) Set.univ (rest1 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K := by
  unfold rest1
  rw [dif_neg h]

/-- A point that waits for plane `q`'s copies has the plane whole. -/
theorem step2 (c : Dev nD) (q : Fin 3) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (h : k0_cond2 i = 1#1)
    (s0 : k0_off1 i = ![q.val, 0]) (d0 : k0_off2 i = ![q.val, 0, 0]) (r0 : k0_off3 i = ![0, 256 * q.val, 0]) (s1 : k0_off4 i = ![q.val, 1]) (d1 : k0_off5 i = ![q.val, 256, 0]) (r1 : k0_off6 i = ![1, 256 * q.val, 0]) (s2 : k0_off7 i = ![q.val, 2]) (d2 : k0_off8 i = ![q.val, 512, 0]) (r2 : k0_off9 i = ![2, 256 * q.val, 0]) (s3 : k0_off10 i = ![q.val, 3]) (d3 : k0_off11 i = ![q.val, 768, 0]) (r3 : k0_off12 i = ![3, 256 * q.val, 0]) (s4 : k0_off13 i = ![q.val, 4]) (d4 : k0_off14 i = ![q.val, 1024, 0]) (r4 : k0_off15 i = ![4, 256 * q.val, 0]) (s5 : k0_off16 i = ![q.val, 5]) (d5 : k0_off17 i = ![q.val, 1280, 0]) (r5 : k0_off18 i = ![5, 256 * q.val, 0]) (s6 : k0_off19 i = ![q.val, 6]) (d6 : k0_off20 i = ![q.val, 1536, 0]) (r6 : k0_off21 i = ![6, 256 * q.val, 0])
    (W : Waits sig Unit) (f4 : Bf (F := F) c sM) (K : PUnit → sProp 𝕄) :
    iprop(owes (c : Thread nD τ) 0 W ∗ FlQ c f4 q
        ∗ (iprop((∃ W, owes (c : Thread nD τ) 0 W) ∗ DlQ c f4 q) -∗ wp frame (wpE (defs₀ (F := F)) Variants.none c none) Set.univ (rest3 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K))
      ⊢ wp frame (wpE (defs₀ (F := F)) Variants.none c none) Set.univ (rest2 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K := by
  unfold rest2
  rw [dif_pos h]
  refine BIBase.Entails.trans ?_ (run2 c i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7 h W f4 (WF c f4) (fun _ => rest3 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K)
  unfold FlQ DlQ
  rw [split_plane, b7, b7, b7]
  iintro ⟨HO, ⟨F0, F1, F2, F3, F4, F5, F6⟩, Hk⟩
  isplitl [HO]; · iexact HO
  isplitl [F0]; · iapply (FLg_ent c f4 (WF c f4) s0 d0 r0); iexact F0
  isplitl [F1]; · iapply (FLg_ent c f4 (WF c f4) s1 d1 r1); iexact F1
  isplitl [F2]; · iapply (FLg_ent c f4 (WF c f4) s2 d2 r2); iexact F2
  isplitl [F3]; · iapply (FLg_ent c f4 (WF c f4) s3 d3 r3); iexact F3
  isplitl [F4]; · iapply (FLg_ent c f4 (WF c f4) s4 d4 r4); iexact F4
  isplitl [F5]; · iapply (FLg_ent c f4 (WF c f4) s5 d5 r5); iexact F5
  isplitl [F6]; · iapply (FLg_ent c f4 (WF c f4) s6 d6 r6); iexact F6
  iintro ⟨HO, D0, R0, M0, D1, R1, M1, D2, R2, M2, D3, R3, M3, D4, R4, M4, D5, R5, M5, D6, R6, M6⟩
  iapply Hk
  isplitl [HO]; · iexact HO
  isplitl [D0 D1 D2 D3 D4 D5 D6]
  · isplitl [D0]; · iapply (DLd_ent c (WF c f4) d0); iexact D0
    isplitl [D1]; · iapply (DLd_ent c (WF c f4) d1); iexact D1
    isplitl [D2]; · iapply (DLd_ent c (WF c f4) d2); iexact D2
    isplitl [D3]; · iapply (DLd_ent c (WF c f4) d3); iexact D3
    isplitl [D4]; · iapply (DLd_ent c (WF c f4) d4); iexact D4
    isplitl [D5]; · iapply (DLd_ent c (WF c f4) d5); iexact D5
    iapply (DLd_ent c (WF c f4) d6); iexact D6
  isplitl [R0 M0]
  · isplitl [R0]; · iapply (DLs_ent c f4 r0); iexact R0
    iapply (DLm_ent c s0); iexact M0
  isplitl [R1 M1]
  · isplitl [R1]; · iapply (DLs_ent c f4 r1); iexact R1
    iapply (DLm_ent c s1); iexact M1
  isplitl [R2 M2]
  · isplitl [R2]; · iapply (DLs_ent c f4 r2); iexact R2
    iapply (DLm_ent c s2); iexact M2
  isplitl [R3 M3]
  · isplitl [R3]; · iapply (DLs_ent c f4 r3); iexact R3
    iapply (DLm_ent c s3); iexact M3
  isplitl [R4 M4]
  · isplitl [R4]; · iapply (DLs_ent c f4 r4); iexact R4
    iapply (DLm_ent c s4); iexact M4
  isplitl [R5 M5]
  · isplitl [R5]; · iapply (DLs_ent c f4 r5); iexact R5
    iapply (DLm_ent c s5); iexact M5
  isplitl [R6]; · iapply (DLs_ent c f4 r6); iexact R6
  iapply (DLm_ent c s6); iexact M6

theorem step2n (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (h : ¬ k0_cond2 i = 1#1) (K : PUnit → sProp 𝕄) :
    wp frame (wpE (defs₀ (F := F)) Variants.none c none) Set.univ (rest3 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K ⊢ wp frame (wpE (defs₀ (F := F)) Variants.none c none) Set.univ (rest2 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K := by
  unfold rest2
  rw [dif_neg h]

/-- The part that fills a slot of the activation buffer, taken or skipped. -/
theorem step3 (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) (f1 : Bf (F := F) c arg1) (f2 : Bf (F := F) c arg2) (f8 : Bf (F := F) c arg8) (f9 : Bf (F := F) c arg9) (f10 : Bf (F := F) c arg10) (f12 : Bf (F := F) c arg12)
    (G : Bf (F := F) c arg12 → Prop) (hp : ∀ h : k0_cond3 i = 1#1, G (run3 c i arg1 harg1 arg2 harg2 arg3 harg3 arg4 harg4 arg5 harg5 arg6 harg6 arg7 harg7 arg8 harg8 arg9 harg9 arg10 harg10 arg11 harg11 arg12 harg12 arg13 harg13 arg14 harg14 arg15 h f1 f2 f8 f9 f10 f12).1)
    (hn : ¬ k0_cond3 i = 1#1 → G f12) (K : PUnit → sProp 𝕄) :
    iprop(pt c arg1 f1 ∗ pt c arg2 f2 ∗ pt c arg8 f8 ∗ pt c arg9 f9 ∗ pt c arg10 f10 ∗ pt c arg12 f12
        ∗ (iprop(pt c arg1 f1 ∗ pt c arg2 f2 ∗ (∃ f, pt c arg8 f) ∗ (∃ f, pt c arg9 f) ∗ (∃ f, pt c arg10 f) ∗ (∃ f, ⌜G f⌝ ∗ pt c arg12 f)) -∗ wp frame (wpE (defs₀ (F := F)) Variants.none c none) Set.univ (rest4 i arg1 harg1 arg2 harg2 arg3 harg3 arg4 harg4 arg5 harg5 arg6 harg6 arg7 harg7 arg8 harg8 arg9 harg9 arg10 harg10 arg11 harg11 arg12 harg12 arg13 harg13 arg14 harg14 arg15) K))
      ⊢ wp frame (wpE (defs₀ (F := F)) Variants.none c none) Set.univ (rest3 i arg1 harg1 arg2 harg2 arg3 harg3 arg4 harg4 arg5 harg5 arg6 harg6 arg7 harg7 arg8 harg8 arg9 harg9 arg10 harg10 arg11 harg11 arg12 harg12 arg13 harg13 arg14 harg14 arg15) K := by
  unfold rest3
  by_cases h : k0_cond3 i = 1#1
  · rw [dif_pos h]
    refine BIBase.Entails.trans ?_ ((run3 c i arg1 harg1 arg2 harg2 arg3 harg3 arg4 harg4 arg5 harg5 arg6 harg6 arg7 harg7 arg8 harg8 arg9 harg9 arg10 harg10 arg11 harg11 arg12 harg12 arg13 harg13 arg14 harg14 arg15 h f1 f2 f8 f9 f10 f12).2 (fun _ => rest4 i arg1 harg1 arg2 harg2 arg3 harg3 arg4 harg4 arg5 harg5 arg6 harg6 arg7 harg7 arg8 harg8 arg9 harg9 arg10 harg10 arg11 harg11 arg12 harg12 arg13 harg13 arg14 harg14 arg15) K)
    iintro ⟨H1, H2, H8, H9, H10, H12, Hk⟩
    isplitl [H1]; · iexact H1
    isplitl [H2]; · iexact H2
    isplitl [H8]; · iexact H8
    isplitl [H9]; · iexact H9
    isplitl [H10]; · iexact H10
    isplitl [H12]; · iexact H12
    iintro ⟨H1, H2, H8, H9, H10, H12⟩
    iapply Hk
    isplitl [H1]; · iexact H1
    isplitl [H2]; · iexact H2
    isplitl [H8]; · iexact H8
    isplitl [H9]; · iexact H9
    isplitl [H10]; · iexact H10
    iexists _; isplitr; swap; · iexact H12
    ipureintro; exact hp h
  · rw [dif_neg h]
    iintro ⟨H1, H2, H8, H9, H10, H12, Hk⟩
    iapply Hk
    isplitl [H1]; · iexact H1
    isplitl [H2]; · iexact H2
    isplitl [H8]; · iexists _; iexact H8
    isplitl [H9]; · iexists _; iexact H9
    isplitl [H10]; · iexists _; iexact H10
    iexists _; isplitr; swap; · iexact H12
    ipureintro; exact hn h

/-- The part that clears the accumulator, taken or skipped. -/
theorem step4 (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) (f14 : Bf (F := F) c arg14)
    (G : Bf (F := F) c arg14 → Prop) (hp : ∀ h : cond4 i, G (run4 c i arg1 harg1 arg2 harg2 arg3 harg3 arg4 harg4 arg5 harg5 arg6 harg6 arg7 harg7 arg8 harg8 arg9 harg9 arg10 harg10 arg11 harg11 arg12 harg12 arg13 harg13 arg14 harg14 arg15 h f14).1)
    (hn : ¬ cond4 i → G f14) (K : PUnit → sProp 𝕄) :
    iprop(pt c arg14 f14 ∗ (iprop(∃ f, ⌜G f⌝ ∗ pt c arg14 f) -∗ wp frame (wpE (defs₀ (F := F)) Variants.none c none) Set.univ (rest5 i arg1 harg1 arg2 harg2 arg3 harg3 arg4 harg4 arg5 harg5 arg6 harg6 arg7 harg7 arg8 harg8 arg9 harg9 arg10 harg10 arg11 harg11 arg12 harg12 arg13 harg13 arg14 harg14 arg15) K))
      ⊢ wp frame (wpE (defs₀ (F := F)) Variants.none c none) Set.univ (rest4 i arg1 harg1 arg2 harg2 arg3 harg3 arg4 harg4 arg5 harg5 arg6 harg6 arg7 harg7 arg8 harg8 arg9 harg9 arg10 harg10 arg11 harg11 arg12 harg12 arg13 harg13 arg14 harg14 arg15) K := by
  unfold rest4
  by_cases h : cond4 i
  · rw [dif_pos h]
    refine BIBase.Entails.trans ?_ ((run4 c i arg1 harg1 arg2 harg2 arg3 harg3 arg4 harg4 arg5 harg5 arg6 harg6 arg7 harg7 arg8 harg8 arg9 harg9 arg10 harg10 arg11 harg11 arg12 harg12 arg13 harg13 arg14 harg14 arg15 h f14).2 (fun _ => rest5 i arg1 harg1 arg2 harg2 arg3 harg3 arg4 harg4 arg5 harg5 arg6 harg6 arg7 harg7 arg8 harg8 arg9 harg9 arg10 harg10 arg11 harg11 arg12 harg12 arg13 harg13 arg14 harg14 arg15) K)
    iintro ⟨H14, Hk⟩
    isplitl [H14]; · iexact H14
    iintro H14
    iapply Hk
    iexists _; isplitr; swap; · iexact H14
    ipureintro; exact hp h
  · rw [dif_neg h]
    iintro ⟨H14, Hk⟩
    iapply Hk
    iexists _; isplitr; swap; · iexact H14
    ipureintro; exact hn h

/-- The part that adds one group's products into the accumulator. -/
theorem step5 (c : Dev nD) (q : Fin 3) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (h : k0_cond5 i = 1#1) (e : k0_off100 i = ![q.val, 0, 0])
    (f12 : Bf (F := F) c (Memref.whole cc0_scratch4)) (f13 : Bf (F := F) c wM) (f14 : Bf (F := F) c (Memref.whole cc0_scratch6)) (K : PUnit → sProp 𝕄) :
    iprop(pt c (Memref.whole cc0_scratch4) f12 ∗ own c (planeF q) f13 ∗ pt c (Memref.whole cc0_scratch6) f14
        ∗ (iprop(pt c (Memref.whole cc0_scratch4) f12 ∗ own c (planeF q) f13 ∗ pt c (Memref.whole cc0_scratch6) (run5 c i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7 h f12 f13 f14).1) -∗ wp frame (wpE (defs₀ (F := F)) Variants.none c none) Set.univ (rest6 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K))
      ⊢ wp frame (wpE (defs₀ (F := F)) Variants.none c none) Set.univ (rest5 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K := by
  unfold rest5
  rw [dif_pos h]
  refine BIBase.Entails.trans ?_ ((run5 c i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7 h f12 f13 f14).2 (fun _ => rest6 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K)
  rw [show (own c (planeF q) f13 : sProp 𝕄) = own c (planeG wM (k0_off100 i) (k0_off100_inb i h)) f13 from planeG_eq c f13 e.symm]

theorem step5n (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (h : ¬ k0_cond5 i = 1#1) (K : PUnit → sProp 𝕄) :
    wp frame (wpE (defs₀ (F := F)) Variants.none c none) Set.univ (rest6 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K ⊢ wp frame (wpE (defs₀ (F := F)) Variants.none c none) Set.univ (rest5 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K := by
  unfold rest5
  rw [dif_neg h]

/-- The part that writes a block of the result, taken or skipped, and the body's end. -/
theorem step6 (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) (f3 : Bf (F := F) c arg3) (f5 : Bf (F := F) c arg5) (f6 : Bf (F := F) c arg6) (f7 : Bf (F := F) c arg7) (f11 : Bf (F := F) c arg11) (f14 : Bf (F := F) c arg14)
    (G : Bf (F := F) c arg7 → Prop) (hp : ∀ h : k0_cond6 i = 1#1, G (run6 c i arg1 harg1 arg2 harg2 arg3 harg3 arg4 harg4 arg5 harg5 arg6 harg6 arg7 harg7 arg8 harg8 arg9 harg9 arg10 harg10 arg11 harg11 arg12 harg12 arg13 harg13 arg14 harg14 arg15 h f3 f5 f6 f7 f11 f14).1)
    (hn : ¬ k0_cond6 i = 1#1 → G f7) (K : PUnit → sProp 𝕄) :
    iprop(pt c arg3 f3 ∗ pt c arg5 f5 ∗ pt c arg6 f6 ∗ pt c arg7 f7 ∗ pt c arg11 f11 ∗ pt c arg14 f14
        ∗ (iprop(pt c arg3 f3 ∗ pt c arg5 f5 ∗ pt c arg6 f6 ∗ (∃ f, ⌜G f⌝ ∗ pt c arg7 f) ∗ (∃ f, pt c arg11 f) ∗ pt c arg14 f14) -∗ K ⟨⟩))
      ⊢ wp frame (wpE (defs₀ (F := F)) Variants.none c none) Set.univ (rest6 i arg1 harg1 arg2 harg2 arg3 harg3 arg4 harg4 arg5 harg5 arg6 harg6 arg7 harg7 arg8 harg8 arg9 harg9 arg10 harg10 arg11 harg11 arg12 harg12 arg13 harg13 arg14 harg14 arg15) K := by
  unfold rest6
  by_cases h : k0_cond6 i = 1#1
  · rw [dif_pos h]
    refine BIBase.Entails.trans ?_ ((run6 c i arg1 harg1 arg2 harg2 arg3 harg3 arg4 harg4 arg5 harg5 arg6 harg6 arg7 harg7 arg8 harg8 arg9 harg9 arg10 harg10 arg11 harg11 arg12 harg12 arg13 harg13 arg14 harg14 arg15 h f3 f5 f6 f7 f11 f14).2 (fun _ => pure ⟨⟩) K)
    iintro ⟨H3, H5, H6, H7, H11, H14, Hk⟩
    isplitl [H3]; · iexact H3
    isplitl [H5]; · iexact H5
    isplitl [H6]; · iexact H6
    isplitl [H7]; · iexact H7
    isplitl [H11]; · iexact H11
    isplitl [H14]; · iexact H14
    iintro ⟨H3, H5, H6, H7, H11, H14⟩
    sl_step
    iapply Hk
    isplitl [H3]; · iexact H3
    isplitl [H5]; · iexact H5
    isplitl [H6]; · iexact H6
    isplitl [H7]
    · iexists _; isplitr; swap; · iexact H7
      ipureintro; exact hp h
    isplitl [H11]; · iexact H11
    iexact H14
  · rw [dif_neg h]
    iintro ⟨H3, H5, H6, H7, H11, H14, Hk⟩
    sl_step
    iapply Hk
    isplitl [H3]; · iexact H3
    isplitl [H5]; · iexact H5
    isplitl [H6]; · iexact H6
    isplitl [H7]
    · iexists _; isplitr; swap; · iexact H7
      ipureintro; exact hn h
    isplitl [H11]; · iexists _; iexact H11
    iexact H14

end Cert.KernelIdeal.Prf
end
-- ==== Proof.ICore.lean ====
/- One grid point's body, from what holds before it to what holds after it: the weight windows by the point's number, the activation
   buffer and the accumulator at contents satisfying what the caller states of them. -/
module

public import proofs.«01_k».proof.Proof.IStep

@[expose] public section

set_option maxRecDepth 16384

noncomputable section

namespace Cert.KernelIdeal.Prf

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

theorem c1 : ∀ i : grid0.Coords, cond1 i ↔ (i 0).val = 0 := by decide
theorem c2 : ∀ i : grid0.Coords, k0_cond2 i = 1#1 ↔ (1 ≤ (i 0).val ∧ (i 0).val ≤ 3) := by decide
theorem c5 : ∀ i : grid0.Coords, k0_cond5 i = 1#1 → ∃ q : Fin 3, k0_off100 i = ![q.val, 0, 0] ∧ q.val < (i 0).val := by decide
theorem o0 : ∀ i : grid0.Coords, ∀ q : Fin 3, (i 0).val = q.val + 1 → k0_off1 i = ![q.val, 0] ∧ k0_off2 i = ![q.val, 0, 0] ∧ k0_off3 i = ![0, 256 * q.val, 0] := by decide
theorem o1 : ∀ i : grid0.Coords, ∀ q : Fin 3, (i 0).val = q.val + 1 → k0_off4 i = ![q.val, 1] ∧ k0_off5 i = ![q.val, 256, 0] ∧ k0_off6 i = ![1, 256 * q.val, 0] := by decide
theorem o2 : ∀ i : grid0.Coords, ∀ q : Fin 3, (i 0).val = q.val + 1 → k0_off7 i = ![q.val, 2] ∧ k0_off8 i = ![q.val, 512, 0] ∧ k0_off9 i = ![2, 256 * q.val, 0] := by decide
theorem o3 : ∀ i : grid0.Coords, ∀ q : Fin 3, (i 0).val = q.val + 1 → k0_off10 i = ![q.val, 3] ∧ k0_off11 i = ![q.val, 768, 0] ∧ k0_off12 i = ![3, 256 * q.val, 0] := by decide
theorem o4 : ∀ i : grid0.Coords, ∀ q : Fin 3, (i 0).val = q.val + 1 → k0_off13 i = ![q.val, 4] ∧ k0_off14 i = ![q.val, 1024, 0] ∧ k0_off15 i = ![4, 256 * q.val, 0] := by decide
theorem o5 : ∀ i : grid0.Coords, ∀ q : Fin 3, (i 0).val = q.val + 1 → k0_off16 i = ![q.val, 5] ∧ k0_off17 i = ![q.val, 1280, 0] ∧ k0_off18 i = ![5, 256 * q.val, 0] := by decide
theorem o6 : ∀ i : grid0.Coords, ∀ q : Fin 3, (i 0).val = q.val + 1 → k0_off19 i = ![q.val, 6] ∧ k0_off20 i = ![q.val, 1536, 0] ∧ k0_off21 i = ![6, 256 * q.val, 0] := by decide

/-- How plane `q` of the weights is held after `n` points, and all of them: nothing started, in flight, or delivered. -/
def Wq (c : Dev nD) (f4 : Bf (F := F) c sM) (n : ℕ) (q : Fin 3) : sProp 𝕄 := if n ≤ q.val + 1 then FlQ c f4 q else DlQ c f4 q
def Wts (c : Dev nD) (f4 : Bf (F := F) c sM) (n : ℕ) : sProp 𝕄 :=
  if n = 0 then iprop(pt c sM f4 ∗ (∃ f13, pt c wM f13) ∗ (bigSep Finset.univ fun p : Fin 3 × Fin 7 => semVal ((c : Thread nD τ), .dma (semF p.1 p.2)) 0))
  else iprop(Wq c f4 n 0 ∗ Wq c f4 n 1 ∗ Wq c f4 n 2)

theorem Wq_fl (c : Dev nD) (f4 : Bf (F := F) c sM) {n : ℕ} {q : Fin 3} (h : n ≤ q.val + 1) : Wq c f4 n q = FlQ c f4 q := if_pos h
theorem Wq_dl (c : Dev nD) (f4 : Bf (F := F) c sM) {n : ℕ} {q : Fin 3} (h : ¬ n ≤ q.val + 1) : Wq c f4 n q = DlQ c f4 q := if_neg h
theorem Wq_succ (c : Dev nD) (f4 : Bf (F := F) c sM) {n : ℕ} {q : Fin 3} (h : n ≠ q.val + 1) : Wq c f4 (n + 1) q = Wq c f4 n q := by
  unfold Wq
  by_cases h' : n ≤ q.val + 1
  · rw [if_pos h', if_pos (by omega)]
  · rw [if_neg h', if_neg (by omega)]
theorem Wts_zero (c : Dev nD) (f4 : Bf (F := F) c sM) : Wts c f4 0 = iprop(pt c sM f4 ∗ (∃ f13, pt c wM f13) ∗ (bigSep Finset.univ fun p : Fin 3 × Fin 7 => semVal ((c : Thread nD τ), .dma (semF p.1 p.2)) 0)) := if_pos rfl
theorem Wts_pos (c : Dev nD) (f4 : Bf (F := F) c sM) {n : ℕ} (h : n ≠ 0) : Wts c f4 n = iprop(Wq c f4 n 0 ∗ Wq c f4 n 1 ∗ Wq c f4 n 2) := if_neg h

/-- A point that waits turns its plane from in flight to delivered. -/
theorem stepQ (c : Dev nD) (q : Fin 3) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (h : (i 0).val = q.val + 1) (W : Waits sig Unit) (f4 : Bf (F := F) c sM) (K : PUnit → sProp 𝕄) :
    iprop(owes (c : Thread nD τ) 0 W ∗ Wq c f4 (i 0).val q
        ∗ (iprop((∃ W, owes (c : Thread nD τ) 0 W) ∗ Wq c f4 ((i 0).val + 1) q) -∗ wp frame (wpE (defs₀ (F := F)) Variants.none c none) Set.univ (rest3 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K))
      ⊢ wp frame (wpE (defs₀ (F := F)) Variants.none c none) Set.univ (rest2 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K := by
  rw [Wq_fl c f4 (show (i 0).val ≤ q.val + 1 by omega), Wq_dl c f4 (show ¬ (i 0).val + 1 ≤ q.val + 1 by omega)]
  exact step2 c q i arg1 harg1 arg2 harg2 arg3 harg3 arg5 harg5 arg6 harg6 arg7 harg7 ((c2 i).mpr (by have := q.isLt; omega)) (o0 i q h).1 (o0 i q h).2.1 (o0 i q h).2.2 (o1 i q h).1 (o1 i q h).2.1 (o1 i q h).2.2 (o2 i q h).1 (o2 i q h).2.1 (o2 i q h).2.2 (o3 i q h).1 (o3 i q h).2.1 (o3 i q h).2.2 (o4 i q h).1 (o4 i q h).2.1 (o4 i q h).2.2 (o5 i q h).1 (o5 i q h).2.1 (o5 i q h).2.2 (o6 i q h).1 (o6 i q h).2.1 (o6 i q h).2.2 W f4 K

/-- The body's first two parts at any point. -/
theorem stepW (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (W : Waits sig Unit) (f4 : Bf (F := F) c sM) (K : PUnit → sProp 𝕄) :
    iprop(owes (c : Thread nD τ) 0 W ∗ Wts c f4 (i 0).val
        ∗ (iprop((∃ W, owes (c : Thread nD τ) 0 W) ∗ Wts c f4 ((i 0).val + 1)) -∗ wp frame (wpE (defs₀ (F := F)) Variants.none c none) Set.univ (rest3 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K))
      ⊢ wp frame (wpE (defs₀ (F := F)) Variants.none c none) Set.univ (rest1 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K := by
  by_cases h0 : (i 0).val = 0
  · rw [h0, Wts_zero, Wts_pos c f4 (show 0 + 1 ≠ 0 by omega), Wq_fl c f4 (show 0 + 1 ≤ (0 : Fin 3).val + 1 by decide), Wq_fl c f4 (show 0 + 1 ≤ (1 : Fin 3).val + 1 by decide), Wq_fl c f4 (show 0 + 1 ≤ (2 : Fin 3).val + 1 by decide)]
    iintro ⟨HO, ⟨HS, ⟨%f13, HD⟩, HM⟩, Hk⟩
    iapply (step1 c i arg1 harg1 arg2 harg2 arg3 harg3 arg5 harg5 arg6 harg6 arg7 harg7 ((c1 i).mpr h0) f4 f13 K)
    isplitl [HS]; · iexact HS
    isplitl [HD]; · iexact HD
    isplitl [HM]; · iexact HM
    iintro HF
    iapply (step2n c i arg1 harg1 arg2 harg2 arg3 harg3 arg5 harg5 arg6 harg6 arg7 harg7 (fun h => by have := (c2 i).mp h; omega) K)
    iapply Hk
    isplitl [HO]; · iexists _; iexact HO
    iexact HF
  · rw [Wts_pos c f4 h0, Wts_pos c f4 (Nat.succ_ne_zero _)]
    refine BIBase.Entails.trans ?_ (step1n c i arg1 harg1 arg2 harg2 arg3 harg3 arg5 harg5 arg6 harg6 arg7 harg7 (fun h => h0 ((c1 i).mp h)) K)
    by_cases h1 : (i 0).val = 1
    · rw [Wq_succ c f4 (q := 1) (by rw [h1]; decide), Wq_succ c f4 (q := 2) (by rw [h1]; decide)]
      iintro ⟨HO, ⟨A, B, C⟩, Hk⟩
      iapply (stepQ c 0 i arg1 harg1 arg2 harg2 arg3 harg3 arg5 harg5 arg6 harg6 arg7 harg7 h1 W f4 K)
      isplitl [HO]; · iexact HO
      isplitl [A]; · iexact A
      iintro ⟨HO, A⟩
      iapply Hk
      isplitl [HO]; · iexact HO
      isplitl [A]; · iexact A
      isplitl [B]; · iexact B
      iexact C
    by_cases h2 : (i 0).val = 2
    · rw [Wq_succ c f4 (q := 0) (by rw [h2]; decide), Wq_succ c f4 (q := 2) (by rw [h2]; decide)]
      iintro ⟨HO, ⟨A, B, C⟩, Hk⟩
      iapply (stepQ c 1 i arg1 harg1 arg2 harg2 arg3 harg3 arg5 harg5 arg6 harg6 arg7 harg7 h2 W f4 K)
      isplitl [HO]; · iexact HO
      isplitl [B]; · iexact B
      iintro ⟨HO, B⟩
      iapply Hk
      isplitl [HO]; · iexact HO
      isplitl [A]; · iexact A
      isplitl [B]; · iexact B
      iexact C
    by_cases h3 : (i 0).val = 3
    · rw [Wq_succ c f4 (q := 0) (by rw [h3]; decide), Wq_succ c f4 (q := 1) (by rw [h3]; decide)]
      iintro ⟨HO, ⟨A, B, C⟩, Hk⟩
      iapply (stepQ c 2 i arg1 harg1 arg2 harg2 arg3 harg3 arg5 harg5 arg6 harg6 arg7 harg7 h3 W f4 K)
      isplitl [HO]; · iexact HO
      isplitl [C]; · iexact C
      iintro ⟨HO, C⟩
      iapply Hk
      isplitl [HO]; · iexact HO
      isplitl [A]; · iexact A
      isplitl [B]; · iexact B
      iexact C
    · rw [Wq_succ c f4 (q := 0) h1, Wq_succ c f4 (q := 1) h2, Wq_succ c f4 (q := 2) h3]
      iintro ⟨HO, HW, Hk⟩
      iapply (step2n c i arg1 harg1 arg2 harg2 arg3 harg3 arg5 harg5 arg6 harg6 arg7 harg7 (fun h => by have := (c2 i).mp h; omega) K)
      iapply Hk
      isplitl [HO]; · iexists _; iexact HO
      iexact HW

/-- The product part at any point: the plane it reads has been delivered. -/
theorem stepM (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (f4 : Bf (F := F) c sM) (f12 : Bf (F := F) c (Memref.whole cc0_scratch4)) (f14 : Bf (F := F) c (Memref.whole cc0_scratch6))
    (G : Bf (F := F) c (Memref.whole cc0_scratch6) → Prop) (hp : ∀ h : k0_cond5 i = 1#1, G (run5 c i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7 h f12 (WF c f4) f14).1)
    (hn : ¬ k0_cond5 i = 1#1 → G f14) (K : PUnit → sProp 𝕄) :
    iprop(Wts c f4 ((i 0).val + 1) ∗ pt c (Memref.whole cc0_scratch4) f12 ∗ pt c (Memref.whole cc0_scratch6) f14
        ∗ (iprop(Wts c f4 ((i 0).val + 1) ∗ pt c (Memref.whole cc0_scratch4) f12 ∗ (∃ f, ⌜G f⌝ ∗ pt c (Memref.whole cc0_scratch6) f)) -∗ wp frame (wpE (defs₀ (F := F)) Variants.none c none) Set.univ (rest6 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K))
      ⊢ wp frame (wpE (defs₀ (F := F)) Variants.none c none) Set.univ (rest5 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K := by
  rw [Wts_pos c f4 (Nat.succ_ne_zero _)]
  by_cases h : k0_cond5 i = 1#1
  · obtain ⟨q, e, hq⟩ := c5 i h
    match q, e, hq with
    | 0, e, hq =>
      rw [Wq_dl c f4 (n := (i 0).val + 1) (q := 0) (by omega)]
      unfold DlQ
      iintro ⟨⟨⟨P, R⟩, B, C⟩, H12, H14, Hk⟩
      iapply (step5 c 0 i arg1 harg1 arg2 harg2 arg3 harg3 arg5 harg5 arg6 harg6 arg7 harg7 h e f12 (WF c f4) f14 K)
      isplitl [H12]; · iexact H12
      isplitl [P]; · iexact P
      isplitl [H14]; · iexact H14
      iintro ⟨H12, P, H14⟩
      iapply Hk
      isplitl [P R B C]
      · isplitl [P R]
        · isplitl [P]; · iexact P
          iexact R
        isplitl [B]; · iexact B
        iexact C
      isplitl [H12]; · iexact H12
      iexists _; isplitr; swap; · iexact H14
      ipureintro; exact hp h
    | 1, e, hq =>
      rw [Wq_dl c f4 (n := (i 0).val + 1) (q := 1) (by omega)]
      unfold DlQ
      iintro ⟨⟨B, ⟨P, R⟩, C⟩, H12, H14, Hk⟩
      iapply (step5 c 1 i arg1 harg1 arg2 harg2 arg3 harg3 arg5 harg5 arg6 harg6 arg7 harg7 h e f12 (WF c f4) f14 K)
      isplitl [H12]; · iexact H12
      isplitl [P]; · iexact P
      isplitl [H14]; · iexact H14
      iintro ⟨H12, P, H14⟩
      iapply Hk
      isplitl [P R B C]
      · isplitl [B]; · iexact B
        isplitl [P R]
        · isplitl [P]; · iexact P
          iexact R
        iexact C
      isplitl [H12]; · iexact H12
      iexists _; isplitr; swap; · iexact H14
      ipureintro; exact hp h
    | 2, e, hq =>
      rw [Wq_dl c f4 (n := (i 0).val + 1) (q := 2) (by omega)]
      unfold DlQ
      iintro ⟨⟨B, C, ⟨P, R⟩⟩, H12, H14, Hk⟩
      iapply (step5 c 2 i arg1 harg1 arg2 harg2 arg3 harg3 arg5 harg5 arg6 harg6 arg7 harg7 h e f12 (WF c f4) f14 K)
      isplitl [H12]; · iexact H12
      isplitl [P]; · iexact P
      isplitl [H14]; · iexact H14
      iintro ⟨H12, P, H14⟩
      iapply Hk
      isplitl [P R B C]
      · isplitl [B]; · iexact B
        isplitl [C]; · iexact C
        isplitl [P]; · iexact P
        iexact R
      isplitl [H12]; · iexact H12
      iexists _; isplitr; swap; · iexact H14
      ipureintro; exact hp h
  · iintro ⟨HW, H12, H14, Hk⟩
    iapply (step5n c i arg1 harg1 arg2 harg2 arg3 harg3 arg5 harg5 arg6 harg6 arg7 harg7 h K)
    iapply Hk
    isplitl [HW]; · iexact HW
    isplitl [H12]; · iexact H12
    iexists _; isplitr; swap; · iexact H14
    ipureintro; exact hn h

/-- The whole body at any point. `GA`, `GA'` are said of the activation buffer before and after; `GC`, `G4`, `GC'` of the
    accumulator before, once cleared or kept, and after; `GY` of the result's block after. -/
theorem core (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (W : Waits sig Unit) (f4 : Bf (F := F) c sM)
    (f1 : Bf (F := F) c arg1) (f2 : Bf (F := F) c arg2) (f3 : Bf (F := F) c arg3) (f5 : Bf (F := F) c arg5) (f6 : Bf (F := F) c arg6) (f7 : Bf (F := F) c arg7)
    (GA GA' : Bf (F := F) c (Memref.whole cc0_scratch4) → Prop) (GC G4 GC' : Bf (F := F) c (Memref.whole cc0_scratch6) → Prop) (GY : Bf (F := F) c arg7 → Prop)
    (p3 : ∀ (h : k0_cond3 i = 1#1) f8 f9 f10 f12, GA f12 → GA' (run3 c i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7 h f1 f2 f8 f9 f10 f12).1) (n3 : ¬ k0_cond3 i = 1#1 → ∀ f, GA f → GA' f)
    (p4 : ∀ (h : cond4 i) f, GC f → G4 (run4 c i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7 h f).1) (n4 : ¬ cond4 i → ∀ f, GC f → G4 f)
    (p5 : ∀ (h : k0_cond5 i = 1#1) f12 f14, GA' f12 → G4 f14 → GC' (run5 c i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7 h f12 (WF c f4) f14).1) (n5 : ¬ k0_cond5 i = 1#1 → ∀ f, G4 f → GC' f)
    (p6 : ∀ (h : k0_cond6 i = 1#1) f11 f14, GC' f14 → GY (run6 c i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7 h f3 f5 f6 f7 f11 f14).1) (n6 : ¬ k0_cond6 i = 1#1 → GY f7) (K : PUnit → sProp 𝕄) :
    iprop((owes (c : Thread nD τ) 0 W ∗ Wts c f4 (i 0).val ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, ⌜GA f⌝ ∗ pt c (Memref.whole cc0_scratch4) f) ∗ (∃ f, ⌜GC f⌝ ∗ pt c (Memref.whole cc0_scratch6) f)
          ∗ pt c arg1 f1 ∗ pt c arg2 f2 ∗ pt c arg3 f3 ∗ pt c arg5 f5 ∗ pt c arg6 f6 ∗ pt c arg7 f7)
        ∗ (iprop((∃ W, owes (c : Thread nD τ) 0 W) ∗ Wts c f4 ((i 0).val + 1) ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, ⌜GA' f⌝ ∗ pt c (Memref.whole cc0_scratch4) f) ∗ (∃ f, ⌜GC' f⌝ ∗ pt c (Memref.whole cc0_scratch6) f)
          ∗ pt c arg1 f1 ∗ pt c arg2 f2 ∗ pt c arg3 f3 ∗ pt c arg5 f5 ∗ pt c arg6 f6 ∗ (∃ f, ⌜GY f⌝ ∗ pt c arg7 f)) -∗ K ⟨⟩))
      ⊢ wp frame (wpE (defs₀ (F := F)) Variants.none c none) Set.univ (cc0_amp_unit i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K := by
  rw [body_eq_regions]
  iintro ⟨⟨HO, HW, ⟨%f8, H8⟩, ⟨%f9, H9⟩, ⟨%f10, H10⟩, ⟨%f11, H11⟩, ⟨%f12, %ha, H12⟩, ⟨%f14, %hc, H14⟩, H1, H2, H3, H5, H6, H7⟩, Hk⟩
  iapply (stepW c i arg1 harg1 arg2 harg2 arg3 harg3 arg5 harg5 arg6 harg6 arg7 harg7 W f4 K)
  isplitl [HO]; · iexact HO
  isplitl [HW]; · iexact HW
  iintro ⟨HO, HW⟩
  iapply (step3 c i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7 f1 f2 f8 f9 f10 f12 GA' (fun h => p3 h f8 f9 f10 f12 ha) (fun h => n3 h f12 ha) K)
  isplitl [H1]; · iexact H1
  isplitl [H2]; · iexact H2
  isplitl [H8]; · iexact H8
  isplitl [H9]; · iexact H9
  isplitl [H10]; · iexact H10
  isplitl [H12]; · iexact H12
  iintro ⟨H1, H2, H8, H9, H10, ⟨%g12, %ha', H12⟩⟩
  iapply (step4 c i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7 f14 G4 (fun h => p4 h f14 hc) (fun h => n4 h f14 hc) K)
  isplitl [H14]; · iexact H14
  iintro ⟨%g14, %hc4, H14⟩
  iapply (stepM c i arg1 harg1 arg2 harg2 arg3 harg3 arg5 harg5 arg6 harg6 arg7 harg7 f4 g12 g14 GC' (fun h => p5 h g12 g14 ha' hc4) (fun h => n5 h g14 hc4) K)
  isplitl [HW]; · iexact HW
  isplitl [H12]; · iexact H12
  isplitl [H14]; · iexact H14
  iintro ⟨HW, H12, ⟨%e14, %hc', H14⟩⟩
  iapply (step6 c i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7 f3 f5 f6 f7 f11 e14 GY (fun h => p6 h f11 e14 hc') n6 K)
  isplitl [H3]; · iexact H3
  isplitl [H5]; · iexact H5
  isplitl [H6]; · iexact H6
  isplitl [H7]; · iexact H7
  isplitl [H11]; · iexact H11
  isplitl [H14]; · iexact H14
  iintro ⟨H3, H5, H6, H7, H11, H14⟩
  iapply Hk
  isplitl [HO]; · iexact HO
  isplitl [HW]; · iexact HW
  isplitl [H8]; · iexact H8
  isplitl [H9]; · iexact H9
  isplitl [H10]; · iexact H10
  isplitl [H11]; · iexact H11
  isplitl [H12]
  · iexists _; isplitr; swap; · iexact H12
    ipureintro; exact ha'
  isplitl [H14]
  · iexists _; isplitr; swap; · iexact H14
    ipureintro; exact hc'
  isplitl [H1]; · iexact H1
  isplitl [H2]; · iexact H2
  isplitl [H3]; · iexact H3
  isplitl [H5]; · iexact H5
  isplitl [H6]; · iexact H6
  iexact H7

end Cert.KernelIdeal.Prf
end
-- ==== Proof.IFrame.lean ====
/- The kernel's run as a whole: what holds between the grid's points, the body at a point, the launch, and the frame. The
   values are a parameter: `Pred` says what the activation buffer, the accumulator and the block written hold, and `Pred.Ok` that
   the body's parts keep it so. The frame is the case where nothing is said. -/
module

public import proofs.«01_k».proof.Proof.ICore
public import Idealize.ShloMosaic.Lib.Pipeline.DatRel

@[expose] public section

set_option maxRecDepth 16384

noncomputable section

namespace Cert.KernelIdeal.Prf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The point's number is its coordinate. -/
theorem coord_val : ∀ t : Fin cfg0.N, (grid0.coords t 0).val = t.val := by
  intro t; rcases fin_N0 t with h|h|h|h|h|h|h|h|h|h <;> subst h <;> rfl

/-- What is said of the buffers' contents: the activation buffer and the accumulator before point `n`, the accumulator in the middle
    of point `n`, and the output block left at a point. -/
structure Pred (F : FTy → Type) [FloatOps F] (c : Dev nD) where
  A : ℕ → Bf (F := F) c (Memref.whole cc0_scratch4) → Prop
  C : ℕ → Bf (F := F) c (Memref.whole cc0_scratch6) → Prop
  D : ℕ → Bf (F := F) c (Memref.whole cc0_scratch6) → Prop
  Y : Fin cfg0.N → (S1x640x768.Idx → Elt F .bf16) → Prop

/-- The body's parts keep what is said. -/
structure Pred.Ok (c : Dev nD) (P : Pred F c) : Prop where
  a0 : ∀ f, P.A 0 f
  c0 : ∀ f, P.C 0 f
  p3 : ∀ (t : Fin cfg0.N) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (h : k0_cond3 (grid0.coords t) = 1#1)
    (f1 : Bf (F := F) c arg1) (f2 : Bf (F := F) c arg2) f8 f9 f10 f12, arg1.view.read (Elt F) f1 = iblk m c 0 t → arg2.view.read (Elt F) f2 = iblk m c 1 t → P.A t.val f12 →
    P.A (t.val + 1) (run3 c (grid0.coords t) arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7 h f1 f2 f8 f9 f10 f12).1
  n3 : ∀ t : Fin cfg0.N, ¬ k0_cond3 (grid0.coords t) = 1#1 → ∀ f, P.A t.val f → P.A (t.val + 1) f
  p4 : ∀ (t : Fin cfg0.N) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (h : cond4 (grid0.coords t)) f, P.C t.val f →
    P.D t.val (run4 c (grid0.coords t) arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7 h f).1
  n4 : ∀ t : Fin cfg0.N, ¬ cond4 (grid0.coords t) → ∀ f, P.C t.val f → P.D t.val f
  p5 : ∀ (t : Fin cfg0.N) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (h : k0_cond5 (grid0.coords t) = 1#1) f12 f14, P.A (t.val + 1) f12 → P.D t.val f14 →
    P.C (t.val + 1) (run5 c (grid0.coords t) arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7 h f12 (WF c (V m c main_arg3)) f14).1
  n5 : ∀ t : Fin cfg0.N, ¬ k0_cond5 (grid0.coords t) = 1#1 → ∀ f, P.D t.val f → P.C (t.val + 1) f
  p6 : ∀ (t : Fin cfg0.N) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (h : k0_cond6 (grid0.coords t) = 1#1)
    (f3 : Bf (F := F) c arg3) (f5 : Bf (F := F) c arg5) (f6 : Bf (F := F) c arg6) (f7 : Bf (F := F) c arg7) f11 f14,
    arg3.view.read (Elt F) f3 = iblk m c 2 t → arg5.view.read (Elt F) f5 = iblk m c 3 t → arg6.view.read (Elt F) f6 = iblk m c 4 t → P.C (t.val + 1) f14 →
    P.Y t (arg7.view.read (Elt F) (run6 c (grid0.coords t) arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7 h f3 f5 f6 f7 f11 f14).1)
  n6 : ∀ t : Fin cfg0.N, ¬ k0_cond6 (grid0.coords t) = 1#1 → ∀ X, P.Y t X

/-- Nothing said. -/
def Pred.none (c : Dev nD) : Pred F c := ⟨fun _ _ => True, fun _ _ => True, fun _ _ => True, fun _ _ => True⟩
theorem Pred.none_ok (c : Dev nD) : (Pred.none (F := F) c).Ok m c := by
  constructor <;> intros <;> trivial

/-- What holds before point `n` beside the staging buffers. -/
def Inv (c : Dev nD) (P : Pred F c) (n : ℕ) : sProp 𝕄 :=
  iprop(Wts c (V m c main_arg3) n ∗ (∃ f, pt c (Memref.whole cc0_scratch0) f) ∗ (∃ f, pt c (Memref.whole cc0_scratch1) f) ∗ (∃ f, pt c (Memref.whole cc0_scratch2) f)
    ∗ (∃ f, pt c (Memref.whole cc0_scratch3) f) ∗ (∃ f, ⌜P.A n f⌝ ∗ pt c (Memref.whole cc0_scratch4) f) ∗ (∃ f, ⌜P.C n f⌝ ∗ pt c (Memref.whole cc0_scratch6) f)
    ∗ (∃ r, prngReg c r))

/-- The kernel's cells at zero, by plane and tap. -/
theorem cells_eq (c : Dev nD) :
    (Pipeline.ownSems0 (Ix := Unit) (Name := ℕ) (U := Pipeline.UD sig nD τ) (Lvl := ℕ) (Val := Elt F) (τ := τ) osem0 c : sProp 𝕄)
      = bigSep Finset.univ fun p : Fin 3 × Fin 7 => semVal ((c : Thread nD τ), .dma (semF p.1 p.2)) 0 := by
  unfold Pipeline.ownSems0
  exact congrArg (bigSep Finset.univ) (funext fun p => by rw [← osem0_eq p.1 p.2])

/-- What the launch hands over gives the invariant before the first point. -/
theorem inv_in (c : Dev nD) (P : Pred F c) (hP : P.Ok m c) : Pipeline.ΦD osem0 spec0 {main_arg3} (V m) c ⊢ Inv m c P 0 := by
  rw [Pipeline.ΦD_eq, scopedRest0_eq, cells_eq, bigSep_singleton]
  unfold Inv
  rw [Wts_zero]
  iintro ⟨⟨H0, H1, H2, H3, ⟨%f4, H4⟩, H5, ⟨%f6, H6⟩⟩, Hr, Hs, Ha⟩
  isplitl [H5 Hs Ha]
  · isplitl [Ha]; · iexact Ha
    isplitl [H5]; · iexact H5
    iexact Hs
  isplitl [H0]; · iexact H0
  isplitl [H1]; · iexact H1
  isplitl [H2]; · iexact H2
  isplitl [H3]; · iexact H3
  isplitl [H4]
  · iexists f4; isplitr; swap; · iexact H4
    ipureintro; exact hP.a0 f4
  isplitl [H6]
  · iexists f6; isplitr; swap; · iexact H6
    ipureintro; exact hP.c0 f6
  iexact Hr

/-- A separating conjunction over pairs, row by row. -/
theorem bigSep_pairs {I J : Type} [DecidableEq I] [DecidableEq J] (s : Finset I) (t : Finset J) (Φ : I × J → sProp 𝕄) :
    bigSep (s ×ˢ t) Φ = bigSep s fun i => bigSep t fun j => Φ (i, j) := by
  induction s using Finset.induction_on with
  | empty => rw [Finset.empty_product]; rfl
  | insert a s ha ih =>
    have hdisj : Disjoint (({a} : Finset I) ×ˢ t) (s ×ˢ t) := Finset.disjoint_product.mpr (.inl (Finset.disjoint_singleton_left.mpr ha))
    rw [bigSep_insert ha, Finset.insert_eq, Finset.union_product, bigSep_union hdisj, ih, Finset.singleton_product, bigSep_map]
    rfl

/-- After the last point the three planes are delivered: the buffer, the operand and the cells are whole again. -/
theorem planes_out (c : Dev nD) (f4 : Bf (F := F) c sM) :
    Wts c f4 10 ⊢ iprop(pt c sM f4 ∗ (∃ f13, pt c wM f13) ∗ (bigSep Finset.univ fun p : Fin 3 × Fin 7 => semVal ((c : Thread nD τ), .dma (semF p.1 p.2)) 0)) := by
  rw [Wts_pos c f4 (by omega), Wq_dl c f4 (q := 0) (by decide), Wq_dl c f4 (q := 1) (by decide), Wq_dl c f4 (q := 2) (by decide)]
  unfold DlQ
  have e : ∀ Φ : Fin 3 × Fin 7 → sProp 𝕄, bigSep Finset.univ Φ
      = iprop((bigSep Finset.univ fun k : Fin 7 => Φ (0, k)) ∗ (bigSep Finset.univ fun k : Fin 7 => Φ (1, k)) ∗ (bigSep Finset.univ fun k : Fin 7 => Φ (2, k))) := by
    intro Φ
    rw [← Finset.univ_product_univ, bigSep_pairs, b3]
  rw [split_src, e, e]
  rw [bigSep_sep', bigSep_sep', bigSep_sep']
  iintro ⟨⟨A, A1, A2⟩, ⟨B, B1, B2⟩, ⟨C, C1, C2⟩⟩
  isplitl [A1 B1 C1]
  · isplitl [A1]; · iexact A1
    isplitl [B1]; · iexact B1
    iexact C1
  isplitl [A B C]
  · iexists (WF c f4)
    rw [split_dst, e, ← split_plane, ← split_plane, ← split_plane]
    isplitl [A]; · iexact A
    isplitl [B]; · iexact B
    iexact C
  isplitl [A2]; · iexact A2
  isplitl [B2]; · iexact B2
  iexact C2

/-- The invariant after the last point gives back what the launch handed over. -/
theorem inv_out (c : Dev nD) (P : Pred F c) : Inv m c P 10 ⊢ Pipeline.ΦD osem0 spec0 {main_arg3} (V m) c := by
  rw [Pipeline.ΦD_eq, scopedRest0_eq, cells_eq, bigSep_singleton]
  unfold Inv
  refine (sep_mono (planes_out c _) .rfl).trans ?_
  iintro ⟨⟨Ha, H5, Hs⟩, H0, H1, H2, H3, ⟨%f4, -, H4⟩, ⟨%f6, -, H6⟩, Hr⟩
  isplitl [H0 H1 H2 H3 H4 H5 H6]
  · isplitl [H0]; · iexact H0
    isplitl [H1]; · iexact H1
    isplitl [H2]; · iexact H2
    isplitl [H3]; · iexact H3
    isplitl [H4]; · iexists f4; iexact H4
    isplitl [H5]; · iexact H5
    iexists f6; iexact H6
  isplitl [Hr]; · iexact Hr
  isplitl [Hs]; · iexact Hs
  iexact Ha

/-- The proof data; the output window's entry is not used (`fg`, `Rl`). -/
def dat (c : Dev nD) (P : Pred F c) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => fun _ => Classical.arbitrary _
  Φ t := Inv m c P t.val
  q _ := fullShare
  owed _ := 0

/-- The window held to a relation: the output. -/
def fg (w : Fin cfg0.W) : Bool := match w with
  | ⟨0, _⟩ => false
  | ⟨1, _⟩ => false
  | ⟨2, _⟩ => false
  | ⟨3, _⟩ => false
  | ⟨4, _⟩ => false
  | ⟨5, _⟩ => true
/-- The relation. -/
def Rl (c : Dev nD) (P : Pred F c) (w : Fin cfg0.W) (t : Fin cfg0.N) : ((cfg0.win w).block.Idx → Elt F (cfg0.win w).elt) → Prop := match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun X => P.Y t X

theorem A_eq (c : Dev nD) (P : Pred F c) (w : Fin cfg0.W) : (dat m c P).A w = V m c (Pipeline.arrRef spec0 w) := by dsimp only [dat]
theorem after_0 (c : Dev nD) (P : Pred F c) (t : Fin cfg0.N) : (dat m c P).after 0 t = iblk m c 0 t := by dsimp only [dat]
theorem after_1 (c : Dev nD) (P : Pred F c) (t : Fin cfg0.N) : (dat m c P).after 1 t = iblk m c 1 t := by dsimp only [dat]
theorem after_2 (c : Dev nD) (P : Pred F c) (t : Fin cfg0.N) : (dat m c P).after 2 t = iblk m c 2 t := by dsimp only [dat]
theorem after_3 (c : Dev nD) (P : Pred F c) (t : Fin cfg0.N) : (dat m c P).after 3 t = iblk m c 3 t := by dsimp only [dat]
theorem after_4 (c : Dev nD) (P : Pred F c) (t : Fin cfg0.N) : (dat m c P).after 4 t = iblk m c 4 t := by dsimp only [dat]
theorem before_0 (c : Dev nD) (P : Pred F c) (t : Fin cfg0.N) (d) : (dat m c P).before 0 t d = iblk m c 0 t :=
  ((dat m c P).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (P : Pred F c) (t : Fin cfg0.N) (d) : (dat m c P).before 1 t d = iblk m c 1 t :=
  ((dat m c P).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (P : Pred F c) (t : Fin cfg0.N) (d) : (dat m c P).before 2 t d = iblk m c 2 t :=
  ((dat m c P).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (P : Pred F c) (t : Fin cfg0.N) (d) : (dat m c P).before 3 t d = iblk m c 3 t :=
  ((dat m c P).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (P : Pred F c) (t : Fin cfg0.N) (d) : (dat m c P).before 4 t d = iblk m c 4 t :=
  ((dat m c P).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- The body's triple at a point. -/
theorem sound_body (c : Dev nD) (P : Pred F c) (hP : P.Ok m c) (t : Fin cfg0.N) :
    iprop((dat m c P).Φ t.castSucc ∗ (dat m c P).owesAt () t.castSucc
        ∗ (∃ d, owns (c : Thread nD τ) (st0_0 t) fullShare ((dat m c P).before 0 t d))
        ∗ (∃ d, owns (c : Thread nD τ) (st0_1 t) fullShare ((dat m c P).before 1 t d))
        ∗ (∃ d, owns (c : Thread nD τ) (st0_2 t) fullShare ((dat m c P).before 2 t d))
        ∗ (∃ d, owns (c : Thread nD τ) (st0_3 t) fullShare ((dat m c P).before 3 t d))
        ∗ (∃ d, owns (c : Thread nD τ) (st0_4 t) fullShare ((dat m c P).before 4 t d))
        ∗ (∃ Y, ⌜((dat m c P).toRRel fg (Rl c P)).Finds 5 t Y⌝ ∗ owns (c : Thread nD τ) (st0_5 t) fullShare Y))
      ⊢ wp frame (wpE (defs₀ (F := F)) Variants.none c none) Set.univ (bodyAt0 t) fun _ =>
          iprop((dat m c P).Φ t.succ ∗ (dat m c P).owesAt () t.succ
            ∗ owns (c : Thread nD τ) (st0_0 t) fullShare ((dat m c P).after 0 t)
            ∗ owns (c : Thread nD τ) (st0_1 t) fullShare ((dat m c P).after 1 t)
            ∗ owns (c : Thread nD τ) (st0_2 t) fullShare ((dat m c P).after 2 t)
            ∗ owns (c : Thread nD τ) (st0_3 t) fullShare ((dat m c P).after 3 t)
            ∗ owns (c : Thread nD τ) (st0_4 t) fullShare ((dat m c P).after 4 t)
            ∗ (∃ X, ⌜P.Y t X⌝ ∗ owns (c : Thread nD τ) (st0_5 t) fullShare X)) := by
  rw [after_0, after_1, after_2, after_3, after_4]
  simp only [before_0, before_1, before_2, before_3, before_4]
  rw [show (dat m c P).Φ t.castSucc = Inv m c P t.val from rfl, show (dat m c P).Φ t.succ = Inv m c P (t.val + 1) from rfl]
  unfold Dat.owesAt Pipeline.owesWithin
  rw [show (dat m c P).owed t.castSucc = 0 from rfl, show (dat m c P).owed t.succ = 0 from rfl]
  rw [owns_pt c (st0_0 t) (hstage0_0 ((cfg0.slots t 0).cast nbuf0_0)), owns_pt c (st0_1 t) (hstage0_1 ((cfg0.slots t 1).cast nbuf0_1)), owns_pt c (st0_2 t) (hstage0_2 ((cfg0.slots t 2).cast nbuf0_2)), owns_pt c (st0_3 t) (hstage0_3 ((cfg0.slots t 3).cast nbuf0_3)), owns_pt c (st0_4 t) (hstage0_4 ((cfg0.slots t 4).cast nbuf0_4))]
  simp only [owns_pt c (st0_5 t) (hstage0_5 ((cfg0.slots t 5).cast nbuf0_5))]
  unfold Inv
  iintro ⟨⟨HW, H8, H9, H10, H11, H12, H14, Hr⟩, ⟨%W, -, HO⟩, ⟨%d0, %f1, %e1, H1⟩, ⟨%d1, %f2, %e2, H2⟩, ⟨%d2, %f3, %e3, H3⟩, ⟨%d3, %f5, %e5, H5⟩, ⟨%d4, %f6, %e6, H6⟩, ⟨%Y, -, %f7, -, H7⟩⟩
  have hc := coord_val t
  iapply (core c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) W (V m c main_arg3) f1 f2 f3 f5 f6 f7 (P.A t.val) (P.A (t.val + 1)) (P.C t.val) (P.D t.val) (P.C (t.val + 1)) (fun f => P.Y t ((st0_5 t).view.read (Elt F) f))
    (fun h f8 f9 f10 f12 ha => hP.p3 t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) h f1 f2 f8 f9 f10 f12 e1 e2 ha)
    (hP.n3 t) (fun h f hf => hP.p4 t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) h f hf) (hP.n4 t)
    (fun h f12 f14 ha hd => hP.p5 t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) h f12 f14 ha hd) (hP.n5 t)
    (fun h f11 f14 hf => hP.p6 t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) h f3 f5 f6 f7 f11 f14 e3 e5 e6 hf) (fun h => hP.n6 t h _))
  rw [hc]
  isplitl [HO HW H8 H9 H10 H11 H12 H14 H1 H2 H3 H5 H6 H7]
  · isplitl [HO]; · iexact HO
    isplitl [HW]; · iexact HW
    isplitl [H8]; · iexact H8
    isplitl [H9]; · iexact H9
    isplitl [H10]; · iexact H10
    isplitl [H11]; · iexact H11
    isplitl [H12]; · iexact H12
    isplitl [H14]; · iexact H14
    isplitl [H1]; · iexact H1
    isplitl [H2]; · iexact H2
    isplitl [H3]; · iexact H3
    isplitl [H5]; · iexact H5
    isplitl [H6]; · iexact H6
    iexact H7
  iintro ⟨⟨%W', HO⟩, HW, H8, H9, H10, H11, H12, H14, H1, H2, H3, H5, H6, ⟨%g7, %hy, H7⟩⟩
  isplitl [HW H8 H9 H10 H11 H12 H14 Hr]
  · isplitl [HW]; · iexact HW
    isplitl [H8]; · iexact H8
    isplitl [H9]; · iexact H9
    isplitl [H10]; · iexact H10
    isplitl [H11]; · iexact H11
    isplitl [H12]; · iexact H12
    isplitl [H14]; · iexact H14
    iexact Hr
  isplitl [HO]
  · iexists W'; isplitr; swap; · iexact HO
    ipureintro; exact fun _ _ => Or.inl trivial
  isplitl [H1]
  · iexists f1; isplitr; swap; · iexact H1
    ipureintro; exact e1
  isplitl [H2]
  · iexists f2; isplitr; swap; · iexact H2
    ipureintro; exact e2
  isplitl [H3]
  · iexists f3; isplitr; swap; · iexact H3
    ipureintro; exact e3
  isplitl [H5]
  · iexists f5; isplitr; swap; · iexact H5
    ipureintro; exact e5
  isplitl [H6]
  · iexists f6; isplitr; swap; · iexact H6
    ipureintro; exact e6
  iexists ((st0_5 t).view.read (Elt F) g7); isplitr
  · ipureintro; exact hy
  iexists g7; isplitr; swap; · iexact H7
  ipureintro; rfl

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) (P : Pred F c) (hP : P.Ok m c) :
    Pipeline.BodyObligationRel (dat m c P) (defs₀ (F := F)) Variants.none () Set.univ fg (Rl c P) := fun t => by
  rw [bigSep_W0, bigSep_W0, defs₀_row]
  exact triple_restated (sound_body m c P hP t) rfl .rfl fun _ => .rfl

/-- @main up to the region. -/
theorem hmain' (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
set_option maxHeartbeats 800000 in
/-- The launch: every fair run ends with the pipeline's arrays at what the data allow, the others as found, the counters at zero. -/
theorem run_main (P : (c : Dev nD) → Pred F c) (hP : ∀ c, (P c).Ok m c) :
    θ_run defs (onTc (τ := τ) (main (F := F))) (s₀ m ρ)
      (fun r => RDat.FramePost cfg0 (fun c => (dat m c (P c)).toRRel fg (Rl c (P c))) (V m) r ∧ r.2.sem = fun _ => 0) :=
  RDat.θ_run_frame_dma (Q' := _) cfgs (0 : Fin 1) launch0 osem0 defs₀ Variants.none (fun c => (dat m c (P c)).toRRel fg (Rl c (P c)))
    ownSemFacts0 {main_arg3} (by decide) m ρ main
    (hbody := fun c => (body_obligation m c (P c) (hP c)).toRRel) (hshare := fun c w => (dat m c (P c)).share_full (fun _ => rfl) w)
    (howed := fun _ _ => rfl) (V := V m) (hmain := hmain' m Variants.none) (hA := fun c w => A_eq m c (P c) w)
    (hin := fun c => inv_in m c (P c) (hP c)) (hout := fun c => inv_out m c (P c))

/-- The arguments and the counters after such a run. -/
theorem args_of (P : (c : Dev nD) → Pred F c) (r : PUnit × MemSt nD τ sig (Elt F))
    (h : RDat.FramePost cfg0 (fun c => (dat m c (P c)).toRRel fg (Rl c (P c))) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h.arr_in c 0 rfl).trans ((A_eq m c (P c) 0).trans (V_main_arg0 m c)),
    (h.arr_in c 1 rfl).trans ((A_eq m c (P c) 1).trans (V_main_arg1 m c)),
    (h.arr_in c 2 rfl).trans ((A_eq m c (P c) 2).trans (V_main_arg2 m c)),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The frame: the arguments end as they were and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨args_of m (fun c => Pred.none c) r h.1, h.2⟩) (run_main m ρ (fun c => Pred.none c) fun c => Pred.none_ok m c)

end Cert.KernelIdeal.Prf

end
-- ==== Proof.KBody.lean ====
/- The kernel's body as its six guarded parts: the statements under each condition under one name. -/
module

public import proofs.«01_k».proof.Proof.Gen.Kernel.Frame
public import proofs.«01_k».proof.Proof.Gen.Kernel.Skeleton
public import Idealize.ShloMosaic.Lib.Tactic

@[expose] public section

noncomputable section

namespace Cert.Kernel.Prf

open Cert.Kernel Cert.Kernel.Gen
open Idealize.ShloMosaic Idealize.SL.Sem

variable {F : FTy → Type} [FloatOps F]

/-- The part of the body that starts the 21 copies of the weights (the statements under its condition), then `kk`. -/
def region1 (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) (k0_h1 : (let arg0 : BitVec 32 := BitVec.ofNat 32 (i 0).val; let v0 : BitVec 32 := Scalar.remsi arg0 3#32; let v1 : BitVec 32 := Scalar.addi arg0 3#32; let v2 : BitVec 32 := Scalar.subi v1 1#32; let v3 : BitVec 32 := Scalar.remsi v2 3#32; let v4 : BitVec 32 := Scalar.remsi arg0 2#32; let v5 : BitVec 1 := Scalar.cmpi .eq arg0 0#32; let v6 : BitVec 32 := Scalar.extui v5; let v7 : BitVec 1 := Scalar.cmpi .ne v6 0#32; v7) = 1#1)
    (kk : PUnit.{1} → Prog (TpuEff nD τ sig (Elt F) Λ₀ .tc) PUnit.{1}) :
    Prog (TpuEff nD τ sig (Elt F) Λ₀ .tc) PUnit.{1} := do
  let arg0 : BitVec 32 := BitVec.ofNat 32 (i 0).val
  let v0 : BitVec 32 := Scalar.remsi arg0 3#32
  let v1 : BitVec 32 := Scalar.addi arg0 3#32
  let v2 : BitVec 32 := Scalar.subi v1 1#32
  let v3 : BitVec 32 := Scalar.remsi v2 3#32
  let v4 : BitVec 32 := Scalar.remsi arg0 2#32
  let v5 : BitVec 1 := Scalar.cmpi .eq arg0 0#32
  let v6 : BitVec 32 := Scalar.extui v5
  let v7 : BitVec 1 := Scalar.cmpi .ne v6 0#32
  k0_part1 i arg1 harg1 arg2 harg2 arg3 harg3 arg4 harg4 arg5 harg5 arg6 harg6 arg7 harg7 arg8 harg8 arg9 harg9 arg10 harg10 arg11 harg11 arg12 harg12 arg13 harg13 arg14 harg14 arg15
  k0_part2 i arg1 harg1 arg2 harg2 arg3 harg3 arg4 harg4 arg5 harg5 arg6 harg6 arg7 harg7 arg8 harg8 arg9 harg9 arg10 harg10 arg11 harg11 arg12 harg12 arg13 harg13 arg14 harg14 arg15
  k0_part3 i arg1 harg1 arg2 harg2 arg3 harg3 arg4 harg4 arg5 harg5 arg6 harg6 arg7 harg7 arg8 harg8 arg9 harg9 arg10 harg10 arg11 harg11 arg12 harg12 arg13 harg13 arg14 harg14 arg15
  k0_part4 i arg1 harg1 arg2 harg2 arg3 harg3 arg4 harg4 arg5 harg5 arg6 harg6 arg7 harg7 arg8 harg8 arg9 harg9 arg10 harg10 arg11 harg11 arg12 harg12 arg13 harg13 arg14 harg14 arg15
  k0_part5 i arg1 harg1 arg2 harg2 arg3 harg3 arg4 harg4 arg5 harg5 arg6 harg6 arg7 harg7 arg8 harg8 arg9 harg9 arg10 harg10 arg11 harg11 arg12 harg12 arg13 harg13 arg14 harg14 arg15
  let v149 : DmaSems sig S1x1 := arg15.slice (Rect.unit (s := S3x7) ![2, 6] S1x1.size inb_S3x7_S1x1_2_6)
  let v150 : DmaSems sig S_ := v149.squeeze S_ squeezes_S1x1_S_
  let v151 : Memref sig .tc .vmem S1x256x768 .fp8e4m3 := arg13.slice (Rect.unit (s := S3x1792x768) ![2, 1536, 0] S1x256x768.size inb_S3x1792x768_S1x256x768_2_1536_0) (fun _ => rfl)
  let v152 : Memref sig .tc .vmem S256x768 .fp8e4m3 := v151.squeeze S256x768 squeezes_S1x256x768_S256x768
  let v153 : Memref sig .tc .hbm S1x256x768 .fp8e4m3 := arg4.slice (Rect.unit (s := S7x768x768) ![6, 512, 0] S1x256x768.size inb_S7x768x768_S1x256x768_6_512_0) (fun _ => rfl)
  let v154 : Memref sig .tc .hbm S256x768 .fp8e4m3 := v153.squeeze S256x768 squeezes_S1x256x768_S256x768
  Prog.lift (.enqueueDma v154 (.here v152) (.dma v150.sem) ((harg4.wordExact_slice rfl _ wordsfp8e4m3_S7x768x768_S1x256x768_6_512_0).reshape _ _) ((harg13.wordExact_slice rfl _ wordsfp8e4m3_S3x1792x768_S1x256x768_2_1536_0).reshape _ _) ⟨Or.inl rfl, trivial⟩)
  kk ⟨⟩

/-- The part of the body that waits for the seven copies of one group of input channels (the statements under its condition), then `kk`. -/
def region2 (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) (k0_h2 : k0_cond2 i = 1#1)
    (kk : PUnit.{1} → Prog (TpuEff nD τ sig (Elt F) Λ₀ .tc) PUnit.{1}) :
    Prog (TpuEff nD τ sig (Elt F) Λ₀ .tc) PUnit.{1} := do
  let arg0 : BitVec 32 := BitVec.ofNat 32 (i 0).val
  let v0 : BitVec 32 := Scalar.remsi arg0 3#32
  let v1 : BitVec 32 := Scalar.addi arg0 3#32
  let v2 : BitVec 32 := Scalar.subi v1 1#32
  let v3 : BitVec 32 := Scalar.remsi v2 3#32
  let v4 : BitVec 32 := Scalar.remsi arg0 2#32
  let v5 : BitVec 1 := Scalar.cmpi .eq arg0 0#32
  let v6 : BitVec 32 := Scalar.extui v5
  let v7 : BitVec 1 := Scalar.cmpi .ne v6 0#32
  k0_part6 i arg1 harg1 arg2 harg2 arg3 harg3 arg4 harg4 arg5 harg5 arg6 harg6 arg7 harg7 arg8 harg8 arg9 harg9 arg10 harg10 arg11 harg11 arg12 harg12 arg13 harg13 arg14 harg14 arg15 arg0 k0_h2
  let v59 : Memref sig .tc .hbm S1x256x768 .fp8e4m3 := arg4.slice (Rect.unit (s := S7x768x768) (k0_off12 i) S1x256x768.size (k0_off12_inb i k0_h2)) (fun _ => rfl)
  let v60 : Memref sig .tc .hbm S256x768 .fp8e4m3 := v59.squeeze S256x768 squeezes_S1x256x768_S256x768
  let v55 : DmaSems sig S1x1 := arg15.slice (Rect.unit (s := S3x7) (k0_off10 i) S1x1.size (k0_off10_inb i k0_h2))
  let v56 : DmaSems sig S_ := v55.squeeze S_ squeezes_S1x1_S_
  let v57 : Memref sig .tc .vmem S1x256x768 .fp8e4m3 := arg13.slice (Rect.unit (s := S3x1792x768) (k0_off11 i) S1x256x768.size (k0_off11_inb i k0_h2)) (fun _ => rfl)
  let v58 : Memref sig .tc .vmem S256x768 .fp8e4m3 := v57.squeeze S256x768 squeezes_S1x256x768_S256x768
  Prog.lift (.waitDma2 v56.sem v60 v58 ((harg4.wordExact_slice rfl _ (k0_off12_wordsfp8e4m3 i k0_h2)).reshape _ _) ((harg13.wordExact_slice rfl _ (k0_off11_wordsfp8e4m3 i k0_h2)).reshape _ _))
  let v63 : DmaSems sig S1x1 := arg15.slice (Rect.unit (s := S3x7) (k0_off13 i) S1x1.size (k0_off13_inb i k0_h2))
  let v64 : DmaSems sig S_ := v63.squeeze S_ squeezes_S1x1_S_
  let v65 : Memref sig .tc .vmem S1x256x768 .fp8e4m3 := arg13.slice (Rect.unit (s := S3x1792x768) (k0_off14 i) S1x256x768.size (k0_off14_inb i k0_h2)) (fun _ => rfl)
  let v66 : Memref sig .tc .vmem S256x768 .fp8e4m3 := v65.squeeze S256x768 squeezes_S1x256x768_S256x768
  let v67 : Memref sig .tc .hbm S1x256x768 .fp8e4m3 := arg4.slice (Rect.unit (s := S7x768x768) (k0_off15 i) S1x256x768.size (k0_off15_inb i k0_h2)) (fun _ => rfl)
  let v68 : Memref sig .tc .hbm S256x768 .fp8e4m3 := v67.squeeze S256x768 squeezes_S1x256x768_S256x768
  Prog.lift (.waitDma2 v64.sem v68 v66 ((harg4.wordExact_slice rfl _ (k0_off15_wordsfp8e4m3 i k0_h2)).reshape _ _) ((harg13.wordExact_slice rfl _ (k0_off14_wordsfp8e4m3 i k0_h2)).reshape _ _))
  let v71 : DmaSems sig S1x1 := arg15.slice (Rect.unit (s := S3x7) (k0_off16 i) S1x1.size (k0_off16_inb i k0_h2))
  let v72 : DmaSems sig S_ := v71.squeeze S_ squeezes_S1x1_S_
  let v73 : Memref sig .tc .vmem S1x256x768 .fp8e4m3 := arg13.slice (Rect.unit (s := S3x1792x768) (k0_off17 i) S1x256x768.size (k0_off17_inb i k0_h2)) (fun _ => rfl)
  let v74 : Memref sig .tc .vmem S256x768 .fp8e4m3 := v73.squeeze S256x768 squeezes_S1x256x768_S256x768
  let v75 : Memref sig .tc .hbm S1x256x768 .fp8e4m3 := arg4.slice (Rect.unit (s := S7x768x768) (k0_off18 i) S1x256x768.size (k0_off18_inb i k0_h2)) (fun _ => rfl)
  let v76 : Memref sig .tc .hbm S256x768 .fp8e4m3 := v75.squeeze S256x768 squeezes_S1x256x768_S256x768
  Prog.lift (.waitDma2 v72.sem v76 v74 ((harg4.wordExact_slice rfl _ (k0_off18_wordsfp8e4m3 i k0_h2)).reshape _ _) ((harg13.wordExact_slice rfl _ (k0_off17_wordsfp8e4m3 i k0_h2)).reshape _ _))
  let v79 : DmaSems sig S1x1 := arg15.slice (Rect.unit (s := S3x7) (k0_off19 i) S1x1.size (k0_off19_inb i k0_h2))
  let v80 : DmaSems sig S_ := v79.squeeze S_ squeezes_S1x1_S_
  let v81 : Memref sig .tc .vmem S1x256x768 .fp8e4m3 := arg13.slice (Rect.unit (s := S3x1792x768) (k0_off20 i) S1x256x768.size (k0_off20_inb i k0_h2)) (fun _ => rfl)
  let v82 : Memref sig .tc .vmem S256x768 .fp8e4m3 := v81.squeeze S256x768 squeezes_S1x256x768_S256x768
  let v83 : Memref sig .tc .hbm S1x256x768 .fp8e4m3 := arg4.slice (Rect.unit (s := S7x768x768) (k0_off21 i) S1x256x768.size (k0_off21_inb i k0_h2)) (fun _ => rfl)
  let v84 : Memref sig .tc .hbm S256x768 .fp8e4m3 := v83.squeeze S256x768 squeezes_S1x256x768_S256x768
  Prog.lift (.waitDma2 v80.sem v84 v82 ((harg4.wordExact_slice rfl _ (k0_off21_wordsfp8e4m3 i k0_h2)).reshape _ _) ((harg13.wordExact_slice rfl _ (k0_off20_wordsfp8e4m3 i k0_h2)).reshape _ _))
  kk ⟨⟩

/-- The part of the body that fills one slot of the dequantised codes (the statements under its condition), then `kk`. -/
def region3 (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) (k0_h3 : k0_cond3 i = 1#1)
    (kk : PUnit.{1} → Prog (TpuEff nD τ sig (Elt F) Λ₀ .tc) PUnit.{1}) :
    Prog (TpuEff nD τ sig (Elt F) Λ₀ .tc) PUnit.{1} := do
  let arg0 : BitVec 32 := BitVec.ofNat 32 (i 0).val
  let v0 : BitVec 32 := Scalar.remsi arg0 3#32
  let v1 : BitVec 32 := Scalar.addi arg0 3#32
  let v2 : BitVec 32 := Scalar.subi v1 1#32
  let v3 : BitVec 32 := Scalar.remsi v2 3#32
  let v4 : BitVec 32 := Scalar.remsi arg0 2#32
  let v5 : BitVec 1 := Scalar.cmpi .eq arg0 0#32
  let v6 : BitVec 32 := Scalar.extui v5
  let v7 : BitVec 1 := Scalar.cmpi .ne v6 0#32
  let ⟨v109, v1686, v2112, v2113, v2122, v2131, v2133, v2134, v2143, v2152, v2154, v2155, v2164, v2173, v2175, v2176, v2185, v2194, v2196, v2197, v2206, v2215, v2217, v2218, v2227, v2236, v2238, v2239, v2248, v2257, v2259, v2260, v2261, v2268⟩ : Σ' (v109 : IVec S16x128 32) (v1686 : IVec S8x128 32) (v2112 : FVec F S8x128 .f32) (v2113 : FVec F S8x128 .f32) (v2122 : FVec F S8x128 .f32) (v2131 : FVec F S8x128 .f32) (v2133 : FVec F S8x128 .f32) (v2134 : FVec F S8x128 .f32) (v2143 : FVec F S8x128 .f32) (v2152 : FVec F S8x128 .f32) (v2154 : FVec F S8x128 .f32) (v2155 : FVec F S8x128 .f32) (v2164 : FVec F S8x128 .f32) (v2173 : FVec F S8x128 .f32) (v2175 : FVec F S8x128 .f32) (v2176 : FVec F S8x128 .f32) (v2185 : FVec F S8x128 .f32) (v2194 : FVec F S8x128 .f32) (v2196 : FVec F S8x128 .f32) (v2197 : FVec F S8x128 .f32) (v2206 : FVec F S8x128 .f32) (v2215 : FVec F S8x128 .f32) (v2217 : FVec F S8x128 .f32) (v2218 : FVec F S8x128 .f32) (v2227 : FVec F S8x128 .f32) (v2236 : FVec F S8x128 .f32) (v2238 : FVec F S8x128 .f32) (v2239 : FVec F S8x128 .f32) (v2248 : FVec F S8x128 .f32) (v2257 : FVec F S8x128 .f32) (v2259 : FVec F S8x128 .f32) (v2260 : FVec F S8x128 .f32) (v2261 : Vec F S8x128 .f32), IVec S8x128 32 ← k0_part89 i arg1 harg1 arg2 harg2 arg3 harg3 arg4 harg4 arg5 harg5 arg6 harg6 arg7 harg7 arg8 harg8 arg9 harg9 arg10 harg10 arg11 harg11 arg12 harg12 arg13 harg13 arg14 harg14 arg15 v0 k0_h3
  let ⟨v2269, v2278, v2306⟩ : Σ' (v2269 : FVec F S8x128 .f32) (v2278 : FVec F S8x128 .f32), FVec F S32x128 .bf16 ← k0_part67 i arg1 harg1 arg2 harg2 arg3 harg3 arg4 harg4 arg5 harg5 arg6 harg6 arg7 harg7 arg8 harg8 arg9 harg9 arg10 harg10 arg11 harg11 arg12 harg12 arg13 harg13 arg14 harg14 arg15 k0_h3 v1686 v2112 v2113 v2122 v2131 v2133 v2134 v2143 v2152 v2154 v2155 v2164 v2173 v2175 v2176 v2185 v2194 v2196 v2197 v2206 v2215 v2217 v2218 v2227 v2236 v2261 v2268
  let ⟨v2324, v2325, v2334, v2343, v2345, v2346⟩ : Σ' (v2324 : FVec F S8x128 .f32) (v2325 : FVec F S8x128 .f32) (v2334 : FVec F S8x128 .f32) (v2343 : FVec F S8x128 .f32) (v2345 : FVec F S8x128 .f32), FVec F S8x128 .f32 ← k0_part68 i arg1 harg1 arg2 harg2 arg3 harg3 arg4 harg4 arg5 harg5 arg6 harg6 arg7 harg7 arg8 harg8 arg9 harg9 arg10 harg10 arg11 harg11 arg12 harg12 arg13 harg13 arg14 harg14 arg15 k0_h3 v1686 v2238 v2239 v2248 v2257 v2259 v2260 v2269 v2278 v2306
  let ⟨v2355, v2364, v2366, v2367, v2376, v2385, v2387, v2388⟩ : Σ' (v2355 : FVec F S8x128 .f32) (v2364 : FVec F S8x128 .f32) (v2366 : FVec F S8x128 .f32) (v2367 : FVec F S8x128 .f32) (v2376 : FVec F S8x128 .f32) (v2385 : FVec F S8x128 .f32) (v2387 : FVec F S8x128 .f32), FVec F S8x128 .f32 ← k0_part69 i arg1 harg1 arg2 harg2 arg3 harg3 arg4 harg4 arg5 harg5 arg6 harg6 arg7 harg7 arg8 harg8 arg9 harg9 arg10 harg10 arg11 harg11 arg12 harg12 arg13 harg13 arg14 harg14 arg15 v1686
  let ⟨v2397, v2406, v2408, v2409, v2418, v2427, v2428⟩ : Σ' (v2397 : FVec F S8x128 .f32) (v2406 : FVec F S8x128 .f32) (v2408 : FVec F S8x128 .f32) (v2409 : FVec F S8x128 .f32) (v2418 : FVec F S8x128 .f32) (v2427 : FVec F S8x128 .f32), Vec F S16x128 .f32 ← k0_part70 i arg1 harg1 arg2 harg2 arg3 harg3 arg4 harg4 arg5 harg5 arg6 harg6 arg7 harg7 arg8 harg8 arg9 harg9 arg10 harg10 arg11 harg11 arg12 harg12 arg13 harg13 arg14 harg14 arg15 v1686
  let ⟨v2429, v2430, v2439, v2448, v2450, v2451, v2460, v2469⟩ : Σ' (v2429 : FVec F S8x128 .f32) (v2430 : FVec F S8x128 .f32) (v2439 : FVec F S8x128 .f32) (v2448 : FVec F S8x128 .f32) (v2450 : FVec F S8x128 .f32) (v2451 : FVec F S8x128 .f32) (v2460 : FVec F S8x128 .f32), FVec F S8x128 .f32 ← k0_part71 i arg1 harg1 arg2 harg2 arg3 harg3 arg4 harg4 arg5 harg5 arg6 harg6 arg7 harg7 arg8 harg8 arg9 harg9 arg10 harg10 arg11 harg11 arg12 harg12 arg13 harg13 arg14 harg14 arg15 v1686 v2428
  let ⟨v2471, v2472, v2481, v2490, v2507, v2510⟩ : Σ' (v2471 : FVec F S8x128 .f32) (v2472 : FVec F S8x128 .f32) (v2481 : FVec F S8x128 .f32) (v2490 : FVec F S8x128 .f32) (v2507 : FVec F S32x128 .bf16), Vec F S32x128 .bf16 ← k0_part72 i arg1 harg1 arg2 harg2 arg3 harg3 arg4 harg4 arg5 harg5 arg6 harg6 arg7 harg7 arg8 harg8 arg9 harg9 arg10 harg10 arg11 harg11 arg12 harg12 arg13 harg13 arg14 harg14 arg15 k0_h3 v1686 v2324 v2325 v2334 v2343 v2345 v2346 v2355 v2364 v2366 v2367 v2376 v2385 v2387 v2388 v2397 v2406
  let ⟨v2536, v2537, v2546, v2547, c0_i32_1172⟩ : Σ' (v2536 : FVec F S8x128 .f32) (v2537 : FVec F S8x128 .f32) (v2546 : FVec F S8x128 .f32) (v2547 : Vec F S8x128 .f32), BitVec 32 ← k0_part73 i arg1 harg1 arg2 harg2 arg3 harg3 arg4 harg4 arg5 harg5 arg6 harg6 arg7 harg7 arg8 harg8 arg9 harg9 arg10 harg10 arg11 harg11 arg12 harg12 arg13 harg13 arg14 harg14 arg15 k0_h3 v1686 v2408 v2409 v2418 v2427 v2429 v2430 v2439 v2448 v2450 v2451 v2460 v2469 v2471 v2472 v2481 v2490 v2507 v2510
  let ⟨v2555, v2557, v2558, v2567, v2576, v2578, v2579, v2588⟩ : Σ' (v2555 : FVec F S8x128 .f32) (v2557 : FVec F S8x128 .f32) (v2558 : FVec F S8x128 .f32) (v2567 : FVec F S8x128 .f32) (v2576 : FVec F S8x128 .f32) (v2578 : FVec F S8x128 .f32) (v2579 : FVec F S8x128 .f32), FVec F S8x128 .f32 ← k0_part74 i arg1 harg1 arg2 harg2 arg3 harg3 arg4 harg4 arg5 harg5 arg6 harg6 arg7 harg7 arg8 harg8 arg9 harg9 arg10 harg10 arg11 harg11 arg12 harg12 arg13 harg13 arg14 harg14 arg15 v1686 v2547 c0_i32_1172
  let ⟨v2597, v2599, v2600, v2609, v2618, v2620, v2621, v2630⟩ : Σ' (v2597 : FVec F S8x128 .f32) (v2599 : FVec F S8x128 .f32) (v2600 : FVec F S8x128 .f32) (v2609 : FVec F S8x128 .f32) (v2618 : FVec F S8x128 .f32) (v2620 : FVec F S8x128 .f32) (v2621 : FVec F S8x128 .f32), FVec F S8x128 .f32 ← k0_part75 i arg1 harg1 arg2 harg2 arg3 harg3 arg4 harg4 arg5 harg5 arg6 harg6 arg7 harg7 arg8 harg8 arg9 harg9 arg10 harg10 arg11 harg11 arg12 harg12 arg13 harg13 arg14 harg14 arg15 v1686
  let ⟨v2639, v2641, v2642, v2651, v2660, v2662, v2663, v2664, v2670⟩ : Σ' (v2639 : FVec F S8x128 .f32) (v2641 : FVec F S8x128 .f32) (v2642 : FVec F S8x128 .f32) (v2651 : FVec F S8x128 .f32) (v2660 : FVec F S8x128 .f32) (v2662 : FVec F S8x128 .f32) (v2663 : FVec F S8x128 .f32) (v2664 : Vec F S8x128 .f32), IVec S8x128x1 32 ← k0_part76 i arg1 harg1 arg2 harg2 arg3 harg3 arg4 harg4 arg5 harg5 arg6 harg6 arg7 harg7 arg8 harg8 arg9 harg9 arg10 harg10 arg11 harg11 arg12 harg12 arg13 harg13 arg14 harg14 arg15 v1686
  let ⟨v2672, v2681, v2683, v2684, v2693, v2702, v2708⟩ : Σ' (v2672 : FVec F S8x128 .f32) (v2681 : FVec F S8x128 .f32) (v2683 : FVec F S8x128 .f32) (v2684 : FVec F S8x128 .f32) (v2693 : FVec F S8x128 .f32) (v2702 : FVec F S8x128 .f32), FVec F S32x128 .bf16 ← k0_part77 i arg1 harg1 arg2 harg2 arg3 harg3 arg4 harg4 arg5 harg5 arg6 harg6 arg7 harg7 arg8 harg8 arg9 harg9 arg10 harg10 arg11 harg11 arg12 harg12 arg13 harg13 arg14 harg14 arg15 k0_h3 v1686 v2536 v2537 v2546 v2555 v2557 v2558 v2567 v2576 v2664 v2670
  k0_part78 i arg1 harg1 arg2 harg2 arg3 harg3 arg4 harg4 arg5 harg5 arg6 harg6 arg7 harg7 arg8 harg8 arg9 harg9 arg10 harg10 arg11 harg11 arg12 harg12 arg13 harg13 arg14 harg14 arg15 k0_h3 v2578 v2579 v2588 v2597 v2599 v2600 v2609 v2618 v2620 v2621 v2630 v2639 v2641 v2642 v2651 v2660 v2662 v2663 v2672 v2681 v2683 v2684 v2693 v2702 v2708
  let ⟨v2777, v2780⟩ : Σ' (v2777 : FVec F S16x128 .bf16), Vec F S16x128 .bf16 ← k0_part79 i arg1 harg1 arg2 harg2 arg3 harg3 arg4 harg4 arg5 harg5 arg6 harg6 arg7 harg7 arg8 harg8 arg9 harg9 arg10 harg10 arg11 harg11 arg12 harg12 arg13 harg13 arg14 harg14 arg15 k0_h3 v109
  let ⟨v2809, v2810, cst_1311⟩ : Σ' (v2809 : IVec S16x128 1) (v2810 : Vec F S16x128 .f32), F .f32 ← k0_part80 i arg1 harg1 arg2 harg2 arg3 harg3 arg4 harg4 arg5 harg5 arg6 harg6 arg7 harg7 arg8 harg8 arg9 harg9 arg10 harg10 arg11 harg11 arg12 harg12 arg13 harg13 arg14 harg14 arg15 k0_h3 v109 v2777 v2780
  let ⟨v2840, v2841⟩ : Σ' (v2840 : FVec F S16x128 .f32), Vec F S16x128 .f32 ← k0_part81 i arg1 harg1 arg2 harg2 arg3 harg3 arg4 harg4 arg5 harg5 arg6 harg6 arg7 harg7 arg8 harg8 arg9 harg9 arg10 harg10 arg11 harg11 arg12 harg12 arg13 harg13 arg14 harg14 arg15 k0_h3 v109 v2809 v2810 cst_1311
  k0_part82 i arg1 harg1 arg2 harg2 arg3 harg3 arg4 harg4 arg5 harg5 arg6 harg6 arg7 harg7 arg8 harg8 arg9 harg9 arg10 harg10 arg11 harg11 arg12 harg12 arg13 harg13 arg14 harg14 arg15 k0_h3 v109 v2840 v2841
  let v2903 : FVec F S16x128 .bf16 ← k0_part83 i arg1 harg1 arg2 harg2 arg3 harg3 arg4 harg4 arg5 harg5 arg6 harg6 arg7 harg7 arg8 harg8 arg9 harg9 arg10 harg10 arg11 harg11 arg12 harg12 arg13 harg13 arg14 harg14 arg15 k0_h3 v109
  let v2934 : IVec S16x128 32 ← k0_part84 i arg1 harg1 arg2 harg2 arg3 harg3 arg4 harg4 arg5 harg5 arg6 harg6 arg7 harg7 arg8 harg8 arg9 harg9 arg10 harg10 arg11 harg11 arg12 harg12 arg13 harg13 arg14 harg14 arg15 k0_h3 v109 v2903
  k0_part85 i arg1 harg1 arg2 harg2 arg3 harg3 arg4 harg4 arg5 harg5 arg6 harg6 arg7 harg7 arg8 harg8 arg9 harg9 arg10 harg10 arg11 harg11 arg12 harg12 arg13 harg13 arg14 harg14 arg15 k0_h3 v109 v2934
  let ⟨v2993, v2996⟩ : Σ' (v2993 : FVec F S16x128 .bf16), Vec F S16x128 .bf16 ← k0_part86 i arg1 harg1 arg2 harg2 arg3 harg3 arg4 harg4 arg5 harg5 arg6 harg6 arg7 harg7 arg8 harg8 arg9 harg9 arg10 harg10 arg11 harg11 arg12 harg12 arg13 harg13 arg14 harg14 arg15 k0_h3 v109
  let ⟨v3025, v3026, cst_1479⟩ : Σ' (v3025 : IVec S16x128 1) (v3026 : Vec F S16x128 .f32), F .f32 ← k0_part87 i arg1 harg1 arg2 harg2 arg3 harg3 arg4 harg4 arg5 harg5 arg6 harg6 arg7 harg7 arg8 harg8 arg9 harg9 arg10 harg10 arg11 harg11 arg12 harg12 arg13 harg13 arg14 harg14 arg15 k0_h3 v109 v2993 v2996
  let ⟨v3056, v3057⟩ : Σ' (v3056 : FVec F S16x128 .f32), Vec F S16x128 .f32 ← k0_part88 i arg1 harg1 arg2 harg2 arg3 harg3 arg4 harg4 arg5 harg5 arg6 harg6 arg7 harg7 arg8 harg8 arg9 harg9 arg10 harg10 arg11 harg11 arg12 harg12 arg13 harg13 arg14 harg14 arg15 k0_h3 v109 v3025 v3026 cst_1479
  Prog.lift (.store arg9 (Rect.unit (s := S32x128) ![8, 0] S16x128.size inb_S32x128_S16x128_8_0) (k0_pay1 v3056) Finset.univ (View.stores_vmem_bits_univ h_S16x128 rfl) (.inl rfl))
  let v3062 : Vec F S16x128 .f32 ← Prog.lift (.load arg9 (Rect.unit (s := S32x128) ![7, 0] S16x128.size inb_S32x128_S16x128_7_0).toLoadRect (View.loadsAt_vmem h_S16x128))
  let v3066 : Memref sig .tc .vmem S1x928x256 .bf16 := arg12.slice (Rect.unit (s := S2x928x256) (k0_off22 i) S1x928x256.size (k0_off22_inb i k0_h3)) (fun _ => rfl)
  let v3067 : Memref sig .tc .vmem S928x256 .bf16 := v3066.squeeze S928x256 squeezes_S1x928x256_S928x256
  let v3068 : Vec F S16x128 .bf16 ← Prog.lift (.load v3067 (Rect.unit (s := S928x256) ![128, 128] S16x128.size inb_S928x256_S16x128_128_128).toLoadRect (View.loadsAt_vmem h_S16x128))
  Prog.lift (.store arg12 (Rect.unit (s := S2x928x256) (k0_off98 i) S1x16x128.size (k0_off98_inb i k0_h3)) (k0_pay2 v109 v3062) Finset.univ (View.stores_vmem h_S1x16x128 (harg12.storeExact_slice rfl _ (k0_off98_packedbf16 i k0_h3)) (fun _ => rfl)) (.inl rfl))
  kk ⟨⟩

/-- The part of the body that zeroes the accumulator (the statements under its condition), then `kk`. -/
def region4 (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) (k0_h4 : (let arg0 : BitVec 32 := BitVec.ofNat 32 (i 0).val; let v0 : BitVec 32 := Scalar.remsi arg0 3#32; let v1 : BitVec 32 := Scalar.addi arg0 3#32; let v2 : BitVec 32 := Scalar.subi v1 1#32; let v3 : BitVec 32 := Scalar.remsi v2 3#32; let v4 : BitVec 32 := Scalar.remsi arg0 2#32; let v5 : BitVec 1 := Scalar.cmpi .eq arg0 0#32; let v6 : BitVec 32 := Scalar.extui v5; let v7 : BitVec 1 := Scalar.cmpi .ne v6 0#32; let v16 : BitVec 1 := Scalar.cmpi .sge arg0 1#32; let v17 : BitVec 1 := Scalar.cmpi .eq v3 0#32; let v18 : BitVec 1 := Scalar.andi v16 v17; let v19 : BitVec 32 := Scalar.extui v18; let v20 : BitVec 1 := Scalar.cmpi .ne v19 0#32; v20) = 1#1)
    (kk : PUnit.{1} → Prog (TpuEff nD τ sig (Elt F) Λ₀ .tc) PUnit.{1}) :
    Prog (TpuEff nD τ sig (Elt F) Λ₀ .tc) PUnit.{1} := do
  let arg0 : BitVec 32 := BitVec.ofNat 32 (i 0).val
  let v0 : BitVec 32 := Scalar.remsi arg0 3#32
  let v1 : BitVec 32 := Scalar.addi arg0 3#32
  let v2 : BitVec 32 := Scalar.subi v1 1#32
  let v3 : BitVec 32 := Scalar.remsi v2 3#32
  let v4 : BitVec 32 := Scalar.remsi arg0 2#32
  let v5 : BitVec 1 := Scalar.cmpi .eq arg0 0#32
  let v6 : BitVec 32 := Scalar.extui v5
  let v7 : BitVec 1 := Scalar.cmpi .ne v6 0#32
  let v16 : BitVec 1 := Scalar.cmpi .sge arg0 1#32
  let v17 : BitVec 1 := Scalar.cmpi .eq v3 0#32
  let v18 : BitVec 1 := Scalar.andi v16 v17
  let v19 : BitVec 32 := Scalar.extui v18
  let v20 : BitVec 1 := Scalar.cmpi .ne v19 0#32
  let v30 : Vec F S640x768 .f32 ← Prog.lift (.load arg14 (Rect.unit (s := S640x768) ![0, 0] S640x768.size inb_S640x768_S640x768_0_0).toLoadRect (View.loadsAt_vmem h_S640x768))
  Prog.lift (.store arg14 (Rect.unit (s := S640x768) ![0, 0] S640x768.size inb_S640x768_S640x768_0_0) (k0_pay3 (F := F)) Finset.univ (View.stores_vmem_bits_univ h_S640x768 rfl) (.inl rfl))
  kk ⟨⟩

/-- The part of the body that adds one group of input channels to the accumulator (the statements under its condition), then `kk`. -/
def region5 (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) (k0_h5 : k0_cond5 i = 1#1)
    (kk : PUnit.{1} → Prog (TpuEff nD τ sig (Elt F) Λ₀ .tc) PUnit.{1}) :
    Prog (TpuEff nD τ sig (Elt F) Λ₀ .tc) PUnit.{1} := do
  let arg0 : BitVec 32 := BitVec.ofNat 32 (i 0).val
  let v0 : BitVec 32 := Scalar.remsi arg0 3#32
  let v1 : BitVec 32 := Scalar.addi arg0 3#32
  let v2 : BitVec 32 := Scalar.subi v1 1#32
  let v3 : BitVec 32 := Scalar.remsi v2 3#32
  let v4 : BitVec 32 := Scalar.remsi arg0 2#32
  let v5 : BitVec 1 := Scalar.cmpi .eq arg0 0#32
  let v6 : BitVec 32 := Scalar.extui v5
  let v7 : BitVec 1 := Scalar.cmpi .ne v6 0#32
  let v16 : BitVec 1 := Scalar.cmpi .sge arg0 1#32
  let v17 : BitVec 1 := Scalar.cmpi .eq v3 0#32
  let v18 : BitVec 1 := Scalar.andi v16 v17
  let v19 : BitVec 32 := Scalar.extui v18
  let v20 : BitVec 1 := Scalar.cmpi .ne v19 0#32
  let ⟨v51, v54⟩ : Σ' (v51 : FVec F S320x1792 .bf16), Vec F S1792x256 .fp8e4m3 ← k0_part90 i arg1 harg1 arg2 harg2 arg3 harg3 arg4 harg4 arg5 harg5 arg6 harg6 arg7 harg7 arg8 harg8 arg9 harg9 arg10 harg10 arg11 harg11 arg12 harg12 arg13 harg13 arg14 harg14 arg15 v4 k0_h5
  let v81 : Vec F S320x256 .bf16 ← k0_part91 i arg1 harg1 arg2 harg2 arg3 harg3 arg4 harg4 arg5 harg5 arg6 harg6 arg7 harg7 arg8 harg8 arg9 harg9 arg10 harg10 arg11 harg11 arg12 harg12 arg13 harg13 arg14 harg14 arg15 k0_h5 v51 v54
  let v100 : FVec F S320x1792 .bf16 ← k0_part92 i arg1 harg1 arg2 harg2 arg3 harg3 arg4 harg4 arg5 harg5 arg6 harg6 arg7 harg7 arg8 harg8 arg9 harg9 arg10 harg10 arg11 harg11 arg12 harg12 arg13 harg13 arg14 harg14 arg15 k0_h5 v81
  let v110 : Memref sig .tc .vmem S1x1792x768 .fp8e4m3 := arg13.slice (Rect.unit (s := S3x1792x768) (k0_off100 i) S1x1792x768.size (k0_off100_inb i k0_h5)) (fun _ => rfl)
  let v111 : Memref sig .tc .vmem S1792x768 .fp8e4m3 := v110.squeeze S1792x768 squeezes_S1x1792x768_S1792x768
  let v112 : Vec F S1792x256 .fp8e4m3 ← Prog.lift (.load v111 (Rect.unit (s := S1792x768) ![0, 256] S1792x256.size inb_S1792x768_S1792x256_0_256).toLoadRect (View.loadsAt_vmem h_S1792x256))
  let v113 : Vec F S320x256 .f32 ← Prog.lift (.load arg14 (Rect.unit (s := S640x768) ![320, 256] S320x256.size inb_S640x768_S320x256_320_256).toLoadRect (View.loadsAt_vmem h_S320x256))
  let v116 : Vec F S320x256 .f32 ← Prog.lift (.load arg14 (Rect.unit (s := S640x768) ![320, 256] S320x256.size inb_S640x768_S320x256_320_256).toLoadRect (View.loadsAt_vmem h_S320x256))
  Prog.lift (.store arg14 (Rect.unit (s := S640x768) ![320, 256] S320x256.size inb_S640x768_S320x256_320_256) (k0_pay4 v100 v112 v113) Finset.univ (View.stores_vmem_bits_univ h_S320x256 rfl) (.inl rfl))
  let v119 : Memref sig .tc .vmem S1x1792x768 .fp8e4m3 := arg13.slice (Rect.unit (s := S3x1792x768) (k0_off100 i) S1x1792x768.size (k0_off100_inb i k0_h5)) (fun _ => rfl)
  let v120 : Memref sig .tc .vmem S1792x768 .fp8e4m3 := v119.squeeze S1792x768 squeezes_S1x1792x768_S1792x768
  let v121 : Vec F S1792x256 .fp8e4m3 ← Prog.lift (.load v120 (Rect.unit (s := S1792x768) ![0, 512] S1792x256.size inb_S1792x768_S1792x256_0_512).toLoadRect (View.loadsAt_vmem h_S1792x256))
  let v122 : Vec F S320x256 .f32 ← Prog.lift (.load arg14 (Rect.unit (s := S640x768) ![320, 512] S320x256.size inb_S640x768_S320x256_320_512).toLoadRect (View.loadsAt_vmem h_S320x256))
  let v125 : Vec F S320x256 .f32 ← Prog.lift (.load arg14 (Rect.unit (s := S640x768) ![320, 512] S320x256.size inb_S640x768_S320x256_320_512).toLoadRect (View.loadsAt_vmem h_S320x256))
  Prog.lift (.store arg14 (Rect.unit (s := S640x768) ![320, 512] S320x256.size inb_S640x768_S320x256_320_512) (k0_pay5 v100 v121 v122) Finset.univ (View.stores_vmem_bits_univ h_S320x256 rfl) (.inl rfl))
  kk ⟨⟩

/-- The part of the body that writes one batch of the result (the statements under its condition), then `kk`. -/
def region6 (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) (k0_h6 : k0_cond6 i = 1#1)
    (kk : PUnit.{1} → Prog (TpuEff nD τ sig (Elt F) Λ₀ .tc) PUnit.{1}) :
    Prog (TpuEff nD τ sig (Elt F) Λ₀ .tc) PUnit.{1} := do
  let arg0 : BitVec 32 := BitVec.ofNat 32 (i 0).val
  let v0 : BitVec 32 := Scalar.remsi arg0 3#32
  let v1 : BitVec 32 := Scalar.addi arg0 3#32
  let v2 : BitVec 32 := Scalar.subi v1 1#32
  let v3 : BitVec 32 := Scalar.remsi v2 3#32
  let v4 : BitVec 32 := Scalar.remsi arg0 2#32
  let v5 : BitVec 1 := Scalar.cmpi .eq arg0 0#32
  let v6 : BitVec 32 := Scalar.extui v5
  let v7 : BitVec 1 := Scalar.cmpi .ne v6 0#32
  let v16 : BitVec 1 := Scalar.cmpi .sge arg0 1#32
  let v17 : BitVec 1 := Scalar.cmpi .eq v3 0#32
  let v18 : BitVec 1 := Scalar.andi v16 v17
  let v19 : BitVec 32 := Scalar.extui v18
  let v20 : BitVec 1 := Scalar.cmpi .ne v19 0#32
  let ⟨v1760, v1764, v1974⟩ : Σ' (v1760 : FVec F S8x128 .f32) (v1764 : FVec F S8x128 .f32), FVec F S8x128 .f32 ← k0_part199 i arg1 harg1 arg2 harg2 arg3 harg3 arg4 harg4 arg5 harg5 arg6 harg6 arg7 harg7 arg8 harg8 arg9 harg9 arg10 harg10 arg11 harg11 arg12 harg12 arg13 harg13 arg14 harg14 arg15
  let v3465 : FVec F S80x128 .f32 ← k0_part200 i arg1 harg1 arg2 harg2 arg3 harg3 arg4 harg4 arg5 harg5 arg6 harg6 arg7 harg7 arg8 harg8 arg9 harg9 arg10 harg10 arg11 harg11 arg12 harg12 arg13 harg13 arg14 harg14 arg15 v1760 v1764 v1974
  let v3466 : Vec F S1x80x128 .bf16 ← Prog.lift (.load arg3 (Rect.unit (s := S1x640x768) ![0, 480, 640] S1x80x128.size inb_S1x640x768_S1x80x128_0_480_640).toLoadRect (View.loadsAt_vmem h_S1x80x128))
  let v3471 : Vec F S1x80x128 .bf16 ← Prog.lift (.load arg7 (Rect.unit (s := S1x640x768) ![0, 480, 640] S1x80x128.size inb_S1x640x768_S1x80x128_0_480_640).toLoadRect (View.loadsAt_vmem h_S1x80x128))
  Prog.lift (.store arg7 (Rect.unit (s := S1x640x768) ![0, 480, 640] S1x80x128.size inb_S1x640x768_S1x80x128_0_480_640) (k0_pay6 v3465 v3466) Finset.univ (View.stores_vmem h_S1x80x128 (harg7.storeExact_slice rfl _ packedbf16_S1x640x768_S1x80x128_0_480_640) (fun _ => rfl)) (.inl rfl))
  let v3474 : Vec F S40x128 .f32 ← Prog.lift (.load arg11 (Rect.unit (s := S736x128) ![644, 0] S40x128.size inb_S736x128_S40x128_644_0).toLoadRect (View.loadsAt_vmem h_S40x128))
  let v3475 : Vec F S40x128 .f32 ← Prog.lift (.load arg11 (Rect.unit (s := S736x128) ![690, 0] S40x128.size inb_S736x128_S40x128_690_0).toLoadRect (View.loadsAt_vmem h_S40x128))
  let v3477 : Vec F S1x80x128 .bf16 ← Prog.lift (.load arg3 (Rect.unit (s := S1x640x768) ![0, 560, 640] S1x80x128.size inb_S1x640x768_S1x80x128_0_560_640).toLoadRect (View.loadsAt_vmem h_S1x80x128))
  let v3482 : Vec F S1x80x128 .bf16 ← Prog.lift (.load arg7 (Rect.unit (s := S1x640x768) ![0, 560, 640] S1x80x128.size inb_S1x640x768_S1x80x128_0_560_640).toLoadRect (View.loadsAt_vmem h_S1x80x128))
  Prog.lift (.store arg7 (Rect.unit (s := S1x640x768) ![0, 560, 640] S1x80x128.size inb_S1x640x768_S1x80x128_0_560_640) (k0_pay7 v3474 v3475 v3477) Finset.univ (View.stores_vmem h_S1x80x128 (harg7.storeExact_slice rfl _ packedbf16_S1x640x768_S1x80x128_0_560_640) (fun _ => rfl)) (.inl rfl))
  kk ⟨⟩

/-- The body from its guarded part number 6 on. -/
def rest6 (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) :
    Prog (TpuEff nD τ sig (Elt F) Λ₀ .tc) PUnit.{1} :=
  if k0_h6 : k0_cond6 i = 1#1 then region6 i arg1 harg1 arg2 harg2 arg3 harg3 arg4 harg4 arg5 harg5 arg6 harg6 arg7 harg7 arg8 harg8 arg9 harg9 arg10 harg10 arg11 harg11 arg12 harg12 arg13 harg13 arg14 harg14 arg15 k0_h6 (fun _ => pure ⟨⟩) else pure ⟨⟩

/-- The body from its guarded part number 5 on. -/
def rest5 (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) :
    Prog (TpuEff nD τ sig (Elt F) Λ₀ .tc) PUnit.{1} :=
  if k0_h5 : k0_cond5 i = 1#1 then region5 i arg1 harg1 arg2 harg2 arg3 harg3 arg4 harg4 arg5 harg5 arg6 harg6 arg7 harg7 arg8 harg8 arg9 harg9 arg10 harg10 arg11 harg11 arg12 harg12 arg13 harg13 arg14 harg14 arg15 k0_h5 (fun _ => rest6 i arg1 harg1 arg2 harg2 arg3 harg3 arg4 harg4 arg5 harg5 arg6 harg6 arg7 harg7 arg8 harg8 arg9 harg9 arg10 harg10 arg11 harg11 arg12 harg12 arg13 harg13 arg14 harg14 arg15) else rest6 i arg1 harg1 arg2 harg2 arg3 harg3 arg4 harg4 arg5 harg5 arg6 harg6 arg7 harg7 arg8 harg8 arg9 harg9 arg10 harg10 arg11 harg11 arg12 harg12 arg13 harg13 arg14 harg14 arg15

/-- The body from its guarded part number 4 on. -/
def rest4 (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) :
    Prog (TpuEff nD τ sig (Elt F) Λ₀ .tc) PUnit.{1} :=
  if k0_h4 : (let arg0 : BitVec 32 := BitVec.ofNat 32 (i 0).val; let v0 : BitVec 32 := Scalar.remsi arg0 3#32; let v1 : BitVec 32 := Scalar.addi arg0 3#32; let v2 : BitVec 32 := Scalar.subi v1 1#32; let v3 : BitVec 32 := Scalar.remsi v2 3#32; let v4 : BitVec 32 := Scalar.remsi arg0 2#32; let v5 : BitVec 1 := Scalar.cmpi .eq arg0 0#32; let v6 : BitVec 32 := Scalar.extui v5; let v7 : BitVec 1 := Scalar.cmpi .ne v6 0#32; let v16 : BitVec 1 := Scalar.cmpi .sge arg0 1#32; let v17 : BitVec 1 := Scalar.cmpi .eq v3 0#32; let v18 : BitVec 1 := Scalar.andi v16 v17; let v19 : BitVec 32 := Scalar.extui v18; let v20 : BitVec 1 := Scalar.cmpi .ne v19 0#32; v20) = 1#1 then region4 i arg1 harg1 arg2 harg2 arg3 harg3 arg4 harg4 arg5 harg5 arg6 harg6 arg7 harg7 arg8 harg8 arg9 harg9 arg10 harg10 arg11 harg11 arg12 harg12 arg13 harg13 arg14 harg14 arg15 k0_h4 (fun _ => rest5 i arg1 harg1 arg2 harg2 arg3 harg3 arg4 harg4 arg5 harg5 arg6 harg6 arg7 harg7 arg8 harg8 arg9 harg9 arg10 harg10 arg11 harg11 arg12 harg12 arg13 harg13 arg14 harg14 arg15) else rest5 i arg1 harg1 arg2 harg2 arg3 harg3 arg4 harg4 arg5 harg5 arg6 harg6 arg7 harg7 arg8 harg8 arg9 harg9 arg10 harg10 arg11 harg11 arg12 harg12 arg13 harg13 arg14 harg14 arg15

/-- The body from its guarded part number 3 on. -/
def rest3 (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) :
    Prog (TpuEff nD τ sig (Elt F) Λ₀ .tc) PUnit.{1} :=
  if k0_h3 : k0_cond3 i = 1#1 then region3 i arg1 harg1 arg2 harg2 arg3 harg3 arg4 harg4 arg5 harg5 arg6 harg6 arg7 harg7 arg8 harg8 arg9 harg9 arg10 harg10 arg11 harg11 arg12 harg12 arg13 harg13 arg14 harg14 arg15 k0_h3 (fun _ => rest4 i arg1 harg1 arg2 harg2 arg3 harg3 arg4 harg4 arg5 harg5 arg6 harg6 arg7 harg7 arg8 harg8 arg9 harg9 arg10 harg10 arg11 harg11 arg12 harg12 arg13 harg13 arg14 harg14 arg15) else rest4 i arg1 harg1 arg2 harg2 arg3 harg3 arg4 harg4 arg5 harg5 arg6 harg6 arg7 harg7 arg8 harg8 arg9 harg9 arg10 harg10 arg11 harg11 arg12 harg12 arg13 harg13 arg14 harg14 arg15

/-- The body from its guarded part number 2 on. -/
def rest2 (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) :
    Prog (TpuEff nD τ sig (Elt F) Λ₀ .tc) PUnit.{1} :=
  if k0_h2 : k0_cond2 i = 1#1 then region2 i arg1 harg1 arg2 harg2 arg3 harg3 arg4 harg4 arg5 harg5 arg6 harg6 arg7 harg7 arg8 harg8 arg9 harg9 arg10 harg10 arg11 harg11 arg12 harg12 arg13 harg13 arg14 harg14 arg15 k0_h2 (fun _ => rest3 i arg1 harg1 arg2 harg2 arg3 harg3 arg4 harg4 arg5 harg5 arg6 harg6 arg7 harg7 arg8 harg8 arg9 harg9 arg10 harg10 arg11 harg11 arg12 harg12 arg13 harg13 arg14 harg14 arg15) else rest3 i arg1 harg1 arg2 harg2 arg3 harg3 arg4 harg4 arg5 harg5 arg6 harg6 arg7 harg7 arg8 harg8 arg9 harg9 arg10 harg10 arg11 harg11 arg12 harg12 arg13 harg13 arg14 harg14 arg15

/-- The body from its guarded part number 1 on. -/
def rest1 (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) :
    Prog (TpuEff nD τ sig (Elt F) Λ₀ .tc) PUnit.{1} :=
  if k0_h1 : (let arg0 : BitVec 32 := BitVec.ofNat 32 (i 0).val; let v0 : BitVec 32 := Scalar.remsi arg0 3#32; let v1 : BitVec 32 := Scalar.addi arg0 3#32; let v2 : BitVec 32 := Scalar.subi v1 1#32; let v3 : BitVec 32 := Scalar.remsi v2 3#32; let v4 : BitVec 32 := Scalar.remsi arg0 2#32; let v5 : BitVec 1 := Scalar.cmpi .eq arg0 0#32; let v6 : BitVec 32 := Scalar.extui v5; let v7 : BitVec 1 := Scalar.cmpi .ne v6 0#32; v7) = 1#1 then region1 i arg1 harg1 arg2 harg2 arg3 harg3 arg4 harg4 arg5 harg5 arg6 harg6 arg7 harg7 arg8 harg8 arg9 harg9 arg10 harg10 arg11 harg11 arg12 harg12 arg13 harg13 arg14 harg14 arg15 k0_h1 (fun _ => rest2 i arg1 harg1 arg2 harg2 arg3 harg3 arg4 harg4 arg5 harg5 arg6 harg6 arg7 harg7 arg8 harg8 arg9 harg9 arg10 harg10 arg11 harg11 arg12 harg12 arg13 harg13 arg14 harg14 arg15) else rest2 i arg1 harg1 arg2 harg2 arg3 harg3 arg4 harg4 arg5 harg5 arg6 harg6 arg7 harg7 arg8 harg8 arg9 harg9 arg10 harg10 arg11 harg11 arg12 harg12 arg13 harg13 arg14 harg14 arg15

set_option maxRecDepth 65536 in
/-- The printed body is its six guarded parts in sequence. -/
theorem body_eq_regions : cc0_amp_unit (F := F) = rest1 (F := F) := cc0_amp_unit_eq_skeleton.trans rfl

end Cert.Kernel.Prf

end
-- ==== Proof.KCommon.lean ====
/- Names the proof's modules share. -/
module

public import proofs.«01_k».proof.Proof.KBody
public import Idealize.ShloMosaic.Lib.Pipeline.FrameBody
public import Idealize.ShloMosaic.Lib.MixedBatch
public import Idealize.ShloMosaic.Lib.Ring
public import Idealize.ShloMosaic.Lib.Tactic

@[expose] public section

noncomputable section

namespace Cert.Kernel.Prf

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The proof's resources: the pipeline library's beside the transfers' counters. -/
local notation "𝕄" => MT nD τ sig Unit (Elt F) ℕ (Pipeline.UD sig nD τ) ℕ

/-- The contents of a memref's buffer on core `c`. -/
abbrev Bf (c : Dev nD) {sp : Space} {S : Shape} {e : EltTy} (M : Memref sig .tc sp S e) : Type := Buf (Elt F) (M.view.loc (c : Thread nD τ))
/-- A memref's buffer on core `c` held whole at contents `f`. -/
abbrev pt (c : Dev nD) {sp : Space} {S : Shape} {e : EltTy} (M : Memref sig .tc sp S e) (f : Bf (F := F) c M) : sProp 𝕄 :=
  M.view.loc (c : Thread nD τ) ↦{fullShare} f

/-- A memref's own elements on core `c` at contents `f` of its buffer. -/
abbrev own (c : Dev nD) {sp : Space} {S : Shape} {e : EltTy} (M : Memref sig .tc sp S e) (f : Bf (F := F) c M) : sProp 𝕄 :=
  M.view.loc (c : Thread nD τ) ↦[M.view.set]{fullShare} f

/-- The semaphore cell at offsets `o`. -/
abbrev semG (A : DmaSems sig S3x7) (o : Fin 2 → ℕ) (h : ∀ a, o a + S1x1.size a ≤ S3x7.size a) : DmaSem sig :=
  ((A.slice (Rect.unit (s := S3x7) o S1x1.size h)).squeeze S_ squeezes_S1x1_S_).sem
/-- The window of the weight buffer at offsets `o` that one copy writes. -/
abbrev dstG (M : Memref sig .tc .vmem S3x1792x768 .fp8e4m3) (o : Fin 3 → ℕ) (h : ∀ a, o a + S1x256x768.size a ≤ S3x1792x768.size a) :
    Memref sig .tc .vmem S256x768 .fp8e4m3 :=
  (M.slice (Rect.unit (s := S3x1792x768) o S1x256x768.size h) (fun _ => rfl)).squeeze S256x768 squeezes_S1x256x768_S256x768
/-- The window of the weight operand at offsets `o` that one copy reads. -/
abbrev srcG (M : Memref sig .tc .hbm S7x768x768 .fp8e4m3) (o : Fin 3 → ℕ) (h : ∀ a, o a + S1x256x768.size a ≤ S7x768x768.size a) :
    Memref sig .tc .hbm S256x768 .fp8e4m3 :=
  (M.slice (Rect.unit (s := S7x768x768) o S1x256x768.size h) (fun _ => rfl)).squeeze S256x768 squeezes_S1x256x768_S256x768
/-- The plane of the weight buffer at offsets `o`: seven windows. -/
abbrev planeG (M : Memref sig .tc .vmem S3x1792x768 .fp8e4m3) (o : Fin 3 → ℕ) (h : ∀ a, o a + S1x1792x768.size a ≤ S3x1792x768.size a) :
    Memref sig .tc .vmem S1792x768 .fp8e4m3 :=
  (M.slice (Rect.unit (s := S3x1792x768) o S1x1792x768.size h) (fun _ => rfl)).squeeze S1792x768 squeezes_S1x1792x768_S1792x768

/-- Owning a whole memref that reads `X` is holding its buffer at contents that read `X`. -/
theorem owns_pt (c : Dev nD) {sp : Space} {S : Shape} {e : EltTy} (M : Memref sig .tc sp S e) (hM : M.IsWhole) (X : S.Idx → Elt F e) :
    (owns (c : Thread nD τ) M fullShare X : sProp 𝕄) = iprop(∃ f, ⌜M.view.read (Elt F) f = X⌝ ∗ pt c M f) := by
  unfold owns; rw [hM.set_eq_univ]

end Cert.Kernel.Prf

end
-- ==== Proof.KWts.lean ====
/- The weight buffer and the twenty-one copies that fill it: the windows, what arrives in them, and how the buffer, the operand and
   the semaphores are held at each point. -/
module

public import proofs.«01_k».proof.Proof.KCommon
public import Idealize.ShloMosaic.Lib.Pipeline.Frame
public import Idealize.ShloMosaic.Lib.Pipeline.Value
public import Idealize.ShloMosaic.Lib.Pipeline.ValueKit.Geometry
public import Idealize.ShloMosaic.Lib.ValueLayout
public import Idealize.ShloMosaic.Lib.ValueIdx
public import Idealize.ShloMosaic.Lib.Transfers

@[expose] public section

set_option maxRecDepth 16384

noncomputable section

namespace Cert.Kernel.Prf

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

/-- The weight buffer and the weight operand, whole. -/
abbrev wM : Memref sig .tc .vmem S3x1792x768 .fp8e4m3 := Memref.whole cc0_scratch5
abbrev sM : Memref sig .tc .hbm S7x768x768 .fp8e4m3 := Memref.whole main_arg3

theorem inbD (q : Fin 3) (k : Fin 7) : ∀ a, (![q.val, 256 * k.val, 0] : Fin 3 → ℕ) a + S1x256x768.size a ≤ S3x1792x768.size a := by
  have := q.isLt; have := k.isLt
  intro a
  match a with
  | ⟨0, _⟩ => show q.val + 1 ≤ 3; omega
  | ⟨1, _⟩ => show 256 * k.val + 256 ≤ 1792; omega
  | ⟨2, _⟩ => show 0 + 768 ≤ 768; omega
theorem inbS (q : Fin 3) (k : Fin 7) : ∀ a, (![k.val, 256 * q.val, 0] : Fin 3 → ℕ) a + S1x256x768.size a ≤ S7x768x768.size a := by
  have := q.isLt; have := k.isLt
  intro a
  match a with
  | ⟨0, _⟩ => show k.val + 1 ≤ 7; omega
  | ⟨1, _⟩ => show 256 * q.val + 256 ≤ 768; omega
  | ⟨2, _⟩ => show 0 + 768 ≤ 768; omega
theorem inbM (q : Fin 3) (k : Fin 7) : ∀ a, (![q.val, k.val] : Fin 2 → ℕ) a + S1x1.size a ≤ S3x7.size a := by
  have := q.isLt; have := k.isLt
  intro a
  match a with
  | ⟨0, _⟩ => show q.val + 1 ≤ 3; omega
  | ⟨1, _⟩ => show k.val + 1 ≤ 7; omega
theorem inbP (q : Fin 3) : ∀ a, (![q.val, 0, 0] : Fin 3 → ℕ) a + S1x1792x768.size a ≤ S3x1792x768.size a := by
  have := q.isLt
  intro a
  match a with
  | ⟨0, _⟩ => show q.val + 1 ≤ 3; omega
  | ⟨1, _⟩ => show 0 + 1792 ≤ 1792; omega
  | ⟨2, _⟩ => show 0 + 768 ≤ 768; omega

/-- The window copy `(q, k)` writes, the window it reads, its semaphore cell, and plane `q` of the weight buffer. -/
abbrev dstF (q : Fin 3) (k : Fin 7) := dstG wM ![q.val, 256 * k.val, 0] (inbD q k)
abbrev srcF (q : Fin 3) (k : Fin 7) := srcG sM ![k.val, 256 * q.val, 0] (inbS q k)
abbrev semF (q : Fin 3) (k : Fin 7) : DmaSem sig := semG cc0_scratch7 ![q.val, k.val] (inbM q k)
abbrev planeF (q : Fin 3) := planeG wM ![q.val, 0, 0] (inbP q)

/-- The elements of window `p`. -/
def dstI (p : Fin 3 × Fin 7) : Finset S3x1792x768.Idx := (dstF p.1 p.2).view.set
theorem mem_dst (q : Fin 3) (k : Fin 7) (x : S3x1792x768.Idx) :
    x ∈ (dstF q k).view.set ↔ (x 0).val = q.val ∧ 256 * k.val ≤ (x 1).val ∧ (x 1).val < 256 * k.val + 256 := by
  rw [show (dstF q k).view.set = (Rect.unit (s := S3x1792x768) ![q.val, 256 * k.val, 0] S1x256x768.size (inbD q k)).set from
    (View.set_reshape _ _).trans (View.set_slice_whole _ _), Rect.mem_set_unit]
  refine Fin.forall_fin_succ.trans ?_
  rw [Fin.forall_fin_succ, Fin.forall_fin_one]
  have h2 : (x 2).val < 768 := (x 2).isLt
  constructor
  · rintro ⟨⟨a, b⟩, ⟨c, d⟩, -⟩
    change q.val ≤ (x 0).val at a; change (x 0).val < q.val + 1 at b
    exact ⟨by omega, c, d⟩
  · rintro ⟨a, b, c⟩
    refine ⟨⟨?_, ?_⟩, ⟨b, c⟩, ?_, ?_⟩
    · show q.val ≤ (x 0).val; omega
    · show (x 0).val < q.val + 1; omega
    · exact Nat.zero_le _
    · show (x 2).val < 0 + 768; omega
/-- The elements of window `p`. -/
def srcI (p : Fin 3 × Fin 7) : Finset S7x768x768.Idx := (srcF p.1 p.2).view.set
theorem mem_src (q : Fin 3) (k : Fin 7) (x : S7x768x768.Idx) :
    x ∈ (srcF q k).view.set ↔ (x 0).val = k.val ∧ 256 * q.val ≤ (x 1).val ∧ (x 1).val < 256 * q.val + 256 := by
  rw [show (srcF q k).view.set = (Rect.unit (s := S7x768x768) ![k.val, 256 * q.val, 0] S1x256x768.size (inbS q k)).set from
    (View.set_reshape _ _).trans (View.set_slice_whole _ _), Rect.mem_set_unit]
  refine Fin.forall_fin_succ.trans ?_
  rw [Fin.forall_fin_succ, Fin.forall_fin_one]
  have h2 : (x 2).val < 768 := (x 2).isLt
  constructor
  · rintro ⟨⟨a, b⟩, ⟨c, d⟩, -⟩
    change k.val ≤ (x 0).val at a; change (x 0).val < k.val + 1 at b
    exact ⟨by omega, c, d⟩
  · rintro ⟨a, b, c⟩
    refine ⟨⟨?_, ?_⟩, ⟨b, c⟩, ?_, ?_⟩
    · show k.val ≤ (x 0).val; omega
    · show (x 0).val < k.val + 1; omega
    · exact Nat.zero_le _
    · show (x 2).val < 0 + 768; omega
theorem mem_plane (q : Fin 3) (x : S3x1792x768.Idx) : x ∈ (planeF q).view.set ↔ (x 0).val = q.val := by
  rw [show (planeF q).view.set = (Rect.unit (s := S3x1792x768) ![q.val, 0, 0] S1x1792x768.size (inbP q)).set from
    (View.set_reshape _ _).trans (View.set_slice_whole _ _), Rect.mem_set_unit]
  refine Fin.forall_fin_succ.trans ?_
  rw [Fin.forall_fin_succ, Fin.forall_fin_one]
  have h2 : (x 2).val < 768 := (x 2).isLt
  have h1 : (x 1).val < 1792 := (x 1).isLt
  constructor
  · rintro ⟨⟨a, b⟩, -⟩
    change q.val ≤ (x 0).val at a; change (x 0).val < q.val + 1 at b
    omega
  · intro a
    refine ⟨⟨?_, ?_⟩, ⟨Nat.zero_le _, ?_⟩, Nat.zero_le _, ?_⟩
    · show q.val ≤ (x 0).val; omega
    · show (x 0).val < q.val + 1; omega
    · show (x 1).val < 0 + 1792; omega
    · show (x 2).val < 0 + 768; omega

/-- The weight buffer's contents once every copy has arrived, from the operand's: row `256 k + i` of plane `q` is row
    `256 q + i` of tap `k`. -/
def WF (c : Dev nD) (f4 : Bf (F := F) c sM) : Bf (F := F) c wM := fun (x : S3x1792x768.Idx) =>
  f4 (ix3 (n0 := 7) (n1 := 768) (n2 := 768) ⟨(x 1).val / 256, by have : (x 1).val < 1792 := (x 1).isLt; omega⟩
    ⟨256 * (x 0).val + (x 1).val % 256, by have : (x 0).val < 3 := (x 0).isLt; omega⟩ (x 2))

theorem emb_dst (q : Fin 3) (k : Fin 7) (a : Fin 256) (b : Fin 768) :
    (dstF q k).view.emb (ix2 a b) = ix3 (n0 := 3) (n1 := 1792) (n2 := 768) q ⟨256 * k.val + a.val, by omega⟩ b := by
  show ((View.whole cc0_scratch5).slice (Rect.unit (s := S3x1792x768) ![q.val, 256 * k.val, 0] S1x256x768.size (inbD q k))).emb (Shape.reshapeEquiv _ (ix2 a b)) = _
  rw [reshapeEquiv_ix2_1ab]
  funext d
  apply Fin.ext
  refine (ValueKit.view_emb_slice_whole_unit_val cc0_scratch5 _ _ (inbD q k) _ d).trans ?_
  match d with
  | ⟨0, _⟩ => rfl
  | ⟨1, _⟩ => rfl
  | ⟨2, _⟩ => show 0 + b.val = b.val; omega
theorem emb_src (q : Fin 3) (k : Fin 7) (a : Fin 256) (b : Fin 768) :
    (srcF q k).view.emb (ix2 a b) = ix3 (n0 := 7) (n1 := 768) (n2 := 768) k ⟨256 * q.val + a.val, by omega⟩ b := by
  show ((View.whole main_arg3).slice (Rect.unit (s := S7x768x768) ![k.val, 256 * q.val, 0] S1x256x768.size (inbS q k))).emb (Shape.reshapeEquiv _ (ix2 a b)) = _
  rw [reshapeEquiv_ix2_1ab]
  funext d
  apply Fin.ext
  refine (ValueKit.view_emb_slice_whole_unit_val main_arg3 _ _ (inbS q k) _ d).trans ?_
  match d with
  | ⟨0, _⟩ => rfl
  | ⟨1, _⟩ => rfl
  | ⟨2, _⟩ => show 0 + b.val = b.val; omega

/-- What copy `(q, k)` leaves in its window is the final contents there. -/
theorem landed (c : Dev nD) (q : Fin 3) (k : Fin 7) (f4 : Bf (F := F) c sM) (f13 : Bf (F := F) c wM)
    (x : S3x1792x768.Idx) (hx : x ∈ (dstF q k).view.set) :
    (dstF q k).view.writes (Elt F) f13 [⟨Rect.whole S256x768, ReadAs.same.apply ((srcF q k).view.read (Elt F) f4)⟩] x = WF c f4 x := by
  obtain ⟨j, rfl⟩ := View.exists_emb_of_mem_set (dstF q k).view hx
  rw [View.writes_singleton]
  have e : (dstF q k).view.emb j = ((dstF q k).view.slice (Rect.whole S256x768)).emb j :=
    congrArg (dstF q k).view.emb (Rect.emb_whole_apply S256x768 j).symm
  conv_lhs => rw [e]
  rw [View.write_emb_of_mem _ _ (Finset.mem_univ _)]
  show f4 ((srcF q k).view.emb j) = WF c f4 ((dstF q k).view.emb j)
  rw [show (dstF q k).view.emb j = _ from (congrArg (dstF q k).view.emb (eq_ix2 j)).trans (emb_dst q k (j 0) (j 1)),
    show (srcF q k).view.emb j = _ from (congrArg (srcF q k).view.emb (eq_ix2 j)).trans (emb_src q k (j 0) (j 1))]
  unfold WF
  congr 1
  have ha : (j 0).val < 256 := (j 0).isLt
  funext d
  apply Fin.ext
  match d with
  | ⟨0, _⟩ => show k.val = (256 * k.val + (j 0).val) / 256; omega
  | ⟨1, _⟩ => show 256 * q.val + (j 0).val = 256 * q.val + (256 * k.val + (j 0).val) % 256; omega
  | ⟨2, _⟩ => rfl

theorem own_landed (c : Dev nD) (q : Fin 3) (k : Fin 7) (f4 : Bf (F := F) c sM) (f13 : Bf (F := F) c wM) :
    (own c (dstF q k) ((dstF q k).view.writes (Elt F) f13 [⟨Rect.whole S256x768, ReadAs.same.apply ((srcF q k).view.read (Elt F) f4)⟩]) : sProp 𝕄)
      = own c (dstF q k) (WF c f4) :=
  pointsTo_congr (fun x hx => landed c q k f4 f13 x hx)

/-- The weight buffer held whole is its twenty-one windows held apart; the operand likewise. -/
theorem split_dst (c : Dev nD) (f : Bf (F := F) c wM) :
    (pt c wM f : sProp 𝕄) = bigSep Finset.univ fun p : Fin 3 × Fin 7 => own c (dstF p.1 p.2) f := by
  have hd : ∀ p p' : Fin 3 × Fin 7, p ≠ p' → Disjoint (dstI p) (dstI p') := by
    intro p p' hne
    rw [Finset.disjoint_left]
    intro x hx hx'
    unfold dstI at hx hx'
    rw [mem_dst] at hx hx'
    refine hne (Prod.ext (Fin.ext ?_) (Fin.ext ?_)) <;> omega
  have hc : Finset.univ.biUnion dstI = Finset.univ := by
    refine Finset.eq_univ_iff_forall.mpr fun (x : S3x1792x768.Idx) => ?_
    have h0 : (x 0).val < 3 := (x 0).isLt
    have h1 : (x 1).val < 1792 := (x 1).isLt
    refine Finset.mem_biUnion.mpr ⟨(⟨(x 0).val, h0⟩, ⟨(x 1).val / 256, by omega⟩), Finset.mem_univ _, ?_⟩
    unfold dstI
    rw [mem_dst]
    refine ⟨rfl, ?_, ?_⟩
    · show 256 * ((x 1).val / 256) ≤ _; omega
    · show _ < 256 * ((x 1).val / 256) + 256; omega
  exact Ring.pointsTo_blocks (ℓ := (c : Thread nD τ).loc cc0_scratch5) dstI hd hc f
theorem split_src (c : Dev nD) (f : Bf (F := F) c sM) :
    (pt c sM f : sProp 𝕄) = bigSep Finset.univ fun p : Fin 3 × Fin 7 => own c (srcF p.1 p.2) f := by
  have hd : ∀ p p' : Fin 3 × Fin 7, p ≠ p' → Disjoint (srcI p) (srcI p') := by
    intro p p' hne
    rw [Finset.disjoint_left]
    intro x hx hx'
    unfold srcI at hx hx'
    rw [mem_src] at hx hx'
    refine hne (Prod.ext (Fin.ext ?_) (Fin.ext ?_)) <;> omega
  have hc : Finset.univ.biUnion srcI = Finset.univ := by
    refine Finset.eq_univ_iff_forall.mpr fun (x : S7x768x768.Idx) => ?_
    have h0 : (x 0).val < 7 := (x 0).isLt
    have h1 : (x 1).val < 768 := (x 1).isLt
    refine Finset.mem_biUnion.mpr ⟨(⟨(x 1).val / 256, by omega⟩, ⟨(x 0).val, h0⟩), Finset.mem_univ _, ?_⟩
    unfold srcI
    rw [mem_src]
    refine ⟨rfl, ?_, ?_⟩
    · show 256 * ((x 1).val / 256) ≤ _; omega
    · show _ < 256 * ((x 1).val / 256) + 256; omega
  exact Ring.pointsTo_blocks (ℓ := (c : Thread nD τ).loc main_arg3) srcI hd hc f
/-- A plane of the weight buffer is its seven windows. -/
theorem split_plane (c : Dev nD) (q : Fin 3) (f : Bf (F := F) c wM) :
    (own c (planeF q) f : sProp 𝕄) = bigSep Finset.univ fun k : Fin 7 => own c (dstF q k) f := by
  have hd : ∀ k k' : Fin 7, k ≠ k' → Disjoint (dstF q k).view.set (dstF q k').view.set := by
    intro p p' hne
    rw [Finset.disjoint_left]
    intro x hx hx'
    rw [mem_dst] at hx hx'
    refine hne (Fin.ext ?_); omega
  have hc : Finset.univ.biUnion (fun k : Fin 7 => (dstF q k).view.set) = (planeF q).view.set := by
    ext x
    have h1 : ((x : S3x1792x768.Idx) 1).val < 1792 := ((x : S3x1792x768.Idx) 1).isLt
    rw [mem_plane, Finset.mem_biUnion]
    constructor
    · rintro ⟨k, -, hk⟩; rw [mem_dst] at hk; exact hk.1
    · intro h
      refine ⟨⟨((x : S3x1792x768.Idx) 1).val / 256, by omega⟩, Finset.mem_univ _, ?_⟩
      rw [mem_dst]
      refine ⟨h, ?_, ?_⟩
      · show 256 * (((x : S3x1792x768.Idx) 1).val / 256) ≤ _; omega
      · show _ < 256 * (((x : S3x1792x768.Idx) 1).val / 256) + 256; omega
  exact Ring.pointsTo_sub_blocks (ℓ := (c : Thread nD τ).loc cc0_scratch5) (fun k : Fin 7 => (dstF q k).view.set) hd _ hc f

/-- The kernel's own semaphore cells. -/
def osem0 : Fin 3 × Fin 7 → SemLoc sig := fun p => .dma ⟨10 + (7 * p.1.val + p.2.val), by have := p.1.isLt; have := p.2.isLt; show _ < 31; omega⟩
theorem osem0_eq : ∀ q : Fin 3, ∀ k : Fin 7, osem0 (q, k) = .dma (semF q k) := by decide
theorem ownSemFacts0 : Pipeline.OwnSemFacts spec0 osem0 := by decide

end Cert.Kernel.Prf
end
-- ==== Proof.KRun1.lean ====
module

public import proofs.«01_k».proof.Proof.KCommon
@[expose] public section
set_option maxRecDepth 16384
noncomputable section
namespace Cert.Kernel.Prf
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

set_option maxHeartbeats 4000000 in
/-- At the first point the 21 copies of weight blocks start, each on a semaphore cell of its own. -/
theorem run1 (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) (h : (let arg0 : BitVec 32 := BitVec.ofNat 32 (i 0).val; let v0 : BitVec 32 := Scalar.remsi arg0 3#32; let v1 : BitVec 32 := Scalar.addi arg0 3#32; let v2 : BitVec 32 := Scalar.subi v1 1#32; let v3 : BitVec 32 := Scalar.remsi v2 3#32; let v4 : BitVec 32 := Scalar.remsi arg0 2#32; let v5 : BitVec 1 := Scalar.cmpi .eq arg0 0#32; let v6 : BitVec 32 := Scalar.extui v5; let v7 : BitVec 1 := Scalar.cmpi .ne v6 0#32; v7) = 1#1)
    (f4 : Bf (F := F) c arg4) (f13 : Bf (F := F) c arg13) (kk : PUnit.{1} → Prog (TpuEff nD τ sig (Elt F) Λ₀ .tc) PUnit.{1}) (K : PUnit → sProp 𝕄) :
    iprop(own c (srcG arg4 ![0, 0, 0] inb_S7x768x768_S1x256x768_0_0_0) f4 ∗ own c (dstG arg13 ![0, 0, 0] inb_S3x1792x768_S1x256x768_0_0_0) f13 ∗ semVal ((c : Thread nD τ), .dma (semG arg15 ![0, 0] inb_S3x7_S1x1_0_0)) 0 ∗ own c (srcG arg4 ![1, 0, 0] inb_S7x768x768_S1x256x768_1_0_0) f4 ∗ own c (dstG arg13 ![0, 256, 0] inb_S3x1792x768_S1x256x768_0_256_0) f13 ∗ semVal ((c : Thread nD τ), .dma (semG arg15 ![0, 1] inb_S3x7_S1x1_0_1)) 0 ∗ own c (srcG arg4 ![2, 0, 0] inb_S7x768x768_S1x256x768_2_0_0) f4 ∗ own c (dstG arg13 ![0, 512, 0] inb_S3x1792x768_S1x256x768_0_512_0) f13 ∗ semVal ((c : Thread nD τ), .dma (semG arg15 ![0, 2] inb_S3x7_S1x1_0_2)) 0 ∗ own c (srcG arg4 ![3, 0, 0] inb_S7x768x768_S1x256x768_3_0_0) f4 ∗ own c (dstG arg13 ![0, 768, 0] inb_S3x1792x768_S1x256x768_0_768_0) f13 ∗ semVal ((c : Thread nD τ), .dma (semG arg15 ![0, 3] inb_S3x7_S1x1_0_3)) 0 ∗ own c (srcG arg4 ![4, 0, 0] inb_S7x768x768_S1x256x768_4_0_0) f4 ∗ own c (dstG arg13 ![0, 1024, 0] inb_S3x1792x768_S1x256x768_0_1024_0) f13 ∗ semVal ((c : Thread nD τ), .dma (semG arg15 ![0, 4] inb_S3x7_S1x1_0_4)) 0 ∗ own c (srcG arg4 ![5, 0, 0] inb_S7x768x768_S1x256x768_5_0_0) f4 ∗ own c (dstG arg13 ![0, 1280, 0] inb_S3x1792x768_S1x256x768_0_1280_0) f13 ∗ semVal ((c : Thread nD τ), .dma (semG arg15 ![0, 5] inb_S3x7_S1x1_0_5)) 0 ∗ own c (srcG arg4 ![6, 0, 0] inb_S7x768x768_S1x256x768_6_0_0) f4 ∗ own c (dstG arg13 ![0, 1536, 0] inb_S3x1792x768_S1x256x768_0_1536_0) f13 ∗ semVal ((c : Thread nD τ), .dma (semG arg15 ![0, 6] inb_S3x7_S1x1_0_6)) 0 ∗ own c (srcG arg4 ![0, 256, 0] inb_S7x768x768_S1x256x768_0_256_0) f4 ∗ own c (dstG arg13 ![1, 0, 0] inb_S3x1792x768_S1x256x768_1_0_0) f13 ∗ semVal ((c : Thread nD τ), .dma (semG arg15 ![1, 0] inb_S3x7_S1x1_1_0)) 0 ∗ own c (srcG arg4 ![1, 256, 0] inb_S7x768x768_S1x256x768_1_256_0) f4 ∗ own c (dstG arg13 ![1, 256, 0] inb_S3x1792x768_S1x256x768_1_256_0) f13 ∗ semVal ((c : Thread nD τ), .dma (semG arg15 ![1, 1] inb_S3x7_S1x1_1_1)) 0 ∗ own c (srcG arg4 ![2, 256, 0] inb_S7x768x768_S1x256x768_2_256_0) f4 ∗ own c (dstG arg13 ![1, 512, 0] inb_S3x1792x768_S1x256x768_1_512_0) f13 ∗ semVal ((c : Thread nD τ), .dma (semG arg15 ![1, 2] inb_S3x7_S1x1_1_2)) 0 ∗ own c (srcG arg4 ![3, 256, 0] inb_S7x768x768_S1x256x768_3_256_0) f4 ∗ own c (dstG arg13 ![1, 768, 0] inb_S3x1792x768_S1x256x768_1_768_0) f13 ∗ semVal ((c : Thread nD τ), .dma (semG arg15 ![1, 3] inb_S3x7_S1x1_1_3)) 0 ∗ own c (srcG arg4 ![4, 256, 0] inb_S7x768x768_S1x256x768_4_256_0) f4 ∗ own c (dstG arg13 ![1, 1024, 0] inb_S3x1792x768_S1x256x768_1_1024_0) f13 ∗ semVal ((c : Thread nD τ), .dma (semG arg15 ![1, 4] inb_S3x7_S1x1_1_4)) 0 ∗ own c (srcG arg4 ![5, 256, 0] inb_S7x768x768_S1x256x768_5_256_0) f4 ∗ own c (dstG arg13 ![1, 1280, 0] inb_S3x1792x768_S1x256x768_1_1280_0) f13 ∗ semVal ((c : Thread nD τ), .dma (semG arg15 ![1, 5] inb_S3x7_S1x1_1_5)) 0 ∗ own c (srcG arg4 ![6, 256, 0] inb_S7x768x768_S1x256x768_6_256_0) f4 ∗ own c (dstG arg13 ![1, 1536, 0] inb_S3x1792x768_S1x256x768_1_1536_0) f13 ∗ semVal ((c : Thread nD τ), .dma (semG arg15 ![1, 6] inb_S3x7_S1x1_1_6)) 0 ∗ own c (srcG arg4 ![0, 512, 0] inb_S7x768x768_S1x256x768_0_512_0) f4 ∗ own c (dstG arg13 ![2, 0, 0] inb_S3x1792x768_S1x256x768_2_0_0) f13 ∗ semVal ((c : Thread nD τ), .dma (semG arg15 ![2, 0] inb_S3x7_S1x1_2_0)) 0 ∗ own c (srcG arg4 ![1, 512, 0] inb_S7x768x768_S1x256x768_1_512_0) f4 ∗ own c (dstG arg13 ![2, 256, 0] inb_S3x1792x768_S1x256x768_2_256_0) f13 ∗ semVal ((c : Thread nD τ), .dma (semG arg15 ![2, 1] inb_S3x7_S1x1_2_1)) 0 ∗ own c (srcG arg4 ![2, 512, 0] inb_S7x768x768_S1x256x768_2_512_0) f4 ∗ own c (dstG arg13 ![2, 512, 0] inb_S3x1792x768_S1x256x768_2_512_0) f13 ∗ semVal ((c : Thread nD τ), .dma (semG arg15 ![2, 2] inb_S3x7_S1x1_2_2)) 0 ∗ own c (srcG arg4 ![3, 512, 0] inb_S7x768x768_S1x256x768_3_512_0) f4 ∗ own c (dstG arg13 ![2, 768, 0] inb_S3x1792x768_S1x256x768_2_768_0) f13 ∗ semVal ((c : Thread nD τ), .dma (semG arg15 ![2, 3] inb_S3x7_S1x1_2_3)) 0 ∗ own c (srcG arg4 ![4, 512, 0] inb_S7x768x768_S1x256x768_4_512_0) f4 ∗ own c (dstG arg13 ![2, 1024, 0] inb_S3x1792x768_S1x256x768_2_1024_0) f13 ∗ semVal ((c : Thread nD τ), .dma (semG arg15 ![2, 4] inb_S3x7_S1x1_2_4)) 0 ∗ own c (srcG arg4 ![5, 512, 0] inb_S7x768x768_S1x256x768_5_512_0) f4 ∗ own c (dstG arg13 ![2, 1280, 0] inb_S3x1792x768_S1x256x768_2_1280_0) f13 ∗ semVal ((c : Thread nD τ), .dma (semG arg15 ![2, 5] inb_S3x7_S1x1_2_5)) 0 ∗ own c (srcG arg4 ![6, 512, 0] inb_S7x768x768_S1x256x768_6_512_0) f4 ∗ own c (dstG arg13 ![2, 1536, 0] inb_S3x1792x768_S1x256x768_2_1536_0) f13 ∗ semVal ((c : Thread nD τ), .dma (semG arg15 ![2, 6] inb_S3x7_S1x1_2_6)) 0
        ∗ (iprop(Transfers.Flight countersEmb (c : Thread nD τ) (.dma (semG arg15 ![0, 0] inb_S3x7_S1x1_0_0)) default 6144 iprop(own c (dstG arg13 ![0, 0, 0] inb_S3x1792x768_S1x256x768_0_0_0) ((dstG arg13 ![0, 0, 0] inb_S3x1792x768_S1x256x768_0_0_0).view.writes (Elt F) f13 [⟨Rect.whole S256x768, ReadAs.same.apply ((srcG arg4 ![0, 0, 0] inb_S7x768x768_S1x256x768_0_0_0).view.read (Elt F) f4)⟩]) ∗ own c (srcG arg4 ![0, 0, 0] inb_S7x768x768_S1x256x768_0_0_0) f4) ∗ Transfers.Flight countersEmb (c : Thread nD τ) (.dma (semG arg15 ![0, 1] inb_S3x7_S1x1_0_1)) default 6144 iprop(own c (dstG arg13 ![0, 256, 0] inb_S3x1792x768_S1x256x768_0_256_0) ((dstG arg13 ![0, 256, 0] inb_S3x1792x768_S1x256x768_0_256_0).view.writes (Elt F) f13 [⟨Rect.whole S256x768, ReadAs.same.apply ((srcG arg4 ![1, 0, 0] inb_S7x768x768_S1x256x768_1_0_0).view.read (Elt F) f4)⟩]) ∗ own c (srcG arg4 ![1, 0, 0] inb_S7x768x768_S1x256x768_1_0_0) f4) ∗ Transfers.Flight countersEmb (c : Thread nD τ) (.dma (semG arg15 ![0, 2] inb_S3x7_S1x1_0_2)) default 6144 iprop(own c (dstG arg13 ![0, 512, 0] inb_S3x1792x768_S1x256x768_0_512_0) ((dstG arg13 ![0, 512, 0] inb_S3x1792x768_S1x256x768_0_512_0).view.writes (Elt F) f13 [⟨Rect.whole S256x768, ReadAs.same.apply ((srcG arg4 ![2, 0, 0] inb_S7x768x768_S1x256x768_2_0_0).view.read (Elt F) f4)⟩]) ∗ own c (srcG arg4 ![2, 0, 0] inb_S7x768x768_S1x256x768_2_0_0) f4) ∗ Transfers.Flight countersEmb (c : Thread nD τ) (.dma (semG arg15 ![0, 3] inb_S3x7_S1x1_0_3)) default 6144 iprop(own c (dstG arg13 ![0, 768, 0] inb_S3x1792x768_S1x256x768_0_768_0) ((dstG arg13 ![0, 768, 0] inb_S3x1792x768_S1x256x768_0_768_0).view.writes (Elt F) f13 [⟨Rect.whole S256x768, ReadAs.same.apply ((srcG arg4 ![3, 0, 0] inb_S7x768x768_S1x256x768_3_0_0).view.read (Elt F) f4)⟩]) ∗ own c (srcG arg4 ![3, 0, 0] inb_S7x768x768_S1x256x768_3_0_0) f4) ∗ Transfers.Flight countersEmb (c : Thread nD τ) (.dma (semG arg15 ![0, 4] inb_S3x7_S1x1_0_4)) default 6144 iprop(own c (dstG arg13 ![0, 1024, 0] inb_S3x1792x768_S1x256x768_0_1024_0) ((dstG arg13 ![0, 1024, 0] inb_S3x1792x768_S1x256x768_0_1024_0).view.writes (Elt F) f13 [⟨Rect.whole S256x768, ReadAs.same.apply ((srcG arg4 ![4, 0, 0] inb_S7x768x768_S1x256x768_4_0_0).view.read (Elt F) f4)⟩]) ∗ own c (srcG arg4 ![4, 0, 0] inb_S7x768x768_S1x256x768_4_0_0) f4) ∗ Transfers.Flight countersEmb (c : Thread nD τ) (.dma (semG arg15 ![0, 5] inb_S3x7_S1x1_0_5)) default 6144 iprop(own c (dstG arg13 ![0, 1280, 0] inb_S3x1792x768_S1x256x768_0_1280_0) ((dstG arg13 ![0, 1280, 0] inb_S3x1792x768_S1x256x768_0_1280_0).view.writes (Elt F) f13 [⟨Rect.whole S256x768, ReadAs.same.apply ((srcG arg4 ![5, 0, 0] inb_S7x768x768_S1x256x768_5_0_0).view.read (Elt F) f4)⟩]) ∗ own c (srcG arg4 ![5, 0, 0] inb_S7x768x768_S1x256x768_5_0_0) f4) ∗ Transfers.Flight countersEmb (c : Thread nD τ) (.dma (semG arg15 ![0, 6] inb_S3x7_S1x1_0_6)) default 6144 iprop(own c (dstG arg13 ![0, 1536, 0] inb_S3x1792x768_S1x256x768_0_1536_0) ((dstG arg13 ![0, 1536, 0] inb_S3x1792x768_S1x256x768_0_1536_0).view.writes (Elt F) f13 [⟨Rect.whole S256x768, ReadAs.same.apply ((srcG arg4 ![6, 0, 0] inb_S7x768x768_S1x256x768_6_0_0).view.read (Elt F) f4)⟩]) ∗ own c (srcG arg4 ![6, 0, 0] inb_S7x768x768_S1x256x768_6_0_0) f4) ∗ Transfers.Flight countersEmb (c : Thread nD τ) (.dma (semG arg15 ![1, 0] inb_S3x7_S1x1_1_0)) default 6144 iprop(own c (dstG arg13 ![1, 0, 0] inb_S3x1792x768_S1x256x768_1_0_0) ((dstG arg13 ![1, 0, 0] inb_S3x1792x768_S1x256x768_1_0_0).view.writes (Elt F) f13 [⟨Rect.whole S256x768, ReadAs.same.apply ((srcG arg4 ![0, 256, 0] inb_S7x768x768_S1x256x768_0_256_0).view.read (Elt F) f4)⟩]) ∗ own c (srcG arg4 ![0, 256, 0] inb_S7x768x768_S1x256x768_0_256_0) f4) ∗ Transfers.Flight countersEmb (c : Thread nD τ) (.dma (semG arg15 ![1, 1] inb_S3x7_S1x1_1_1)) default 6144 iprop(own c (dstG arg13 ![1, 256, 0] inb_S3x1792x768_S1x256x768_1_256_0) ((dstG arg13 ![1, 256, 0] inb_S3x1792x768_S1x256x768_1_256_0).view.writes (Elt F) f13 [⟨Rect.whole S256x768, ReadAs.same.apply ((srcG arg4 ![1, 256, 0] inb_S7x768x768_S1x256x768_1_256_0).view.read (Elt F) f4)⟩]) ∗ own c (srcG arg4 ![1, 256, 0] inb_S7x768x768_S1x256x768_1_256_0) f4) ∗ Transfers.Flight countersEmb (c : Thread nD τ) (.dma (semG arg15 ![1, 2] inb_S3x7_S1x1_1_2)) default 6144 iprop(own c (dstG arg13 ![1, 512, 0] inb_S3x1792x768_S1x256x768_1_512_0) ((dstG arg13 ![1, 512, 0] inb_S3x1792x768_S1x256x768_1_512_0).view.writes (Elt F) f13 [⟨Rect.whole S256x768, ReadAs.same.apply ((srcG arg4 ![2, 256, 0] inb_S7x768x768_S1x256x768_2_256_0).view.read (Elt F) f4)⟩]) ∗ own c (srcG arg4 ![2, 256, 0] inb_S7x768x768_S1x256x768_2_256_0) f4) ∗ Transfers.Flight countersEmb (c : Thread nD τ) (.dma (semG arg15 ![1, 3] inb_S3x7_S1x1_1_3)) default 6144 iprop(own c (dstG arg13 ![1, 768, 0] inb_S3x1792x768_S1x256x768_1_768_0) ((dstG arg13 ![1, 768, 0] inb_S3x1792x768_S1x256x768_1_768_0).view.writes (Elt F) f13 [⟨Rect.whole S256x768, ReadAs.same.apply ((srcG arg4 ![3, 256, 0] inb_S7x768x768_S1x256x768_3_256_0).view.read (Elt F) f4)⟩]) ∗ own c (srcG arg4 ![3, 256, 0] inb_S7x768x768_S1x256x768_3_256_0) f4) ∗ Transfers.Flight countersEmb (c : Thread nD τ) (.dma (semG arg15 ![1, 4] inb_S3x7_S1x1_1_4)) default 6144 iprop(own c (dstG arg13 ![1, 1024, 0] inb_S3x1792x768_S1x256x768_1_1024_0) ((dstG arg13 ![1, 1024, 0] inb_S3x1792x768_S1x256x768_1_1024_0).view.writes (Elt F) f13 [⟨Rect.whole S256x768, ReadAs.same.apply ((srcG arg4 ![4, 256, 0] inb_S7x768x768_S1x256x768_4_256_0).view.read (Elt F) f4)⟩]) ∗ own c (srcG arg4 ![4, 256, 0] inb_S7x768x768_S1x256x768_4_256_0) f4) ∗ Transfers.Flight countersEmb (c : Thread nD τ) (.dma (semG arg15 ![1, 5] inb_S3x7_S1x1_1_5)) default 6144 iprop(own c (dstG arg13 ![1, 1280, 0] inb_S3x1792x768_S1x256x768_1_1280_0) ((dstG arg13 ![1, 1280, 0] inb_S3x1792x768_S1x256x768_1_1280_0).view.writes (Elt F) f13 [⟨Rect.whole S256x768, ReadAs.same.apply ((srcG arg4 ![5, 256, 0] inb_S7x768x768_S1x256x768_5_256_0).view.read (Elt F) f4)⟩]) ∗ own c (srcG arg4 ![5, 256, 0] inb_S7x768x768_S1x256x768_5_256_0) f4) ∗ Transfers.Flight countersEmb (c : Thread nD τ) (.dma (semG arg15 ![1, 6] inb_S3x7_S1x1_1_6)) default 6144 iprop(own c (dstG arg13 ![1, 1536, 0] inb_S3x1792x768_S1x256x768_1_1536_0) ((dstG arg13 ![1, 1536, 0] inb_S3x1792x768_S1x256x768_1_1536_0).view.writes (Elt F) f13 [⟨Rect.whole S256x768, ReadAs.same.apply ((srcG arg4 ![6, 256, 0] inb_S7x768x768_S1x256x768_6_256_0).view.read (Elt F) f4)⟩]) ∗ own c (srcG arg4 ![6, 256, 0] inb_S7x768x768_S1x256x768_6_256_0) f4) ∗ Transfers.Flight countersEmb (c : Thread nD τ) (.dma (semG arg15 ![2, 0] inb_S3x7_S1x1_2_0)) default 6144 iprop(own c (dstG arg13 ![2, 0, 0] inb_S3x1792x768_S1x256x768_2_0_0) ((dstG arg13 ![2, 0, 0] inb_S3x1792x768_S1x256x768_2_0_0).view.writes (Elt F) f13 [⟨Rect.whole S256x768, ReadAs.same.apply ((srcG arg4 ![0, 512, 0] inb_S7x768x768_S1x256x768_0_512_0).view.read (Elt F) f4)⟩]) ∗ own c (srcG arg4 ![0, 512, 0] inb_S7x768x768_S1x256x768_0_512_0) f4) ∗ Transfers.Flight countersEmb (c : Thread nD τ) (.dma (semG arg15 ![2, 1] inb_S3x7_S1x1_2_1)) default 6144 iprop(own c (dstG arg13 ![2, 256, 0] inb_S3x1792x768_S1x256x768_2_256_0) ((dstG arg13 ![2, 256, 0] inb_S3x1792x768_S1x256x768_2_256_0).view.writes (Elt F) f13 [⟨Rect.whole S256x768, ReadAs.same.apply ((srcG arg4 ![1, 512, 0] inb_S7x768x768_S1x256x768_1_512_0).view.read (Elt F) f4)⟩]) ∗ own c (srcG arg4 ![1, 512, 0] inb_S7x768x768_S1x256x768_1_512_0) f4) ∗ Transfers.Flight countersEmb (c : Thread nD τ) (.dma (semG arg15 ![2, 2] inb_S3x7_S1x1_2_2)) default 6144 iprop(own c (dstG arg13 ![2, 512, 0] inb_S3x1792x768_S1x256x768_2_512_0) ((dstG arg13 ![2, 512, 0] inb_S3x1792x768_S1x256x768_2_512_0).view.writes (Elt F) f13 [⟨Rect.whole S256x768, ReadAs.same.apply ((srcG arg4 ![2, 512, 0] inb_S7x768x768_S1x256x768_2_512_0).view.read (Elt F) f4)⟩]) ∗ own c (srcG arg4 ![2, 512, 0] inb_S7x768x768_S1x256x768_2_512_0) f4) ∗ Transfers.Flight countersEmb (c : Thread nD τ) (.dma (semG arg15 ![2, 3] inb_S3x7_S1x1_2_3)) default 6144 iprop(own c (dstG arg13 ![2, 768, 0] inb_S3x1792x768_S1x256x768_2_768_0) ((dstG arg13 ![2, 768, 0] inb_S3x1792x768_S1x256x768_2_768_0).view.writes (Elt F) f13 [⟨Rect.whole S256x768, ReadAs.same.apply ((srcG arg4 ![3, 512, 0] inb_S7x768x768_S1x256x768_3_512_0).view.read (Elt F) f4)⟩]) ∗ own c (srcG arg4 ![3, 512, 0] inb_S7x768x768_S1x256x768_3_512_0) f4) ∗ Transfers.Flight countersEmb (c : Thread nD τ) (.dma (semG arg15 ![2, 4] inb_S3x7_S1x1_2_4)) default 6144 iprop(own c (dstG arg13 ![2, 1024, 0] inb_S3x1792x768_S1x256x768_2_1024_0) ((dstG arg13 ![2, 1024, 0] inb_S3x1792x768_S1x256x768_2_1024_0).view.writes (Elt F) f13 [⟨Rect.whole S256x768, ReadAs.same.apply ((srcG arg4 ![4, 512, 0] inb_S7x768x768_S1x256x768_4_512_0).view.read (Elt F) f4)⟩]) ∗ own c (srcG arg4 ![4, 512, 0] inb_S7x768x768_S1x256x768_4_512_0) f4) ∗ Transfers.Flight countersEmb (c : Thread nD τ) (.dma (semG arg15 ![2, 5] inb_S3x7_S1x1_2_5)) default 6144 iprop(own c (dstG arg13 ![2, 1280, 0] inb_S3x1792x768_S1x256x768_2_1280_0) ((dstG arg13 ![2, 1280, 0] inb_S3x1792x768_S1x256x768_2_1280_0).view.writes (Elt F) f13 [⟨Rect.whole S256x768, ReadAs.same.apply ((srcG arg4 ![5, 512, 0] inb_S7x768x768_S1x256x768_5_512_0).view.read (Elt F) f4)⟩]) ∗ own c (srcG arg4 ![5, 512, 0] inb_S7x768x768_S1x256x768_5_512_0) f4) ∗ Transfers.Flight countersEmb (c : Thread nD τ) (.dma (semG arg15 ![2, 6] inb_S3x7_S1x1_2_6)) default 6144 iprop(own c (dstG arg13 ![2, 1536, 0] inb_S3x1792x768_S1x256x768_2_1536_0) ((dstG arg13 ![2, 1536, 0] inb_S3x1792x768_S1x256x768_2_1536_0).view.writes (Elt F) f13 [⟨Rect.whole S256x768, ReadAs.same.apply ((srcG arg4 ![6, 512, 0] inb_S7x768x768_S1x256x768_6_512_0).view.read (Elt F) f4)⟩]) ∗ own c (srcG arg4 ![6, 512, 0] inb_S7x768x768_S1x256x768_6_512_0) f4)) -∗ wp frame (wpE (defs₀ (F := F)) Variants.none c none) Set.univ (kk ⟨⟩) K))
      ⊢ wp frame (wpE (defs₀ (F := F)) Variants.none c none) Set.univ (region1 i arg1 harg1 arg2 harg2 arg3 harg3 arg4 harg4 arg5 harg5 arg6 harg6 arg7 harg7 arg8 harg8 arg9 harg9 arg10 harg10 arg11 harg11 arg12 harg12 arg13 harg13 arg14 harg14 arg15 h kk) K := by
  unfold region1
  iintro ⟨R00, D00, S00, R01, D01, S01, R02, D02, S02, R03, D03, S03, R04, D04, S04, R05, D05, S05, R06, D06, S06, R10, D10, S10, R11, D11, S11, R12, D12, S12, R13, D13, S13, R14, D14, S14, R15, D15, S15, R16, D16, S16, R20, D20, S20, R21, D21, S21, R22, D22, S22, R23, D23, S23, R24, D24, S24, R25, D25, S25, R26, D26, S26, Hk⟩
  sl_exec_parts
  iapply Hk
  isplitl [S00]; · iexact S00
  isplitl [S01]; · iexact S01
  isplitl [S02]; · iexact S02
  isplitl [S03]; · iexact S03
  isplitl [S04]; · iexact S04
  isplitl [S05]; · iexact S05
  isplitl [S06]; · iexact S06
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S20]; · iexact S20
  isplitl [S21]; · iexact S21
  isplitl [S22]; · iexact S22
  isplitl [S23]; · iexact S23
  isplitl [S24]; · iexact S24
  isplitl [S25]; · iexact S25
  iexact S26

end Cert.Kernel.Prf
end
-- ==== Proof.KRun2.lean ====
module

public import proofs.«01_k».proof.Proof.KCommon
@[expose] public section
set_option maxRecDepth 16384
noncomputable section
namespace Cert.Kernel.Prf
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

/-- A point that waits for one group of seven copies gets their windows back, each at the contents the copy delivers. -/
theorem run2 (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) (h : k0_cond2 i = 1#1)
    (W : Waits sig Unit) (f4 : Bf (F := F) c arg4) (f13 : Bf (F := F) c arg13) (kk : PUnit.{1} → Prog (TpuEff nD τ sig (Elt F) Λ₀ .tc) PUnit.{1}) (K : PUnit → sProp 𝕄) :
    iprop(owes (c : Thread nD τ) 0 W ∗ Transfers.Flight countersEmb (c : Thread nD τ) (.dma (semG arg15 (k0_off1 i) (k0_off1_inb i h))) default 6144 iprop(own c (dstG arg13 (k0_off2 i) (k0_off2_inb i h)) f13 ∗ own c (srcG arg4 (k0_off3 i) (k0_off3_inb i h)) f4) ∗ Transfers.Flight countersEmb (c : Thread nD τ) (.dma (semG arg15 (k0_off4 i) (k0_off4_inb i h))) default 6144 iprop(own c (dstG arg13 (k0_off5 i) (k0_off5_inb i h)) f13 ∗ own c (srcG arg4 (k0_off6 i) (k0_off6_inb i h)) f4) ∗ Transfers.Flight countersEmb (c : Thread nD τ) (.dma (semG arg15 (k0_off7 i) (k0_off7_inb i h))) default 6144 iprop(own c (dstG arg13 (k0_off8 i) (k0_off8_inb i h)) f13 ∗ own c (srcG arg4 (k0_off9 i) (k0_off9_inb i h)) f4) ∗ Transfers.Flight countersEmb (c : Thread nD τ) (.dma (semG arg15 (k0_off10 i) (k0_off10_inb i h))) default 6144 iprop(own c (dstG arg13 (k0_off11 i) (k0_off11_inb i h)) f13 ∗ own c (srcG arg4 (k0_off12 i) (k0_off12_inb i h)) f4) ∗ Transfers.Flight countersEmb (c : Thread nD τ) (.dma (semG arg15 (k0_off13 i) (k0_off13_inb i h))) default 6144 iprop(own c (dstG arg13 (k0_off14 i) (k0_off14_inb i h)) f13 ∗ own c (srcG arg4 (k0_off15 i) (k0_off15_inb i h)) f4) ∗ Transfers.Flight countersEmb (c : Thread nD τ) (.dma (semG arg15 (k0_off16 i) (k0_off16_inb i h))) default 6144 iprop(own c (dstG arg13 (k0_off17 i) (k0_off17_inb i h)) f13 ∗ own c (srcG arg4 (k0_off18 i) (k0_off18_inb i h)) f4) ∗ Transfers.Flight countersEmb (c : Thread nD τ) (.dma (semG arg15 (k0_off19 i) (k0_off19_inb i h))) default 6144 iprop(own c (dstG arg13 (k0_off20 i) (k0_off20_inb i h)) f13 ∗ own c (srcG arg4 (k0_off21 i) (k0_off21_inb i h)) f4)
        ∗ (iprop((∃ W, owes (c : Thread nD τ) 0 W) ∗ own c (dstG arg13 (k0_off2 i) (k0_off2_inb i h)) f13 ∗ own c (srcG arg4 (k0_off3 i) (k0_off3_inb i h)) f4 ∗ semVal ((c : Thread nD τ), .dma (semG arg15 (k0_off1 i) (k0_off1_inb i h))) 0 ∗ own c (dstG arg13 (k0_off5 i) (k0_off5_inb i h)) f13 ∗ own c (srcG arg4 (k0_off6 i) (k0_off6_inb i h)) f4 ∗ semVal ((c : Thread nD τ), .dma (semG arg15 (k0_off4 i) (k0_off4_inb i h))) 0 ∗ own c (dstG arg13 (k0_off8 i) (k0_off8_inb i h)) f13 ∗ own c (srcG arg4 (k0_off9 i) (k0_off9_inb i h)) f4 ∗ semVal ((c : Thread nD τ), .dma (semG arg15 (k0_off7 i) (k0_off7_inb i h))) 0 ∗ own c (dstG arg13 (k0_off11 i) (k0_off11_inb i h)) f13 ∗ own c (srcG arg4 (k0_off12 i) (k0_off12_inb i h)) f4 ∗ semVal ((c : Thread nD τ), .dma (semG arg15 (k0_off10 i) (k0_off10_inb i h))) 0 ∗ own c (dstG arg13 (k0_off14 i) (k0_off14_inb i h)) f13 ∗ own c (srcG arg4 (k0_off15 i) (k0_off15_inb i h)) f4 ∗ semVal ((c : Thread nD τ), .dma (semG arg15 (k0_off13 i) (k0_off13_inb i h))) 0 ∗ own c (dstG arg13 (k0_off17 i) (k0_off17_inb i h)) f13 ∗ own c (srcG arg4 (k0_off18 i) (k0_off18_inb i h)) f4 ∗ semVal ((c : Thread nD τ), .dma (semG arg15 (k0_off16 i) (k0_off16_inb i h))) 0 ∗ own c (dstG arg13 (k0_off20 i) (k0_off20_inb i h)) f13 ∗ own c (srcG arg4 (k0_off21 i) (k0_off21_inb i h)) f4 ∗ semVal ((c : Thread nD τ), .dma (semG arg15 (k0_off19 i) (k0_off19_inb i h))) 0) -∗ wp frame (wpE (defs₀ (F := F)) Variants.none c none) Set.univ (kk ⟨⟩) K))
      ⊢ wp frame (wpE (defs₀ (F := F)) Variants.none c none) Set.univ (region2 i arg1 harg1 arg2 harg2 arg3 harg3 arg4 harg4 arg5 harg5 arg6 harg6 arg7 harg7 arg8 harg8 arg9 harg9 arg10 harg10 arg11 harg11 arg12 harg12 arg13 harg13 arg14 harg14 arg15 h kk) K := by
  unfold region2
  iintro ⟨HO, F0, F1, F2, F3, F4, F5, F6, Hk⟩
  sl_exec_parts
  iapply Hk
  isplitl [HO]; · iexists _; iexact HO
  isplitl [F0_dst]; · iexact F0_dst
  isplitl [F0_src]; · iexact F0_src
  isplitl [F0]; · iexact F0
  isplitl [F1_dst]; · iexact F1_dst
  isplitl [F1_src]; · iexact F1_src
  isplitl [F1]; · iexact F1
  isplitl [F2_dst]; · iexact F2_dst
  isplitl [F2_src]; · iexact F2_src
  isplitl [F2]; · iexact F2
  isplitl [F3_dst]; · iexact F3_dst
  isplitl [F3_src]; · iexact F3_src
  isplitl [F3]; · iexact F3
  isplitl [F4_dst]; · iexact F4_dst
  isplitl [F4_src]; · iexact F4_src
  isplitl [F4]; · iexact F4
  isplitl [F5_dst]; · iexact F5_dst
  isplitl [F5_src]; · iexact F5_src
  isplitl [F5]; · iexact F5
  isplitl [F6_dst]; · iexact F6_dst
  isplitl [F6_src]; · iexact F6_src
  iexact F6

end Cert.Kernel.Prf
end
-- ==== Proof.KRun3.lean ====
module

public import proofs.«01_k».proof.Proof.KCommon
@[expose] public section
set_option maxRecDepth 16384
noncomputable section
namespace Cert.Kernel.Prf
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

/-- The part that fills one slot of the activation buffer, and what it leaves there. -/
def run3 (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) (h : k0_cond3 i = 1#1)
    (f1 : Bf (F := F) c arg1) (f2 : Bf (F := F) c arg2) (f8 : Bf (F := F) c arg8) (f9 : Bf (F := F) c arg9) (f10 : Bf (F := F) c arg10) (f12 : Bf (F := F) c arg12) :
    { W : Bf (F := F) c arg12 //
      ∀ (kk : PUnit.{1} → Prog (TpuEff nD τ sig (Elt F) Λ₀ .tc) PUnit.{1}) (K : PUnit → sProp 𝕄),
        iprop(pt c arg1 f1 ∗ pt c arg2 f2 ∗ pt c arg8 f8 ∗ pt c arg9 f9 ∗ pt c arg10 f10 ∗ pt c arg12 f12
            ∗ (iprop(pt c arg1 f1 ∗ pt c arg2 f2 ∗ (∃ f, pt c arg8 f) ∗ (∃ f, pt c arg9 f) ∗ (∃ f, pt c arg10 f) ∗ pt c arg12 W) -∗ wp frame (wpE (defs₀ (F := F)) Variants.none c none) Set.univ (kk ⟨⟩) K))
          ⊢ wp frame (wpE (defs₀ (F := F)) Variants.none c none) Set.univ (region3 i arg1 harg1 arg2 harg2 arg3 harg3 arg4 harg4 arg5 harg5 arg6 harg6 arg7 harg7 arg8 harg8 arg9 harg9 arg10 harg10 arg11 harg11 arg12 harg12 arg13 harg13 arg14 harg14 arg15 h kk) K } := by
  refine ⟨?_, fun kk K => ?run⟩
  case run =>
    unfold region3
    iintro ⟨H1, H2, H8, H9, H10, H12, Hk⟩
    sl_exec_parts
    iapply Hk
    isplitl [H1]; · iexact H1
    isplitl [H2]; · iexact H2
    isplitl [H8]; · iexists _; iexact H8
    isplitl [H9]; · iexists _; iexact H9
    isplitl [H10]; · iexists _; iexact H10
    iexact H12

end Cert.Kernel.Prf
end
-- ==== Proof.KRun4.lean ====
module

public import proofs.«01_k».proof.Proof.KCommon
@[expose] public section
set_option maxRecDepth 16384
noncomputable section
namespace Cert.Kernel.Prf
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

/-- The part that clears the accumulator. -/
def run4 (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) (h : (let arg0 : BitVec 32 := BitVec.ofNat 32 (i 0).val; let v0 : BitVec 32 := Scalar.remsi arg0 3#32; let v1 : BitVec 32 := Scalar.addi arg0 3#32; let v2 : BitVec 32 := Scalar.subi v1 1#32; let v3 : BitVec 32 := Scalar.remsi v2 3#32; let v4 : BitVec 32 := Scalar.remsi arg0 2#32; let v5 : BitVec 1 := Scalar.cmpi .eq arg0 0#32; let v6 : BitVec 32 := Scalar.extui v5; let v7 : BitVec 1 := Scalar.cmpi .ne v6 0#32; let v16 : BitVec 1 := Scalar.cmpi .sge arg0 1#32; let v17 : BitVec 1 := Scalar.cmpi .eq v3 0#32; let v18 : BitVec 1 := Scalar.andi v16 v17; let v19 : BitVec 32 := Scalar.extui v18; let v20 : BitVec 1 := Scalar.cmpi .ne v19 0#32; v20) = 1#1)
    (f14 : Bf (F := F) c arg14) :
    { W : Bf (F := F) c arg14 //
      ∀ (kk : PUnit.{1} → Prog (TpuEff nD τ sig (Elt F) Λ₀ .tc) PUnit.{1}) (K : PUnit → sProp 𝕄),
        iprop(pt c arg14 f14
            ∗ (iprop(pt c arg14 W) -∗ wp frame (wpE (defs₀ (F := F)) Variants.none c none) Set.univ (kk ⟨⟩) K))
          ⊢ wp frame (wpE (defs₀ (F := F)) Variants.none c none) Set.univ (region4 i arg1 harg1 arg2 harg2 arg3 harg3 arg4 harg4 arg5 harg5 arg6 harg6 arg7 harg7 arg8 harg8 arg9 harg9 arg10 harg10 arg11 harg11 arg12 harg12 arg13 harg13 arg14 harg14 arg15 h kk) K } := by
  refine ⟨?_, fun kk K => ?run⟩
  case run =>
    unfold region4
    iintro ⟨H14, Hk⟩
    sl_exec_parts
    iapply Hk
    iexact H14

end Cert.Kernel.Prf
end
-- ==== Proof.KRun5.lean ====
module

public import proofs.«01_k».proof.Proof.KCommon
@[expose] public section
set_option maxRecDepth 16384
noncomputable section
namespace Cert.Kernel.Prf
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

/-- The part that adds one group of input channels into the accumulator, and what it leaves there. Of the weights it holds the plane of that group only. -/
def run5 (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) (h : k0_cond5 i = 1#1)
    (f12 : Bf (F := F) c arg12) (f13 : Bf (F := F) c arg13) (f14 : Bf (F := F) c arg14) :
    { W : Bf (F := F) c arg14 //
      ∀ (kk : PUnit.{1} → Prog (TpuEff nD τ sig (Elt F) Λ₀ .tc) PUnit.{1}) (K : PUnit → sProp 𝕄),
        iprop(pt c arg12 f12 ∗ (((arg13.slice (Rect.unit (s := S3x1792x768) (k0_off100 i) S1x1792x768.size (k0_off100_inb i h)) (fun _ => rfl)).squeeze S1792x768 squeezes_S1x1792x768_S1792x768).view.loc (c : Thread nD τ) ↦[((arg13.slice (Rect.unit (s := S3x1792x768) (k0_off100 i) S1x1792x768.size (k0_off100_inb i h)) (fun _ => rfl)).squeeze S1792x768 squeezes_S1x1792x768_S1792x768).view.set]{fullShare} f13) ∗ pt c arg14 f14
            ∗ (iprop(pt c arg12 f12 ∗ (((arg13.slice (Rect.unit (s := S3x1792x768) (k0_off100 i) S1x1792x768.size (k0_off100_inb i h)) (fun _ => rfl)).squeeze S1792x768 squeezes_S1x1792x768_S1792x768).view.loc (c : Thread nD τ) ↦[((arg13.slice (Rect.unit (s := S3x1792x768) (k0_off100 i) S1x1792x768.size (k0_off100_inb i h)) (fun _ => rfl)).squeeze S1792x768 squeezes_S1x1792x768_S1792x768).view.set]{fullShare} f13) ∗ pt c arg14 W) -∗ wp frame (wpE (defs₀ (F := F)) Variants.none c none) Set.univ (kk ⟨⟩) K))
          ⊢ wp frame (wpE (defs₀ (F := F)) Variants.none c none) Set.univ (region5 i arg1 harg1 arg2 harg2 arg3 harg3 arg4 harg4 arg5 harg5 arg6 harg6 arg7 harg7 arg8 harg8 arg9 harg9 arg10 harg10 arg11 harg11 arg12 harg12 arg13 harg13 arg14 harg14 arg15 h kk) K } := by
  refine ⟨?_, fun kk K => ?run⟩
  case run =>
    have hS0 : ((arg13.slice (Rect.unit (s := S3x1792x768) (k0_off100 i) S1x1792x768.size (k0_off100_inb i h)) (fun _ => rfl)).squeeze S1792x768 squeezes_S1x1792x768_S1792x768).view.setOn (Rect.unit (s := S1792x768) ![0, 0] S1792x256.size inb_S1792x768_S1792x256_0_0).toLoadRect.set ⊆ ((arg13.slice (Rect.unit (s := S3x1792x768) (k0_off100 i) S1x1792x768.size (k0_off100_inb i h)) (fun _ => rfl)).squeeze S1792x768 squeezes_S1x1792x768_S1792x768).view.set := View.setOn_subset_set _ _
    have hS256 : ((arg13.slice (Rect.unit (s := S3x1792x768) (k0_off100 i) S1x1792x768.size (k0_off100_inb i h)) (fun _ => rfl)).squeeze S1792x768 squeezes_S1x1792x768_S1792x768).view.setOn (Rect.unit (s := S1792x768) ![0, 256] S1792x256.size inb_S1792x768_S1792x256_0_256).toLoadRect.set ⊆ ((arg13.slice (Rect.unit (s := S3x1792x768) (k0_off100 i) S1x1792x768.size (k0_off100_inb i h)) (fun _ => rfl)).squeeze S1792x768 squeezes_S1x1792x768_S1792x768).view.set := View.setOn_subset_set _ _
    have hS512 : ((arg13.slice (Rect.unit (s := S3x1792x768) (k0_off100 i) S1x1792x768.size (k0_off100_inb i h)) (fun _ => rfl)).squeeze S1792x768 squeezes_S1x1792x768_S1792x768).view.setOn (Rect.unit (s := S1792x768) ![0, 512] S1792x256.size inb_S1792x768_S1792x256_0_512).toLoadRect.set ⊆ ((arg13.slice (Rect.unit (s := S3x1792x768) (k0_off100 i) S1x1792x768.size (k0_off100_inb i h)) (fun _ => rfl)).squeeze S1792x768 squeezes_S1x1792x768_S1792x768).view.set := View.setOn_subset_set _ _
    unfold region5
    iintro ⟨H12, H13, H14, Hk⟩
    sl_exec_parts
    iapply Hk
    isplitl [H12]; · iexact H12
    isplitl [H13]; · iexact H13
    iexact H14

end Cert.Kernel.Prf
end
-- ==== Proof.KRun6.lean ====
module

public import proofs.«01_k».proof.Proof.KCommon
@[expose] public section
set_option maxRecDepth 16384
noncomputable section
namespace Cert.Kernel.Prf
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

/-- The part that writes one batch of the result, and what it leaves in the block. -/
def run6 (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) (h : k0_cond6 i = 1#1)
    (f3 : Bf (F := F) c arg3) (f5 : Bf (F := F) c arg5) (f6 : Bf (F := F) c arg6) (f7 : Bf (F := F) c arg7) (f11 : Bf (F := F) c arg11) (f14 : Bf (F := F) c arg14) :
    { W : Bf (F := F) c arg7 //
      ∀ (kk : PUnit.{1} → Prog (TpuEff nD τ sig (Elt F) Λ₀ .tc) PUnit.{1}) (K : PUnit → sProp 𝕄),
        iprop(pt c arg3 f3 ∗ pt c arg5 f5 ∗ pt c arg6 f6 ∗ pt c arg7 f7 ∗ pt c arg11 f11 ∗ pt c arg14 f14
            ∗ (iprop(pt c arg3 f3 ∗ pt c arg5 f5 ∗ pt c arg6 f6 ∗ pt c arg7 W ∗ (∃ f, pt c arg11 f) ∗ pt c arg14 f14) -∗ wp frame (wpE (defs₀ (F := F)) Variants.none c none) Set.univ (kk ⟨⟩) K))
          ⊢ wp frame (wpE (defs₀ (F := F)) Variants.none c none) Set.univ (region6 i arg1 harg1 arg2 harg2 arg3 harg3 arg4 harg4 arg5 harg5 arg6 harg6 arg7 harg7 arg8 harg8 arg9 harg9 arg10 harg10 arg11 harg11 arg12 harg12 arg13 harg13 arg14 harg14 arg15 h kk) K } := by
  refine ⟨?_, fun kk K => ?run⟩
  case run =>
    unfold region6
    iintro ⟨H3, H5, H6, H7, H11, H14, Hk⟩
    sl_exec_parts
    iapply Hk
    isplitl [H3]; · iexact H3
    isplitl [H5]; · iexact H5
    isplitl [H6]; · iexact H6
    isplitl [H7]; · iexact H7
    isplitl [H11]; · iexists _; iexact H11
    iexact H14

end Cert.Kernel.Prf
end
-- ==== Proof.KStep.lean ====
/- Each guarded part of the body, taken or skipped, as one step on what the proof holds. -/
module

public import proofs.«01_k».proof.Proof.KWts
public import proofs.«01_k».proof.Proof.KRun1
public import proofs.«01_k».proof.Proof.KRun2
public import proofs.«01_k».proof.Proof.KRun3
public import proofs.«01_k».proof.Proof.KRun4
public import proofs.«01_k».proof.Proof.KRun5
public import proofs.«01_k».proof.Proof.KRun6

@[expose] public section

set_option maxRecDepth 16384

noncomputable section

namespace Cert.Kernel.Prf

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

/-- The guards the body spells out: of the first point, and of the first of every three points after it. -/
abbrev cond1 (i : grid0.Coords) : Prop := (let arg0 : BitVec 32 := BitVec.ofNat 32 (i 0).val; let v0 : BitVec 32 := Scalar.remsi arg0 3#32; let v1 : BitVec 32 := Scalar.addi arg0 3#32; let v2 : BitVec 32 := Scalar.subi v1 1#32; let v3 : BitVec 32 := Scalar.remsi v2 3#32; let v4 : BitVec 32 := Scalar.remsi arg0 2#32; let v5 : BitVec 1 := Scalar.cmpi .eq arg0 0#32; let v6 : BitVec 32 := Scalar.extui v5; let v7 : BitVec 1 := Scalar.cmpi .ne v6 0#32; v7) = 1#1
abbrev cond4 (i : grid0.Coords) : Prop := (let arg0 : BitVec 32 := BitVec.ofNat 32 (i 0).val; let v0 : BitVec 32 := Scalar.remsi arg0 3#32; let v1 : BitVec 32 := Scalar.addi arg0 3#32; let v2 : BitVec 32 := Scalar.subi v1 1#32; let v3 : BitVec 32 := Scalar.remsi v2 3#32; let v4 : BitVec 32 := Scalar.remsi arg0 2#32; let v5 : BitVec 1 := Scalar.cmpi .eq arg0 0#32; let v6 : BitVec 32 := Scalar.extui v5; let v7 : BitVec 1 := Scalar.cmpi .ne v6 0#32; let v16 : BitVec 1 := Scalar.cmpi .sge arg0 1#32; let v17 : BitVec 1 := Scalar.cmpi .eq v3 0#32; let v18 : BitVec 1 := Scalar.andi v16 v17; let v19 : BitVec 32 := Scalar.extui v18; let v20 : BitVec 1 := Scalar.cmpi .ne v19 0#32; v20) = 1#1

/-- Copy in flight on one window, at offsets; the copy delivered. -/
abbrev FLg (c : Dev nD) (o1 : Fin 2 → ℕ) (h1 : ∀ a, o1 a + S1x1.size a ≤ S3x7.size a)
    (o2 : Fin 3 → ℕ) (h2 : ∀ a, o2 a + S1x256x768.size a ≤ S3x1792x768.size a)
    (o3 : Fin 3 → ℕ) (h3 : ∀ a, o3 a + S1x256x768.size a ≤ S7x768x768.size a) (f4 : Bf (F := F) c sM) (f13 : Bf (F := F) c wM) : sProp 𝕄 :=
  Transfers.Flight countersEmb (c : Thread nD τ) (.dma (semG cc0_scratch7 o1 h1)) default 6144
    iprop(own c (dstG wM o2 h2) f13 ∗ own c (srcG sM o3 h3) f4)
theorem FLg_ent (c : Dev nD) {o1 o1' : Fin 2 → ℕ} {h1 : ∀ a, o1 a + S1x1.size a ≤ S3x7.size a} {h1' : ∀ a, o1' a + S1x1.size a ≤ S3x7.size a}
    {o2 o2' : Fin 3 → ℕ} {h2 : ∀ a, o2 a + S1x256x768.size a ≤ S3x1792x768.size a} {h2' : ∀ a, o2' a + S1x256x768.size a ≤ S3x1792x768.size a}
    {o3 o3' : Fin 3 → ℕ} {h3 : ∀ a, o3 a + S1x256x768.size a ≤ S7x768x768.size a} {h3' : ∀ a, o3' a + S1x256x768.size a ≤ S7x768x768.size a}
    (f4 : Bf (F := F) c sM) (f13 : Bf (F := F) c wM) (e1 : o1' = o1) (e2 : o2' = o2) (e3 : o3' = o3) :
    FLg c o1 h1 o2 h2 o3 h3 f4 f13 ⊢ FLg c o1' h1' o2' h2' o3' h3' f4 f13 := by
  subst e1 e2 e3; exact .rfl
theorem DLd_ent (c : Dev nD) {o2 o2' : Fin 3 → ℕ} {h2 : ∀ a, o2 a + S1x256x768.size a ≤ S3x1792x768.size a} {h2' : ∀ a, o2' a + S1x256x768.size a ≤ S3x1792x768.size a}
    (f13 : Bf (F := F) c wM) (e2 : o2' = o2) : (own c (dstG wM o2' h2') f13 : sProp 𝕄) ⊢ own c (dstG wM o2 h2) f13 := by
  subst e2; exact .rfl
theorem DLs_ent (c : Dev nD) {o3 o3' : Fin 3 → ℕ} {h3 : ∀ a, o3 a + S1x256x768.size a ≤ S7x768x768.size a} {h3' : ∀ a, o3' a + S1x256x768.size a ≤ S7x768x768.size a}
    (f4 : Bf (F := F) c sM) (e3 : o3' = o3) : (own c (srcG sM o3' h3') f4 : sProp 𝕄) ⊢ own c (srcG sM o3 h3) f4 := by
  subst e3; exact .rfl
theorem DLm_ent (c : Dev nD) {o1 o1' : Fin 2 → ℕ} {h1 : ∀ a, o1 a + S1x1.size a ≤ S3x7.size a} {h1' : ∀ a, o1' a + S1x1.size a ≤ S3x7.size a}
    (e1 : o1' = o1) : (semVal ((c : Thread nD τ), .dma (semG cc0_scratch7 o1' h1')) 0 : sProp 𝕄) ⊢ semVal ((c : Thread nD τ), .dma (semG cc0_scratch7 o1 h1)) 0 := by
  subst e1; exact .rfl
theorem planeG_eq (c : Dev nD) {o o' : Fin 3 → ℕ} {h : ∀ a, o a + S1x1792x768.size a ≤ S3x1792x768.size a} {h' : ∀ a, o' a + S1x1792x768.size a ≤ S3x1792x768.size a}
    (f : Bf (F := F) c wM) (e : o' = o) : (own c (planeG wM o' h') f : sProp 𝕄) = own c (planeG wM o h) f := by
  subst e; rfl

/-- The seven copies of plane `q` in flight; delivered. -/
def FlQ (c : Dev nD) (f4 : Bf (F := F) c sM) (q : Fin 3) : sProp 𝕄 :=
  bigSep Finset.univ fun k : Fin 7 => FLg c ![q.val, k.val] (inbM q k) ![q.val, 256 * k.val, 0] (inbD q k) ![k.val, 256 * q.val, 0] (inbS q k) f4 (WF c f4)
def DlQ (c : Dev nD) (f4 : Bf (F := F) c sM) (q : Fin 3) : sProp 𝕄 :=
  iprop(own c (planeF q) (WF c f4) ∗ bigSep Finset.univ fun k : Fin 7 => iprop(own c (srcF q k) f4 ∗ semVal ((c : Thread nD τ), .dma (semF q k)) 0))

theorem b7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem b3 (Φ : Fin 3 → sProp 𝕄) : bigSep Finset.univ Φ = iprop(Φ 0 ∗ Φ 1 ∗ Φ 2) :=
  bigSep_univ_eq_bigSepL [0, 1, 2] (by decide) (by decide) Φ
theorem b21 (Φ : Fin 3 × Fin 7 → sProp 𝕄) : bigSep Finset.univ Φ = iprop(Φ (0, 0) ∗ Φ (0, 1) ∗ Φ (0, 2) ∗ Φ (0, 3) ∗ Φ (0, 4) ∗ Φ (0, 5) ∗ Φ (0, 6) ∗ Φ (1, 0) ∗ Φ (1, 1) ∗ Φ (1, 2) ∗ Φ (1, 3) ∗ Φ (1, 4) ∗ Φ (1, 5) ∗ Φ (1, 6) ∗ Φ (2, 0) ∗ Φ (2, 1) ∗ Φ (2, 2) ∗ Φ (2, 3) ∗ Φ (2, 4) ∗ Φ (2, 5) ∗ Φ (2, 6)) :=
  bigSep_univ_eq_bigSepL [(0, 0), (0, 1), (0, 2), (0, 3), (0, 4), (0, 5), (0, 6), (1, 0), (1, 1), (1, 2), (1, 3), (1, 4), (1, 5), (1, 6), (2, 0), (2, 1), (2, 2), (2, 3), (2, 4), (2, 5), (2, 6)] (by decide) (by decide) Φ

/-- What a started copy will deliver is the final contents of its window. -/
theorem fl (c : Dev nD) (f4 : Bf (F := F) c sM) (f13 : Bf (F := F) c wM) (q : Fin 3) (k : Fin 7) :
    Transfers.Flight countersEmb (c : Thread nD τ) (.dma (semF q k)) default 6144
        iprop(own c (dstF q k) ((dstF q k).view.writes (Elt F) f13 [⟨Rect.whole S256x768, ReadAs.same.apply ((srcF q k).view.read (Elt F) f4)⟩]) ∗ own c (srcF q k) f4)
      ⊢ (FLg c ![q.val, k.val] (inbM q k) ![q.val, 256 * k.val, 0] (inbD q k) ![k.val, 256 * q.val, 0] (inbS q k) f4 (WF c f4) : sProp 𝕄) :=
  Transfers.Flight_mono _ _ (BIBase.Entails.of_eq (by rw [own_landed]))

set_option maxHeartbeats 4000000 in
/-- The first point's part: the buffer and the operand cut in windows, every copy started. -/
theorem step1 (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (h : cond1 i) (f4 : Bf (F := F) c sM) (f13 : Bf (F := F) c wM) (K : PUnit → sProp 𝕄) :
    iprop(pt c sM f4 ∗ pt c wM f13 ∗ (bigSep Finset.univ fun p : Fin 3 × Fin 7 => semVal ((c : Thread nD τ), .dma (semF p.1 p.2)) 0)
        ∗ (iprop(FlQ c f4 0 ∗ FlQ c f4 1 ∗ FlQ c f4 2) -∗ wp frame (wpE (defs₀ (F := F)) Variants.none c none) Set.univ (rest2 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K))
      ⊢ wp frame (wpE (defs₀ (F := F)) Variants.none c none) Set.univ (rest1 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K := by
  unfold rest1
  rw [dif_pos h]
  refine BIBase.Entails.trans ?_ (run1 c i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7 h f4 f13 (fun _ => rest2 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K)
  rw [split_src, split_dst]
  rw [b21, b21, b21]
  iintro ⟨⟨S00, S01, S02, S03, S04, S05, S06, S10, S11, S12, S13, S14, S15, S16, S20, S21, S22, S23, S24, S25, S26⟩, ⟨D00, D01, D02, D03, D04, D05, D06, D10, D11, D12, D13, D14, D15, D16, D20, D21, D22, D23, D24, D25, D26⟩, ⟨M00, M01, M02, M03, M04, M05, M06, M10, M11, M12, M13, M14, M15, M16, M20, M21, M22, M23, M24, M25, M26⟩, Hk⟩
  isplitl [S00]; · iexact S00
  isplitl [D00]; · iexact D00
  isplitl [M00]; · iexact M00
  isplitl [S01]; · iexact S01
  isplitl [D01]; · iexact D01
  isplitl [M01]; · iexact M01
  isplitl [S02]; · iexact S02
  isplitl [D02]; · iexact D02
  isplitl [M02]; · iexact M02
  isplitl [S03]; · iexact S03
  isplitl [D03]; · iexact D03
  isplitl [M03]; · iexact M03
  isplitl [S04]; · iexact S04
  isplitl [D04]; · iexact D04
  isplitl [M04]; · iexact M04
  isplitl [S05]; · iexact S05
  isplitl [D05]; · iexact D05
  isplitl [M05]; · iexact M05
  isplitl [S06]; · iexact S06
  isplitl [D06]; · iexact D06
  isplitl [M06]; · iexact M06
  isplitl [S10]; · iexact S10
  isplitl [D10]; · iexact D10
  isplitl [M10]; · iexact M10
  isplitl [S11]; · iexact S11
  isplitl [D11]; · iexact D11
  isplitl [M11]; · iexact M11
  isplitl [S12]; · iexact S12
  isplitl [D12]; · iexact D12
  isplitl [M12]; · iexact M12
  isplitl [S13]; · iexact S13
  isplitl [D13]; · iexact D13
  isplitl [M13]; · iexact M13
  isplitl [S14]; · iexact S14
  isplitl [D14]; · iexact D14
  isplitl [M14]; · iexact M14
  isplitl [S15]; · iexact S15
  isplitl [D15]; · iexact D15
  isplitl [M15]; · iexact M15
  isplitl [S16]; · iexact S16
  isplitl [D16]; · iexact D16
  isplitl [M16]; · iexact M16
  isplitl [S20]; · iexact S20
  isplitl [D20]; · iexact D20
  isplitl [M20]; · iexact M20
  isplitl [S21]; · iexact S21
  isplitl [D21]; · iexact D21
  isplitl [M21]; · iexact M21
  isplitl [S22]; · iexact S22
  isplitl [D22]; · iexact D22
  isplitl [M22]; · iexact M22
  isplitl [S23]; · iexact S23
  isplitl [D23]; · iexact D23
  isplitl [M23]; · iexact M23
  isplitl [S24]; · iexact S24
  isplitl [D24]; · iexact D24
  isplitl [M24]; · iexact M24
  isplitl [S25]; · iexact S25
  isplitl [D25]; · iexact D25
  isplitl [M25]; · iexact M25
  isplitl [S26]; · iexact S26
  isplitl [D26]; · iexact D26
  isplitl [M26]; · iexact M26
  iintro ⟨F00, F01, F02, F03, F04, F05, F06, F10, F11, F12, F13, F14, F15, F16, F20, F21, F22, F23, F24, F25, F26⟩
  iapply Hk
  unfold FlQ
  rw [b7, b7, b7]
  isplitl [F00 F01 F02 F03 F04 F05 F06]
  · isplitl [F00]; · iapply (fl c f4 f13 0 0); iexact F00
    isplitl [F01]; · iapply (fl c f4 f13 0 1); iexact F01
    isplitl [F02]; · iapply (fl c f4 f13 0 2); iexact F02
    isplitl [F03]; · iapply (fl c f4 f13 0 3); iexact F03
    isplitl [F04]; · iapply (fl c f4 f13 0 4); iexact F04
    isplitl [F05]; · iapply (fl c f4 f13 0 5); iexact F05
    iapply (fl c f4 f13 0 6); iexact F06
  isplitl [F10 F11 F12 F13 F14 F15 F16]
  · isplitl [F10]; · iapply (fl c f4 f13 1 0); iexact F10
    isplitl [F11]; · iapply (fl c f4 f13 1 1); iexact F11
    isplitl [F12]; · iapply (fl c f4 f13 1 2); iexact F12
    isplitl [F13]; · iapply (fl c f4 f13 1 3); iexact F13
    isplitl [F14]; · iapply (fl c f4 f13 1 4); iexact F14
    isplitl [F15]; · iapply (fl c f4 f13 1 5); iexact F15
    iapply (fl c f4 f13 1 6); iexact F16
  isplitl [F20]; · iapply (fl c f4 f13 2 0); iexact F20
  isplitl [F21]; · iapply (fl c f4 f13 2 1); iexact F21
  isplitl [F22]; · iapply (fl c f4 f13 2 2); iexact F22
  isplitl [F23]; · iapply (fl c f4 f13 2 3); iexact F23
  isplitl [F24]; · iapply (fl c f4 f13 2 4); iexact F24
  isplitl [F25]; · iapply (fl c f4 f13 2 5); iexact F25
  iapply (fl c f4 f13 2 6); iexact F26

theorem step1n (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (h : ¬ cond1 i) (K : PUnit → sProp 𝕄) :
    wp frame (wpE (defs₀ (F := F)) Variants.none c none) Set.univ (rest2 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K ⊢ wp frame (wpE (defs₀ (F := F)) Variants.none c none) Set.univ (rest1 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K := by
  unfold rest1
  rw [dif_neg h]

/-- A point that waits for plane `q`'s copies has the plane whole. -/
theorem step2 (c : Dev nD) (q : Fin 3) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (h : k0_cond2 i = 1#1)
    (s0 : k0_off1 i = ![q.val, 0]) (d0 : k0_off2 i = ![q.val, 0, 0]) (r0 : k0_off3 i = ![0, 256 * q.val, 0]) (s1 : k0_off4 i = ![q.val, 1]) (d1 : k0_off5 i = ![q.val, 256, 0]) (r1 : k0_off6 i = ![1, 256 * q.val, 0]) (s2 : k0_off7 i = ![q.val, 2]) (d2 : k0_off8 i = ![q.val, 512, 0]) (r2 : k0_off9 i = ![2, 256 * q.val, 0]) (s3 : k0_off10 i = ![q.val, 3]) (d3 : k0_off11 i = ![q.val, 768, 0]) (r3 : k0_off12 i = ![3, 256 * q.val, 0]) (s4 : k0_off13 i = ![q.val, 4]) (d4 : k0_off14 i = ![q.val, 1024, 0]) (r4 : k0_off15 i = ![4, 256 * q.val, 0]) (s5 : k0_off16 i = ![q.val, 5]) (d5 : k0_off17 i = ![q.val, 1280, 0]) (r5 : k0_off18 i = ![5, 256 * q.val, 0]) (s6 : k0_off19 i = ![q.val, 6]) (d6 : k0_off20 i = ![q.val, 1536, 0]) (r6 : k0_off21 i = ![6, 256 * q.val, 0])
    (W : Waits sig Unit) (f4 : Bf (F := F) c sM) (K : PUnit → sProp 𝕄) :
    iprop(owes (c : Thread nD τ) 0 W ∗ FlQ c f4 q
        ∗ (iprop((∃ W, owes (c : Thread nD τ) 0 W) ∗ DlQ c f4 q) -∗ wp frame (wpE (defs₀ (F := F)) Variants.none c none) Set.univ (rest3 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K))
      ⊢ wp frame (wpE (defs₀ (F := F)) Variants.none c none) Set.univ (rest2 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K := by
  unfold rest2
  rw [dif_pos h]
  refine BIBase.Entails.trans ?_ (run2 c i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7 h W f4 (WF c f4) (fun _ => rest3 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K)
  unfold FlQ DlQ
  rw [split_plane, b7, b7, b7]
  iintro ⟨HO, ⟨F0, F1, F2, F3, F4, F5, F6⟩, Hk⟩
  isplitl [HO]; · iexact HO
  isplitl [F0]; · iapply (FLg_ent c f4 (WF c f4) s0 d0 r0); iexact F0
  isplitl [F1]; · iapply (FLg_ent c f4 (WF c f4) s1 d1 r1); iexact F1
  isplitl [F2]; · iapply (FLg_ent c f4 (WF c f4) s2 d2 r2); iexact F2
  isplitl [F3]; · iapply (FLg_ent c f4 (WF c f4) s3 d3 r3); iexact F3
  isplitl [F4]; · iapply (FLg_ent c f4 (WF c f4) s4 d4 r4); iexact F4
  isplitl [F5]; · iapply (FLg_ent c f4 (WF c f4) s5 d5 r5); iexact F5
  isplitl [F6]; · iapply (FLg_ent c f4 (WF c f4) s6 d6 r6); iexact F6
  iintro ⟨HO, D0, R0, M0, D1, R1, M1, D2, R2, M2, D3, R3, M3, D4, R4, M4, D5, R5, M5, D6, R6, M6⟩
  iapply Hk
  isplitl [HO]; · iexact HO
  isplitl [D0 D1 D2 D3 D4 D5 D6]
  · isplitl [D0]; · iapply (DLd_ent c (WF c f4) d0); iexact D0
    isplitl [D1]; · iapply (DLd_ent c (WF c f4) d1); iexact D1
    isplitl [D2]; · iapply (DLd_ent c (WF c f4) d2); iexact D2
    isplitl [D3]; · iapply (DLd_ent c (WF c f4) d3); iexact D3
    isplitl [D4]; · iapply (DLd_ent c (WF c f4) d4); iexact D4
    isplitl [D5]; · iapply (DLd_ent c (WF c f4) d5); iexact D5
    iapply (DLd_ent c (WF c f4) d6); iexact D6
  isplitl [R0 M0]
  · isplitl [R0]; · iapply (DLs_ent c f4 r0); iexact R0
    iapply (DLm_ent c s0); iexact M0
  isplitl [R1 M1]
  · isplitl [R1]; · iapply (DLs_ent c f4 r1); iexact R1
    iapply (DLm_ent c s1); iexact M1
  isplitl [R2 M2]
  · isplitl [R2]; · iapply (DLs_ent c f4 r2); iexact R2
    iapply (DLm_ent c s2); iexact M2
  isplitl [R3 M3]
  · isplitl [R3]; · iapply (DLs_ent c f4 r3); iexact R3
    iapply (DLm_ent c s3); iexact M3
  isplitl [R4 M4]
  · isplitl [R4]; · iapply (DLs_ent c f4 r4); iexact R4
    iapply (DLm_ent c s4); iexact M4
  isplitl [R5 M5]
  · isplitl [R5]; · iapply (DLs_ent c f4 r5); iexact R5
    iapply (DLm_ent c s5); iexact M5
  isplitl [R6]; · iapply (DLs_ent c f4 r6); iexact R6
  iapply (DLm_ent c s6); iexact M6

theorem step2n (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (h : ¬ k0_cond2 i = 1#1) (K : PUnit → sProp 𝕄) :
    wp frame (wpE (defs₀ (F := F)) Variants.none c none) Set.univ (rest3 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K ⊢ wp frame (wpE (defs₀ (F := F)) Variants.none c none) Set.univ (rest2 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K := by
  unfold rest2
  rw [dif_neg h]

/-- The part that fills a slot of the activation buffer, taken or skipped. -/
theorem step3 (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) (f1 : Bf (F := F) c arg1) (f2 : Bf (F := F) c arg2) (f8 : Bf (F := F) c arg8) (f9 : Bf (F := F) c arg9) (f10 : Bf (F := F) c arg10) (f12 : Bf (F := F) c arg12)
    (G : Bf (F := F) c arg12 → Prop) (hp : ∀ h : k0_cond3 i = 1#1, G (run3 c i arg1 harg1 arg2 harg2 arg3 harg3 arg4 harg4 arg5 harg5 arg6 harg6 arg7 harg7 arg8 harg8 arg9 harg9 arg10 harg10 arg11 harg11 arg12 harg12 arg13 harg13 arg14 harg14 arg15 h f1 f2 f8 f9 f10 f12).1)
    (hn : ¬ k0_cond3 i = 1#1 → G f12) (K : PUnit → sProp 𝕄) :
    iprop(pt c arg1 f1 ∗ pt c arg2 f2 ∗ pt c arg8 f8 ∗ pt c arg9 f9 ∗ pt c arg10 f10 ∗ pt c arg12 f12
        ∗ (iprop(pt c arg1 f1 ∗ pt c arg2 f2 ∗ (∃ f, pt c arg8 f) ∗ (∃ f, pt c arg9 f) ∗ (∃ f, pt c arg10 f) ∗ (∃ f, ⌜G f⌝ ∗ pt c arg12 f)) -∗ wp frame (wpE (defs₀ (F := F)) Variants.none c none) Set.univ (rest4 i arg1 harg1 arg2 harg2 arg3 harg3 arg4 harg4 arg5 harg5 arg6 harg6 arg7 harg7 arg8 harg8 arg9 harg9 arg10 harg10 arg11 harg11 arg12 harg12 arg13 harg13 arg14 harg14 arg15) K))
      ⊢ wp frame (wpE (defs₀ (F := F)) Variants.none c none) Set.univ (rest3 i arg1 harg1 arg2 harg2 arg3 harg3 arg4 harg4 arg5 harg5 arg6 harg6 arg7 harg7 arg8 harg8 arg9 harg9 arg10 harg10 arg11 harg11 arg12 harg12 arg13 harg13 arg14 harg14 arg15) K := by
  unfold rest3
  by_cases h : k0_cond3 i = 1#1
  · rw [dif_pos h]
    refine BIBase.Entails.trans ?_ ((run3 c i arg1 harg1 arg2 harg2 arg3 harg3 arg4 harg4 arg5 harg5 arg6 harg6 arg7 harg7 arg8 harg8 arg9 harg9 arg10 harg10 arg11 harg11 arg12 harg12 arg13 harg13 arg14 harg14 arg15 h f1 f2 f8 f9 f10 f12).2 (fun _ => rest4 i arg1 harg1 arg2 harg2 arg3 harg3 arg4 harg4 arg5 harg5 arg6 harg6 arg7 harg7 arg8 harg8 arg9 harg9 arg10 harg10 arg11 harg11 arg12 harg12 arg13 harg13 arg14 harg14 arg15) K)
    iintro ⟨H1, H2, H8, H9, H10, H12, Hk⟩
    isplitl [H1]; · iexact H1
    isplitl [H2]; · iexact H2
    isplitl [H8]; · iexact H8
    isplitl [H9]; · iexact H9
    isplitl [H10]; · iexact H10
    isplitl [H12]; · iexact H12
    iintro ⟨H1, H2, H8, H9, H10, H12⟩
    iapply Hk
    isplitl [H1]; · iexact H1
    isplitl [H2]; · iexact H2
    isplitl [H8]; · iexact H8
    isplitl [H9]; · iexact H9
    isplitl [H10]; · iexact H10
    iexists _; isplitr; swap; · iexact H12
    ipureintro; exact hp h
  · rw [dif_neg h]
    iintro ⟨H1, H2, H8, H9, H10, H12, Hk⟩
    iapply Hk
    isplitl [H1]; · iexact H1
    isplitl [H2]; · iexact H2
    isplitl [H8]; · iexists _; iexact H8
    isplitl [H9]; · iexists _; iexact H9
    isplitl [H10]; · iexists _; iexact H10
    iexists _; isplitr; swap; · iexact H12
    ipureintro; exact hn h

/-- The part that clears the accumulator, taken or skipped. -/
theorem step4 (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) (f14 : Bf (F := F) c arg14)
    (G : Bf (F := F) c arg14 → Prop) (hp : ∀ h : cond4 i, G (run4 c i arg1 harg1 arg2 harg2 arg3 harg3 arg4 harg4 arg5 harg5 arg6 harg6 arg7 harg7 arg8 harg8 arg9 harg9 arg10 harg10 arg11 harg11 arg12 harg12 arg13 harg13 arg14 harg14 arg15 h f14).1)
    (hn : ¬ cond4 i → G f14) (K : PUnit → sProp 𝕄) :
    iprop(pt c arg14 f14 ∗ (iprop(∃ f, ⌜G f⌝ ∗ pt c arg14 f) -∗ wp frame (wpE (defs₀ (F := F)) Variants.none c none) Set.univ (rest5 i arg1 harg1 arg2 harg2 arg3 harg3 arg4 harg4 arg5 harg5 arg6 harg6 arg7 harg7 arg8 harg8 arg9 harg9 arg10 harg10 arg11 harg11 arg12 harg12 arg13 harg13 arg14 harg14 arg15) K))
      ⊢ wp frame (wpE (defs₀ (F := F)) Variants.none c none) Set.univ (rest4 i arg1 harg1 arg2 harg2 arg3 harg3 arg4 harg4 arg5 harg5 arg6 harg6 arg7 harg7 arg8 harg8 arg9 harg9 arg10 harg10 arg11 harg11 arg12 harg12 arg13 harg13 arg14 harg14 arg15) K := by
  unfold rest4
  by_cases h : cond4 i
  · rw [dif_pos h]
    refine BIBase.Entails.trans ?_ ((run4 c i arg1 harg1 arg2 harg2 arg3 harg3 arg4 harg4 arg5 harg5 arg6 harg6 arg7 harg7 arg8 harg8 arg9 harg9 arg10 harg10 arg11 harg11 arg12 harg12 arg13 harg13 arg14 harg14 arg15 h f14).2 (fun _ => rest5 i arg1 harg1 arg2 harg2 arg3 harg3 arg4 harg4 arg5 harg5 arg6 harg6 arg7 harg7 arg8 harg8 arg9 harg9 arg10 harg10 arg11 harg11 arg12 harg12 arg13 harg13 arg14 harg14 arg15) K)
    iintro ⟨H14, Hk⟩
    isplitl [H14]; · iexact H14
    iintro H14
    iapply Hk
    iexists _; isplitr; swap; · iexact H14
    ipureintro; exact hp h
  · rw [dif_neg h]
    iintro ⟨H14, Hk⟩
    iapply Hk
    iexists _; isplitr; swap; · iexact H14
    ipureintro; exact hn h

/-- The part that adds one group's products into the accumulator. -/
theorem step5 (c : Dev nD) (q : Fin 3) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (h : k0_cond5 i = 1#1) (e : k0_off100 i = ![q.val, 0, 0])
    (f12 : Bf (F := F) c (Memref.whole cc0_scratch4)) (f13 : Bf (F := F) c wM) (f14 : Bf (F := F) c (Memref.whole cc0_scratch6)) (K : PUnit → sProp 𝕄) :
    iprop(pt c (Memref.whole cc0_scratch4) f12 ∗ own c (planeF q) f13 ∗ pt c (Memref.whole cc0_scratch6) f14
        ∗ (iprop(pt c (Memref.whole cc0_scratch4) f12 ∗ own c (planeF q) f13 ∗ pt c (Memref.whole cc0_scratch6) (run5 c i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7 h f12 f13 f14).1) -∗ wp frame (wpE (defs₀ (F := F)) Variants.none c none) Set.univ (rest6 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K))
      ⊢ wp frame (wpE (defs₀ (F := F)) Variants.none c none) Set.univ (rest5 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K := by
  unfold rest5
  rw [dif_pos h]
  refine BIBase.Entails.trans ?_ ((run5 c i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7 h f12 f13 f14).2 (fun _ => rest6 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K)
  rw [show (own c (planeF q) f13 : sProp 𝕄) = own c (planeG wM (k0_off100 i) (k0_off100_inb i h)) f13 from planeG_eq c f13 e.symm]

theorem step5n (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (h : ¬ k0_cond5 i = 1#1) (K : PUnit → sProp 𝕄) :
    wp frame (wpE (defs₀ (F := F)) Variants.none c none) Set.univ (rest6 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K ⊢ wp frame (wpE (defs₀ (F := F)) Variants.none c none) Set.univ (rest5 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K := by
  unfold rest5
  rw [dif_neg h]

/-- The part that writes a block of the result, taken or skipped, and the body's end. -/
theorem step6 (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) (f3 : Bf (F := F) c arg3) (f5 : Bf (F := F) c arg5) (f6 : Bf (F := F) c arg6) (f7 : Bf (F := F) c arg7) (f11 : Bf (F := F) c arg11) (f14 : Bf (F := F) c arg14)
    (G : Bf (F := F) c arg7 → Prop) (hp : ∀ h : k0_cond6 i = 1#1, G (run6 c i arg1 harg1 arg2 harg2 arg3 harg3 arg4 harg4 arg5 harg5 arg6 harg6 arg7 harg7 arg8 harg8 arg9 harg9 arg10 harg10 arg11 harg11 arg12 harg12 arg13 harg13 arg14 harg14 arg15 h f3 f5 f6 f7 f11 f14).1)
    (hn : ¬ k0_cond6 i = 1#1 → G f7) (K : PUnit → sProp 𝕄) :
    iprop(pt c arg3 f3 ∗ pt c arg5 f5 ∗ pt c arg6 f6 ∗ pt c arg7 f7 ∗ pt c arg11 f11 ∗ pt c arg14 f14
        ∗ (iprop(pt c arg3 f3 ∗ pt c arg5 f5 ∗ pt c arg6 f6 ∗ (∃ f, ⌜G f⌝ ∗ pt c arg7 f) ∗ (∃ f, pt c arg11 f) ∗ pt c arg14 f14) -∗ K ⟨⟩))
      ⊢ wp frame (wpE (defs₀ (F := F)) Variants.none c none) Set.univ (rest6 i arg1 harg1 arg2 harg2 arg3 harg3 arg4 harg4 arg5 harg5 arg6 harg6 arg7 harg7 arg8 harg8 arg9 harg9 arg10 harg10 arg11 harg11 arg12 harg12 arg13 harg13 arg14 harg14 arg15) K := by
  unfold rest6
  by_cases h : k0_cond6 i = 1#1
  · rw [dif_pos h]
    refine BIBase.Entails.trans ?_ ((run6 c i arg1 harg1 arg2 harg2 arg3 harg3 arg4 harg4 arg5 harg5 arg6 harg6 arg7 harg7 arg8 harg8 arg9 harg9 arg10 harg10 arg11 harg11 arg12 harg12 arg13 harg13 arg14 harg14 arg15 h f3 f5 f6 f7 f11 f14).2 (fun _ => pure ⟨⟩) K)
    iintro ⟨H3, H5, H6, H7, H11, H14, Hk⟩
    isplitl [H3]; · iexact H3
    isplitl [H5]; · iexact H5
    isplitl [H6]; · iexact H6
    isplitl [H7]; · iexact H7
    isplitl [H11]; · iexact H11
    isplitl [H14]; · iexact H14
    iintro ⟨H3, H5, H6, H7, H11, H14⟩
    sl_step
    iapply Hk
    isplitl [H3]; · iexact H3
    isplitl [H5]; · iexact H5
    isplitl [H6]; · iexact H6
    isplitl [H7]
    · iexists _; isplitr; swap; · iexact H7
      ipureintro; exact hp h
    isplitl [H11]; · iexact H11
    iexact H14
  · rw [dif_neg h]
    iintro ⟨H3, H5, H6, H7, H11, H14, Hk⟩
    sl_step
    iapply Hk
    isplitl [H3]; · iexact H3
    isplitl [H5]; · iexact H5
    isplitl [H6]; · iexact H6
    isplitl [H7]
    · iexists _; isplitr; swap; · iexact H7
      ipureintro; exact hn h
    isplitl [H11]; · iexists _; iexact H11
    iexact H14

end Cert.Kernel.Prf
end
-- ==== Proof.KCore.lean ====
/- One grid point's body, from what holds before it to what holds after it: the weight windows by the point's number, the activation
   buffer and the accumulator at contents satisfying what the caller states of them. -/
module

public import proofs.«01_k».proof.Proof.KStep

@[expose] public section

set_option maxRecDepth 16384

noncomputable section

namespace Cert.Kernel.Prf

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

theorem c1 : ∀ i : grid0.Coords, cond1 i ↔ (i 0).val = 0 := by decide
theorem c2 : ∀ i : grid0.Coords, k0_cond2 i = 1#1 ↔ (1 ≤ (i 0).val ∧ (i 0).val ≤ 3) := by decide
theorem c5 : ∀ i : grid0.Coords, k0_cond5 i = 1#1 → ∃ q : Fin 3, k0_off100 i = ![q.val, 0, 0] ∧ q.val < (i 0).val := by decide
theorem o0 : ∀ i : grid0.Coords, ∀ q : Fin 3, (i 0).val = q.val + 1 → k0_off1 i = ![q.val, 0] ∧ k0_off2 i = ![q.val, 0, 0] ∧ k0_off3 i = ![0, 256 * q.val, 0] := by decide
theorem o1 : ∀ i : grid0.Coords, ∀ q : Fin 3, (i 0).val = q.val + 1 → k0_off4 i = ![q.val, 1] ∧ k0_off5 i = ![q.val, 256, 0] ∧ k0_off6 i = ![1, 256 * q.val, 0] := by decide
theorem o2 : ∀ i : grid0.Coords, ∀ q : Fin 3, (i 0).val = q.val + 1 → k0_off7 i = ![q.val, 2] ∧ k0_off8 i = ![q.val, 512, 0] ∧ k0_off9 i = ![2, 256 * q.val, 0] := by decide
theorem o3 : ∀ i : grid0.Coords, ∀ q : Fin 3, (i 0).val = q.val + 1 → k0_off10 i = ![q.val, 3] ∧ k0_off11 i = ![q.val, 768, 0] ∧ k0_off12 i = ![3, 256 * q.val, 0] := by decide
theorem o4 : ∀ i : grid0.Coords, ∀ q : Fin 3, (i 0).val = q.val + 1 → k0_off13 i = ![q.val, 4] ∧ k0_off14 i = ![q.val, 1024, 0] ∧ k0_off15 i = ![4, 256 * q.val, 0] := by decide
theorem o5 : ∀ i : grid0.Coords, ∀ q : Fin 3, (i 0).val = q.val + 1 → k0_off16 i = ![q.val, 5] ∧ k0_off17 i = ![q.val, 1280, 0] ∧ k0_off18 i = ![5, 256 * q.val, 0] := by decide
theorem o6 : ∀ i : grid0.Coords, ∀ q : Fin 3, (i 0).val = q.val + 1 → k0_off19 i = ![q.val, 6] ∧ k0_off20 i = ![q.val, 1536, 0] ∧ k0_off21 i = ![6, 256 * q.val, 0] := by decide

/-- How plane `q` of the weights is held after `n` points, and all of them: nothing started, in flight, or delivered. -/
def Wq (c : Dev nD) (f4 : Bf (F := F) c sM) (n : ℕ) (q : Fin 3) : sProp 𝕄 := if n ≤ q.val + 1 then FlQ c f4 q else DlQ c f4 q
def Wts (c : Dev nD) (f4 : Bf (F := F) c sM) (n : ℕ) : sProp 𝕄 :=
  if n = 0 then iprop(pt c sM f4 ∗ (∃ f13, pt c wM f13) ∗ (bigSep Finset.univ fun p : Fin 3 × Fin 7 => semVal ((c : Thread nD τ), .dma (semF p.1 p.2)) 0))
  else iprop(Wq c f4 n 0 ∗ Wq c f4 n 1 ∗ Wq c f4 n 2)

theorem Wq_fl (c : Dev nD) (f4 : Bf (F := F) c sM) {n : ℕ} {q : Fin 3} (h : n ≤ q.val + 1) : Wq c f4 n q = FlQ c f4 q := if_pos h
theorem Wq_dl (c : Dev nD) (f4 : Bf (F := F) c sM) {n : ℕ} {q : Fin 3} (h : ¬ n ≤ q.val + 1) : Wq c f4 n q = DlQ c f4 q := if_neg h
theorem Wq_succ (c : Dev nD) (f4 : Bf (F := F) c sM) {n : ℕ} {q : Fin 3} (h : n ≠ q.val + 1) : Wq c f4 (n + 1) q = Wq c f4 n q := by
  unfold Wq
  by_cases h' : n ≤ q.val + 1
  · rw [if_pos h', if_pos (by omega)]
  · rw [if_neg h', if_neg (by omega)]
theorem Wts_zero (c : Dev nD) (f4 : Bf (F := F) c sM) : Wts c f4 0 = iprop(pt c sM f4 ∗ (∃ f13, pt c wM f13) ∗ (bigSep Finset.univ fun p : Fin 3 × Fin 7 => semVal ((c : Thread nD τ), .dma (semF p.1 p.2)) 0)) := if_pos rfl
theorem Wts_pos (c : Dev nD) (f4 : Bf (F := F) c sM) {n : ℕ} (h : n ≠ 0) : Wts c f4 n = iprop(Wq c f4 n 0 ∗ Wq c f4 n 1 ∗ Wq c f4 n 2) := if_neg h

/-- A point that waits turns its plane from in flight to delivered. -/
theorem stepQ (c : Dev nD) (q : Fin 3) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (h : (i 0).val = q.val + 1) (W : Waits sig Unit) (f4 : Bf (F := F) c sM) (K : PUnit → sProp 𝕄) :
    iprop(owes (c : Thread nD τ) 0 W ∗ Wq c f4 (i 0).val q
        ∗ (iprop((∃ W, owes (c : Thread nD τ) 0 W) ∗ Wq c f4 ((i 0).val + 1) q) -∗ wp frame (wpE (defs₀ (F := F)) Variants.none c none) Set.univ (rest3 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K))
      ⊢ wp frame (wpE (defs₀ (F := F)) Variants.none c none) Set.univ (rest2 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K := by
  rw [Wq_fl c f4 (show (i 0).val ≤ q.val + 1 by omega), Wq_dl c f4 (show ¬ (i 0).val + 1 ≤ q.val + 1 by omega)]
  exact step2 c q i arg1 harg1 arg2 harg2 arg3 harg3 arg5 harg5 arg6 harg6 arg7 harg7 ((c2 i).mpr (by have := q.isLt; omega)) (o0 i q h).1 (o0 i q h).2.1 (o0 i q h).2.2 (o1 i q h).1 (o1 i q h).2.1 (o1 i q h).2.2 (o2 i q h).1 (o2 i q h).2.1 (o2 i q h).2.2 (o3 i q h).1 (o3 i q h).2.1 (o3 i q h).2.2 (o4 i q h).1 (o4 i q h).2.1 (o4 i q h).2.2 (o5 i q h).1 (o5 i q h).2.1 (o5 i q h).2.2 (o6 i q h).1 (o6 i q h).2.1 (o6 i q h).2.2 W f4 K

/-- The body's first two parts at any point. -/
theorem stepW (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (W : Waits sig Unit) (f4 : Bf (F := F) c sM) (K : PUnit → sProp 𝕄) :
    iprop(owes (c : Thread nD τ) 0 W ∗ Wts c f4 (i 0).val
        ∗ (iprop((∃ W, owes (c : Thread nD τ) 0 W) ∗ Wts c f4 ((i 0).val + 1)) -∗ wp frame (wpE (defs₀ (F := F)) Variants.none c none) Set.univ (rest3 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K))
      ⊢ wp frame (wpE (defs₀ (F := F)) Variants.none c none) Set.univ (rest1 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K := by
  by_cases h0 : (i 0).val = 0
  · rw [h0, Wts_zero, Wts_pos c f4 (show 0 + 1 ≠ 0 by omega), Wq_fl c f4 (show 0 + 1 ≤ (0 : Fin 3).val + 1 by decide), Wq_fl c f4 (show 0 + 1 ≤ (1 : Fin 3).val + 1 by decide), Wq_fl c f4 (show 0 + 1 ≤ (2 : Fin 3).val + 1 by decide)]
    iintro ⟨HO, ⟨HS, ⟨%f13, HD⟩, HM⟩, Hk⟩
    iapply (step1 c i arg1 harg1 arg2 harg2 arg3 harg3 arg5 harg5 arg6 harg6 arg7 harg7 ((c1 i).mpr h0) f4 f13 K)
    isplitl [HS]; · iexact HS
    isplitl [HD]; · iexact HD
    isplitl [HM]; · iexact HM
    iintro HF
    iapply (step2n c i arg1 harg1 arg2 harg2 arg3 harg3 arg5 harg5 arg6 harg6 arg7 harg7 (fun h => by have := (c2 i).mp h; omega) K)
    iapply Hk
    isplitl [HO]; · iexists _; iexact HO
    iexact HF
  · rw [Wts_pos c f4 h0, Wts_pos c f4 (Nat.succ_ne_zero _)]
    refine BIBase.Entails.trans ?_ (step1n c i arg1 harg1 arg2 harg2 arg3 harg3 arg5 harg5 arg6 harg6 arg7 harg7 (fun h => h0 ((c1 i).mp h)) K)
    by_cases h1 : (i 0).val = 1
    · rw [Wq_succ c f4 (q := 1) (by rw [h1]; decide), Wq_succ c f4 (q := 2) (by rw [h1]; decide)]
      iintro ⟨HO, ⟨A, B, C⟩, Hk⟩
      iapply (stepQ c 0 i arg1 harg1 arg2 harg2 arg3 harg3 arg5 harg5 arg6 harg6 arg7 harg7 h1 W f4 K)
      isplitl [HO]; · iexact HO
      isplitl [A]; · iexact A
      iintro ⟨HO, A⟩
      iapply Hk
      isplitl [HO]; · iexact HO
      isplitl [A]; · iexact A
      isplitl [B]; · iexact B
      iexact C
    by_cases h2 : (i 0).val = 2
    · rw [Wq_succ c f4 (q := 0) (by rw [h2]; decide), Wq_succ c f4 (q := 2) (by rw [h2]; decide)]
      iintro ⟨HO, ⟨A, B, C⟩, Hk⟩
      iapply (stepQ c 1 i arg1 harg1 arg2 harg2 arg3 harg3 arg5 harg5 arg6 harg6 arg7 harg7 h2 W f4 K)
      isplitl [HO]; · iexact HO
      isplitl [B]; · iexact B
      iintro ⟨HO, B⟩
      iapply Hk
      isplitl [HO]; · iexact HO
      isplitl [A]; · iexact A
      isplitl [B]; · iexact B
      iexact C
    by_cases h3 : (i 0).val = 3
    · rw [Wq_succ c f4 (q := 0) (by rw [h3]; decide), Wq_succ c f4 (q := 1) (by rw [h3]; decide)]
      iintro ⟨HO, ⟨A, B, C⟩, Hk⟩
      iapply (stepQ c 2 i arg1 harg1 arg2 harg2 arg3 harg3 arg5 harg5 arg6 harg6 arg7 harg7 h3 W f4 K)
      isplitl [HO]; · iexact HO
      isplitl [C]; · iexact C
      iintro ⟨HO, C⟩
      iapply Hk
      isplitl [HO]; · iexact HO
      isplitl [A]; · iexact A
      isplitl [B]; · iexact B
      iexact C
    · rw [Wq_succ c f4 (q := 0) h1, Wq_succ c f4 (q := 1) h2, Wq_succ c f4 (q := 2) h3]
      iintro ⟨HO, HW, Hk⟩
      iapply (step2n c i arg1 harg1 arg2 harg2 arg3 harg3 arg5 harg5 arg6 harg6 arg7 harg7 (fun h => by have := (c2 i).mp h; omega) K)
      iapply Hk
      isplitl [HO]; · iexists _; iexact HO
      iexact HW

/-- The product part at any point: the plane it reads has been delivered. -/
theorem stepM (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (f4 : Bf (F := F) c sM) (f12 : Bf (F := F) c (Memref.whole cc0_scratch4)) (f14 : Bf (F := F) c (Memref.whole cc0_scratch6))
    (G : Bf (F := F) c (Memref.whole cc0_scratch6) → Prop) (hp : ∀ h : k0_cond5 i = 1#1, G (run5 c i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7 h f12 (WF c f4) f14).1)
    (hn : ¬ k0_cond5 i = 1#1 → G f14) (K : PUnit → sProp 𝕄) :
    iprop(Wts c f4 ((i 0).val + 1) ∗ pt c (Memref.whole cc0_scratch4) f12 ∗ pt c (Memref.whole cc0_scratch6) f14
        ∗ (iprop(Wts c f4 ((i 0).val + 1) ∗ pt c (Memref.whole cc0_scratch4) f12 ∗ (∃ f, ⌜G f⌝ ∗ pt c (Memref.whole cc0_scratch6) f)) -∗ wp frame (wpE (defs₀ (F := F)) Variants.none c none) Set.univ (rest6 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K))
      ⊢ wp frame (wpE (defs₀ (F := F)) Variants.none c none) Set.univ (rest5 i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K := by
  rw [Wts_pos c f4 (Nat.succ_ne_zero _)]
  by_cases h : k0_cond5 i = 1#1
  · obtain ⟨q, e, hq⟩ := c5 i h
    match q, e, hq with
    | 0, e, hq =>
      rw [Wq_dl c f4 (n := (i 0).val + 1) (q := 0) (by omega)]
      unfold DlQ
      iintro ⟨⟨⟨P, R⟩, B, C⟩, H12, H14, Hk⟩
      iapply (step5 c 0 i arg1 harg1 arg2 harg2 arg3 harg3 arg5 harg5 arg6 harg6 arg7 harg7 h e f12 (WF c f4) f14 K)
      isplitl [H12]; · iexact H12
      isplitl [P]; · iexact P
      isplitl [H14]; · iexact H14
      iintro ⟨H12, P, H14⟩
      iapply Hk
      isplitl [P R B C]
      · isplitl [P R]
        · isplitl [P]; · iexact P
          iexact R
        isplitl [B]; · iexact B
        iexact C
      isplitl [H12]; · iexact H12
      iexists _; isplitr; swap; · iexact H14
      ipureintro; exact hp h
    | 1, e, hq =>
      rw [Wq_dl c f4 (n := (i 0).val + 1) (q := 1) (by omega)]
      unfold DlQ
      iintro ⟨⟨B, ⟨P, R⟩, C⟩, H12, H14, Hk⟩
      iapply (step5 c 1 i arg1 harg1 arg2 harg2 arg3 harg3 arg5 harg5 arg6 harg6 arg7 harg7 h e f12 (WF c f4) f14 K)
      isplitl [H12]; · iexact H12
      isplitl [P]; · iexact P
      isplitl [H14]; · iexact H14
      iintro ⟨H12, P, H14⟩
      iapply Hk
      isplitl [P R B C]
      · isplitl [B]; · iexact B
        isplitl [P R]
        · isplitl [P]; · iexact P
          iexact R
        iexact C
      isplitl [H12]; · iexact H12
      iexists _; isplitr; swap; · iexact H14
      ipureintro; exact hp h
    | 2, e, hq =>
      rw [Wq_dl c f4 (n := (i 0).val + 1) (q := 2) (by omega)]
      unfold DlQ
      iintro ⟨⟨B, C, ⟨P, R⟩⟩, H12, H14, Hk⟩
      iapply (step5 c 2 i arg1 harg1 arg2 harg2 arg3 harg3 arg5 harg5 arg6 harg6 arg7 harg7 h e f12 (WF c f4) f14 K)
      isplitl [H12]; · iexact H12
      isplitl [P]; · iexact P
      isplitl [H14]; · iexact H14
      iintro ⟨H12, P, H14⟩
      iapply Hk
      isplitl [P R B C]
      · isplitl [B]; · iexact B
        isplitl [C]; · iexact C
        isplitl [P]; · iexact P
        iexact R
      isplitl [H12]; · iexact H12
      iexists _; isplitr; swap; · iexact H14
      ipureintro; exact hp h
  · iintro ⟨HW, H12, H14, Hk⟩
    iapply (step5n c i arg1 harg1 arg2 harg2 arg3 harg3 arg5 harg5 arg6 harg6 arg7 harg7 h K)
    iapply Hk
    isplitl [HW]; · iexact HW
    isplitl [H12]; · iexact H12
    iexists _; isplitr; swap; · iexact H14
    ipureintro; exact hn h

/-- The whole body at any point. `GA`, `GA'` are said of the activation buffer before and after; `GC`, `G4`, `GC'` of the
    accumulator before, once cleared or kept, and after; `GY` of the result's block after. -/
theorem core (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (W : Waits sig Unit) (f4 : Bf (F := F) c sM)
    (f1 : Bf (F := F) c arg1) (f2 : Bf (F := F) c arg2) (f3 : Bf (F := F) c arg3) (f5 : Bf (F := F) c arg5) (f6 : Bf (F := F) c arg6) (f7 : Bf (F := F) c arg7)
    (GA GA' : Bf (F := F) c (Memref.whole cc0_scratch4) → Prop) (GC G4 GC' : Bf (F := F) c (Memref.whole cc0_scratch6) → Prop) (GY : Bf (F := F) c arg7 → Prop)
    (p3 : ∀ (h : k0_cond3 i = 1#1) f8 f9 f10 f12, GA f12 → GA' (run3 c i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7 h f1 f2 f8 f9 f10 f12).1) (n3 : ¬ k0_cond3 i = 1#1 → ∀ f, GA f → GA' f)
    (p4 : ∀ (h : cond4 i) f, GC f → G4 (run4 c i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7 h f).1) (n4 : ¬ cond4 i → ∀ f, GC f → G4 f)
    (p5 : ∀ (h : k0_cond5 i = 1#1) f12 f14, GA' f12 → G4 f14 → GC' (run5 c i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7 h f12 (WF c f4) f14).1) (n5 : ¬ k0_cond5 i = 1#1 → ∀ f, G4 f → GC' f)
    (p6 : ∀ (h : k0_cond6 i = 1#1) f11 f14, GC' f14 → GY (run6 c i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7 h f3 f5 f6 f7 f11 f14).1) (n6 : ¬ k0_cond6 i = 1#1 → GY f7) (K : PUnit → sProp 𝕄) :
    iprop((owes (c : Thread nD τ) 0 W ∗ Wts c f4 (i 0).val ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, ⌜GA f⌝ ∗ pt c (Memref.whole cc0_scratch4) f) ∗ (∃ f, ⌜GC f⌝ ∗ pt c (Memref.whole cc0_scratch6) f)
          ∗ pt c arg1 f1 ∗ pt c arg2 f2 ∗ pt c arg3 f3 ∗ pt c arg5 f5 ∗ pt c arg6 f6 ∗ pt c arg7 f7)
        ∗ (iprop((∃ W, owes (c : Thread nD τ) 0 W) ∗ Wts c f4 ((i 0).val + 1) ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, ⌜GA' f⌝ ∗ pt c (Memref.whole cc0_scratch4) f) ∗ (∃ f, ⌜GC' f⌝ ∗ pt c (Memref.whole cc0_scratch6) f)
          ∗ pt c arg1 f1 ∗ pt c arg2 f2 ∗ pt c arg3 f3 ∗ pt c arg5 f5 ∗ pt c arg6 f6 ∗ (∃ f, ⌜GY f⌝ ∗ pt c arg7 f)) -∗ K ⟨⟩))
      ⊢ wp frame (wpE (defs₀ (F := F)) Variants.none c none) Set.univ (cc0_amp_unit i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7) K := by
  rw [body_eq_regions]
  iintro ⟨⟨HO, HW, ⟨%f8, H8⟩, ⟨%f9, H9⟩, ⟨%f10, H10⟩, ⟨%f11, H11⟩, ⟨%f12, %ha, H12⟩, ⟨%f14, %hc, H14⟩, H1, H2, H3, H5, H6, H7⟩, Hk⟩
  iapply (stepW c i arg1 harg1 arg2 harg2 arg3 harg3 arg5 harg5 arg6 harg6 arg7 harg7 W f4 K)
  isplitl [HO]; · iexact HO
  isplitl [HW]; · iexact HW
  iintro ⟨HO, HW⟩
  iapply (step3 c i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7 f1 f2 f8 f9 f10 f12 GA' (fun h => p3 h f8 f9 f10 f12 ha) (fun h => n3 h f12 ha) K)
  isplitl [H1]; · iexact H1
  isplitl [H2]; · iexact H2
  isplitl [H8]; · iexact H8
  isplitl [H9]; · iexact H9
  isplitl [H10]; · iexact H10
  isplitl [H12]; · iexact H12
  iintro ⟨H1, H2, H8, H9, H10, ⟨%g12, %ha', H12⟩⟩
  iapply (step4 c i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7 f14 G4 (fun h => p4 h f14 hc) (fun h => n4 h f14 hc) K)
  isplitl [H14]; · iexact H14
  iintro ⟨%g14, %hc4, H14⟩
  iapply (stepM c i arg1 harg1 arg2 harg2 arg3 harg3 arg5 harg5 arg6 harg6 arg7 harg7 f4 g12 g14 GC' (fun h => p5 h g12 g14 ha' hc4) (fun h => n5 h g14 hc4) K)
  isplitl [HW]; · iexact HW
  isplitl [H12]; · iexact H12
  isplitl [H14]; · iexact H14
  iintro ⟨HW, H12, ⟨%e14, %hc', H14⟩⟩
  iapply (step6 c i arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7 f3 f5 f6 f7 f11 e14 GY (fun h => p6 h f11 e14 hc') n6 K)
  isplitl [H3]; · iexact H3
  isplitl [H5]; · iexact H5
  isplitl [H6]; · iexact H6
  isplitl [H7]; · iexact H7
  isplitl [H11]; · iexact H11
  isplitl [H14]; · iexact H14
  iintro ⟨H3, H5, H6, H7, H11, H14⟩
  iapply Hk
  isplitl [HO]; · iexact HO
  isplitl [HW]; · iexact HW
  isplitl [H8]; · iexact H8
  isplitl [H9]; · iexact H9
  isplitl [H10]; · iexact H10
  isplitl [H11]; · iexact H11
  isplitl [H12]
  · iexists _; isplitr; swap; · iexact H12
    ipureintro; exact ha'
  isplitl [H14]
  · iexists _; isplitr; swap; · iexact H14
    ipureintro; exact hc'
  isplitl [H1]; · iexact H1
  isplitl [H2]; · iexact H2
  isplitl [H3]; · iexact H3
  isplitl [H5]; · iexact H5
  isplitl [H6]; · iexact H6
  iexact H7

end Cert.Kernel.Prf
end
-- ==== Proof.KFrame.lean ====
/- The kernel's run as a whole: what holds between the grid's points, the body at a point, the launch, and the frame. The
   values are a parameter: `Pred` says what the activation buffer, the accumulator and the block written hold, and `Pred.Ok` that
   the body's parts keep it so. The frame is the case where nothing is said. -/
module

public import proofs.«01_k».proof.Proof.KCore
public import Idealize.ShloMosaic.Lib.Pipeline.DatRel

@[expose] public section

set_option maxRecDepth 16384

noncomputable section

namespace Cert.Kernel.Prf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The point's number is its coordinate. -/
theorem coord_val : ∀ t : Fin cfg0.N, (grid0.coords t 0).val = t.val := by
  intro t; rcases fin_N0 t with h|h|h|h|h|h|h|h|h|h <;> subst h <;> rfl

/-- What is said of the buffers' contents: the activation buffer and the accumulator before point `n`, the accumulator in the middle
    of point `n`, and the output block left at a point. -/
structure Pred (F : FTy → Type) [FloatOps F] (c : Dev nD) where
  A : ℕ → Bf (F := F) c (Memref.whole cc0_scratch4) → Prop
  C : ℕ → Bf (F := F) c (Memref.whole cc0_scratch6) → Prop
  D : ℕ → Bf (F := F) c (Memref.whole cc0_scratch6) → Prop
  Y : Fin cfg0.N → (S1x640x768.Idx → Elt F .bf16) → Prop

/-- The body's parts keep what is said. -/
structure Pred.Ok (c : Dev nD) (P : Pred F c) : Prop where
  a0 : ∀ f, P.A 0 f
  c0 : ∀ f, P.C 0 f
  p3 : ∀ (t : Fin cfg0.N) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (h : k0_cond3 (grid0.coords t) = 1#1)
    (f1 : Bf (F := F) c arg1) (f2 : Bf (F := F) c arg2) f8 f9 f10 f12, arg1.view.read (Elt F) f1 = iblk m c 0 t → arg2.view.read (Elt F) f2 = iblk m c 1 t → P.A t.val f12 →
    P.A (t.val + 1) (run3 c (grid0.coords t) arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7 h f1 f2 f8 f9 f10 f12).1
  n3 : ∀ t : Fin cfg0.N, ¬ k0_cond3 (grid0.coords t) = 1#1 → ∀ f, P.A t.val f → P.A (t.val + 1) f
  p4 : ∀ (t : Fin cfg0.N) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (h : cond4 (grid0.coords t)) f, P.C t.val f →
    P.D t.val (run4 c (grid0.coords t) arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7 h f).1
  n4 : ∀ t : Fin cfg0.N, ¬ cond4 (grid0.coords t) → ∀ f, P.C t.val f → P.D t.val f
  p5 : ∀ (t : Fin cfg0.N) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (h : k0_cond5 (grid0.coords t) = 1#1) f12 f14, P.A (t.val + 1) f12 → P.D t.val f14 →
    P.C (t.val + 1) (run5 c (grid0.coords t) arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7 h f12 (WF c (V m c main_arg3)) f14).1
  n5 : ∀ t : Fin cfg0.N, ¬ k0_cond5 (grid0.coords t) = 1#1 → ∀ f, P.D t.val f → P.C (t.val + 1) f
  p6 : ∀ (t : Fin cfg0.N) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (h : k0_cond6 (grid0.coords t) = 1#1)
    (f3 : Bf (F := F) c arg3) (f5 : Bf (F := F) c arg5) (f6 : Bf (F := F) c arg6) (f7 : Bf (F := F) c arg7) f11 f14,
    arg3.view.read (Elt F) f3 = iblk m c 2 t → arg5.view.read (Elt F) f5 = iblk m c 3 t → arg6.view.read (Elt F) f6 = iblk m c 4 t → P.C (t.val + 1) f14 →
    P.Y t (arg7.view.read (Elt F) (run6 c (grid0.coords t) arg1 harg1 arg2 harg2 arg3 harg3 sM (Memref.isWhole_whole _) arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) wM (Memref.isWhole_whole _) (Memref.whole cc0_scratch6) (Memref.isWhole_whole _) cc0_scratch7 h f3 f5 f6 f7 f11 f14).1)
  n6 : ∀ t : Fin cfg0.N, ¬ k0_cond6 (grid0.coords t) = 1#1 → ∀ X, P.Y t X

/-- Nothing said. -/
def Pred.none (c : Dev nD) : Pred F c := ⟨fun _ _ => True, fun _ _ => True, fun _ _ => True, fun _ _ => True⟩
theorem Pred.none_ok (c : Dev nD) : (Pred.none (F := F) c).Ok m c := by
  constructor <;> intros <;> trivial

/-- What holds before point `n` beside the staging buffers. -/
def Inv (c : Dev nD) (P : Pred F c) (n : ℕ) : sProp 𝕄 :=
  iprop(Wts c (V m c main_arg3) n ∗ (∃ f, pt c (Memref.whole cc0_scratch0) f) ∗ (∃ f, pt c (Memref.whole cc0_scratch1) f) ∗ (∃ f, pt c (Memref.whole cc0_scratch2) f)
    ∗ (∃ f, pt c (Memref.whole cc0_scratch3) f) ∗ (∃ f, ⌜P.A n f⌝ ∗ pt c (Memref.whole cc0_scratch4) f) ∗ (∃ f, ⌜P.C n f⌝ ∗ pt c (Memref.whole cc0_scratch6) f)
    ∗ (∃ r, prngReg c r))

/-- The kernel's cells at zero, by plane and tap. -/
theorem cells_eq (c : Dev nD) :
    (Pipeline.ownSems0 (Ix := Unit) (Name := ℕ) (U := Pipeline.UD sig nD τ) (Lvl := ℕ) (Val := Elt F) (τ := τ) osem0 c : sProp 𝕄)
      = bigSep Finset.univ fun p : Fin 3 × Fin 7 => semVal ((c : Thread nD τ), .dma (semF p.1 p.2)) 0 := by
  unfold Pipeline.ownSems0
  exact congrArg (bigSep Finset.univ) (funext fun p => by rw [← osem0_eq p.1 p.2])

/-- What the launch hands over gives the invariant before the first point. -/
theorem inv_in (c : Dev nD) (P : Pred F c) (hP : P.Ok m c) : Pipeline.ΦD osem0 spec0 {main_arg3} (V m) c ⊢ Inv m c P 0 := by
  rw [Pipeline.ΦD_eq, scopedRest0_eq, cells_eq, bigSep_singleton]
  unfold Inv
  rw [Wts_zero]
  iintro ⟨⟨H0, H1, H2, H3, ⟨%f4, H4⟩, H5, ⟨%f6, H6⟩⟩, Hr, Hs, Ha⟩
  isplitl [H5 Hs Ha]
  · isplitl [Ha]; · iexact Ha
    isplitl [H5]; · iexact H5
    iexact Hs
  isplitl [H0]; · iexact H0
  isplitl [H1]; · iexact H1
  isplitl [H2]; · iexact H2
  isplitl [H3]; · iexact H3
  isplitl [H4]
  · iexists f4; isplitr; swap; · iexact H4
    ipureintro; exact hP.a0 f4
  isplitl [H6]
  · iexists f6; isplitr; swap; · iexact H6
    ipureintro; exact hP.c0 f6
  iexact Hr

/-- A separating conjunction over pairs, row by row. -/
theorem bigSep_pairs {I J : Type} [DecidableEq I] [DecidableEq J] (s : Finset I) (t : Finset J) (Φ : I × J → sProp 𝕄) :
    bigSep (s ×ˢ t) Φ = bigSep s fun i => bigSep t fun j => Φ (i, j) := by
  induction s using Finset.induction_on with
  | empty => rw [Finset.empty_product]; rfl
  | insert a s ha ih =>
    have hdisj : Disjoint (({a} : Finset I) ×ˢ t) (s ×ˢ t) := Finset.disjoint_product.mpr (.inl (Finset.disjoint_singleton_left.mpr ha))
    rw [bigSep_insert ha, Finset.insert_eq, Finset.union_product, bigSep_union hdisj, ih, Finset.singleton_product, bigSep_map]
    rfl

/-- After the last point the three planes are delivered: the buffer, the operand and the cells are whole again. -/
theorem planes_out (c : Dev nD) (f4 : Bf (F := F) c sM) :
    Wts c f4 10 ⊢ iprop(pt c sM f4 ∗ (∃ f13, pt c wM f13) ∗ (bigSep Finset.univ fun p : Fin 3 × Fin 7 => semVal ((c : Thread nD τ), .dma (semF p.1 p.2)) 0)) := by
  rw [Wts_pos c f4 (by omega), Wq_dl c f4 (q := 0) (by decide), Wq_dl c f4 (q := 1) (by decide), Wq_dl c f4 (q := 2) (by decide)]
  unfold DlQ
  have e : ∀ Φ : Fin 3 × Fin 7 → sProp 𝕄, bigSep Finset.univ Φ
      = iprop((bigSep Finset.univ fun k : Fin 7 => Φ (0, k)) ∗ (bigSep Finset.univ fun k : Fin 7 => Φ (1, k)) ∗ (bigSep Finset.univ fun k : Fin 7 => Φ (2, k))) := by
    intro Φ
    rw [← Finset.univ_product_univ, bigSep_pairs, b3]
  rw [split_src, e, e]
  rw [bigSep_sep', bigSep_sep', bigSep_sep']
  iintro ⟨⟨A, A1, A2⟩, ⟨B, B1, B2⟩, ⟨C, C1, C2⟩⟩
  isplitl [A1 B1 C1]
  · isplitl [A1]; · iexact A1
    isplitl [B1]; · iexact B1
    iexact C1
  isplitl [A B C]
  · iexists (WF c f4)
    rw [split_dst, e, ← split_plane, ← split_plane, ← split_plane]
    isplitl [A]; · iexact A
    isplitl [B]; · iexact B
    iexact C
  isplitl [A2]; · iexact A2
  isplitl [B2]; · iexact B2
  iexact C2

/-- The invariant after the last point gives back what the launch handed over. -/
theorem inv_out (c : Dev nD) (P : Pred F c) : Inv m c P 10 ⊢ Pipeline.ΦD osem0 spec0 {main_arg3} (V m) c := by
  rw [Pipeline.ΦD_eq, scopedRest0_eq, cells_eq, bigSep_singleton]
  unfold Inv
  refine (sep_mono (planes_out c _) .rfl).trans ?_
  iintro ⟨⟨Ha, H5, Hs⟩, H0, H1, H2, H3, ⟨%f4, -, H4⟩, ⟨%f6, -, H6⟩, Hr⟩
  isplitl [H0 H1 H2 H3 H4 H5 H6]
  · isplitl [H0]; · iexact H0
    isplitl [H1]; · iexact H1
    isplitl [H2]; · iexact H2
    isplitl [H3]; · iexact H3
    isplitl [H4]; · iexists f4; iexact H4
    isplitl [H5]; · iexact H5
    iexists f6; iexact H6
  isplitl [Hr]; · iexact Hr
  isplitl [Hs]; · iexact Hs
  iexact Ha

/-- The proof data; the output window's entry is not used (`fg`, `Rl`). -/
def dat (c : Dev nD) (P : Pred F c) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => fun _ => Classical.arbitrary _
  Φ t := Inv m c P t.val
  q _ := fullShare
  owed _ := 0

/-- The window held to a relation: the output. -/
def fg (w : Fin cfg0.W) : Bool := match w with
  | ⟨0, _⟩ => false
  | ⟨1, _⟩ => false
  | ⟨2, _⟩ => false
  | ⟨3, _⟩ => false
  | ⟨4, _⟩ => false
  | ⟨5, _⟩ => true
/-- The relation. -/
def Rl (c : Dev nD) (P : Pred F c) (w : Fin cfg0.W) (t : Fin cfg0.N) : ((cfg0.win w).block.Idx → Elt F (cfg0.win w).elt) → Prop := match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun X => P.Y t X

theorem A_eq (c : Dev nD) (P : Pred F c) (w : Fin cfg0.W) : (dat m c P).A w = V m c (Pipeline.arrRef spec0 w) := by dsimp only [dat]
theorem after_0 (c : Dev nD) (P : Pred F c) (t : Fin cfg0.N) : (dat m c P).after 0 t = iblk m c 0 t := by dsimp only [dat]
theorem after_1 (c : Dev nD) (P : Pred F c) (t : Fin cfg0.N) : (dat m c P).after 1 t = iblk m c 1 t := by dsimp only [dat]
theorem after_2 (c : Dev nD) (P : Pred F c) (t : Fin cfg0.N) : (dat m c P).after 2 t = iblk m c 2 t := by dsimp only [dat]
theorem after_3 (c : Dev nD) (P : Pred F c) (t : Fin cfg0.N) : (dat m c P).after 3 t = iblk m c 3 t := by dsimp only [dat]
theorem after_4 (c : Dev nD) (P : Pred F c) (t : Fin cfg0.N) : (dat m c P).after 4 t = iblk m c 4 t := by dsimp only [dat]
theorem before_0 (c : Dev nD) (P : Pred F c) (t : Fin cfg0.N) (d) : (dat m c P).before 0 t d = iblk m c 0 t :=
  ((dat m c P).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (P : Pred F c) (t : Fin cfg0.N) (d) : (dat m c P).before 1 t d = iblk m c 1 t :=
  ((dat m c P).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (P : Pred F c) (t : Fin cfg0.N) (d) : (dat m c P).before 2 t d = iblk m c 2 t :=
  ((dat m c P).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (P : Pred F c) (t : Fin cfg0.N) (d) : (dat m c P).before 3 t d = iblk m c 3 t :=
  ((dat m c P).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (P : Pred F c) (t : Fin cfg0.N) (d) : (dat m c P).before 4 t d = iblk m c 4 t :=
  ((dat m c P).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- The body's triple at a point. -/
theorem sound_body (c : Dev nD) (P : Pred F c) (hP : P.Ok m c) (t : Fin cfg0.N) :
    iprop((dat m c P).Φ t.castSucc ∗ (dat m c P).owesAt () t.castSucc
        ∗ (∃ d, owns (c : Thread nD τ) (st0_0 t) fullShare ((dat m c P).before 0 t d))
        ∗ (∃ d, owns (c : Thread nD τ) (st0_1 t) fullShare ((dat m c P).before 1 t d))
        ∗ (∃ d, owns (c : Thread nD τ) (st0_2 t) fullShare ((dat m c P).before 2 t d))
        ∗ (∃ d, owns (c : Thread nD τ) (st0_3 t) fullShare ((dat m c P).before 3 t d))
        ∗ (∃ d, owns (c : Thread nD τ) (st0_4 t) fullShare ((dat m c P).before 4 t d))
        ∗ (∃ Y, ⌜((dat m c P).toRRel fg (Rl c P)).Finds 5 t Y⌝ ∗ owns (c : Thread nD τ) (st0_5 t) fullShare Y))
      ⊢ wp frame (wpE (defs₀ (F := F)) Variants.none c none) Set.univ (bodyAt0 t) fun _ =>
          iprop((dat m c P).Φ t.succ ∗ (dat m c P).owesAt () t.succ
            ∗ owns (c : Thread nD τ) (st0_0 t) fullShare ((dat m c P).after 0 t)
            ∗ owns (c : Thread nD τ) (st0_1 t) fullShare ((dat m c P).after 1 t)
            ∗ owns (c : Thread nD τ) (st0_2 t) fullShare ((dat m c P).after 2 t)
            ∗ owns (c : Thread nD τ) (st0_3 t) fullShare ((dat m c P).after 3 t)
            ∗ owns (c : Thread nD τ) (st0_4 t) fullShare ((dat m c P).after 4 t)
            ∗ (∃ X, ⌜P.Y t X⌝ ∗ owns (c : Thread nD τ) (st0_5 t) fullShare X)) := by
  rw [after_0, after_1, after_2, after_3, after_4]
  simp only [before_0, before_1, before_2, before_3, before_4]
  rw [show (dat m c P).Φ t.castSucc = Inv m c P t.val from rfl, show (dat m c P).Φ t.succ = Inv m c P (t.val + 1) from rfl]
  unfold Dat.owesAt Pipeline.owesWithin
  rw [show (dat m c P).owed t.castSucc = 0 from rfl, show (dat m c P).owed t.succ = 0 from rfl]
  rw [owns_pt c (st0_0 t) (hstage0_0 ((cfg0.slots t 0).cast nbuf0_0)), owns_pt c (st0_1 t) (hstage0_1 ((cfg0.slots t 1).cast nbuf0_1)), owns_pt c (st0_2 t) (hstage0_2 ((cfg0.slots t 2).cast nbuf0_2)), owns_pt c (st0_3 t) (hstage0_3 ((cfg0.slots t 3).cast nbuf0_3)), owns_pt c (st0_4 t) (hstage0_4 ((cfg0.slots t 4).cast nbuf0_4))]
  simp only [owns_pt c (st0_5 t) (hstage0_5 ((cfg0.slots t 5).cast nbuf0_5))]
  unfold Inv
  iintro ⟨⟨HW, H8, H9, H10, H11, H12, H14, Hr⟩, ⟨%W, -, HO⟩, ⟨%d0, %f1, %e1, H1⟩, ⟨%d1, %f2, %e2, H2⟩, ⟨%d2, %f3, %e3, H3⟩, ⟨%d3, %f5, %e5, H5⟩, ⟨%d4, %f6, %e6, H6⟩, ⟨%Y, -, %f7, -, H7⟩⟩
  have hc := coord_val t
  iapply (core c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) W (V m c main_arg3) f1 f2 f3 f5 f6 f7 (P.A t.val) (P.A (t.val + 1)) (P.C t.val) (P.D t.val) (P.C (t.val + 1)) (fun f => P.Y t ((st0_5 t).view.read (Elt F) f))
    (fun h f8 f9 f10 f12 ha => hP.p3 t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) h f1 f2 f8 f9 f10 f12 e1 e2 ha)
    (hP.n3 t) (fun h f hf => hP.p4 t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) h f hf) (hP.n4 t)
    (fun h f12 f14 ha hd => hP.p5 t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) h f12 f14 ha hd) (hP.n5 t)
    (fun h f11 f14 hf => hP.p6 t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) h f3 f5 f6 f7 f11 f14 e3 e5 e6 hf) (fun h => hP.n6 t h _))
  rw [hc]
  isplitl [HO HW H8 H9 H10 H11 H12 H14 H1 H2 H3 H5 H6 H7]
  · isplitl [HO]; · iexact HO
    isplitl [HW]; · iexact HW
    isplitl [H8]; · iexact H8
    isplitl [H9]; · iexact H9
    isplitl [H10]; · iexact H10
    isplitl [H11]; · iexact H11
    isplitl [H12]; · iexact H12
    isplitl [H14]; · iexact H14
    isplitl [H1]; · iexact H1
    isplitl [H2]; · iexact H2
    isplitl [H3]; · iexact H3
    isplitl [H5]; · iexact H5
    isplitl [H6]; · iexact H6
    iexact H7
  iintro ⟨⟨%W', HO⟩, HW, H8, H9, H10, H11, H12, H14, H1, H2, H3, H5, H6, ⟨%g7, %hy, H7⟩⟩
  isplitl [HW H8 H9 H10 H11 H12 H14 Hr]
  · isplitl [HW]; · iexact HW
    isplitl [H8]; · iexact H8
    isplitl [H9]; · iexact H9
    isplitl [H10]; · iexact H10
    isplitl [H11]; · iexact H11
    isplitl [H12]; · iexact H12
    isplitl [H14]; · iexact H14
    iexact Hr
  isplitl [HO]
  · iexists W'; isplitr; swap; · iexact HO
    ipureintro; exact fun _ _ => Or.inl trivial
  isplitl [H1]
  · iexists f1; isplitr; swap; · iexact H1
    ipureintro; exact e1
  isplitl [H2]
  · iexists f2; isplitr; swap; · iexact H2
    ipureintro; exact e2
  isplitl [H3]
  · iexists f3; isplitr; swap; · iexact H3
    ipureintro; exact e3
  isplitl [H5]
  · iexists f5; isplitr; swap; · iexact H5
    ipureintro; exact e5
  isplitl [H6]
  · iexists f6; isplitr; swap; · iexact H6
    ipureintro; exact e6
  iexists ((st0_5 t).view.read (Elt F) g7); isplitr
  · ipureintro; exact hy
  iexists g7; isplitr; swap; · iexact H7
  ipureintro; rfl

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) (P : Pred F c) (hP : P.Ok m c) :
    Pipeline.BodyObligationRel (dat m c P) (defs₀ (F := F)) Variants.none () Set.univ fg (Rl c P) := fun t => by
  rw [bigSep_W0, bigSep_W0, defs₀_row]
  exact triple_restated (sound_body m c P hP t) rfl .rfl fun _ => .rfl

/-- @main up to the region. -/
theorem hmain' (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
set_option maxHeartbeats 800000 in
/-- The launch: every fair run ends with the pipeline's arrays at what the data allow, the others as found, the counters at zero. -/
theorem run_main (P : (c : Dev nD) → Pred F c) (hP : ∀ c, (P c).Ok m c) :
    θ_run defs (onTc (τ := τ) (main (F := F))) (s₀ m ρ)
      (fun r => RDat.FramePost cfg0 (fun c => (dat m c (P c)).toRRel fg (Rl c (P c))) (V m) r ∧ r.2.sem = fun _ => 0) :=
  RDat.θ_run_frame_dma (Q' := _) cfgs (0 : Fin 1) launch0 osem0 defs₀ Variants.none (fun c => (dat m c (P c)).toRRel fg (Rl c (P c)))
    ownSemFacts0 {main_arg3} (by decide) m ρ main
    (hbody := fun c => (body_obligation m c (P c) (hP c)).toRRel) (hshare := fun c w => (dat m c (P c)).share_full (fun _ => rfl) w)
    (howed := fun _ _ => rfl) (V := V m) (hmain := hmain' m Variants.none) (hA := fun c w => A_eq m c (P c) w)
    (hin := fun c => inv_in m c (P c) (hP c)) (hout := fun c => inv_out m c (P c))

/-- The arguments and the counters after such a run. -/
theorem args_of (P : (c : Dev nD) → Pred F c) (r : PUnit × MemSt nD τ sig (Elt F))
    (h : RDat.FramePost cfg0 (fun c => (dat m c (P c)).toRRel fg (Rl c (P c))) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h.arr_in c 0 rfl).trans ((A_eq m c (P c) 0).trans (V_main_arg0 m c)),
    (h.arr_in c 1 rfl).trans ((A_eq m c (P c) 1).trans (V_main_arg1 m c)),
    (h.arr_in c 2 rfl).trans ((A_eq m c (P c) 2).trans (V_main_arg2 m c)),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The frame: the arguments end as they were and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨args_of m (fun c => Pred.none c) r h.1, h.2⟩) (run_main m ρ (fun c => Pred.none c) fun c => Pred.none_ok m c)

end Cert.Kernel.Prf

end
-- ==== Proof.Conv.lean ====
/- The equation: the convolution summed by channel tile, over rows in the tile's order, is the convolution summed tap by tap. -/
module

public import Idealize.ShloMosaic.Lib.Pointwise
public import Mathlib.Data.EReal.Operations
public import Mathlib.Algebra.BigOperators.Fin
public import Mathlib.Algebra.BigOperators.Intervals

@[expose] public section

noncomputable section

namespace Cert.Conv

open Idealize.ShloMosaic

/-- An array of three axes as a function of numbers, zero outside. -/
def at3 {n0 n1 n2 : ℕ} (A : (⟨3, ![n0, n1, n2]⟩ : Shape).Idx → EReal) (a b c : ℕ) : EReal :=
  if h : a < n0 ∧ b < n1 ∧ c < n2 then A (Idealize.ShloMosaic.ix3 (n0 := n0) (n1 := n1) (n2 := n2) ⟨a, h.1⟩ ⟨b, h.2.1⟩ ⟨c, h.2.2⟩) else 0

theorem at3_of {n0 n1 n2 : ℕ} (A : (⟨3, ![n0, n1, n2]⟩ : Shape).Idx → EReal) (y : (⟨3, ![n0, n1, n2]⟩ : Shape).Idx) (a b c : ℕ)
    (h0 : (y 0).val = a) (h1 : (y 1).val = b) (h2 : (y 2).val = c) : A y = at3 A a b c := by
  subst h0 h1 h2
  unfold at3
  rw [dif_pos ⟨(y 0).isLt, (y 1).isLt, (y 2).isLt⟩]
  refine congrArg A (funext fun d => ?_)
  match d with
  | ⟨0, _⟩ => rfl
  | ⟨1, _⟩ => rfl
  | ⟨2, _⟩ => rfl

/-- The same for one axis. -/
def at1 {n : ℕ} (A : (⟨1, ![n]⟩ : Shape).Idx → EReal) (a : ℕ) : EReal :=
  if h : a < n then A (fun d => ⟨a, by have : d = 0 := Subsingleton.elim _ _; subst this; exact h⟩) else 0

theorem at1_of {n : ℕ} (A : (⟨1, ![n]⟩ : Shape).Idx → EReal) (y : (⟨1, ![n]⟩ : Shape).Idx) (a : ℕ) (h0 : (y 0).val = a) : A y = at1 A a := by
  subst h0
  unfold at1
  rw [dif_pos (show (y 0).val < n from (y 0).isLt)]
  refine congrArg A (funext fun d => ?_)
  match d with
  | ⟨0, _⟩ => rfl

/-- A sum over a product, block by block. -/
theorem sum_blocks (f : ℕ → EReal) (m n : ℕ) :
    ∑ x ∈ Finset.range (n * m), f x = ∑ k ∈ Finset.range n, ∑ i ∈ Finset.range m, f (m * k + i) := by
  induction n with
  | zero => simp
  | succ n ih => rw [Nat.succ_mul, Finset.sum_range_add, ih, Finset.sum_range_succ, Nat.mul_comm n m]

variable (X S W : ℕ → ℕ → ℕ → EReal)

/-- A number of stage `s`'s tile, in row `R` and column `col`. -/
def gg (s R col : ℕ) : EReal :=
  if 9 ≤ 40 * (R % 16) + R / 16 ∧ 40 * (R % 16) + R / 16 < 649 then
    X (s / 3) (40 * (R % 16) + R / 16 - 9) (256 * (s % 3) + col) * S (s / 3) (40 * (R % 16) + R / 16 - 9) (8 * (s % 3) + col / 32)
  else 0

/-- What a stage adds to the accumulator. -/
def term (s R o : ℕ) : EReal := ∑ κ : Fin 1792, gg X S s (R + 48 * (κ.val / 256)) (κ.val % 256) * W (κ.val / 256) (256 * (s % 3) + κ.val % 256) o

/-- The accumulator before a stage, and after it. -/
def pre (s R o : ℕ) : EReal :=
  if s % 3 = 0 then 0 else if s % 3 = 1 then 0 + term X S W (s - 1) R o else 0 + term X S W (s - 2) R o + term X S W (s - 1) R o
def post (s R o : ℕ) : EReal := pre X S W s R o + term X S W s R o

theorem pre_succ (s R o : ℕ) (h : (s + 1) % 3 ≠ 0) : pre X S W (s + 1) R o = post X S W s R o := by
  unfold post pre
  rw [if_neg h]
  by_cases h1 : (s + 1) % 3 = 1
  · rw [if_pos h1, if_pos (by omega)]; rfl
  · rw [if_neg h1, if_neg (by omega), if_pos (by omega)]; rfl

/-- One tap's product at time `T`. -/
def dot (b k T o : ℕ) : EReal := ∑ i : Fin 768, X b T i.val * S b T (i.val / 32) * W k i.val o

/-- The convolution, tap by tap: the middle one first, the others shifted. -/
def conv (b T o : ℕ) : EReal :=
  dot X S W b 3 T o + (if T < 9 then 0 else dot X S W b 0 (T - 9) o) + (if T < 6 then 0 else dot X S W b 1 (T - 6) o)
    + (if T < 3 then 0 else dot X S W b 2 (T - 3) o) + (if T < 637 then dot X S W b 4 (T + 3) o else 0)
    + (if T < 634 then dot X S W b 5 (T + 6) o else 0) + (if T < 631 then dot X S W b 6 (T + 9) o else 0)

/-- A tile's part of one tap's product. -/
def part (b q k T o : ℕ) : EReal :=
  if 9 ≤ T + 3 * k ∧ T + 3 * k < 649 then ∑ i ∈ Finset.range 256, X b (T + 3 * k - 9) (256 * q + i) * S b (T + 3 * k - 9) ((256 * q + i) / 32) * W k (256 * q + i) o else 0

theorem term_eq (b q T o : ℕ) (hq : q < 3) (hT : T < 640) :
    term X S W (3 * b + q) (16 * (T % 40) + T / 40) o = ∑ k ∈ Finset.range 7, part X S W b q k T o := by
  unfold term
  rw [← Finset.sum_range fun κ => gg X S (3 * b + q) (16 * (T % 40) + T / 40 + 48 * (κ / 256)) (κ % 256) * W (κ / 256) (256 * ((3 * b + q) % 3) + κ % 256) o,
    show (1792 : ℕ) = 7 * 256 from rfl, sum_blocks]
  refine Finset.sum_congr rfl fun k hk => ?_
  have e1 : (3 * b + q) % 3 = q := by omega
  have e2 : (3 * b + q) / 3 = b := by omega
  have h : ∀ i ∈ Finset.range 256, gg X S (3 * b + q) (16 * (T % 40) + T / 40 + 48 * ((256 * k + i) / 256)) ((256 * k + i) % 256)
        * W ((256 * k + i) / 256) (256 * ((3 * b + q) % 3) + (256 * k + i) % 256) o
      = if 9 ≤ T + 3 * k ∧ T + 3 * k < 649 then X b (T + 3 * k - 9) (256 * q + i) * S b (T + 3 * k - 9) ((256 * q + i) / 32) * W k (256 * q + i) o else 0 := by
    intro i hi
    have hi := Finset.mem_range.1 hi
    have a1 : (256 * k + i) / 256 = k := by omega
    have a2 : (256 * k + i) % 256 = i := by omega
    rw [a1, a2, e1]
    unfold gg
    have a3 : 40 * ((16 * (T % 40) + T / 40 + 48 * k) % 16) + (16 * (T % 40) + T / 40 + 48 * k) / 16 = T + 3 * k := by omega
    have a4 : 8 * q + i / 32 = (256 * q + i) / 32 := by omega
    rw [a3, e1, e2, a4]
    split
    · rfl
    · exact zero_mul _
  rw [Finset.sum_congr rfl h]
  unfold part
  split
  · rfl
  · exact Finset.sum_const_zero

theorem parts_eq (b k T o : ℕ) :
    part X S W b 0 k T o + part X S W b 1 k T o + part X S W b 2 k T o = if 9 ≤ T + 3 * k ∧ T + 3 * k < 649 then dot X S W b k (T + 3 * k - 9) o else 0 := by
  unfold part
  split
  · unfold dot
    rw [← Finset.sum_range fun i => X b (T + 3 * k - 9) i * S b (T + 3 * k - 9) (i / 32) * W k i o, show (768 : ℕ) = 3 * 256 from rfl, sum_blocks]
    refine Eq.symm ?_
    rw [Finset.sum_range_succ, Finset.sum_range_succ, Finset.sum_range_succ, Finset.sum_range_zero, zero_add]
  · rw [add_zero, add_zero]

/-- The accumulator after a batch's last stage is the convolution. -/
theorem post_eq (b T o : ℕ) (hT : T < 640) : post X S W (3 * b + 2) (16 * (T % 40) + T / 40) o = conv X S W b T o := by
  unfold post pre
  rw [if_neg (by omega), if_neg (by omega), show 3 * b + 2 - 2 = 3 * b + 0 from rfl, show 3 * b + 2 - 1 = 3 * b + 1 from rfl,
    term_eq X S W b 0 T o (by omega) hT, term_eq X S W b 1 T o (by omega) hT, term_eq X S W b 2 T o (by omega) hT, zero_add,
    ← Finset.sum_add_distrib, ← Finset.sum_add_distrib, Finset.sum_congr rfl fun k _ => parts_eq X S W b k T o]
  have c0 : (if 9 ≤ T + 3 * 0 ∧ T + 3 * 0 < 649 then dot X S W b 0 (T + 3 * 0 - 9) o else 0) = if T < 9 then 0 else dot X S W b 0 (T - 9) o := by
    by_cases h : T < 9
    · rw [if_pos h, if_neg (by omega)]
    · rw [if_neg h, if_pos (by omega)]; rfl
  have c1 : (if 9 ≤ T + 3 * 1 ∧ T + 3 * 1 < 649 then dot X S W b 1 (T + 3 * 1 - 9) o else 0) = if T < 6 then 0 else dot X S W b 1 (T - 6) o := by
    by_cases h : T < 6
    · rw [if_pos h, if_neg (by omega)]
    · rw [if_neg h, if_pos (by omega)]; congr 1
  have c2 : (if 9 ≤ T + 3 * 2 ∧ T + 3 * 2 < 649 then dot X S W b 2 (T + 3 * 2 - 9) o else 0) = if T < 3 then 0 else dot X S W b 2 (T - 3) o := by
    by_cases h : T < 3
    · rw [if_pos h, if_neg (by omega)]
    · rw [if_neg h, if_pos (by omega)]; congr 1
  have c3 : (if 9 ≤ T + 3 * 3 ∧ T + 3 * 3 < 649 then dot X S W b 3 (T + 3 * 3 - 9) o else 0) = dot X S W b 3 T o := by
    rw [if_pos (by omega)]; rfl
  have c4 : (if 9 ≤ T + 3 * 4 ∧ T + 3 * 4 < 649 then dot X S W b 4 (T + 3 * 4 - 9) o else 0) = if T < 637 then dot X S W b 4 (T + 3) o else 0 := by
    by_cases h : T < 637
    · rw [if_pos h, if_pos (by omega)]; rfl
    · rw [if_neg h, if_neg (by omega)]
  have c5 : (if 9 ≤ T + 3 * 5 ∧ T + 3 * 5 < 649 then dot X S W b 5 (T + 3 * 5 - 9) o else 0) = if T < 634 then dot X S W b 5 (T + 6) o else 0 := by
    by_cases h : T < 634
    · rw [if_pos h, if_pos (by omega)]; rfl
    · rw [if_neg h, if_neg (by omega)]
  have c6 : (if 9 ≤ T + 3 * 6 ∧ T + 3 * 6 < 649 then dot X S W b 6 (T + 3 * 6 - 9) o else 0) = if T < 631 then dot X S W b 6 (T + 9) o else 0 := by
    by_cases h : T < 631
    · rw [if_pos h, if_pos (by omega)]; rfl
    · rw [if_neg h, if_neg (by omega)]
  simp only [Finset.sum_range_succ, Finset.sum_range_zero, zero_add]
  rw [c0, c1, c2, c3, c4, c5, c6]
  unfold conv
  ac_rfl

/-- The unit's output: the input plus the scaled convolution and the bias. -/
def G (A0 : (⟨3, ![3, 640, 768]⟩ : Shape).Idx → EReal) (A1 : (⟨3, ![3, 640, 24]⟩ : Shape).Idx → EReal) (A2 : (⟨3, ![3, 640, 768]⟩ : Shape).Idx → EReal)
    (A3 : (⟨3, ![7, 768, 768]⟩ : Shape).Idx → EReal) (A4 A5 : (⟨1, ![768]⟩ : Shape).Idx → EReal) (y : (⟨3, ![3, 640, 768]⟩ : Shape).Idx) : EReal :=
  A2 y + (conv (at3 A0) (at3 A1) (at3 A3) (y 0).val (y 1).val (y 2).val * at1 A4 (y 2).val + at1 A5 (y 2).val)

end Cert.Conv
-- ==== Proof.ISq.lean ====
module
public import proofs.«01_k».proof.Proof.IRun5
public import proofs.«01_k».proof.Proof.IRun3
public import Idealize.ShloMosaic.Lib.ValueLayout
public import Idealize.ShloMosaic.Lib.ValueIdx

/-! Reading one plane of a three-axis buffer. -/

@[expose] public section

set_option maxRecDepth 65536

noncomputable section

namespace Cert.KernelIdeal.Prf

open Cert.KernelIdeal Cert.KernelIdeal.Gen
open Idealize.ShloMosaic Idealize.ShloMosaic.TcCoe Idealize.ShloMosaic.Tactic Idealize.ShloMosaic.ValueIdx

variable {F : FTy → Type} [FloatOps F]

/-- An element of one plane of the tile buffer is the buffer's element there. -/
theorem read_plane12 (A : Memref sig .tc .vmem S2x928x256 .bf16) (off : Fin 3 → ℕ) (inb) (hs) (f : A.view.ty.Contents (Elt F))
    (s : ℕ) (ho : off = ![s, 0, 0]) (x : S928x256.Idx) (y : S2x928x256.Idx)
    (h0 : (y 0).val = s) (h1 : (y 1).val = (x 0).val) (h2 : (y 2).val = (x 1).val) :
    ((A.slice (Rect.unit (s := S2x928x256) off S1x928x256.size inb) hs).squeeze S928x256 squeezes_S1x928x256_S928x256).view.read (Elt F) f x
      = A.view.read (Elt F) f y := by
  subst ho
  show A.view.read (Elt F) f ((Rect.unit (s := S2x928x256) ![s, 0, 0] S1x928x256.size inb).emb (Shape.reshapeEquiv _ x)) = _
  congr 1
  have e : ∀ (hn : (⟨2, ![928, 256]⟩ : Shape).numel = (⟨3, ![1, 928, 256]⟩ : Shape).numel) (a : Fin 928) (b : Fin 256), (y 1).val = a.val → (y 2).val = b.val →
      (Rect.unit (s := S2x928x256) ![s, 0, 0] S1x928x256.size inb).emb (Shape.reshapeEquiv hn (ix2 a b)) = y := by
    intro hn a b ha hb
    rw [reshapeEquiv_ix2_1ab]
    funext d
    apply Fin.ext
    match d with
    | ⟨0, _⟩ => show s + 1 * 0 = (y 0).val; omega
    | ⟨1, _⟩ => show 0 + 1 * a.val = (y 1).val; omega
    | ⟨2, _⟩ => show 0 + 1 * b.val = (y 2).val; omega
  exact (congrArg (fun z => (Rect.unit (s := S2x928x256) ![s, 0, 0] S1x928x256.size inb).emb (Shape.reshapeEquiv _ z)) (eq_ix2 x)).trans (e _ (x 0) (x 1) h1 h2)

/-- An element of one plane of the weight buffer is the buffer's element there. -/
theorem read_plane13 (A : Memref sig .tc .vmem S3x1792x768 .fp8e4m3) (off : Fin 3 → ℕ) (inb) (hs) (f : A.view.ty.Contents (Elt F))
    (s : ℕ) (ho : off = ![s, 0, 0]) (x : S1792x768.Idx) (y : S3x1792x768.Idx)
    (h0 : (y 0).val = s) (h1 : (y 1).val = (x 0).val) (h2 : (y 2).val = (x 1).val) :
    ((A.slice (Rect.unit (s := S3x1792x768) off S1x1792x768.size inb) hs).squeeze S1792x768 squeezes_S1x1792x768_S1792x768).view.read (Elt F) f x
      = A.view.read (Elt F) f y := by
  subst ho
  show A.view.read (Elt F) f ((Rect.unit (s := S3x1792x768) ![s, 0, 0] S1x1792x768.size inb).emb (Shape.reshapeEquiv _ x)) = _
  congr 1
  have e : ∀ (hn : (⟨2, ![1792, 768]⟩ : Shape).numel = (⟨3, ![1, 1792, 768]⟩ : Shape).numel) (a : Fin 1792) (b : Fin 768), (y 1).val = a.val → (y 2).val = b.val →
      (Rect.unit (s := S3x1792x768) ![s, 0, 0] S1x1792x768.size inb).emb (Shape.reshapeEquiv hn (ix2 a b)) = y := by
    intro hn a b ha hb
    rw [reshapeEquiv_ix2_1ab]
    funext d
    apply Fin.ext
    match d with
    | ⟨0, _⟩ => show s + 1 * 0 = (y 0).val; omega
    | ⟨1, _⟩ => show 0 + 1 * a.val = (y 1).val; omega
    | ⟨2, _⟩ => show 0 + 1 * b.val = (y 2).val; omega
  exact (congrArg (fun z => (Rect.unit (s := S3x1792x768) ![s, 0, 0] S1x1792x768.size inb).emb (Shape.reshapeEquiv _ z)) (eq_ix2 x)).trans (e _ (x 0) (x 1) h1 h2)

end Cert.KernelIdeal.Prf
end
-- ==== Proof.IRead.lean ====
/- What a buffer reads after a list of stores whose payloads all come from one function of the index. -/
module

public import proofs.«01_k».proof.Proof.ICommon
public import Idealize.ShloMosaic.Lib.Writes
public import Idealize.ShloMosaic.Lib.Pointwise

@[expose] public section

noncomputable section

namespace Cert.KernelIdeal.Prf

open Idealize.ShloMosaic

/-- `g 0`, …, `g (n - 1)` before `base`, the last first: a run of stores, the newest at the head. -/
def down {α : Type*} {N : ℕ} (g : Fin N → α) (base : List α) : (n : ℕ) → n ≤ N → List α
  | 0, _ => base
  | n + 1, h => g ⟨n, h⟩ :: down g base n (Nat.le_of_succ_le h)

variable {sig : RefSig} {κ : Kind} {sp : Space} {S : Shape} {e : EltTy} {Val : EltTy → Type}

/-- The payload of a store is `V` on the store's rectangle. -/
def Fit (V : S.Idx → Val e) (p : View.Piece Val S e) : Prop := ∀ j : p.1.shape.Idx, p.2 j = V (p.1.emb j)

/-- Every payload of the list is `V` on its rectangle. -/
def Fits (V : S.Idx → Val e) (L : List (View.Piece Val S e)) : Prop := ∀ p ∈ L, Fit V p

theorem Fits.cons {V : S.Idx → Val e} {p : View.Piece Val S e} {L : List (View.Piece Val S e)} (hp : Fit V p) (hL : Fits V L) :
    Fits V (p :: L) := by
  intro q hq
  rcases List.mem_cons.1 hq with rfl | hq
  · exact hp
  · exact hL q hq

theorem mem_down {α : Type*} {N : ℕ} (g : Fin N → α) (base : List α) (n : ℕ) (h : n ≤ N) (k : Fin N) (hk : k.val < n) :
    g k ∈ down g base n h := by
  induction n with
  | zero => omega
  | succ n ih =>
    by_cases hn : k.val = n
    · exact List.mem_cons.2 (Or.inl (by congr 1; exact Fin.ext hn))
    · exact List.mem_cons.2 (Or.inr (ih _ (by omega)))

theorem mem_down_base {α : Type*} {N : ℕ} (g : Fin N → α) (base : List α) (n : ℕ) (h : n ≤ N) (p : α) (hp : p ∈ base) :
    p ∈ down g base n h := by
  induction n with
  | zero => exact hp
  | succ n ih => exact List.mem_cons.2 (Or.inr (ih _))

theorem Fits.down {V : S.Idx → Val e} {N : ℕ} {g : Fin N → View.Piece Val S e} {base : List (View.Piece Val S e)}
    (hg : ∀ k, Fit V (g k)) (hb : Fits V base) (n : ℕ) (h : n ≤ N) : Fits V (down g base n h) := by
  induction n with
  | zero => exact hb
  | succ n ih => exact Fits.cons (hg _) (ih _)

/-- An element that some store covers reads `V` there. -/
theorem read_fits (v : View sig κ sp S e) (f : v.ty.Contents Val) {V : S.Idx → Val e} {L : List (View.Piece Val S e)} (hL : Fits V L)
    (y : S.Idx) (hy : ∃ p ∈ L, y ∈ p.1.set) : v.read Val (v.writes Val f L) y = V y := by
  induction L with
  | nil => obtain ⟨p, hp, _⟩ := hy; cases hp
  | cons q L ih =>
    by_cases hq : y ∈ q.1.set
    · obtain ⟨x, rfl⟩ := q.1.exists_idx_of_mem hq
      exact (View.read_writes_cons_emb v f q.1 q.2 L x).trans (hL q List.mem_cons_self x)
    · rw [View.read_writes_cons_miss v f q L y hq]
      obtain ⟨p, hp, hpy⟩ := hy
      rcases List.mem_cons.1 hp with rfl | hp
      · exact absurd hpy hq
      · exact ih (fun p hp => hL p (List.mem_cons_of_mem _ hp)) ⟨p, hp, hpy⟩

/-- An element that one of the newest `n` stores covers, where these agree with `V`, reads `V` there, whatever came before. -/
theorem read_down (v : View sig κ sp S e) (f : v.ty.Contents Val) {V : S.Idx → Val e} {N : ℕ} {g : Fin N → View.Piece Val S e}
    {base : List (View.Piece Val S e)} (hg : ∀ k, Fit V (g k)) (n : ℕ) (h : n ≤ N) (y : S.Idx) (k : Fin N) (hk : k.val < n)
    (hy : y ∈ (g k).1.set) : v.read Val (v.writes Val f (down g base n h)) y = V y := by
  induction n with
  | zero => omega
  | succ n ih =>
    show v.read Val (v.writes Val f (g ⟨n, h⟩ :: down g base n (Nat.le_of_succ_le h))) y = V y
    by_cases hq : y ∈ (g ⟨n, h⟩).1.set
    · obtain ⟨x, rfl⟩ := (g ⟨n, h⟩).1.exists_idx_of_mem hq
      exact (View.read_writes_cons_emb v f _ _ _ x).trans (hg _ x)
    · rw [View.read_writes_cons_miss v f _ _ y hq]
      refine ih _ ?_
      rcases Nat.lt_or_ge k.val n with hkn | hkn
      · exact hkn
      · exact absurd (by rwa [show k = ⟨n, h⟩ from Fin.ext (by show k.val = n; omega)] at hy) hq

/-- A load's element is the buffer's element at the place the rectangle gives it. -/
theorem readAt_at (v : View sig κ sp S e) (r : LoadRect S) (f : v.ty.Contents Val) (x : r.shape.Idx) (y : S.Idx)
    (h : ∀ a, r.off a + r.stride a * (x a).val = (y a).val) : v.readAt Val r f x = v.read Val f y :=
  congrArg (v.read Val f) (funext fun a => Fin.ext (h a))

end Cert.KernelIdeal.Prf
end
-- ==== Proof.ITile.lean ====
/- What the part that dequantises one tile leaves in the tile buffer: the stores it makes, in general form, and what each holds. -/
module

public import proofs.«01_k».proof.Proof.ISq
public import proofs.«01_k».proof.Proof.IRead

@[expose] public section

set_option maxRecDepth 65536

noncomputable section

namespace Cert.KernelIdeal.Prf

open Cert.KernelIdeal Cert.KernelIdeal.Gen
open Idealize.ShloMosaic Idealize.ShloMosaic.TcCoe Idealize.ShloMosaic.Tactic

section
variable {F : FTy → Type} [FloatOps F] (c : Dev nD) (i : grid0.Coords) (arg1 : Memref sig .tc .vmem S1x640x256 .fp8e4m3) (arg2 : Memref sig .tc .vmem S1x640x24 .f32)
    (arg8 : Memref sig .tc .vmem S872x128 .f32) (arg10 : Memref sig .tc .vmem S736x128 .f32)
    (f1 : Bf (F := F) c arg1) (f2 : Bf (F := F) c arg2) (f10 : Bf (F := F) c arg10)

theorem inb8L (cb : Fin 2) (b : Fin 16) : ∀ a, (![0, 80 * (b.val / 2), 128 * cb.val] : Fin 3 → ℕ) a + S1x80x128.size a ≤ S1x640x256.size a := by
  have := cb.isLt; have := b.isLt
  intro a
  match a with
  | ⟨0, _⟩ => show 0 + 1 ≤ 1; omega
  | ⟨1, _⟩ => show 80 * (b.val / 2) + 80 ≤ 640; omega
  | ⟨2, _⟩ => show 128 * cb.val + 128 ≤ 256; omega

theorem inb8 (b : Fin 16) : ∀ a, (![54 * b.val + 8, 0] : Fin 2 → ℕ) a + S40x128.size a ≤ S872x128.size a := by
  have := b.isLt
  intro a
  match a with
  | ⟨0, _⟩ => show 54 * b.val + 8 + 40 ≤ 872; omega
  | ⟨1, _⟩ => show 0 + 128 ≤ 128; omega

/-- The codes of forty rows, spread out for the strided loads. -/
def p8 (cb : Fin 2) (b : Fin 16) : View.Piece (Elt F) S872x128 .f32 :=
  ⟨Rect.unit (s := S872x128) ![54 * b.val + 8, 0] S40x128.size (inb8 b),
    (![k0_pay319 (k0_pay297 (View.readAt (Elt F) arg1.view (Rect.unit (s := S1x640x256) ![0, 80 * (b.val / 2), 128 * cb.val] S1x80x128.size (inb8L cb b)).toLoadRect f1)),
      k0_pay320 (k0_pay297 (View.readAt (Elt F) arg1.view (Rect.unit (s := S1x640x256) ![0, 80 * (b.val / 2), 128 * cb.val] S1x80x128.size (inb8L cb b)).toLoadRect f1))]
      : Fin 2 → FVec F S40x128 .f32) ⟨b.val % 2, by omega⟩⟩

theorem H8_0 : run3.sl.H8_16 c arg1 f1 = down (p8 c arg1 f1 0) [] 16 le_rfl := rfl
theorem H8_1 : run3.sl.H8_32 c arg1 f1 = down (p8 c arg1 f1 1) (run3.sl.H8_16 c arg1 f1) 16 le_rfl := rfl

theorem inb10L (b : Fin 16) : ∀ a, (![0, 40 * b.val, 0] : Fin 3 → ℕ) a + S1x40x24.size a ≤ S1x640x24.size a := by
  have := b.isLt
  intro a
  match a with
  | ⟨0, _⟩ => show 0 + 1 ≤ 1; omega
  | ⟨1, _⟩ => show 40 * b.val + 40 ≤ 640; omega
  | ⟨2, _⟩ => show 0 + 24 ≤ 24; omega

theorem inb10 (b : Fin 16) : ∀ a, (![46 * b.val, 0] : Fin 2 → ℕ) a + S40x24.size a ≤ S736x128.size a := by
  have := b.isLt
  intro a
  match a with
  | ⟨0, _⟩ => show 46 * b.val + 40 ≤ 736; omega
  | ⟨1, _⟩ => show 0 + 24 ≤ 128; omega

/-- The scales of forty rows, spread out for the strided loads. -/
def p10 (b : Fin 16) : View.Piece (Elt F) S736x128 .f32 :=
  ⟨Rect.unit (s := S736x128) ![46 * b.val, 0] S40x24.size (inb10 b),
    shapeCast S40x24 (shapeCast S40x24 (View.readAt (Elt F) arg2.view (Rect.unit (s := S1x640x24) ![0, 40 * b.val, 0] S1x40x24.size (inb10L b)).toLoadRect f2)
      shapeCasts_S1x40x24_S40x24) shapeCasts_S40x24_S40x24⟩

theorem H10_0 : run3.sl.H10_16 c arg2 f2 = down (p10 c arg2 f2) [] 16 le_rfl := rfl

theorem inbX (m : Fin 20) (q : Fin 2) : ∀ a, S16x128.size a = 0 ∨ (![8 + 2 * m.val + q.val, 0] : Fin 2 → Nat) a + (![54, 1] : Fin 2 → Nat) a * (S16x128.size a - 1) < S872x128.size a := by
  have := m.isLt; have := q.isLt
  intro a
  match a with
  | ⟨0, _⟩ => right; show 8 + 2 * m.val + q.val + 54 * (16 - 1) < 872; omega
  | ⟨1, _⟩ => right; show 0 + 1 * (128 - 1) < 128; omega

theorem spos54 : ∀ a, 0 < (![54, 1] : Fin 2 → Nat) a := by decide

theorem inbZ (m : Fin 20) (q h : Fin 2) : ∀ a, S8x128.size a = 0 ∨ (![2 * m.val + q.val + 368 * h.val, 0] : Fin 2 → Nat) a + (![46, 1] : Fin 2 → Nat) a * (S8x128.size a - 1) < S736x128.size a := by
  have := m.isLt; have := q.isLt; have := h.isLt
  intro a
  match a with
  | ⟨0, _⟩ => right; show 2 * m.val + q.val + 368 * h.val + 46 * (8 - 1) < 736; omega
  | ⟨1, _⟩ => right; show 0 + 1 * (128 - 1) < 128; omega

theorem spos46 : ∀ a, 0 < (![46, 1] : Fin 2 → Nat) a := by decide

/-- The codes of one time step of the first, and of the last, eight blocks of forty rows. -/
def xLo (L8 : List (View.Piece (Elt F) S872x128 .f32)) (m : Fin 20) (q : Fin 2) : FVec F S8x128 .f32 :=
  extractStridedSlice S8x128 ![0, 0] (arg8.view.readCov L8 ({ off := ![8 + 2 * m.val + q.val, 0], size := S16x128.size, stride := ![54, 1], inb := inbX m q, stride_pos := spos54 } : Rect S872x128).toLoadRect : Vec F S16x128 .f32) slices_S16x128_o0_0_S8x128
def xHi (L8 : List (View.Piece (Elt F) S872x128 .f32)) (m : Fin 20) (q : Fin 2) : FVec F S8x128 .f32 :=
  extractStridedSlice S8x128 ![8, 0] (arg8.view.readCov L8 ({ off := ![8 + 2 * m.val + q.val, 0], size := S16x128.size, stride := ![54, 1], inb := inbX m q, stride_pos := spos54 } : Rect S872x128).toLoadRect : Vec F S16x128 .f32) slices_S16x128_o8_0_S8x128

/-- The scales of the same, one for each lane. -/
def sQ (idx : IVec S8x128 32) (m : Fin 20) (q h : Fin 2) : FVec F S8x128 .f32 :=
  dynamicGather 1 (View.readAt (Elt F) arg10.view ({ off := ![2 * m.val + q.val + 368 * h.val, 0], size := S8x128.size, stride := ![46, 1], inb := inbZ m q h, stride_pos := spos46 } : Rect S736x128).toLoadRect
    (arg10.view.writes (Elt F) f10 (run3.sl.H10_16 c arg2 f2)) : Vec F S8x128 .f32) idx

theorem slot_lt : ∀ i : grid0.Coords, (Scalar.remsi (BitVec.ofNat 32 (i 0).val) 2#32).toNat < 2 := by decide +kernel

theorem inb12 (cb : Fin 2) (m : Fin 20) : ∀ a, (![(Scalar.remsi (BitVec.ofNat 32 (i 0).val) 2#32).toNat, 144 + 32 * m.val, 128 * cb.val] : Fin 3 → ℕ) a + S1x32x128.size a ≤ S2x928x256.size a := by
  have := slot_lt i; have := cb.isLt; have := m.isLt
  intro a
  match a with
  | ⟨0, _⟩ => show (Scalar.remsi (BitVec.ofNat 32 (i 0).val) 2#32).toNat + 1 ≤ 2; omega
  | ⟨1, _⟩ => show 144 + 32 * m.val + 32 ≤ 928; omega
  | ⟨2, _⟩ => show 128 * cb.val + 128 ≤ 256; omega

/-- A store of thirty-two dequantised rows. -/
def p12 (cb : Fin 2) (L8 : List (View.Piece (Elt F) S872x128 .f32)) (idx : IVec S8x128 32) (m : Fin 20) : View.Piece (Elt F) S2x928x256 .bf16 :=
  ⟨Rect.unit (s := S2x928x256) ![(Scalar.remsi (BitVec.ofNat 32 (i 0).val) 2#32).toNat, 144 + 32 * m.val, 128 * cb.val] S1x32x128.size (inb12 i cb m),
    k0_pay177 (xLo arg8 L8 m 0) (xHi arg8 L8 m 0) (sQ c arg2 arg10 f2 f10 idx m 0 0) (sQ c arg2 arg10 f2 f10 idx m 0 1)
      (xLo arg8 L8 m 1) (xHi arg8 L8 m 1) (sQ c arg2 arg10 f2 f10 idx m 1 0) (sQ c arg2 arg10 f2 f10 idx m 1 1)⟩

theorem H12_0 (h : k0_cond3 i = 1#1) : run3.sl.H12_20 c i arg1 arg2 arg8 arg10 h f1 f2 f10
    = down (p12 c i arg2 arg8 arg10 f2 f10 0 (run3.sl.H8_16 c arg1 f1) (run3.sl.v217 i)) [] 20 le_rfl := rfl

theorem H12_1 (h : k0_cond3 i = 1#1) (arg9 : Memref sig .tc .vmem S32x128 .f32) (arg12 : Memref sig .tc .vmem S2x928x256 .bf16)
    (f9 : Bf (F := F) c arg9) (f12 : Bf (F := F) c arg12) :
    run3.sl.H12_58 c i arg1 arg2 arg8 arg9 arg10 arg12 h f1 f2 f9 f10 f12
      = down (p12 c i arg2 arg8 arg10 f2 f10 1 (run3.sl.H8_32 c arg1 f1) (run3.sl.v1697 i)) (run3.sl.H12_38 c i arg1 arg2 arg8 arg9 arg10 arg12 h f1 f2 f9 f10 f12) 20 le_rfl := rfl
end

/-- Which scale a lane takes, as the kernel computes it. -/
def gix (k : BitVec 32) (t l : ℕ) : BitVec 32 :=
  Scalar.select (IntOp.cmpi .slt (IntOp.addi (IntOp.shrsi .vector (BitVec.ofNat 32 l) 5#32)
      (Scalar.muli (4#32) (Scalar.remsi (Scalar.addi (Scalar.muli (2#32) (Scalar.remsi (BitVec.ofNat 32 t) 3#32)) k) 6#32))) 0#32)
    (IntOp.addi (IntOp.addi (IntOp.shrsi .vector (BitVec.ofNat 32 l) 5#32)
      (Scalar.muli (4#32) (Scalar.remsi (Scalar.addi (Scalar.muli (2#32) (Scalar.remsi (BitVec.ofNat 32 t) 3#32)) k) 6#32))) 128#32)
    (IntOp.addi (IntOp.shrsi .vector (BitVec.ofNat 32 l) 5#32)
      (Scalar.muli (4#32) (Scalar.remsi (Scalar.addi (Scalar.muli (2#32) (Scalar.remsi (BitVec.ofNat 32 t) 3#32)) k) 6#32)))

theorem gix_0 : ∀ (t : Fin 10) (l : Fin 128), (gix 0#32 t.val l.val).toNat = 8 * (t.val % 3) + l.val / 32 := by decide +kernel
theorem gix_1 : ∀ (t : Fin 10) (l : Fin 128), (gix 1#32 t.val l.val).toNat = 8 * (t.val % 3) + 4 + l.val / 32 := by decide +kernel

theorem idx0 (i : grid0.Coords) (x : S8x128.Idx) : (run3.sl.v217 i x).toNat = 8 * ((i 0).val % 3) + 4 * (0 : Fin 2).val + (x 1).val / 32 := by
  refine Eq.trans ?_ (gix_0 (i 0) (x 1))
  refine congrArg BitVec.toNat ?_
  unfold gix run3.sl.v217 run3.sl.v216 run3.sl.v215 run3.sl.v212 run3.sl.v214 run3.sl.v206 run3.sl.v110 run3.sl.v202 run3.sl.v205 run3.sl.v204
    run3.sl.v201 run3.sl.v200 run3.sl.v211 run3.sl.v213 run3.sl.v199 run3.sl.v0
  pointwise []

theorem idx1 (i : grid0.Coords) (x : S8x128.Idx) : (run3.sl.v1697 i x).toNat = 8 * ((i 0).val % 3) + 4 * (1 : Fin 2).val + (x 1).val / 32 := by
  refine Eq.trans ?_ (gix_1 (i 0) (x 1))
  refine congrArg BitVec.toNat ?_
  unfold gix run3.sl.v1697 run3.sl.v1696 run3.sl.v1695 run3.sl.v1692 run3.sl.v1694 run3.sl.v1686 run3.sl.v110 run3.sl.v202 run3.sl.v1685 run3.sl.v1684
    run3.sl.v1681 run3.sl.v1680 run3.sl.v211 run3.sl.v213 run3.sl.v199 run3.sl.v0
  pointwise []

section
variable (c : Dev nD) (i : grid0.Coords) (arg1 : Memref sig .tc .vmem S1x640x256 .fp8e4m3) (arg2 : Memref sig .tc .vmem S1x640x24 .f32)
    (arg8 : Memref sig .tc .vmem S872x128 .f32) (arg10 : Memref sig .tc .vmem S736x128 .f32)
    (f1 : Bf (F := Ideal) c arg1) (f2 : Bf (F := Ideal) c arg2) (f10 : Bf (F := Ideal) c arg10)

/-- The spread-out codes and scales. -/
def v8 (cb : Fin 2) : S872x128.Idx → Elt Ideal .f32 := fun y =>
  (arg1.view.read (Elt Ideal) f1 (ix3 (n0 := 1) (n1 := 640) (n2 := 256) 0
    ⟨(40 * (((y 0).val - 8) / 54) + ((y 0).val - 8) % 54) % 640, Nat.mod_lt _ (by norm_num)⟩
    ⟨128 * cb.val + (y 1).val, by have : (y 1).val < 128 := (y 1).isLt; have := cb.isLt; omega⟩) : EReal)

def v10 : S736x128.Idx → Elt Ideal .f32 := fun y =>
  arg2.view.read (Elt Ideal) f2 (ix3 (n0 := 1) (n1 := 640) (n2 := 24) 0
    ⟨(40 * ((y 0).val / 46) + (y 0).val % 46) % 640, Nat.mod_lt _ (by norm_num)⟩ ⟨(y 1).val % 24, Nat.mod_lt _ (by norm_num)⟩)

theorem fit8 (cb : Fin 2) (b : Fin 16) : Fit (v8 c arg1 f1 cb) (p8 c arg1 f1 cb b) := by
  intro j
  have hb := b.isLt
  have hj0 : (j 0).val < 40 := (j 0).isLt
  have hj1 : (j 1).val < 128 := (j 1).isLt
  have hcb := cb.isLt
  have key : ∀ R : ℕ, R = 40 * b.val + (j 0).val → ∀ (w : Fin 80), 80 * (b.val / 2) + w.val = R →
      View.readAt (Elt Ideal) arg1.view (Rect.unit (s := S1x640x256) ![0, 80 * (b.val / 2), 128 * cb.val] S1x80x128.size (inb8L cb b)).toLoadRect f1
        (ix3 (n0 := 1) (n1 := 80) (n2 := 128) 0 w (j 1)) = v8 c arg1 f1 cb ((p8 c arg1 f1 cb b).1.emb j) := by
    intro R hR w hw
    refine readAt_at _ _ _ _ _ fun d => ?_
    match d with
    | ⟨0, _⟩ => rfl
    | ⟨1, _⟩ =>
      show 80 * (b.val / 2) + 1 * w.val = (40 * ((54 * b.val + 8 + 1 * (j 0).val - 8) / 54) + (54 * b.val + 8 + 1 * (j 0).val - 8) % 54) % 640
      rw [show (54 * b.val + 8 + 1 * (j 0).val - 8) / 54 = b.val by omega, show (54 * b.val + 8 + 1 * (j 0).val - 8) % 54 = (j 0).val by omega]
      omega
    | ⟨2, _⟩ => show 128 * cb.val + 1 * (j 1).val = 128 * cb.val + (0 + 1 * (j 1).val); omega
  rcases Nat.mod_two_eq_zero_or_one b.val with hp | hp
  · have e : (p8 c arg1 f1 cb b).2 = k0_pay319 (k0_pay297 (View.readAt (Elt Ideal) arg1.view (Rect.unit (s := S1x640x256) ![0, 80 * (b.val / 2), 128 * cb.val] S1x80x128.size (inb8L cb b)).toLoadRect f1)) := by
      have : (⟨b.val % 2, by omega⟩ : Fin 2) = 0 := Fin.ext hp
      unfold p8; dsimp only; rw [this]; rfl
    rw [e]
    refine Eq.trans ?_ (key (40 * b.val + (j 0).val) rfl ⟨(j 0).val, by omega⟩ (by show 80 * (b.val / 2) + (j 0).val = _; omega))
    pointwise [k0_pay319, k0_pay297]
  · have e : (p8 c arg1 f1 cb b).2 = k0_pay320 (k0_pay297 (View.readAt (Elt Ideal) arg1.view (Rect.unit (s := S1x640x256) ![0, 80 * (b.val / 2), 128 * cb.val] S1x80x128.size (inb8L cb b)).toLoadRect f1)) := by
      have : (⟨b.val % 2, by omega⟩ : Fin 2) = 1 := Fin.ext hp
      unfold p8; dsimp only; rw [this]; rfl
    rw [e]
    refine Eq.trans ?_ (key (40 * b.val + (j 0).val) rfl ⟨40 + (j 0).val, by omega⟩ (by show 80 * (b.val / 2) + (40 + (j 0).val) = _; omega))
    pointwise [k0_pay320, k0_pay297]

/-- Two casts of a block with a leading one, at an element. -/
theorem cast40 (V : S1x40x24.Idx → EReal) (j : S40x24.Idx) :
    (shapeCast S40x24 (shapeCast S40x24 V shapeCasts_S1x40x24_S40x24) shapeCasts_S40x24_S40x24 : S40x24.Idx → EReal) j
      = V (ix3 (n0 := 1) (n1 := 40) (n2 := 24) 0 (j 0) (j 1)) := by
  pointwise []

theorem fit10 (b : Fin 16) : Fit (v10 c arg2 f2) (p10 c arg2 f2 b) := by
  intro j
  have hb := b.isLt
  have hj0 : (j 0).val < 40 := (j 0).isLt
  have hj1 : (j 1).val < 24 := (j 1).isLt
  have key : View.readAt (Elt Ideal) arg2.view (Rect.unit (s := S1x640x24) ![0, 40 * b.val, 0] S1x40x24.size (inb10L b)).toLoadRect f2
      (ix3 (n0 := 1) (n1 := 40) (n2 := 24) 0 (j 0) (j 1)) = v10 c arg2 f2 ((p10 c arg2 f2 b).1.emb j) := by
    refine readAt_at _ _ _ _ _ fun d => ?_
    match d with
    | ⟨0, _⟩ => rfl
    | ⟨1, _⟩ =>
      show 40 * b.val + 1 * (j 0).val = (40 * ((46 * b.val + 1 * (j 0).val) / 46) + (46 * b.val + 1 * (j 0).val) % 46) % 640
      rw [show (46 * b.val + 1 * (j 0).val) / 46 = b.val by omega, show (46 * b.val + 1 * (j 0).val) % 46 = (j 0).val by omega]
      omega
    | ⟨2, _⟩ => show 0 + 1 * (j 1).val = (0 + 1 * (j 1).val) % 24; omega
  exact (cast40 _ j).trans key

/-- The spread-out codes, read back at one row. -/
theorem r8_at (cb : Fin 2) (base) (f : Bf (F := Ideal) c arg8) (b : Fin 16) (a : Fin 40) (l : Fin 128) (T : Fin 640) (l' : Fin 256)
    (hT : T.val = 40 * b.val + a.val) (hl : l'.val = 128 * cb.val + l.val) :
    arg8.view.read (Elt Ideal) (arg8.view.writes (Elt Ideal) f (down (p8 c arg1 f1 cb) base 16 le_rfl)) (ix2 (n0 := 872) (n1 := 128) ⟨54 * b.val + 8 + a.val, by omega⟩ l)
      = (arg1.view.read (Elt Ideal) f1 (ix3 (n0 := 1) (n1 := 640) (n2 := 256) 0 T l') : EReal) := by
  have hb := b.isLt; have ha := a.isLt; have hTT := T.isLt
  refine (read_down arg8.view f (fit8 c arg1 f1 cb) 16 le_rfl _ b hb ?_).trans ?_
  · refine (LoadRect.mem_set _).mpr fun d => ?_
    match d with
    | ⟨0, _⟩ => exact ⟨a.val, a.isLt, by show 54 * b.val + 8 + a.val = 54 * b.val + 8 + 1 * a.val; omega⟩
    | ⟨1, _⟩ => exact ⟨l.val, l.isLt, by show l.val = 0 + 1 * l.val; omega⟩
  · refine congrArg (arg1.view.read (Elt Ideal) f1) (funext fun d => Fin.ext ?_)
    match d with
    | ⟨0, _⟩ => rfl
    | ⟨1, _⟩ =>
      show (40 * ((54 * b.val + 8 + a.val - 8) / 54) + (54 * b.val + 8 + a.val - 8) % 54) % 640 = T.val
      rw [show (54 * b.val + 8 + a.val - 8) / 54 = b.val by omega, show (54 * b.val + 8 + a.val - 8) % 54 = a.val by omega]
      omega
    | ⟨2, _⟩ => exact hl.symm

/-- The spread-out scales, read back at one row. -/
theorem r10_at (f : Bf (F := Ideal) c arg10) (b : Fin 16) (a : Fin 40) (l : Fin 128) (T : Fin 640) (g : Fin 24)
    (hT : T.val = 40 * b.val + a.val) (hg : g.val = l.val) :
    arg10.view.read (Elt Ideal) (arg10.view.writes (Elt Ideal) f (run3.sl.H10_16 c arg2 f2)) (ix2 (n0 := 736) (n1 := 128) ⟨46 * b.val + a.val, by omega⟩ l)
      = arg2.view.read (Elt Ideal) f2 (ix3 (n0 := 1) (n1 := 640) (n2 := 24) 0 T g) := by
  have hb := b.isLt; have ha := a.isLt; have hTT := T.isLt; have hgg := g.isLt
  rw [H10_0]
  refine (read_down arg10.view f (fit10 c arg2 f2) 16 le_rfl _ b hb ?_).trans ?_
  · refine (LoadRect.mem_set _).mpr fun d => ?_
    match d with
    | ⟨0, _⟩ => exact ⟨a.val, a.isLt, by show 46 * b.val + a.val = 46 * b.val + 1 * a.val; omega⟩
    | ⟨1, _⟩ => exact ⟨l.val, by show l.val < 24; omega, by show l.val = 0 + 1 * l.val; omega⟩
  · refine congrArg (arg2.view.read (Elt Ideal) f2) (funext fun d => Fin.ext ?_)
    match d with
    | ⟨0, _⟩ => rfl
    | ⟨1, _⟩ =>
      show (40 * ((46 * b.val + a.val) / 46) + (46 * b.val + a.val) % 46) % 640 = T.val
      rw [show (46 * b.val + a.val) / 46 = b.val by omega, show (46 * b.val + a.val) % 46 = a.val by omega]
      omega
    | ⟨2, _⟩ => show l.val % 24 = g.val; omega

/-- The spread-out codes, read back. -/
theorem xLo_at (cb : Fin 2) (base) (m : Fin 20) (q : Fin 2) (x : S8x128.Idx) (T : Fin 640) (l : Fin 256)
    (hT : T.val = 40 * (x 0).val + 2 * m.val + q.val) (hl : l.val = 128 * cb.val + (x 1).val) :
    xLo arg8 (down (p8 c arg1 f1 cb) base 16 le_rfl) m q x = (arg1.view.read (Elt Ideal) f1 (ix3 (n0 := 1) (n1 := 640) (n2 := 256) 0 T l) : EReal) := by
  have hx0 : (x 0).val < 8 := (x 0).isLt
  have hx1 : (x 1).val < 128 := (x 1).isLt
  have hm := m.isLt; have hq := q.isLt
  unfold xLo
  pointwise []
  refine (readAt_at arg8.view _ _ _ (ix2 (n0 := 872) (n1 := 128) ⟨54 * ((x 0).val) + 8 + (2 * m.val + q.val), by omega⟩ (x 1)) ?_).trans
    (r8_at c arg1 arg8 f1 cb base _ ⟨(x 0).val, by omega⟩ ⟨2 * m.val + q.val, by omega⟩ (x 1) T l (by show T.val = 40 * ((x 0).val) + (2 * m.val + q.val); omega) hl)
  intro d
  match d with
  | ⟨0, _⟩ => show 8 + 2 * m.val + q.val + 54 * ((x 0).val) = 54 * ((x 0).val) + 8 + (2 * m.val + q.val); omega
  | ⟨1, _⟩ => show 0 + 1 * (x 1).val = (x 1).val; omega

theorem xHi_at (cb : Fin 2) (base) (m : Fin 20) (q : Fin 2) (x : S8x128.Idx) (T : Fin 640) (l : Fin 256)
    (hT : T.val = 40 * (8 + (x 0).val) + 2 * m.val + q.val) (hl : l.val = 128 * cb.val + (x 1).val) :
    xHi arg8 (down (p8 c arg1 f1 cb) base 16 le_rfl) m q x = (arg1.view.read (Elt Ideal) f1 (ix3 (n0 := 1) (n1 := 640) (n2 := 256) 0 T l) : EReal) := by
  have hx0 : (x 0).val < 8 := (x 0).isLt
  have hx1 : (x 1).val < 128 := (x 1).isLt
  have hm := m.isLt; have hq := q.isLt
  unfold xHi
  pointwise []
  refine (readAt_at arg8.view _ _ _ (ix2 (n0 := 872) (n1 := 128) ⟨54 * (8 + (x 0).val) + 8 + (2 * m.val + q.val), by omega⟩ (x 1)) ?_).trans
    (r8_at c arg1 arg8 f1 cb base _ ⟨8 + (x 0).val, by omega⟩ ⟨2 * m.val + q.val, by omega⟩ (x 1) T l (by show T.val = 40 * (8 + (x 0).val) + (2 * m.val + q.val); omega) hl)
  intro d
  match d with
  | ⟨0, _⟩ => show 8 + 2 * m.val + q.val + 54 * (8 + (x 0).val) = 54 * (8 + (x 0).val) + 8 + (2 * m.val + q.val); omega
  | ⟨1, _⟩ => show 0 + 1 * (x 1).val = (x 1).val; omega

/-- The spread-out scales, read back. -/
theorem sQ_at (idx : IVec S8x128 32) (m : Fin 20) (q h : Fin 2) (x : S8x128.Idx) (T : Fin 640) (g : Fin 24)
    (hT : T.val = 40 * (8 * h.val + (x 0).val) + 2 * m.val + q.val) (hg : (idx x).toNat = g.val) :
    sQ c arg2 arg10 f2 f10 idx m q h x = arg2.view.read (Elt Ideal) f2 (ix3 (n0 := 1) (n1 := 640) (n2 := 24) 0 T g) := by
  have hx0 : (x 0).val < 8 := (x 0).isLt
  have hx1 : (x 1).val < 128 := (x 1).isLt
  have hm := m.isLt; have hq := q.isLt; have hh := h.isLt
  unfold sQ
  pointwise []
  have hgl := g.isLt
  refine (readAt_at arg10.view _ _ _ (ix2 (n0 := 736) (n1 := 128) ⟨46 * (8 * h.val + (x 0).val) + (2 * m.val + q.val), by omega⟩ ⟨g.val, by omega⟩) ?_).trans
    (r10_at c arg2 arg10 f2 _ ⟨8 * h.val + (x 0).val, by omega⟩ ⟨2 * m.val + q.val, by omega⟩ ⟨g.val, by omega⟩ T g (by show T.val = 40 * (8 * h.val + (x 0).val) + (2 * m.val + q.val); omega) rfl)
  intro d
  match d with
  | ⟨0, _⟩ => show 2 * m.val + q.val + 368 * h.val + 46 * (x 0).val = 46 * (8 * h.val + (x 0).val) + (2 * m.val + q.val); omega
  | ⟨1, _⟩ => show 0 + 1 * ((idx x).toNat % 128) = g.val; omega
end

end Cert.KernelIdeal.Prf
end
-- ==== Proof.IHalo.lean ====
/- What the part that dequantises one tile leaves in the tile buffer, element by element: the rows of the tile, and the rows before and after
   each block of forty, copied from the neighbouring blocks. -/
module

public import proofs.«01_k».proof.Proof.ITile

@[expose] public section

set_option maxRecDepth 65536

noncomputable section

namespace Cert.KernelIdeal.Prf

open Cert.KernelIdeal Cert.KernelIdeal.Gen
open Idealize.ShloMosaic Idealize.ShloMosaic.TcCoe Idealize.ShloMosaic.Tactic

section
variable (c : Dev nD) (i : grid0.Coords) (arg1 : Memref sig .tc .vmem S1x640x256 .fp8e4m3) (arg2 : Memref sig .tc .vmem S1x640x24 .f32)
    (arg8 : Memref sig .tc .vmem S872x128 .f32) (arg10 : Memref sig .tc .vmem S736x128 .f32)
    (f1 : Bf (F := Ideal) c arg1) (f2 : Bf (F := Ideal) c arg2) (f10 : Bf (F := Ideal) c arg10)

/-- A code, and a scale, of the blocks at hand. -/
def cdV (T col : ℕ) : EReal :=
  arg1.view.read (Elt Ideal) f1 (ix3 (n0 := 1) (n1 := 640) (n2 := 256) 0 ⟨T % 640, Nat.mod_lt _ (by norm_num)⟩ ⟨col % 256, Nat.mod_lt _ (by norm_num)⟩)
def scV (T g : ℕ) : EReal :=
  arg2.view.read (Elt Ideal) f2 (ix3 (n0 := 1) (n1 := 640) (n2 := 24) 0 ⟨T % 640, Nat.mod_lt _ (by norm_num)⟩ ⟨g % 24, Nat.mod_lt _ (by norm_num)⟩)

/-- A number of the tile: row `16 a + b` belongs to time `40 b + a - 9`; it is its code times its scale, and zero outside the sequence. -/
def tileV (t R col : ℕ) : EReal :=
  if 9 ≤ 40 * (R % 16) + R / 16 ∧ 40 * (R % 16) + R / 16 < 649 then
    cdV c arg1 f1 (40 * (R % 16) + R / 16 - 9) col * scV c arg2 f2 (40 * (R % 16) + R / 16 - 9) (8 * (t % 3) + col / 32)
  else 0

/-- The tile buffer's plane, as it is to be. -/
def v12 : S2x928x256.Idx → Elt Ideal .bf16 := fun y => tileV c arg1 arg2 f1 f2 (i 0).val (y 1).val (y 2).val

theorem deq_val (t J K : ℕ) (cb : Fin 2) (m : Fin 20) (q h : Fin 2) (b : Fin 8) (X S : EReal) (hj : J = 16 * q.val + 8 * h.val + b.val) (hK : K < 128)
    (hX : X = cdV c arg1 f1 (40 * (8 * h.val + b.val) + 2 * m.val + q.val) (128 * cb.val + K))
    (hS : S = scV c arg2 f2 (40 * (8 * h.val + b.val) + 2 * m.val + q.val) (8 * (t % 3) + 4 * cb.val + K / 32)) :
    X * S = tileV c arg1 arg2 f1 f2 t (144 + 32 * m.val + J) (128 * cb.val + K) := by
  have hq := q.isLt; have hh := h.isLt; have hb := b.isLt; have hm := m.isLt
  have r1 : (144 + 32 * m.val + J) % 16 = 8 * h.val + b.val := by omega
  have r2 : (144 + 32 * m.val + J) / 16 = 9 + 2 * m.val + q.val := by omega
  have r3 : 40 * (8 * h.val + b.val) + (9 + 2 * m.val + q.val) - 9 = 40 * (8 * h.val + b.val) + 2 * m.val + q.val := by omega
  have r4 : 8 * (t % 3) + (128 * cb.val + K) / 32 = 8 * (t % 3) + 4 * cb.val + K / 32 := by omega
  unfold tileV
  rw [r1, r2, if_pos ⟨by omega, by omega⟩, r3, r4, hX, hS]

theorem xLo_cd (cb : Fin 2) (base) (m : Fin 20) (q : Fin 2) (x : S8x128.Idx) (b : Fin 8) (K : ℕ) (hb : (x 0).val = b.val) (hK : (x 1).val = K) :
    xLo arg8 (down (p8 c arg1 f1 cb) base 16 le_rfl) m q x = cdV c arg1 f1 (40 * (8 * (0 : Fin 2).val + b.val) + 2 * m.val + q.val) (128 * cb.val + K) := by
  have hx1 : (x 1).val < 128 := (x 1).isLt
  have hm := m.isLt; have hq := q.isLt; have hcb := cb.isLt; have hbl := b.isLt
  refine xLo_at c arg1 arg8 f1 cb base m q x _ _ ?_ ?_
  · show (40 * (8 * 0 + b.val) + 2 * m.val + q.val) % 640 = _; omega
  · show (128 * cb.val + K) % 256 = _; omega

theorem xHi_cd (cb : Fin 2) (base) (m : Fin 20) (q : Fin 2) (x : S8x128.Idx) (b : Fin 8) (K : ℕ) (hb : (x 0).val = b.val) (hK : (x 1).val = K) :
    xHi arg8 (down (p8 c arg1 f1 cb) base 16 le_rfl) m q x = cdV c arg1 f1 (40 * (8 * (1 : Fin 2).val + b.val) + 2 * m.val + q.val) (128 * cb.val + K) := by
  have hx1 : (x 1).val < 128 := (x 1).isLt
  have hm := m.isLt; have hq := q.isLt; have hcb := cb.isLt; have hbl := b.isLt
  refine xHi_at c arg1 arg8 f1 cb base m q x _ _ ?_ ?_
  · show (40 * (8 * 1 + b.val) + 2 * m.val + q.val) % 640 = _; omega
  · show (128 * cb.val + K) % 256 = _; omega

theorem sQ_sc (t : ℕ) (cb : Fin 2) (idx : IVec S8x128 32) (hidx : ∀ x : S8x128.Idx, (idx x).toNat = 8 * (t % 3) + 4 * cb.val + (x 1).val / 32)
    (m : Fin 20) (q h : Fin 2) (x : S8x128.Idx) (b : Fin 8) (K : ℕ) (hb : (x 0).val = b.val) (hK : (x 1).val = K) :
    sQ c arg2 arg10 f2 f10 idx m q h x = scV c arg2 f2 (40 * (8 * h.val + b.val) + 2 * m.val + q.val) (8 * (t % 3) + 4 * cb.val + K / 32) := by
  have hx1 : (x 1).val < 128 := (x 1).isLt
  have hm := m.isLt; have hq := q.isLt; have hcb := cb.isLt; have hh := h.isLt; have hbl := b.isLt
  have ht : t % 3 < 3 := Nat.mod_lt _ (by norm_num)
  refine sQ_at c arg2 arg10 f2 f10 idx m q h x _ _ ?_ ?_
  · show (40 * (8 * h.val + b.val) + 2 * m.val + q.val) % 640 = _; omega
  · rw [hidx x]; show _ = (8 * (t % 3) + 4 * cb.val + K / 32) % 24; omega

theorem fit12 (cb : Fin 2) (base) (idx : IVec S8x128 32)
    (hidx : ∀ x : S8x128.Idx, (idx x).toNat = 8 * ((i 0).val % 3) + 4 * cb.val + (x 1).val / 32) (m : Fin 20) :
    Fit (v12 c i arg1 arg2 f1 f2) (p12 c i arg2 arg8 arg10 f2 f10 cb (down (p8 c arg1 f1 cb) base 16 le_rfl) idx m) := by
  intro j
  have hj1 : (j 1).val < 32 := (j 1).isLt
  have hj2 : (j 2).val < 128 := (j 2).isLt
  have X0 := fun q b x hb hK => xLo_cd c arg1 arg8 f1 cb base m q x b (j 2).val hb hK
  have X1 := fun q b x hb hK => xHi_cd c arg1 arg8 f1 cb base m q x b (j 2).val hb hK
  have S0 := fun q h b x hb hK => sQ_sc c arg2 arg10 f2 f10 (i 0).val cb idx hidx m q h x b (j 2).val hb hK
  have D := fun q h b X S hj hX hS => deq_val c arg1 arg2 f1 f2 (i 0).val (j 1).val (j 2).val cb m q h b X S hj hj2 hX hS
  have hv : v12 c i arg1 arg2 f1 f2 ((p12 c i arg2 arg8 arg10 f2 f10 cb (down (p8 c arg1 f1 cb) base 16 le_rfl) idx m).1.emb j)
      = tileV c arg1 arg2 f1 f2 (i 0).val (144 + 32 * m.val + (j 1).val) (128 * cb.val + (j 2).val) := by
    show tileV c arg1 arg2 f1 f2 (i 0).val (144 + 32 * m.val + 1 * (j 1).val) (128 * cb.val + 1 * (j 2).val) = _
    rw [one_mul, one_mul]
  rw [hv]
  show k0_pay177 (F := Ideal) (xLo arg8 _ m 0) (xHi arg8 _ m 0) (sQ c arg2 arg10 f2 f10 idx m 0 0) (sQ c arg2 arg10 f2 f10 idx m 0 1)
      (xLo arg8 _ m 1) (xHi arg8 _ m 1) (sQ c arg2 arg10 f2 f10 idx m 1 0) (sQ c arg2 arg10 f2 f10 idx m 1 1) j = _
  generalize hx0 : xLo (F := Ideal) arg8 _ m 0 = x0, hx1 : xHi (F := Ideal) arg8 _ m 0 = x1, hx2 : xLo (F := Ideal) arg8 _ m 1 = x2, hx3 : xHi (F := Ideal) arg8 _ m 1 = x3,
    hs0 : sQ (F := Ideal) c arg2 arg10 f2 f10 idx m 0 0 = s0, hs1 : sQ (F := Ideal) c arg2 arg10 f2 f10 idx m 0 1 = s1, hs2 : sQ (F := Ideal) c arg2 arg10 f2 f10 idx m 1 0 = s2,
    hs3 : sQ (F := Ideal) c arg2 arg10 f2 f10 idx m 1 1 = s3
  pointwise [k0_pay177]
  by_cases h0 : (j 1).val < 8
  · rw [dif_pos h0, dif_pos h0, ← hx0, ← hs0]
    exact D 0 0 ⟨_, h0⟩ _ _ (by show _ = 16 * 0 + 8 * 0 + (j 1).val; omega) (X0 0 ⟨_, h0⟩ _ rfl rfl) (S0 0 0 ⟨_, h0⟩ _ rfl rfl)
  by_cases h1 : (j 1).val - 8 < 8
  · rw [dif_neg h0, dif_pos h1, dif_neg h0, dif_pos h1, ← hx1, ← hs1]
    exact D 0 1 ⟨_, h1⟩ _ _ (by show _ = 16 * 0 + 8 * 1 + ((j 1).val - 8); omega) (X1 0 ⟨_, h1⟩ _ rfl rfl) (S0 0 1 ⟨_, h1⟩ _ rfl rfl)
  by_cases h2 : (j 1).val - 8 - 8 < 8
  · rw [dif_neg h0, dif_neg h1, dif_pos h2, dif_neg h0, dif_neg h1, dif_pos h2, ← hx2, ← hs2]
    exact D 1 0 ⟨_, h2⟩ _ _ (by show _ = 16 * 1 + 8 * 0 + ((j 1).val - 8 - 8); omega) (X0 1 ⟨_, h2⟩ _ rfl rfl) (S0 1 0 ⟨_, h2⟩ _ rfl rfl)
  · have h3 : (j 1).val - 8 - 8 - 8 < 8 := by omega
    rw [dif_neg h0, dif_neg h1, dif_neg h2, dif_neg h0, dif_neg h1, dif_neg h2, ← hx3, ← hs3]
    exact D 1 1 ⟨_, h3⟩ _ _ (by show _ = 16 * 1 + 8 * 1 + ((j 1).val - 8 - 8 - 8); omega) (X1 1 ⟨_, h3⟩ _ rfl rfl) (S0 1 1 ⟨_, h3⟩ _ rfl rfl)

end

end Cert.KernelIdeal.Prf
end
-- ==== Proof.ISlot.lean ====
/- What the whole part that dequantises one tile leaves: after the dequantised rows, nine times a copy of sixteen rows behind the tile and one in
   front of it. -/
module

public import proofs.«01_k».proof.Proof.IHalo

@[expose] public section

set_option maxRecDepth 65536

noncomputable section

namespace Cert.KernelIdeal.Prf

open Cert.KernelIdeal Cert.KernelIdeal.Gen
open Idealize.ShloMosaic Idealize.ShloMosaic.TcCoe Idealize.ShloMosaic.Tactic

section
variable (c : Dev nD) (i : grid0.Coords) (arg1 : Memref sig .tc .vmem S1x640x256 .fp8e4m3) (arg2 : Memref sig .tc .vmem S1x640x24 .f32)
    (arg8 : Memref sig .tc .vmem S872x128 .f32) (arg9 : Memref sig .tc .vmem S32x128 .f32) (arg10 : Memref sig .tc .vmem S736x128 .f32)
    (arg12 : Memref sig .tc .vmem S2x928x256 .bf16) (h : k0_cond3 i = 1#1)
    (f1 : Bf (F := Ideal) c arg1) (f2 : Bf (F := Ideal) c arg2) (f9 : Bf (F := Ideal) c arg9) (f10 : Bf (F := Ideal) c arg10) (f12 : Bf (F := Ideal) c arg12)

/-- The slot of the tile buffer that this grid point fills. -/
def slot : ℕ := (Scalar.remsi (BitVec.ofNat 32 (i 0).val) 2#32).toNat

theorem inbSl (r : Fin 58) (cb : Fin 2) : ∀ a, (![16 * r.val, 128 * cb.val] : Fin 2 → ℕ) a + S16x128.size a ≤ S928x256.size a := by
  have := r.isLt; have := cb.isLt
  intro a
  match a with
  | ⟨0, _⟩ => show 16 * r.val + 16 ≤ 928; omega
  | ⟨1, _⟩ => show 128 * cb.val + 128 ≤ 256; omega

theorem inbDl (r : Fin 58) (cb : Fin 2) : ∀ a, (![(Scalar.remsi (BitVec.ofNat 32 (i 0).val) 2#32).toNat, 16 * r.val, 128 * cb.val] : Fin 3 → ℕ) a + S1x16x128.size a ≤ S2x928x256.size a := by
  have := slot_lt i; have := r.isLt; have := cb.isLt
  intro a
  match a with
  | ⟨0, _⟩ => show (Scalar.remsi (BitVec.ofNat 32 (i 0).val) 2#32).toNat + 1 ≤ 2; omega
  | ⟨1, _⟩ => show 16 * r.val + 16 ≤ 928; omega
  | ⟨2, _⟩ => show 128 * cb.val + 128 ≤ 256; omega

/-- Sixteen rows read back, moved to the middle of a smaller buffer. -/
def p9 (cb : Fin 2) (r : Fin 58) (L : List (View.Piece (Elt Ideal) S2x928x256 .bf16)) : View.Piece (Elt Ideal) S32x128 .f32 :=
  ⟨Rect.unit (s := S32x128) ![8, 0] S16x128.size inb_S32x128_S16x128_8_0,
    k0_pay256 (View.readAt (Elt Ideal) ((arg12.slice (Rect.unit (s := S2x928x256) (k0_off22 i) S1x928x256.size (k0_off22_inb i h)) (fun _ => rfl)).squeeze S928x256 squeezes_S1x928x256_S928x256).view
      (Rect.unit (s := S928x256) ![16 * r.val, 128 * cb.val] S16x128.size (inbSl r cb)).toLoadRect (arg12.view.writes (Elt Ideal) f12 L))⟩

/-- The store behind the tile: the rows one further on. -/
def pHi (cb : Fin 2) (r : Fin 58) (L9 : List (View.Piece (Elt Ideal) S32x128 .f32)) : View.Piece (Elt Ideal) S2x928x256 .bf16 :=
  ⟨Rect.unit (s := S2x928x256) ![(Scalar.remsi (BitVec.ofNat 32 (i 0).val) 2#32).toNat, 16 * r.val, 128 * cb.val] S1x16x128.size (inbDl i r cb),
    k0_pay257 run3.sl.v109 (View.readAt (Elt Ideal) arg9.view (Rect.unit (s := S32x128) ![9, 0] S16x128.size inb_S32x128_S16x128_9_0).toLoadRect (arg9.view.writes (Elt Ideal) f9 L9))⟩

/-- The store in front of the tile: the rows one further back. -/
def pLo (cb : Fin 2) (r : Fin 58) (L9 : List (View.Piece (Elt Ideal) S32x128 .f32)) : View.Piece (Elt Ideal) S2x928x256 .bf16 :=
  ⟨Rect.unit (s := S2x928x256) ![(Scalar.remsi (BitVec.ofNat 32 (i 0).val) 2#32).toNat, 16 * r.val, 128 * cb.val] S1x16x128.size (inbDl i r cb),
    k0_pay259 run3.sl.v109 (View.readAt (Elt Ideal) arg9.view (Rect.unit (s := S32x128) ![7, 0] S16x128.size inb_S32x128_S16x128_7_0).toLoadRect (arg9.view.writes (Elt Ideal) f9 L9))⟩

/-- One copy behind and one in front. -/
def st9a (cb : Fin 2) (k : Fin 9) (L9 : List (View.Piece (Elt Ideal) S32x128 .f32)) (L : List (View.Piece (Elt Ideal) S2x928x256 .bf16)) :=
  p9 c i arg12 h f12 cb ⟨9 + k.val, by omega⟩ L :: L9
def st12a (cb : Fin 2) (k : Fin 9) (L9 : List (View.Piece (Elt Ideal) S32x128 .f32)) (L : List (View.Piece (Elt Ideal) S2x928x256 .bf16)) :=
  pHi c i arg9 f9 cb ⟨49 + k.val, by omega⟩ (st9a c i arg12 h f12 cb k L9 L) :: L
def st9 (cb : Fin 2) (k : Fin 9) (L9 : List (View.Piece (Elt Ideal) S32x128 .f32)) (L : List (View.Piece (Elt Ideal) S2x928x256 .bf16)) :=
  p9 c i arg12 h f12 cb ⟨40 + k.val, by omega⟩ (st12a c i arg9 arg12 h f9 f12 cb k L9 L) :: st9a c i arg12 h f12 cb k L9 L
def st12 (cb : Fin 2) (k : Fin 9) (L9 : List (View.Piece (Elt Ideal) S32x128 .f32)) (L : List (View.Piece (Elt Ideal) S2x928x256 .bf16)) :=
  pLo c i arg9 f9 cb ⟨k.val, by omega⟩ (st9 c i arg9 arg12 h f9 f12 cb k L9 L) :: st12a c i arg9 arg12 h f9 f12 cb k L9 L

/-- What a copied row holds, from what its source holds. -/
theorem hi_at (R : IVec S16x128 32) (hR : ∀ j : S16x128.Idx, (R j) = BitVec.ofNat 32 (j 0).val) (V : S16x128.Idx → EReal) (j : S1x16x128.Idx) :
    k0_pay257 (F := Ideal) R V j = if (j 1).val = 15 then 0 else V (ix2 (n0 := 16) (n1 := 128) (j 1) (j 2)) := by
  pointwise [k0_pay257]
  rw [hR]
  show Scalar.select (IntOp.cmpi CmpIPredicate.eq (BitVec.ofNat 32 (j 1).val) 15#32) _ _ = _
  have key : ∀ b : Fin 16, IntOp.cmpi CmpIPredicate.eq (BitVec.ofNat 32 b.val) 15#32 = if b.val = 15 then 1#1 else 0#1 := by decide
  rw [key (j 1)]
  split <;> rfl
theorem lo_at (R : IVec S16x128 32) (hR : ∀ j : S16x128.Idx, (R j) = BitVec.ofNat 32 (j 0).val) (V : S16x128.Idx → EReal) (j : S1x16x128.Idx) :
    k0_pay259 (F := Ideal) R V j = if (j 1).val = 0 then 0 else V (ix2 (n0 := 16) (n1 := 128) (j 1) (j 2)) := by
  pointwise [k0_pay259]
  rw [hR]
  show Scalar.select (IntOp.cmpi CmpIPredicate.eq (BitVec.ofNat 32 (j 1).val) 0#32) _ _ = _
  have key : ∀ b : Fin 16, IntOp.cmpi CmpIPredicate.eq (BitVec.ofNat 32 b.val) 0#32 = if b.val = 0 then 1#1 else 0#1 := by decide
  rw [key (j 1)]
  split <;> rfl
theorem cast9_at (V : S16x128.Idx → EReal) (j : S16x128.Idx) : k0_pay256 (F := Ideal) V j = V j := by
  pointwise [k0_pay256]

theorem v109_at (j : S16x128.Idx) : run3.sl.v109 j = BitVec.ofNat 32 (j 0).val := by
  unfold run3.sl.v109
  pointwise []

/-- Rows of the same time hold the same numbers. -/
theorem tileV_eq (t R R' C : ℕ) (e : 40 * (R % 16) + R / 16 = 40 * (R' % 16) + R' / 16) :
    tileV c arg1 arg2 f1 f2 t R C = tileV c arg1 arg2 f1 f2 t R' C := by
  unfold tileV
  rw [e]

theorem tileV_zero (t R C : ℕ) (e : ¬ (9 ≤ 40 * (R % 16) + R / 16 ∧ 40 * (R % 16) + R / 16 < 649)) : tileV c arg1 arg2 f1 f2 t R C = 0 := if_neg e

/-- The stores so far are right, stay in the slot, and cover the columns before half `cb`, and of that half the tile and `n` blocks on either side. -/
structure OK (cb n : ℕ) (L : List (View.Piece (Elt Ideal) S2x928x256 .bf16)) : Prop where
  fits : Fits (v12 c i arg1 arg2 f1 f2) L
  stay : ∀ p ∈ L, ∀ y ∈ p.1.set, (y 0).val = slot i
  cov : ∀ y : S2x928x256.Idx, (y 0).val = slot i →
    ((y 2).val / 128 < cb ∨ (y 2).val / 128 = cb ∧ ((y 1).val / 16 < n ∨ 9 ≤ (y 1).val / 16 ∧ (y 1).val / 16 < 49 + n)) → ∃ p ∈ L, y ∈ p.1.set

theorem off22_slot : ∀ i : grid0.Coords, k0_off22 i = ![slot i, 0, 0] := by
  intro i
  rw [k0_off22_eq]
  have : ∀ i : grid0.Coords, (i 0).val % 2 = slot i := by decide +kernel
  rw [this i]

variable {c i arg1 arg2 f1 f2} in
/-- Rows moved to the smaller buffer, read there. -/
theorem src_at {n : ℕ} {L : List (View.Piece (Elt Ideal) S2x928x256 .bf16)} (cb : Fin 2) (hL : OK c i arg1 arg2 f1 f2 cb.val n L) (r : Fin 58) (h9 : 9 ≤ r.val) (h49 : r.val < 49 + n)
    (L9) (b : Fin 16) (k : Fin 128) :
    arg9.view.read (Elt Ideal) (arg9.view.writes (Elt Ideal) f9 (p9 c i arg12 h f12 cb r L :: L9)) (ix2 (n0 := 32) (n1 := 128) ⟨8 + b.val, by omega⟩ k)
      = tileV c arg1 arg2 f1 f2 (i 0).val (16 * r.val + b.val) (128 * cb.val + k.val) := by
  have hr := r.isLt; have hcb := cb.isLt; have hb := b.isLt; have hk := k.isLt
  have e : (ix2 (n0 := 32) (n1 := 128) ⟨8 + b.val, by omega⟩ k : S32x128.Idx)
      = (p9 c i arg12 h f12 cb r L).1.emb (ix2 (n0 := 16) (n1 := 128) b k) := by
    funext d
    apply Fin.ext
    match d with
    | ⟨0, _⟩ => show 8 + b.val = 8 + 1 * b.val; omega
    | ⟨1, _⟩ => show k.val = 0 + 1 * k.val; omega
  rw [e]
  refine (View.read_writes_cons_emb arg9.view f9 (p9 c i arg12 h f12 cb r L).1 (p9 c i arg12 h f12 cb r L).2 L9 _).trans ?_
  refine (cast9_at _ _).trans ?_
  refine (readAt_at _ _ _ _ (ix2 (n0 := 928) (n1 := 256) ⟨16 * r.val + b.val, by omega⟩ ⟨128 * cb.val + k.val, by omega⟩) ?_).trans ?_
  · intro d
    match d with
    | ⟨0, _⟩ => show 16 * r.val + 1 * b.val = 16 * r.val + b.val; omega
    | ⟨1, _⟩ => show 128 * cb.val + 1 * k.val = 128 * cb.val + k.val; omega
  refine (read_plane12 arg12 _ _ _ _ (slot i) (off22_slot i) _ (ix3 (n0 := 2) (n1 := 928) (n2 := 256) ⟨slot i, slot_lt i⟩ ⟨16 * r.val + b.val, by omega⟩ ⟨128 * cb.val + k.val, by omega⟩)
    rfl rfl rfl).trans ?_
  refine read_fits arg12.view f12 hL.fits _ (hL.cov _ rfl (Or.inr ⟨?_, Or.inr ⟨?_, ?_⟩⟩))
  · show (128 * cb.val + k.val) / 128 = cb.val; omega
  · show 9 ≤ (16 * r.val + b.val) / 16; omega
  · show (16 * r.val + b.val) / 16 < 49 + n; omega

theorem mem_D (cb : Fin 2) (r : Fin 58) (y : S2x928x256.Idx) :
    y ∈ (Rect.unit (s := S2x928x256) ![(Scalar.remsi (BitVec.ofNat 32 (i 0).val) 2#32).toNat, 16 * r.val, 128 * cb.val] S1x16x128.size (inbDl i r cb)).set
      ↔ (y 0).val = slot i ∧ (y 1).val / 16 = r.val ∧ (y 2).val / 128 = cb.val := by
  rw [Rect.mem_set_unit (inb := inbDl i r cb)]
  constructor
  · intro hy
    have h0 : slot i ≤ (y 0).val ∧ (y 0).val < slot i + 1 := hy 0
    have h1 : 16 * r.val ≤ (y 1).val ∧ (y 1).val < 16 * r.val + 16 := hy 1
    have h2 : 128 * cb.val ≤ (y 2).val ∧ (y 2).val < 128 * cb.val + 128 := hy 2
    exact ⟨by omega, by omega, by omega⟩
  · rintro ⟨h0, h1, h2⟩ d
    match d with
    | ⟨0, _⟩ => show slot i ≤ (y 0).val ∧ (y 0).val < slot i + 1; omega
    | ⟨1, _⟩ => show 16 * r.val ≤ (y 1).val ∧ (y 1).val < 16 * r.val + 16; omega
    | ⟨2, _⟩ => show 128 * cb.val ≤ (y 2).val ∧ (y 2).val < 128 * cb.val + 128; omega

variable {c i arg1 arg2 f1 f2} in
theorem fitHi {n : ℕ} {L : List (View.Piece (Elt Ideal) S2x928x256 .bf16)} (cb : Fin 2) (k : Fin 9) (hL : OK c i arg1 arg2 f1 f2 cb.val n L) (L9) :
    Fit (v12 c i arg1 arg2 f1 f2) (pHi c i arg9 f9 cb ⟨49 + k.val, by omega⟩ (st9a c i arg12 h f12 cb k L9 L)) := by
  intro j
  have hj1 : (j 1).val < 16 := (j 1).isLt
  have hj2 : (j 2).val < 128 := (j 2).isLt
  have hk := k.isLt
  have hv : v12 c i arg1 arg2 f1 f2 ((pHi c i arg9 f9 cb ⟨49 + k.val, by omega⟩ (st9a c i arg12 h f12 cb k L9 L)).1.emb j)
      = tileV c arg1 arg2 f1 f2 (i 0).val (16 * (49 + k.val) + (j 1).val) (128 * cb.val + (j 2).val) := by
    show tileV c arg1 arg2 f1 f2 (i 0).val (16 * (49 + k.val) + 1 * (j 1).val) (128 * cb.val + 1 * (j 2).val) = _
    rw [one_mul, one_mul]
  rw [hv]
  refine (hi_at _ v109_at _ j).trans ?_
  by_cases hb : (j 1).val = 15
  · rw [if_pos hb, tileV_zero]
    rw [hb]; omega
  · rw [if_neg hb]
    refine (readAt_at _ _ _ _ (ix2 (n0 := 32) (n1 := 128) ⟨8 + (⟨(j 1).val + 1, by omega⟩ : Fin 16).val, by show 8 + ((j 1).val + 1) < 32; omega⟩ (j 2)) ?_).trans ?_
    · intro d
      match d with
      | ⟨0, _⟩ => show 9 + 1 * (j 1).val = 8 + ((j 1).val + 1); omega
      | ⟨1, _⟩ => show 0 + 1 * (j 2).val = (j 2).val; omega
    refine (src_at arg9 arg12 h f9 f12 cb hL _ (by show 9 ≤ 9 + k.val; omega) (by show 9 + k.val < 49 + n; omega) L9 ⟨(j 1).val + 1, by omega⟩ (j 2)).trans ?_
    refine tileV_eq c arg1 arg2 f1 f2 _ _ _ _ ?_
    show 40 * ((16 * (9 + k.val) + ((j 1).val + 1)) % 16) + (16 * (9 + k.val) + ((j 1).val + 1)) / 16 = _
    omega

variable {c i arg1 arg2 f1 f2} in
theorem fitLo {n : ℕ} {L : List (View.Piece (Elt Ideal) S2x928x256 .bf16)} (cb : Fin 2) (k : Fin 9) (hL : OK c i arg1 arg2 f1 f2 cb.val n L) (L9) :
    Fit (v12 c i arg1 arg2 f1 f2) (pLo c i arg9 f9 cb ⟨k.val, by omega⟩ (p9 c i arg12 h f12 cb ⟨40 + k.val, by omega⟩ L :: L9)) := by
  intro j
  have hj1 : (j 1).val < 16 := (j 1).isLt
  have hj2 : (j 2).val < 128 := (j 2).isLt
  have hk := k.isLt
  have hv : v12 c i arg1 arg2 f1 f2 ((pLo c i arg9 f9 cb ⟨k.val, by omega⟩ (p9 c i arg12 h f12 cb ⟨40 + k.val, by omega⟩ L :: L9)).1.emb j)
      = tileV c arg1 arg2 f1 f2 (i 0).val (16 * k.val + (j 1).val) (128 * cb.val + (j 2).val) := by
    show tileV c arg1 arg2 f1 f2 (i 0).val (16 * k.val + 1 * (j 1).val) (128 * cb.val + 1 * (j 2).val) = _
    rw [one_mul, one_mul]
  rw [hv]
  refine (lo_at _ v109_at _ j).trans ?_
  by_cases hb : (j 1).val = 0
  · rw [if_pos hb, tileV_zero]
    rw [hb]; omega
  · rw [if_neg hb]
    refine (readAt_at _ _ _ _ (ix2 (n0 := 32) (n1 := 128) ⟨8 + (⟨(j 1).val - 1, by omega⟩ : Fin 16).val, by show 8 + ((j 1).val - 1) < 32; omega⟩ (j 2)) ?_).trans ?_
    · intro d
      match d with
      | ⟨0, _⟩ => show 7 + 1 * (j 1).val = 8 + ((j 1).val - 1); omega
      | ⟨1, _⟩ => show 0 + 1 * (j 2).val = (j 2).val; omega
    refine (src_at arg9 arg12 h f9 f12 cb hL _ (by show 9 ≤ 40 + k.val; omega) (by show 40 + k.val < 49 + n; omega) L9 ⟨(j 1).val - 1, by omega⟩ (j 2)).trans ?_
    refine tileV_eq c arg1 arg2 f1 f2 _ _ _ _ ?_
    show 40 * ((16 * (40 + k.val) + ((j 1).val - 1)) % 16) + (16 * (40 + k.val) + ((j 1).val - 1)) / 16 = _
    omega

variable {c i arg1 arg2 f1 f2} in
theorem OK.step {cb : Fin 2} {k : Fin 9} {L : List (View.Piece (Elt Ideal) S2x928x256 .bf16)} (hL : OK c i arg1 arg2 f1 f2 cb.val k.val L) (L9) :
    OK c i arg1 arg2 f1 f2 cb.val (k.val + 1) (st12 c i arg9 arg12 h f9 f12 cb k L9 L) := by
  have hk := k.isLt
  have fa := fitHi arg9 arg12 h f9 f12 cb k hL L9
  have ha : OK c i arg1 arg2 f1 f2 cb.val k.val (st12a c i arg9 arg12 h f9 f12 cb k L9 L) := by
    refine ⟨Fits.cons fa hL.fits, ?_, ?_⟩
    · intro p hp y hy
      rcases List.mem_cons.1 hp with rfl | hp
      · exact ((mem_D i cb _ y).1 hy).1
      · exact hL.stay p hp y hy
    · intro y h0 hc
      obtain ⟨p, hp, hy⟩ := hL.cov y h0 hc
      exact ⟨p, List.mem_cons_of_mem _ hp, hy⟩
  refine ⟨Fits.cons (fitLo arg9 arg12 h f9 f12 cb k ha _) ha.fits, ?_, ?_⟩
  · intro p hp y hy
    rcases List.mem_cons.1 hp with rfl | hp
    · exact ((mem_D i cb _ y).1 hy).1
    · exact ha.stay p hp y hy
  · intro y h0 hc
    by_cases h1 : (y 2).val / 128 = cb.val ∧ (y 1).val / 16 = k.val
    · exact ⟨_, List.mem_cons_self, (mem_D i cb _ y).2 ⟨h0, h1.2, h1.1⟩⟩
    by_cases h2 : (y 2).val / 128 = cb.val ∧ (y 1).val / 16 = 49 + k.val
    · exact ⟨_, List.mem_cons_of_mem _ List.mem_cons_self, (mem_D i cb _ y).2 ⟨h0, h2.2, h2.1⟩⟩
    obtain ⟨p, hp, hy⟩ := hL.cov y h0 (by omega)
    exact ⟨p, List.mem_cons_of_mem _ (List.mem_cons_of_mem _ hp), hy⟩

/-- The dequantised rows on top of what is there. -/
theorem OK.tile (cb : Fin 2) (base8) (idx : IVec S8x128 32) (hidx : ∀ x : S8x128.Idx, (idx x).toNat = 8 * ((i 0).val % 3) + 4 * cb.val + (x 1).val / 32)
    (base : List (View.Piece (Elt Ideal) S2x928x256 .bf16)) (hf : Fits (v12 c i arg1 arg2 f1 f2) base) (hs : ∀ p ∈ base, ∀ y ∈ p.1.set, (y 0).val = slot i)
    (hc : ∀ y : S2x928x256.Idx, (y 0).val = slot i → (y 2).val / 128 < cb.val → ∃ p ∈ base, y ∈ p.1.set) :
    OK c i arg1 arg2 f1 f2 cb.val 0 (down (p12 c i arg2 arg8 arg10 f2 f10 cb (down (p8 c arg1 f1 cb) base8 16 le_rfl) idx) base 20 le_rfl) := by
  have hcb := cb.isLt
  have hm : ∀ (m : Fin 20) (y : S2x928x256.Idx), y ∈ (p12 c i arg2 arg8 arg10 f2 f10 cb (down (p8 c arg1 f1 cb) base8 16 le_rfl) idx m).1.set
      ↔ (y 0).val = slot i ∧ (144 + 32 * m.val ≤ (y 1).val ∧ (y 1).val < 144 + 32 * m.val + 32) ∧ (y 2).val / 128 = cb.val := by
    intro m y
    have hm := m.isLt
    refine (Rect.mem_set_unit (inb := inb12 i cb m)).trans ⟨?_, ?_⟩
    · intro hy
      have h0 : slot i ≤ (y 0).val ∧ (y 0).val < slot i + 1 := hy 0
      have h1 : 144 + 32 * m.val ≤ (y 1).val ∧ (y 1).val < 144 + 32 * m.val + 32 := hy 1
      have h2 : 128 * cb.val ≤ (y 2).val ∧ (y 2).val < 128 * cb.val + 128 := hy 2
      exact ⟨by omega, h1, by omega⟩
    · rintro ⟨h0, h1, h2⟩ d
      match d with
      | ⟨0, _⟩ => show slot i ≤ (y 0).val ∧ (y 0).val < slot i + 1; omega
      | ⟨1, _⟩ => exact h1
      | ⟨2, _⟩ => show 128 * cb.val ≤ (y 2).val ∧ (y 2).val < 128 * cb.val + 128; omega
  have stay : ∀ n hn, ∀ p ∈ down (p12 c i arg2 arg8 arg10 f2 f10 cb (down (p8 c arg1 f1 cb) base8 16 le_rfl) idx) base n hn, ∀ y ∈ p.1.set, (y 0).val = slot i := by
    intro n
    induction n with
    | zero => intro hn; exact hs
    | succ n ih =>
      intro hn p hp y hy
      rcases List.mem_cons.1 hp with rfl | hp
      · exact ((hm _ y).1 hy).1
      · exact ih _ p hp y hy
  refine ⟨Fits.down (fit12 c i arg1 arg2 arg8 arg10 f1 f2 f10 cb base8 idx hidx) hf 20 le_rfl, stay 20 le_rfl, ?_⟩
  intro y h0 hy
  rcases hy with hy | ⟨hy, h1 | h1⟩
  · obtain ⟨p, hp, hpy⟩ := hc y h0 hy
    exact ⟨p, mem_down_base _ _ _ _ _ hp, hpy⟩
  · omega
  · have hy1 : ((y 1).val - 144) / 32 < 20 := by omega
    exact ⟨_, mem_down _ _ 20 le_rfl ⟨((y 1).val - 144) / 32, hy1⟩ hy1, (hm _ y).2 ⟨h0, by show 144 + 32 * (((y 1).val - 144) / 32) ≤ _ ∧ _ < 144 + 32 * (((y 1).val - 144) / 32) + 32; omega, hy⟩⟩

end

end Cert.KernelIdeal.Prf
end
-- ==== Proof.ITop.lean ====
/- The whole part that dequantises one tile, at an element of the tile buffer. -/
module

public import proofs.«01_k».proof.Proof.ISlot

@[expose] public section

set_option maxRecDepth 65536

noncomputable section

namespace Cert.KernelIdeal.Prf

open Cert.KernelIdeal Cert.KernelIdeal.Gen
open Idealize.ShloMosaic Idealize.ShloMosaic.TcCoe Idealize.ShloMosaic.Tactic

section
variable (c : Dev nD) (i : grid0.Coords) (arg1 : Memref sig .tc .vmem S1x640x256 .fp8e4m3) (arg2 : Memref sig .tc .vmem S1x640x24 .f32)
    (arg8 : Memref sig .tc .vmem S872x128 .f32) (arg9 : Memref sig .tc .vmem S32x128 .f32) (arg10 : Memref sig .tc .vmem S736x128 .f32)
    (arg12 : Memref sig .tc .vmem S2x928x256 .bf16) (h : k0_cond3 i = 1#1)
    (f1 : Bf (F := Ideal) c arg1) (f2 : Bf (F := Ideal) c arg2) (f9 : Bf (F := Ideal) c arg9) (f10 : Bf (F := Ideal) c arg10) (f12 : Bf (F := Ideal) c arg12)

/-- All the stores are right and fill the slot. -/
theorem OK_all : OK c i arg1 arg2 f1 f2 1 9 (st12 c i arg9 arg12 h f9 f12 1 8 (run3.sl.H9_34 c i arg1 arg2 arg8 arg9 arg10 arg12 h f1 f2 f9 f10 f12) (run3.sl.H12_74 c i arg1 arg2 arg8 arg9 arg10 arg12 h f1 f2 f9 f10 f12)) := by
  have s20 : OK c i arg1 arg2 f1 f2 0 0 (run3.sl.H12_20 c i arg1 arg2 arg8 arg10 h f1 f2 f10) := by
    rw [H12_0, H8_0]
    exact OK.tile c i arg1 arg2 arg8 arg10 f1 f2 f10 0 [] _ (idx0 i) [] (fun p hp => by cases hp) (fun p hp => by cases hp) (fun y _ hy => absurd hy (Nat.not_lt_zero _))
  have s22 : OK c i arg1 arg2 f1 f2 0 1 (run3.sl.H12_22 c i arg1 arg2 arg8 arg9 arg10 arg12 h f1 f2 f9 f10 f12) := OK.step (cb := 0) (k := 0) arg9 arg12 h f9 f12 s20 []
  have s24 : OK c i arg1 arg2 f1 f2 0 2 (run3.sl.H12_24 c i arg1 arg2 arg8 arg9 arg10 arg12 h f1 f2 f9 f10 f12) := OK.step (cb := 0) (k := 1) arg9 arg12 h f9 f12 s22 (run3.sl.H9_2 c i arg1 arg2 arg8 arg9 arg10 arg12 h f1 f2 f9 f10 f12)
  have s26 : OK c i arg1 arg2 f1 f2 0 3 (run3.sl.H12_26 c i arg1 arg2 arg8 arg9 arg10 arg12 h f1 f2 f9 f10 f12) := OK.step (cb := 0) (k := 2) arg9 arg12 h f9 f12 s24 (run3.sl.H9_4 c i arg1 arg2 arg8 arg9 arg10 arg12 h f1 f2 f9 f10 f12)
  have s28 : OK c i arg1 arg2 f1 f2 0 4 (run3.sl.H12_28 c i arg1 arg2 arg8 arg9 arg10 arg12 h f1 f2 f9 f10 f12) := OK.step (cb := 0) (k := 3) arg9 arg12 h f9 f12 s26 (run3.sl.H9_6 c i arg1 arg2 arg8 arg9 arg10 arg12 h f1 f2 f9 f10 f12)
  have s30 : OK c i arg1 arg2 f1 f2 0 5 (run3.sl.H12_30 c i arg1 arg2 arg8 arg9 arg10 arg12 h f1 f2 f9 f10 f12) := OK.step (cb := 0) (k := 4) arg9 arg12 h f9 f12 s28 (run3.sl.H9_8 c i arg1 arg2 arg8 arg9 arg10 arg12 h f1 f2 f9 f10 f12)
  have s32 : OK c i arg1 arg2 f1 f2 0 6 (run3.sl.H12_32 c i arg1 arg2 arg8 arg9 arg10 arg12 h f1 f2 f9 f10 f12) := OK.step (cb := 0) (k := 5) arg9 arg12 h f9 f12 s30 (run3.sl.H9_10 c i arg1 arg2 arg8 arg9 arg10 arg12 h f1 f2 f9 f10 f12)
  have s34 : OK c i arg1 arg2 f1 f2 0 7 (run3.sl.H12_34 c i arg1 arg2 arg8 arg9 arg10 arg12 h f1 f2 f9 f10 f12) := OK.step (cb := 0) (k := 6) arg9 arg12 h f9 f12 s32 (run3.sl.H9_12 c i arg1 arg2 arg8 arg9 arg10 arg12 h f1 f2 f9 f10 f12)
  have s36 : OK c i arg1 arg2 f1 f2 0 8 (run3.sl.H12_36 c i arg1 arg2 arg8 arg9 arg10 arg12 h f1 f2 f9 f10 f12) := OK.step (cb := 0) (k := 7) arg9 arg12 h f9 f12 s34 (run3.sl.H9_14 c i arg1 arg2 arg8 arg9 arg10 arg12 h f1 f2 f9 f10 f12)
  have s38 : OK c i arg1 arg2 f1 f2 0 9 (run3.sl.H12_38 c i arg1 arg2 arg8 arg9 arg10 arg12 h f1 f2 f9 f10 f12) := OK.step (cb := 0) (k := 8) arg9 arg12 h f9 f12 s36 (run3.sl.H9_16 c i arg1 arg2 arg8 arg9 arg10 arg12 h f1 f2 f9 f10 f12)
  have s58 : OK c i arg1 arg2 f1 f2 1 0 (run3.sl.H12_58 c i arg1 arg2 arg8 arg9 arg10 arg12 h f1 f2 f9 f10 f12) := by
    rw [H12_1, H8_1]
    refine OK.tile c i arg1 arg2 arg8 arg10 f1 f2 f10 1 _ _ (idx1 i) _ s38.fits s38.stay fun y h0 hy => s38.cov y h0 (Or.inr ?_)
    have h1 : (y 1).val < 928 := (y 1).isLt
    have hy' : (y 2).val / 128 < 1 := hy
    omega
  have s60 : OK c i arg1 arg2 f1 f2 1 1 (run3.sl.H12_60 c i arg1 arg2 arg8 arg9 arg10 arg12 h f1 f2 f9 f10 f12) := OK.step (cb := 1) (k := 0) arg9 arg12 h f9 f12 s58 (run3.sl.H9_18 c i arg1 arg2 arg8 arg9 arg10 arg12 h f1 f2 f9 f10 f12)
  have s62 : OK c i arg1 arg2 f1 f2 1 2 (run3.sl.H12_62 c i arg1 arg2 arg8 arg9 arg10 arg12 h f1 f2 f9 f10 f12) := OK.step (cb := 1) (k := 1) arg9 arg12 h f9 f12 s60 (run3.sl.H9_20 c i arg1 arg2 arg8 arg9 arg10 arg12 h f1 f2 f9 f10 f12)
  have s64 : OK c i arg1 arg2 f1 f2 1 3 (run3.sl.H12_64 c i arg1 arg2 arg8 arg9 arg10 arg12 h f1 f2 f9 f10 f12) := OK.step (cb := 1) (k := 2) arg9 arg12 h f9 f12 s62 (run3.sl.H9_22 c i arg1 arg2 arg8 arg9 arg10 arg12 h f1 f2 f9 f10 f12)
  have s66 : OK c i arg1 arg2 f1 f2 1 4 (run3.sl.H12_66 c i arg1 arg2 arg8 arg9 arg10 arg12 h f1 f2 f9 f10 f12) := OK.step (cb := 1) (k := 3) arg9 arg12 h f9 f12 s64 (run3.sl.H9_24 c i arg1 arg2 arg8 arg9 arg10 arg12 h f1 f2 f9 f10 f12)
  have s68 : OK c i arg1 arg2 f1 f2 1 5 (run3.sl.H12_68 c i arg1 arg2 arg8 arg9 arg10 arg12 h f1 f2 f9 f10 f12) := OK.step (cb := 1) (k := 4) arg9 arg12 h f9 f12 s66 (run3.sl.H9_26 c i arg1 arg2 arg8 arg9 arg10 arg12 h f1 f2 f9 f10 f12)
  have s70 : OK c i arg1 arg2 f1 f2 1 6 (run3.sl.H12_70 c i arg1 arg2 arg8 arg9 arg10 arg12 h f1 f2 f9 f10 f12) := OK.step (cb := 1) (k := 5) arg9 arg12 h f9 f12 s68 (run3.sl.H9_28 c i arg1 arg2 arg8 arg9 arg10 arg12 h f1 f2 f9 f10 f12)
  have s72 : OK c i arg1 arg2 f1 f2 1 7 (run3.sl.H12_72 c i arg1 arg2 arg8 arg9 arg10 arg12 h f1 f2 f9 f10 f12) := OK.step (cb := 1) (k := 6) arg9 arg12 h f9 f12 s70 (run3.sl.H9_30 c i arg1 arg2 arg8 arg9 arg10 arg12 h f1 f2 f9 f10 f12)
  have s74 : OK c i arg1 arg2 f1 f2 1 8 (run3.sl.H12_74 c i arg1 arg2 arg8 arg9 arg10 arg12 h f1 f2 f9 f10 f12) := OK.step (cb := 1) (k := 7) arg9 arg12 h f9 f12 s72 (run3.sl.H9_32 c i arg1 arg2 arg8 arg9 arg10 arg12 h f1 f2 f9 f10 f12)
  exact OK.step (cb := 1) (k := 8) arg9 arg12 h f9 f12 s74 _

end

theorem writes_off {sig : RefSig} {κ : Kind} {sp : Space} {S : Shape} {e : EltTy} {Val : EltTy → Type} (v : View sig κ sp S e) (f : v.ty.Contents Val)
    (L : List (View.Piece Val S e)) (y : S.Idx) (hy : ∀ p ∈ L, y ∉ p.1.set) : v.read Val (v.writes Val f L) y = v.read Val f y := by
  induction L with
  | nil => rfl
  | cons q L ih => exact (View.read_writes_cons_miss v f q L y (hy q List.mem_cons_self)).trans (ih fun p hp => hy p (List.mem_cons_of_mem _ hp))

/-- The part that dequantises fills its slot and leaves the other one. -/
theorem run3_apply (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) (h : k0_cond3 i = 1#1)
    (f1 : Bf (F := Ideal) c arg1) (f2 : Bf (F := Ideal) c arg2) (f8 : Bf (F := Ideal) c arg8) (f9 : Bf (F := Ideal) c arg9) (f10 : Bf (F := Ideal) c arg10) (f12 : Bf (F := Ideal) c arg12)
    (y : S2x928x256.Idx) :
    arg12.view.read (Elt Ideal) (run3 c i arg1 harg1 arg2 harg2 arg3 harg3 arg4 harg4 arg5 harg5 arg6 harg6 arg7 harg7 arg8 harg8 arg9 harg9 arg10 harg10 arg11 harg11 arg12 harg12 arg13 harg13 arg14 harg14 arg15 h f1 f2 f8 f9 f10 f12).1 y
      = if (y 0).val = slot i then v12 c i arg1 arg2 f1 f2 y else arg12.view.read (Elt Ideal) f12 y := by
  have e : (run3 c i arg1 harg1 arg2 harg2 arg3 harg3 arg4 harg4 arg5 harg5 arg6 harg6 arg7 harg7 arg8 harg8 arg9 harg9 arg10 harg10 arg11 harg11 arg12 harg12 arg13 harg13 arg14 harg14 arg15 h f1 f2 f8 f9 f10 f12).1 = arg12.view.writes (Elt Ideal) f12 (st12 c i arg9 arg12 h f9 f12 1 8 (run3.sl.H9_34 c i arg1 arg2 arg8 arg9 arg10 arg12 h f1 f2 f9 f10 f12) (run3.sl.H12_74 c i arg1 arg2 arg8 arg9 arg10 arg12 h f1 f2 f9 f10 f12)) := by
    delta run3
    refine congrArg (arg12.view.writes (Elt Ideal) f12) ?_
    rfl
  have ok := OK_all c i arg1 arg2 arg8 arg9 arg10 arg12 h f1 f2 f9 f10 f12
  rw [e]
  split
  · rename_i h0
    refine read_fits arg12.view f12 ok.fits y (ok.cov y h0 ?_)
    have h1 : (y 1).val < 928 := (y 1).isLt
    have h2 : (y 2).val < 256 := (y 2).isLt
    omega
  · rename_i h0
    exact writes_off _ _ _ _ fun p hp hy => h0 (ok.stay p hp y hy)

end Cert.KernelIdeal.Prf
end
-- ==== Proof.IProd.lean ====
/- What the part that multiplies one tile by the weights adds to the accumulator, element by element. -/
module

public import proofs.«01_k».proof.Proof.ISq
public import proofs.«01_k».proof.Proof.IRead

@[expose] public section

set_option maxRecDepth 65536

noncomputable section

namespace Cert.KernelIdeal.Prf

open Cert.KernelIdeal Cert.KernelIdeal.Gen
open Idealize.ShloMosaic Idealize.ShloMosaic.TcCoe Idealize.ShloMosaic.Tactic

section
variable {F : FTy → Type} [FloatOps F] (c : Dev nD) (i : grid0.Coords) (h : k0_cond5 i = 1#1) (arg12 : Memref sig .tc .vmem S2x928x256 .bf16)
    (arg13 : Memref sig .tc .vmem S3x1792x768 .fp8e4m3) (arg14 : Memref sig .tc .vmem S640x768 .f32)
    (f12 : Bf (F := F) c arg12) (f13 : Bf (F := F) c arg13) (f14 : Bf (F := F) c arg14)

theorem inb320 (r : Fin 2) (k : Fin 7) : ∀ a, (![320 * r.val + 48 * k.val, 0] : Fin 2 → ℕ) a + S320x256.size a ≤ S928x256.size a := by
  have := r.isLt; have := k.isLt
  intro a
  match a with
  | ⟨0, _⟩ => show 320 * r.val + 48 * k.val + 320 ≤ 928; omega
  | ⟨1, _⟩ => show 0 + 256 ≤ 256; omega

theorem inbQ (n : Fin 3) : ∀ a, (![0, 256 * n.val] : Fin 2 → ℕ) a + S1792x256.size a ≤ S1792x768.size a := by
  have := n.isLt
  intro a
  match a with
  | ⟨0, _⟩ => show 0 + 1792 ≤ 1792; omega
  | ⟨1, _⟩ => show 256 * n.val + 256 ≤ 768; omega

theorem inbPr (r : Fin 2) (n : Fin 3) : ∀ a, (![320 * r.val, 256 * n.val] : Fin 2 → ℕ) a + S320x256.size a ≤ S640x768.size a := by
  have := r.isLt; have := n.isLt
  intro a
  match a with
  | ⟨0, _⟩ => show 320 * r.val + 320 ≤ 640; omega
  | ⟨1, _⟩ => show 256 * n.val + 256 ≤ 768; omega

/-- The rows that tap `k` multiplies. -/
def ld12 (r : Fin 2) (k : Fin 7) : Vec F S320x256 .bf16 :=
  View.readAt (Elt F) ((arg12.slice (Rect.unit (s := S2x928x256) (k0_off99 i) S1x928x256.size (k0_off99_inb i h)) (fun _ => rfl)).squeeze S928x256 squeezes_S1x928x256_S928x256).view
    (Rect.unit (s := S928x256) ![320 * r.val + 48 * k.val, 0] S320x256.size (inb320 r k)).toLoadRect f12

/-- A store into the accumulator: 320 rows of one column tile. -/
def p14 (k : Fin 6) : View.Piece (Elt F) S640x768 .f32 :=
  ⟨Rect.unit (s := S640x768) ![320 * (k.val / 3), 256 * (k.val % 3)] S320x256.size (inbPr ⟨k.val / 3, by omega⟩ ⟨k.val % 3, by omega⟩),
    k0_pay576 (ld12 c i h arg12 f12 ⟨k.val / 3, by omega⟩ 0) (ld12 c i h arg12 f12 ⟨k.val / 3, by omega⟩ 1) (ld12 c i h arg12 f12 ⟨k.val / 3, by omega⟩ 2)
      (ld12 c i h arg12 f12 ⟨k.val / 3, by omega⟩ 3) (ld12 c i h arg12 f12 ⟨k.val / 3, by omega⟩ 4) (ld12 c i h arg12 f12 ⟨k.val / 3, by omega⟩ 5)
      (ld12 c i h arg12 f12 ⟨k.val / 3, by omega⟩ 6)
      (View.readAt (Elt F) ((arg13.slice (Rect.unit (s := S3x1792x768) (k0_off100 i) S1x1792x768.size (k0_off100_inb i h)) (fun _ => rfl)).squeeze S1792x768 squeezes_S1x1792x768_S1792x768).view
        (Rect.unit (s := S1792x768) ![0, 256 * (k.val % 3)] S1792x256.size (inbQ ⟨k.val % 3, by omega⟩)).toLoadRect f13)
      (View.readAt (Elt F) arg14.view (Rect.unit (s := S640x768) ![320 * (k.val / 3), 256 * (k.val % 3)] S320x256.size (inbPr ⟨k.val / 3, by omega⟩ ⟨k.val % 3, by omega⟩)).toLoadRect f14)⟩
end

section
variable (c : Dev nD) (i : grid0.Coords) (h : k0_cond5 i = 1#1) (arg12 : Memref sig .tc .vmem S2x928x256 .bf16)
    (arg13 : Memref sig .tc .vmem S3x1792x768 .fp8e4m3) (arg14 : Memref sig .tc .vmem S640x768 .f32)
    (f12 : Bf (F := Ideal) c arg12) (f13 : Bf (F := Ideal) c arg13) (f14 : Bf (F := Ideal) c arg14) (s : Fin 2) (q : Fin 3)

theorem ld12_at (hs : k0_off99 i = ![s.val, 0, 0]) (r : Fin 2) (k : Fin 7) (x : S320x256.Idx) (z : S2x928x256.Idx)
    (h0 : (z 0).val = s.val) (h1 : (z 1).val = 320 * r.val + 48 * k.val + (x 0).val) (h2 : (z 2).val = (x 1).val) :
    ld12 c i h arg12 f12 r k x = arg12.view.read (Elt Ideal) f12 z :=
  read_plane12 arg12 (k0_off99 i) _ _ f12 s.val hs _ z h0 (by rw [h1]; show _ = 320 * r.val + 48 * k.val + 1 * (x 0).val; omega)
    (by rw [h2]; show _ = 0 + 1 * (x 1).val; omega)

/-- The accumulator after the products: what it held, plus the sum over the seven taps and the 256 columns of the tile. -/
def v14 : S640x768.Idx → Elt Ideal .f32 := fun y =>
  (arg14.view.read (Elt Ideal) f14 y : EReal) + ∑ κ : Fin 1792,
    (arg12.view.read (Elt Ideal) f12 (ix3 (n0 := 2) (n1 := 928) (n2 := 256) s
        ⟨(y 0).val + 48 * (κ.val / 256), by have : (y 0).val < 640 := (y 0).isLt; omega⟩ ⟨κ.val % 256, by omega⟩) : EReal)
      * (arg13.view.read (Elt Ideal) f13 (ix3 (n0 := 3) (n1 := 1792) (n2 := 768) q κ (y 1)) : EReal)

theorem fit14 (hs : k0_off99 i = ![s.val, 0, 0]) (hq : k0_off100 i = ![q.val, 0, 0]) (k : Fin 6) :
    Fit (v14 c arg12 arg13 arg14 f12 f13 f14 s q) (p14 c i h arg12 arg13 arg14 f12 f13 f14 k) := by
  intro j
  have hk := k.isLt
  change k0_pay576 (F := Ideal) _ _ _ _ _ _ _ _ _ j = v14 c arg12 arg13 arg14 f12 f13 f14 s q _
  have hj0 : (j 0).val < 320 := (j 0).isLt
  have hj1 : (j 1).val < 256 := (j 1).isLt
  unfold v14
  pointwise [k0_pay576, k0_pay575]
  have hr : k.val / 3 < 2 := by omega
  refine congrArg₂ _ (readAt_at _ _ _ _ _ fun d => rfl) (Finset.sum_congr rfl fun x _ => congrArg₂ _ ?_ ?_)
  · have hx := x.isLt
    have key : ∀ (m : Fin 7) (hm : 256 * m.val ≤ x.val) (b : Fin 256), x.val = 256 * m.val + b.val →
        ld12 c i h arg12 f12 ⟨k.val / 3, hr⟩ m (ix2 (n0 := 320) (n1 := 256) (j 0) b)
          = arg12.view.read (Elt Ideal) f12 (ix3 (n0 := 2) (n1 := 928) (n2 := 256) s
            ⟨320 * (k.val / 3) + 1 * (j 0).val + 48 * (x.val / 256), by omega⟩ ⟨x.val % 256, by omega⟩) := by
      intro m hm b hb
      have := b.isLt; have := m.isLt
      refine ld12_at c i h arg12 f12 s hs _ _ _ _ rfl ?_ ?_
      · show 320 * (k.val / 3) + 1 * (j 0).val + 48 * (x.val / 256) = 320 * (k.val / 3) + 48 * m.val + (j 0).val
        rw [show x.val / 256 = m.val by omega]
        omega
      · show x.val % 256 = b.val
        omega
    split
    · exact key 0 (Nat.zero_le _) _ (by show x.val = 256 * 0 + x.val; omega)
    split
    · exact key 1 (by show 256 * 1 ≤ _; omega) _ (by show x.val = 256 * 1 + (x.val - 256); omega)
    split
    · exact key 2 (by show 256 * 2 ≤ _; omega) _ (by show x.val = 256 * 2 + (x.val - 256 - 256); omega)
    split
    · exact key 3 (by show 256 * 3 ≤ _; omega) _ (by show x.val = 256 * 3 + (x.val - 256 - 256 - 256); omega)
    split
    · exact key 4 (by show 256 * 4 ≤ _; omega) _ (by show x.val = 256 * 4 + (x.val - 256 - 256 - 256 - 256); omega)
    split
    · exact key 5 (by show 256 * 5 ≤ _; omega) _ (by show x.val = 256 * 5 + (x.val - 256 - 256 - 256 - 256 - 256); omega)
    · exact key 6 (by show 256 * 6 ≤ _; omega) _ (by show x.val = 256 * 6 + (x.val - 256 - 256 - 256 - 256 - 256 - 256); omega)
  · refine read_plane13 arg13 (k0_off100 i) (k0_off100_inb i h) (fun _ => rfl) f13 q.val hq _ _ rfl ?_ ?_
    · show x.val = 0 + 1 * x.val; omega
    · rfl

end

theorem run5_eq (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) (h : k0_cond5 i = 1#1) {F : FTy → Type} [FloatOps F]
    (f12 : Bf (F := F) c arg12) (f13 : Bf (F := F) c arg13) (f14 : Bf (F := F) c arg14) :
    (run5 c i arg1 harg1 arg2 harg2 arg3 harg3 arg4 harg4 arg5 harg5 arg6 harg6 arg7 harg7 arg8 harg8 arg9 harg9 arg10 harg10 arg11 harg11 arg12 harg12 arg13 harg13 arg14 harg14 arg15 h f12 f13 f14).1 = arg14.view.writes (Elt F) f14 (down (p14 c i h arg12 arg13 arg14 f12 f13 f14) [] 6 le_rfl) := by
  delta run5
  refine congrArg (arg14.view.writes (Elt F) f14) ?_
  rfl

/-- What that part leaves in the accumulator. -/
theorem run5_apply (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) (h : k0_cond5 i = 1#1)
    (f12 : Bf (F := Ideal) c arg12) (f13 : Bf (F := Ideal) c arg13) (f14 : Bf (F := Ideal) c arg14) (s : Fin 2) (q : Fin 3)
    (hs : k0_off99 i = ![s.val, 0, 0]) (hq : k0_off100 i = ![q.val, 0, 0]) (y : S640x768.Idx) :
    arg14.view.read (Elt Ideal) (run5 c i arg1 harg1 arg2 harg2 arg3 harg3 arg4 harg4 arg5 harg5 arg6 harg6 arg7 harg7 arg8 harg8 arg9 harg9 arg10 harg10 arg11 harg11 arg12 harg12 arg13 harg13 arg14 harg14 arg15 h f12 f13 f14).1 y = v14 c arg12 arg13 arg14 f12 f13 f14 s q y := by
  rw [run5_eq]
  have h0 : (y 0).val < 640 := (y 0).isLt
  have h1 : (y 1).val < 768 := (y 1).isLt
  refine read_down arg14.view f14 (fit14 c i h arg12 arg13 arg14 f12 f13 f14 s q hs hq) 6 le_rfl y ⟨3 * ((y 0).val / 320) + (y 1).val / 256, by omega⟩
    (by show 3 * ((y 0).val / 320) + (y 1).val / 256 < 6; omega) ?_
  refine (LoadRect.mem_set _).mpr fun d => ?_
  match d with
  | ⟨0, _⟩ => exact ⟨(y 0).val % 320, Nat.mod_lt _ (by norm_num), by show (y 0).val = 320 * ((3 * ((y 0).val / 320) + (y 1).val / 256) / 3) + 1 * ((y 0).val % 320); omega⟩
  | ⟨1, _⟩ => exact ⟨(y 1).val % 256, Nat.mod_lt _ (by norm_num), by show (y 1).val = 256 * ((3 * ((y 0).val / 320) + (y 1).val / 256) % 3) + 1 * ((y 1).val % 256); omega⟩

end Cert.KernelIdeal.Prf
end
-- ==== Proof.IOut.lean ====
/- What the part that writes one batch of the result leaves in the block, element by element. -/
module

public import proofs.«01_k».proof.Proof.IRun6
public import proofs.«01_k».proof.Proof.IRead

@[expose] public section

set_option maxRecDepth 65536

noncomputable section

namespace Cert.KernelIdeal.Prf

open Cert.KernelIdeal Cert.KernelIdeal.Gen
open Idealize.ShloMosaic Idealize.ShloMosaic.TcCoe Idealize.ShloMosaic.Tactic

variable {F : FTy → Type} [FloatOps F]

section
variable (c : Dev nD) (arg3 : Memref sig .tc .vmem S1x640x768 .bf16) (arg5 : Memref sig .tc .vmem S1x768 .f32) (arg6 : Memref sig .tc .vmem S1x768 .f32)
  (arg11 : Memref sig .tc .vmem S736x128 .f32) (arg14 : Memref sig .tc .vmem S640x768 .f32)
  (f3 : Bf (F := F) c arg3) (f5 : Bf (F := F) c arg5) (f6 : Bf (F := F) c arg6) (f11 : Bf (F := F) c arg11) (f14 : Bf (F := F) c arg14)

theorem inb11 (k : Fin 80) : ∀ a, (![k.val / 2 + 368 * (k.val % 2), 0] : Fin 2 → ℕ) a + (![46, 1] : Fin 2 → ℕ) a * (S8x128.size a - 1) < S736x128.size a := by
  have := k.isLt
  intro a
  match a with
  | ⟨0, _⟩ => show k.val / 2 + 368 * (k.val % 2) + 46 * 7 < 736; omega
  | ⟨1, _⟩ => show 0 + 1 * 127 < 128; omega

theorem inb14 (g : Fin 6) (k : Fin 80) : ∀ a, (![8 * k.val, 128 * g.val] : Fin 2 → ℕ) a + S8x128.size a ≤ S640x768.size a := by
  have := k.isLt; have := g.isLt
  intro a
  match a with
  | ⟨0, _⟩ => show 8 * k.val + 8 ≤ 640; omega
  | ⟨1, _⟩ => show 128 * g.val + 128 ≤ 768; omega

theorem inbW (g : Fin 6) : ∀ a, (![0, 128 * g.val] : Fin 2 → ℕ) a + S1x128.size a ≤ S1x768.size a := by
  have := g.isLt
  intro a
  match a with
  | ⟨0, _⟩ => show 0 + 1 ≤ 1; omega
  | ⟨1, _⟩ => show 128 * g.val + 128 ≤ 768; omega

/-- Store `k` of column tile `g` into the scaled accumulator's buffer: eight of its rows, 46 apart. -/
def p11 (g : Fin 6) (k : Fin 80) : View.Piece (Elt F) S736x128 .f32 :=
  ⟨{ off := ![k.val / 2 + 368 * (k.val % 2), 0], size := S8x128.size, stride := ![46, 1], inb := fun a => Or.inr (inb11 k a), stride_pos := spos_46_1 },
    k0_pay579 (View.readAt (Elt F) arg5.view (Rect.unit (s := S1x768) ![0, 128 * g.val] S1x128.size (inbW g)).toLoadRect f5)
      (View.readAt (Elt F) arg6.view (Rect.unit (s := S1x768) ![0, 128 * g.val] S1x128.size (inbW g)).toLoadRect f6)
      (View.readAt (Elt F) arg14.view (Rect.unit (s := S640x768) ![8 * k.val, 128 * g.val] S8x128.size (inb14 g k)).toLoadRect f14)⟩

/-- The scaled accumulator of column tile `g`: row `46 b + a` is row `16 a + b` of the accumulator. -/
def v11 (g : Fin 6) : S736x128.Idx → Elt F .f32 := fun y =>
  FloatOps.addf (FloatOps.mulf (arg14.view.read (Elt F) f14 (ix2 (n0 := 640) (n1 := 768)
      ⟨(((y 0).val % 46) * 16 + (y 0).val / 46) % 640, by omega⟩ ⟨128 * g.val + (y 1).val, by have := g.isLt; have : (y 1).val < 128 := (y 1).isLt; omega⟩))
    (arg5.view.read (Elt F) f5 (ix2 (n0 := 1) (n1 := 768) 0 ⟨128 * g.val + (y 1).val, by have := g.isLt; have : (y 1).val < 128 := (y 1).isLt; omega⟩)))
    (arg6.view.read (Elt F) f6 (ix2 (n0 := 1) (n1 := 768) 0 ⟨128 * g.val + (y 1).val, by have := g.isLt; have : (y 1).val < 128 := (y 1).isLt; omega⟩))

theorem fit11 (g : Fin 6) (k : Fin 80) : Fit (v11 c arg5 arg6 arg14 f5 f6 f14 g) (p11 c arg5 arg6 arg14 f5 f6 f14 g k) := by
  intro j
  have hk := k.isLt
  change k0_pay579 _ _ _ j = v11 c arg5 arg6 arg14 f5 f6 f14 g _
  have hj0 : (j 0).val < 8 := (j 0).isLt
  have hj1 : (j 1).val < 128 := (j 1).isLt
  unfold v11
  pointwise [k0_pay579, k0_pay577, k0_pay578]
  refine congrArg₂ _ (congrArg₂ _ (readAt_at _ _ _ _ _ ?_) (readAt_at _ _ _ _ _ ?_)) (readAt_at _ _ _ _ _ ?_)
  · intro d
    match d with
    | ⟨0, _⟩ =>
      show 8 * k.val + 1 * (j 0).val = ((k.val / 2 + 368 * (k.val % 2) + 46 * (j 0).val) % 46 * 16 + (k.val / 2 + 368 * (k.val % 2) + 46 * (j 0).val) / 46) % 640
      rw [show (k.val / 2 + 368 * (k.val % 2) + 46 * (j 0).val) / 46 = 8 * (k.val % 2) + (j 0).val by omega,
        show (k.val / 2 + 368 * (k.val % 2) + 46 * (j 0).val) % 46 = k.val / 2 by omega]
      omega
    | ⟨1, _⟩ => show 128 * g.val + 1 * (j 1).val = 128 * g.val + (0 + 1 * (j 1).val); omega
  · intro d
    match d with
    | ⟨0, _⟩ => rfl
    | ⟨1, _⟩ => show 128 * g.val + 1 * (j 1).val = 128 * g.val + (0 + 1 * (j 1).val); omega
  · intro d
    match d with
    | ⟨0, _⟩ => rfl
    | ⟨1, _⟩ => show 128 * g.val + 1 * (j 1).val = 128 * g.val + (0 + 1 * (j 1).val); omega

theorem H11_0 : run6.sl.H11_80 c arg5 arg6 arg14 f5 f6 f14 = down (p11 c arg5 arg6 arg14 f5 f6 f14 0) [] 80 le_rfl := rfl
theorem H11_1 : run6.sl.H11_160 c arg5 arg6 arg14 f5 f6 f14 = down (p11 c arg5 arg6 arg14 f5 f6 f14 1) (run6.sl.H11_80 c arg5 arg6 arg14 f5 f6 f14) 80 le_rfl := rfl
theorem H11_2 : run6.sl.H11_240 c arg5 arg6 arg14 f5 f6 f14 = down (p11 c arg5 arg6 arg14 f5 f6 f14 2) (run6.sl.H11_160 c arg5 arg6 arg14 f5 f6 f14) 80 le_rfl := rfl
theorem H11_3 : run6.sl.H11_320 c arg5 arg6 arg14 f5 f6 f14 = down (p11 c arg5 arg6 arg14 f5 f6 f14 3) (run6.sl.H11_240 c arg5 arg6 arg14 f5 f6 f14) 80 le_rfl := rfl
theorem H11_4 : run6.sl.H11_400 c arg5 arg6 arg14 f5 f6 f14 = down (p11 c arg5 arg6 arg14 f5 f6 f14 4) (run6.sl.H11_320 c arg5 arg6 arg14 f5 f6 f14) 80 le_rfl := rfl
theorem H11_5 : run6.sl.H11_480 c arg5 arg6 arg14 f5 f6 f14 = down (p11 c arg5 arg6 arg14 f5 f6 f14 5) (run6.sl.H11_400 c arg5 arg6 arg14 f5 f6 f14) 80 le_rfl := rfl

/-- The stores into that buffer up to the end of column tile `g`. -/
def L11 : Fin 6 → List (View.Piece (Elt F) S736x128 .f32) :=
  ![run6.sl.H11_80 c arg5 arg6 arg14 f5 f6 f14, run6.sl.H11_160 c arg5 arg6 arg14 f5 f6 f14, run6.sl.H11_240 c arg5 arg6 arg14 f5 f6 f14,
    run6.sl.H11_320 c arg5 arg6 arg14 f5 f6 f14, run6.sl.H11_400 c arg5 arg6 arg14 f5 f6 f14, run6.sl.H11_480 c arg5 arg6 arg14 f5 f6 f14]

theorem read11 (g : Fin 6) (b : Fin 16) (a : Fin 40) (l : Fin 128) :
    arg11.view.read (Elt F) (arg11.view.writes (Elt F) f11 (L11 c arg5 arg6 arg14 f5 f6 f14 g)) (ix2 (n0 := 736) (n1 := 128) ⟨46 * b.val + a.val, by omega⟩ l)
      = v11 c arg5 arg6 arg14 f5 f6 f14 g (ix2 (n0 := 736) (n1 := 128) ⟨46 * b.val + a.val, by omega⟩ l) := by
  have hd : ∃ base, L11 c arg5 arg6 arg14 f5 f6 f14 g = down (p11 c arg5 arg6 arg14 f5 f6 f14 g) base 80 le_rfl := by
    fin_cases g
    · exact ⟨_, H11_0 c arg5 arg6 arg14 f5 f6 f14⟩
    · exact ⟨_, H11_1 c arg5 arg6 arg14 f5 f6 f14⟩
    · exact ⟨_, H11_2 c arg5 arg6 arg14 f5 f6 f14⟩
    · exact ⟨_, H11_3 c arg5 arg6 arg14 f5 f6 f14⟩
    · exact ⟨_, H11_4 c arg5 arg6 arg14 f5 f6 f14⟩
    · exact ⟨_, H11_5 c arg5 arg6 arg14 f5 f6 f14⟩
  obtain ⟨base, hd⟩ := hd
  rw [hd]
  refine read_down arg11.view f11 (fit11 c arg5 arg6 arg14 f5 f6 f14 g) 80 le_rfl _ ⟨2 * a.val + b.val / 8, by omega⟩ (by show 2 * a.val + b.val / 8 < 80; omega) ?_
  refine (LoadRect.mem_set _).mpr fun d => ?_
  match d with
  | ⟨0, _⟩ => exact ⟨b.val % 8, Nat.mod_lt _ (by norm_num), by show 46 * b.val + a.val = (2 * a.val + b.val / 8) / 2 + 368 * ((2 * a.val + b.val / 8) % 2) + 46 * (b.val % 8); omega⟩
  | ⟨1, _⟩ => exact ⟨l.val, l.isLt, by show l.val = 0 + 1 * l.val; omega⟩

theorem inb7 (g : Fin 6) (m : Fin 8) : ∀ a, (![0, 80 * m.val, 128 * g.val] : Fin 3 → ℕ) a + S1x80x128.size a ≤ S1x640x768.size a := by
  have := g.isLt; have := m.isLt
  intro a
  match a with
  | ⟨0, _⟩ => show 0 + 1 ≤ 1; omega
  | ⟨1, _⟩ => show 80 * m.val + 80 ≤ 640; omega
  | ⟨2, _⟩ => show 128 * g.val + 128 ≤ 768; omega

theorem inb40 (m : Fin 8) (h : Fin 2) : ∀ a, (![92 * m.val + 46 * h.val, 0] : Fin 2 → ℕ) a + S40x128.size a ≤ S736x128.size a := by
  have := m.isLt; have := h.isLt
  intro a
  match a with
  | ⟨0, _⟩ => show 92 * m.val + 46 * h.val + 40 ≤ 736; omega
  | ⟨1, _⟩ => show 0 + 128 ≤ 128; omega

/-- What the buffer is taken to hold before its stores, for the first load of a store into the block: this does not matter. -/
def fA : Fin 8 → Bf (F := F) c arg11 := ![arg11.view.junk, f11, f11, f11, arg11.view.junk, f11, f11, f11]

/-- A store into the block: eighty rows of one column tile, out of the buffer that the stores `L` filled. -/
def p7 (L : List (View.Piece (Elt F) S736x128 .f32)) (g : Fin 6) (m : Fin 8) : View.Piece (Elt F) S1x640x768 .bf16 :=
  ⟨Rect.unit (s := S1x640x768) ![0, 80 * m.val, 128 * g.val] S1x80x128.size (inb7 g m),
    k0_pay1172
      (View.readAt (Elt F) arg11.view (Rect.unit (s := S736x128) ![92 * m.val + 46 * (0 : Fin 2).val, 0] S40x128.size (inb40 m 0)).toLoadRect
        (arg11.view.writes (Elt F) (fA c arg11 f11 m) L))
      (View.readAt (Elt F) arg11.view (Rect.unit (s := S736x128) ![92 * m.val + 46 * (1 : Fin 2).val, 0] S40x128.size (inb40 m 1)).toLoadRect
        (arg11.view.writes (Elt F) f11 L))
      (View.readAt (Elt F) arg3.view (Rect.unit (s := S1x640x768) ![0, 80 * m.val, 128 * g.val] S1x80x128.size (inb7 g m)).toLoadRect f3)⟩

/-- The block of the result. -/
def v7 : S1x640x768.Idx → Elt F .bf16 := fun y =>
  FloatOps.truncf .bf16 (by decide) (FloatOps.addf (FloatOps.extf .f32 (by decide) (arg3.view.read (Elt F) f3 y))
    (FloatOps.addf (FloatOps.mulf (arg14.view.read (Elt F) f14 (ix2 (n0 := 640) (n1 := 768)
        ⟨(y 1).val % 40 * 16 + (y 1).val / 40, by have : (y 1).val < 640 := (y 1).isLt; omega⟩ (y 2)))
      (arg5.view.read (Elt F) f5 (ix2 (n0 := 1) (n1 := 768) 0 (y 2)))) (arg6.view.read (Elt F) f6 (ix2 (n0 := 1) (n1 := 768) 0 (y 2)))))

theorem fit7 (L : List (View.Piece (Elt F) S736x128 .f32)) (g : Fin 6)
    (hL : ∀ (f11 : Bf (F := F) c arg11) (b : Fin 16) (a : Fin 40) (l : Fin 128),
      arg11.view.read (Elt F) (arg11.view.writes (Elt F) f11 L) (ix2 (n0 := 736) (n1 := 128) ⟨46 * b.val + a.val, by omega⟩ l)
        = v11 c arg5 arg6 arg14 f5 f6 f14 g (ix2 (n0 := 736) (n1 := 128) ⟨46 * b.val + a.val, by omega⟩ l)) (m : Fin 8) :
    Fit (v7 c arg3 arg5 arg6 arg14 f3 f5 f6 f14) (p7 c arg3 arg11 f3 f11 L g m) := by
  intro j
  have hg := g.isLt
  have hm := m.isLt
  change k0_pay1172 _ _ _ j = v7 c arg3 arg5 arg6 arg14 f3 f5 f6 f14 _
  have hj0 : (j 1).val < 80 := (j 1).isLt
  have hj1 : (j 2).val < 128 := (j 2).isLt
  unfold v7
  pointwise [k0_pay1172]
  have hB : ∀ (b : Fin 16) (a : Fin 40), 80 * m.val + (j 1).val = 40 * b.val + a.val →
      v11 c arg5 arg6 arg14 f5 f6 f14 g (ix2 (n0 := 736) (n1 := 128) ⟨46 * b.val + a.val, by omega⟩ ⟨(j 2).val, hj1⟩)
        = FloatOps.addf (FloatOps.mulf (arg14.view.read (Elt F) f14 (ix2 (n0 := 640) (n1 := 768)
            ⟨(80 * m.val + 1 * (j 1).val) % 40 * 16 + (80 * m.val + 1 * (j 1).val) / 40, by omega⟩ ⟨128 * g.val + 1 * (j 2).val, by omega⟩))
          (arg5.view.read (Elt F) f5 (ix2 (n0 := 1) (n1 := 768) 0 ⟨128 * g.val + 1 * (j 2).val, by omega⟩)))
          (arg6.view.read (Elt F) f6 (ix2 (n0 := 1) (n1 := 768) 0 ⟨128 * g.val + 1 * (j 2).val, by omega⟩)) := by
    intro b a h
    have e1 : (⟨128 * g.val + 1 * (j 2).val, by omega⟩ : Fin 768) = ⟨128 * g.val + (j 2).val, by omega⟩ := Fin.ext (by show 128 * g.val + 1 * (j 2).val = 128 * g.val + (j 2).val; omega)
    have e2 : (⟨(80 * m.val + 1 * (j 1).val) % 40 * 16 + (80 * m.val + 1 * (j 1).val) / 40, by omega⟩ : Fin 640)
        = ⟨((46 * b.val + a.val) % 46 * 16 + (46 * b.val + a.val) / 46) % 640, by omega⟩ := Fin.ext (by
      show (80 * m.val + 1 * (j 1).val) % 40 * 16 + (80 * m.val + 1 * (j 1).val) / 40 = ((46 * b.val + a.val) % 46 * 16 + (46 * b.val + a.val) / 46) % 640
      have := a.isLt; have := b.isLt
      rw [show 80 * m.val + 1 * (j 1).val = 40 * b.val + a.val by omega,
        show (40 * b.val + a.val) / 40 = b.val by omega, show (40 * b.val + a.val) % 40 = a.val by omega,
        show (46 * b.val + a.val) / 46 = b.val by omega, show (46 * b.val + a.val) % 46 = a.val by omega]
      omega)
    rw [e1, e2]
    rfl
  refine congrArg _ (congrArg₂ _ (congrArg _ (readAt_at _ _ _ _ _ fun d => rfl)) ?_)
  split
  · rename_i h
    refine ((readAt_at _ _ _ _ (ix2 (n0 := 736) (n1 := 128) ⟨46 * (2 * m.val) + (j 1).val, by omega⟩ ⟨(j 2).val, hj1⟩) ?_).trans
      (hL _ ⟨2 * m.val, by omega⟩ ⟨(j 1).val, h⟩ ⟨(j 2).val, hj1⟩)).trans
      (hB ⟨2 * m.val, by omega⟩ ⟨(j 1).val, h⟩ (by show 80 * m.val + (j 1).val = 40 * (2 * m.val) + (j 1).val; omega))
    intro d
    match d with
    | ⟨0, _⟩ => show 92 * m.val + 1 * (j 1).val = 46 * (2 * m.val) + (j 1).val; omega
    | ⟨1, _⟩ => show 0 + 1 * (j 2).val = (j 2).val; omega
  · rename_i h
    refine ((readAt_at _ _ _ _ (ix2 (n0 := 736) (n1 := 128) ⟨46 * (2 * m.val + 1) + ((j 1).val - 40), by omega⟩ ⟨(j 2).val, hj1⟩) ?_).trans
      (hL _ ⟨2 * m.val + 1, by omega⟩ ⟨(j 1).val - 40, by omega⟩ ⟨(j 2).val, hj1⟩)).trans
      (hB ⟨2 * m.val + 1, by omega⟩ ⟨(j 1).val - 40, by omega⟩ (by show 80 * m.val + (j 1).val = 40 * (2 * m.val + 1) + ((j 1).val - 40); omega))
    intro d
    match d with
    | ⟨0, _⟩ => show 92 * m.val + 46 + 1 * ((j 1).val - 40) = 46 * (2 * m.val + 1) + ((j 1).val - 40); omega
    | ⟨1, _⟩ => show 0 + 1 * (j 2).val = (j 2).val; omega

theorem H7_0 : run6.sl.H7_8 c arg3 arg5 arg6 arg11 arg14 f3 f5 f6 f11 f14 = down (p7 c arg3 arg11 f3 f11 (run6.sl.H11_80 c arg5 arg6 arg14 f5 f6 f14) 0) [] 8 le_rfl := rfl
theorem H7_1 : run6.sl.H7_16 c arg3 arg5 arg6 arg11 arg14 f3 f5 f6 f11 f14 = down (p7 c arg3 arg11 f3 f11 (run6.sl.H11_160 c arg5 arg6 arg14 f5 f6 f14) 1) (run6.sl.H7_8 c arg3 arg5 arg6 arg11 arg14 f3 f5 f6 f11 f14) 8 le_rfl := rfl
theorem H7_2 : run6.sl.H7_24 c arg3 arg5 arg6 arg11 arg14 f3 f5 f6 f11 f14 = down (p7 c arg3 arg11 f3 f11 (run6.sl.H11_240 c arg5 arg6 arg14 f5 f6 f14) 2) (run6.sl.H7_16 c arg3 arg5 arg6 arg11 arg14 f3 f5 f6 f11 f14) 8 le_rfl := rfl
theorem H7_3 : run6.sl.H7_32 c arg3 arg5 arg6 arg11 arg14 f3 f5 f6 f11 f14 = down (p7 c arg3 arg11 f3 f11 (run6.sl.H11_320 c arg5 arg6 arg14 f5 f6 f14) 3) (run6.sl.H7_24 c arg3 arg5 arg6 arg11 arg14 f3 f5 f6 f11 f14) 8 le_rfl := rfl
theorem H7_4 : run6.sl.H7_40 c arg3 arg5 arg6 arg11 arg14 f3 f5 f6 f11 f14 = down (p7 c arg3 arg11 f3 f11 (run6.sl.H11_400 c arg5 arg6 arg14 f5 f6 f14) 4) (run6.sl.H7_32 c arg3 arg5 arg6 arg11 arg14 f3 f5 f6 f11 f14) 8 le_rfl := rfl

/-- All the stores into the block. -/
def L7 : List (View.Piece (Elt F) S1x640x768 .bf16) :=
  down (p7 c arg3 arg11 f3 f11 (run6.sl.H11_480 c arg5 arg6 arg14 f5 f6 f14) 5) (run6.sl.H7_40 c arg3 arg5 arg6 arg11 arg14 f3 f5 f6 f11 f14) 8 le_rfl

theorem fits7 : Fits (v7 c arg3 arg5 arg6 arg14 f3 f5 f6 f14) (L7 c arg3 arg5 arg6 arg11 arg14 f3 f5 f6 f11 f14) := by
  unfold L7
  refine Fits.down (fit7 c arg3 arg5 arg6 arg11 arg14 f3 f5 f6 f11 f14 _ _ (fun f11 => read11 c arg5 arg6 arg11 arg14 f5 f6 f11 f14 5)) ?_ 8 le_rfl
  rw [H7_4]
  refine Fits.down (fit7 c arg3 arg5 arg6 arg11 arg14 f3 f5 f6 f11 f14 _ _ (fun f11 => read11 c arg5 arg6 arg11 arg14 f5 f6 f11 f14 4)) ?_ 8 le_rfl
  rw [H7_3]
  refine Fits.down (fit7 c arg3 arg5 arg6 arg11 arg14 f3 f5 f6 f11 f14 _ _ (fun f11 => read11 c arg5 arg6 arg11 arg14 f5 f6 f11 f14 3)) ?_ 8 le_rfl
  rw [H7_2]
  refine Fits.down (fit7 c arg3 arg5 arg6 arg11 arg14 f3 f5 f6 f11 f14 _ _ (fun f11 => read11 c arg5 arg6 arg11 arg14 f5 f6 f11 f14 2)) ?_ 8 le_rfl
  rw [H7_1]
  refine Fits.down (fit7 c arg3 arg5 arg6 arg11 arg14 f3 f5 f6 f11 f14 _ _ (fun f11 => read11 c arg5 arg6 arg11 arg14 f5 f6 f11 f14 1)) ?_ 8 le_rfl
  rw [H7_0]
  refine Fits.down (fit7 c arg3 arg5 arg6 arg11 arg14 f3 f5 f6 f11 f14 _ _ (fun f11 => read11 c arg5 arg6 arg11 arg14 f5 f6 f11 f14 0)) (fun p hp => absurd hp List.not_mem_nil) 8 le_rfl

theorem mem7 (g : Fin 6) (m : Fin 8) :
    p7 c arg3 arg11 f3 f11 (L11 c arg5 arg6 arg14 f5 f6 f14 g) g m ∈ L7 c arg3 arg5 arg6 arg11 arg14 f3 f5 f6 f11 f14 := by
  unfold L7
  have hm := m.isLt
  by_cases h5 : g = 5
  · subst h5; exact mem_down _ _ 8 le_rfl m hm
  refine mem_down_base _ _ _ _ _ ?_
  rw [H7_4]
  by_cases h4 : g = 4
  · subst h4; exact mem_down _ _ 8 le_rfl m hm
  refine mem_down_base _ _ _ _ _ ?_
  rw [H7_3]
  by_cases h3 : g = 3
  · subst h3; exact mem_down _ _ 8 le_rfl m hm
  refine mem_down_base _ _ _ _ _ ?_
  rw [H7_2]
  by_cases h2 : g = 2
  · subst h2; exact mem_down _ _ 8 le_rfl m hm
  refine mem_down_base _ _ _ _ _ ?_
  rw [H7_1]
  by_cases h1 : g = 1
  · subst h1; exact mem_down _ _ 8 le_rfl m hm
  refine mem_down_base _ _ _ _ _ ?_
  rw [H7_0]
  obtain rfl : g = 0 := by omega
  exact mem_down _ _ 8 le_rfl m hm

end

/-- What that part leaves in the block: the stored numbers, everywhere. -/
theorem run6_apply (c : Dev nD) (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) (h : k0_cond6 i = 1#1)
    (f3 : Bf (F := F) c arg3) (f5 : Bf (F := F) c arg5) (f6 : Bf (F := F) c arg6) (f7 : Bf (F := F) c arg7) (f11 : Bf (F := F) c arg11) (f14 : Bf (F := F) c arg14)
    (y : S1x640x768.Idx) :
    arg7.view.read (Elt F) (run6 c i arg1 harg1 arg2 harg2 arg3 harg3 arg4 harg4 arg5 harg5 arg6 harg6 arg7 harg7 arg8 harg8 arg9 harg9 arg10 harg10 arg11 harg11 arg12 harg12 arg13 harg13 arg14 harg14 arg15 h f3 f5 f6 f7 f11 f14).1 y = v7 c arg3 arg5 arg6 arg14 f3 f5 f6 f14 y := by
  have e : (run6 c i arg1 harg1 arg2 harg2 arg3 harg3 arg4 harg4 arg5 harg5 arg6 harg6 arg7 harg7 arg8 harg8 arg9 harg9 arg10 harg10 arg11 harg11 arg12 harg12 arg13 harg13 arg14 harg14 arg15 h f3 f5 f6 f7 f11 f14).1
      = arg7.view.writes (Elt F) f7 (L7 c arg3 arg5 arg6 arg11 arg14 f3 f5 f6 f11 f14) := by
    delta run6
    refine congrArg (arg7.view.writes (Elt F) f7) ?_
    delta L7
    rfl
  rw [e]
  have h1 : (y 1).val < 640 := (y 1).isLt
  have h2 : (y 2).val < 768 := (y 2).isLt
  have h0 : (y 0).val < 1 := (y 0).isLt
  refine read_fits arg7.view f7 (fits7 c arg3 arg5 arg6 arg11 arg14 f3 f5 f6 f11 f14) y
    ⟨_, mem7 c arg3 arg5 arg6 arg11 arg14 f3 f5 f6 f11 f14 ⟨(y 2).val / 128, by omega⟩ ⟨(y 1).val / 80, by omega⟩, ?_⟩
  refine (Rect.mem_set_unit (inb := inb7 ⟨(y 2).val / 128, by omega⟩ ⟨(y 1).val / 80, by omega⟩)).mpr fun d => ?_
  match d with
  | ⟨0, _⟩ => exact ⟨Nat.zero_le _, by show (y 0).val < 0 + 1; omega⟩
  | ⟨1, _⟩ =>
    constructor
    · show 80 * ((y 1).val / 80) ≤ (y 1).val; omega
    · show (y 1).val < 80 * ((y 1).val / 80) + 80; omega
  | ⟨2, _⟩ =>
    constructor
    · show 128 * ((y 2).val / 128) ≤ (y 2).val; omega
    · show (y 2).val < 128 * ((y 2).val / 128) + 128; omega

end Cert.KernelIdeal.Prf
end
-- ==== Proof.IVal.lean ====
/- What the kernel holds between the grid's points, at the reals, and its result element by element. -/
module
public import proofs.«01_k».proof.Proof.Conv
public import proofs.«01_k».proof.Proof.ITop
public import proofs.«01_k».proof.Proof.IFrame
public import Idealize.ShloMosaic.Lib.Pipeline.ArrRel
public import Idealize.ShloMosaic.Lib.Pipeline.ValueKit
public import Idealize.ShloMosaic.Lib.StableHlo.ReadAt
public import proofs.«01_k».proof.Proof.IProd
public import proofs.«01_k».proof.Proof.IOut
@[expose] public section
set_option maxRecDepth 65536
noncomputable section
namespace Cert.KernelIdeal.Prf
open Cert.KernelIdeal Cert.KernelIdeal.Gen
open Idealize.ShloMosaic Idealize.ShloMosaic.TcCoe Idealize.ShloMosaic.Tactic
open Cert.Conv
variable (m : (ℓ : Loc nD τ sig) → Buf (Elt Ideal) ℓ)

theorem idx : ∀ t : Fin cfg0.N, win0_0.index t = ![min t.val 8 / 3, 0, min t.val 8 % 3] ∧ win0_1.index t = ![min t.val 8 / 3, 0, 0] ∧ win0_2.index t = ![(t.val - 1) / 3, 0, 0]
    ∧ win0_3.index t = ![0, 0] ∧ win0_4.index t = ![0, 0] ∧ win0_5.index t = ![(t.val - 1) / 3, 0, 0] :=
  (by decide +kernel : ∀ t : Fin grid0.N, _)
theorem ib0 (c : Dev nD) (t : Fin cfg0.N) (ht : t.val < 9) (y : S1x640x256.Idx) : iblk m c 0 t y = at3 (n0 := 3) (n1 := 640) (n2 := 768) (m ((c.tc : Thread nD τ).loc main_arg0)) (t.val / 3) (y 1).val (256 * (t.val % 3) + (y 2).val) := by
  show V m c main_arg0 (((cfg0.win 0).blk t).view.emb y) = _
  rw [V_main_arg0]
  have h0 : (y 0).val < 1 := (y 0).isLt
  refine at3_of (n0 := 3) (n1 := 640) (n2 := 768) _ _ _ _ _ ?_ ?_ ?_
  all_goals blk_simp [(idx t).1]
  all_goals omega
theorem ib1 (c : Dev nD) (t : Fin cfg0.N) (ht : t.val < 9) (y : S1x640x24.Idx) : iblk m c 1 t y = at3 (n0 := 3) (n1 := 640) (n2 := 24) (m ((c.tc : Thread nD τ).loc main_arg1)) (t.val / 3) (y 1).val (y 2).val := by
  show V m c main_arg1 (((cfg0.win 1).blk t).view.emb y) = _
  rw [V_main_arg1]
  have h0 : (y 0).val < 1 := (y 0).isLt
  refine at3_of (n0 := 3) (n1 := 640) (n2 := 24) _ _ _ _ _ ?_ ?_ ?_
  all_goals blk_simp [(idx t).2.1]
  all_goals omega

theorem ib2 (c : Dev nD) (t : Fin cfg0.N) (y : S1x640x768.Idx) : iblk m c 2 t y = at3 (n0 := 3) (n1 := 640) (n2 := 768) (m ((c.tc : Thread nD τ).loc main_arg2)) ((t.val - 1) / 3) (y 1).val (y 2).val := by
  show V m c main_arg2 (((cfg0.win 2).blk t).view.emb y) = _
  rw [V_main_arg2]
  have h0 : (y 0).val < 1 := (y 0).isLt
  refine at3_of (n0 := 3) (n1 := 640) (n2 := 768) _ _ _ _ _ ?_ ?_ ?_
  all_goals blk_simp [(idx t).2.2.1]
  all_goals omega

theorem V0_at (c : Dev nD) (z : S1x768.Idx) : V m c main_v0 z = at1 (n := 768) (m ((c.tc : Thread nD τ).loc main_arg4)) (z 1).val := by
  unfold V
  after_reads_at
  exact at1_of (n := 768) (m ((c.tc : Thread nD τ).loc main_arg4)) _ _ rfl

theorem V1_at (c : Dev nD) (z : S1x768.Idx) : V m c main_v1 z = at1 (n := 768) (m ((c.tc : Thread nD τ).loc main_arg5)) (z 1).val := by
  unfold V
  after_reads_at
  exact at1_of (n := 768) (m ((c.tc : Thread nD τ).loc main_arg5)) _ _ rfl

theorem ib3 (c : Dev nD) (t : Fin cfg0.N) (y : S1x768.Idx) : iblk m c 3 t y = at1 (n := 768) (m ((c.tc : Thread nD τ).loc main_arg4)) (y 1).val := by
  show V m c main_v0 (((cfg0.win 3).blk t).view.emb y) = _
  rw [V0_at]
  refine congrArg _ ?_
  blk_simp [(idx t).2.2.2.1]

theorem ib4 (c : Dev nD) (t : Fin cfg0.N) (y : S1x768.Idx) : iblk m c 4 t y = at1 (n := 768) (m ((c.tc : Thread nD τ).loc main_arg5)) (y 1).val := by
  show V m c main_v1 (((cfg0.win 4).blk t).view.emb y) = _
  rw [V1_at]
  refine congrArg _ ?_
  blk_simp [(idx t).2.2.2.2.1]

/-- Which points the body's parts run at. -/
theorem cnd : ∀ t : Fin cfg0.N, (k0_cond3 (grid0.coords t) = 1#1 ↔ t.val < 9) ∧ (k0_cond5 (grid0.coords t) = 1#1 ↔ 1 ≤ t.val) ∧ (k0_cond6 (grid0.coords t) = 1#1 ↔ (t.val % 3 = 0 ∧ t.val ≠ 0)) :=
  (by decide +kernel : ∀ t : Fin grid0.N, _)
theorem cnd4 : ∀ t : Fin cfg0.N, (cond4 (grid0.coords t) ↔ t.val % 3 = 1) :=
  (by decide +kernel : ∀ t : Fin grid0.N, (cond4 (grid0.coords t) ↔ t.val % 3 = 1))
theorem slot_val (t : Fin cfg0.N) : slot (grid0.coords t) = t.val % 2 := by
  have h : k0_off22 (grid0.coords t) 0 = slot (grid0.coords t) := by rw [off22_slot]; rfl
  rw [← h, k0_off22_eq, ← coord_val t]
  rfl

section
variable (c : Dev nD)

abbrev X0 : ℕ → ℕ → ℕ → EReal := at3 (n0 := 3) (n1 := 640) (n2 := 768) (m ((c.tc : Thread nD τ).loc main_arg0))
abbrev S0 : ℕ → ℕ → ℕ → EReal := at3 (n0 := 3) (n1 := 640) (n2 := 24) (m ((c.tc : Thread nD τ).loc main_arg1))
abbrev W0 : ℕ → ℕ → ℕ → EReal := at3 (n0 := 7) (n1 := 768) (n2 := 768) (m ((c.tc : Thread nD τ).loc main_arg3))

/-- What the activation buffer, the accumulator and the block written hold. -/
def PV : Pred Ideal c where
  A n f := ∀ s, s < 9 → (s + 1 = n ∨ s + 2 = n) → ∀ y : S2x928x256.Idx, (y 0).val = s % 2 → (Memref.whole cc0_scratch4).view.read (Elt Ideal) f y = gg (X0 m c) (S0 m c) s (y 1).val (y 2).val
  C n f := 2 ≤ n → ∀ y : S640x768.Idx, (Memref.whole cc0_scratch6).view.read (Elt Ideal) f y = post (X0 m c) (S0 m c) (W0 m c) (n - 2) (y 0).val (y 1).val
  D n f := 1 ≤ n → ∀ y : S640x768.Idx, (Memref.whole cc0_scratch6).view.read (Elt Ideal) f y = pre (X0 m c) (S0 m c) (W0 m c) (n - 1) (y 0).val (y 1).val
  Y t g := t.val % 3 = 0 ∧ t.val ≠ 0 → ∀ y : S1x640x768.Idx, g y = (at3 (n0 := 3) (n1 := 640) (n2 := 768) (m ((c.tc : Thread nD τ).loc main_arg2)) (t.val / 3 - 1) (y 1).val (y 2).val
    + (post (X0 m c) (S0 m c) (W0 m c) (t.val - 1) ((y 1).val % 40 * 16 + (y 1).val / 40) (y 2).val * at1 (n := 768) (m ((c.tc : Thread nD τ).loc main_arg4)) (y 2).val + at1 (n := 768) (m ((c.tc : Thread nD τ).loc main_arg5)) (y 2).val) : EReal)

theorem run4_apply (i : grid0.Coords) (arg1 : Memref sig .tc .vmem S1x640x256 .fp8e4m3) (harg1 : arg1.IsWhole) (arg2 : Memref sig .tc .vmem S1x640x24 .f32) (harg2 : arg2.IsWhole) (arg3 : Memref sig .tc .vmem S1x640x768 .bf16) (harg3 : arg3.IsWhole) (arg4 : Memref sig .tc .hbm S7x768x768 .fp8e4m3) (harg4 : arg4.IsWhole) (arg5 : Memref sig .tc .vmem S1x768 .f32) (harg5 : arg5.IsWhole) (arg6 : Memref sig .tc .vmem S1x768 .f32) (harg6 : arg6.IsWhole) (arg7 : Memref sig .tc .vmem S1x640x768 .bf16) (harg7 : arg7.IsWhole) (arg8 : Memref sig .tc .vmem S872x128 .f32) (harg8 : arg8.IsWhole) (arg9 : Memref sig .tc .vmem S32x128 .f32) (harg9 : arg9.IsWhole) (arg10 : Memref sig .tc .vmem S736x128 .f32) (harg10 : arg10.IsWhole) (arg11 : Memref sig .tc .vmem S736x128 .f32) (harg11 : arg11.IsWhole) (arg12 : Memref sig .tc .vmem S2x928x256 .bf16) (harg12 : arg12.IsWhole) (arg13 : Memref sig .tc .vmem S3x1792x768 .fp8e4m3) (harg13 : arg13.IsWhole) (arg14 : Memref sig .tc .vmem S640x768 .f32) (harg14 : arg14.IsWhole) (arg15 : DmaSems sig S3x7) (h : cond4 i)
    (f14 : Bf (F := Ideal) c arg14) (y : S640x768.Idx) :
    arg14.view.read (Elt Ideal) (run4 c i arg1 harg1 arg2 harg2 arg3 harg3 arg4 harg4 arg5 harg5 arg6 harg6 arg7 harg7 arg8 harg8 arg9 harg9 arg10 harg10 arg11 harg11 arg12 harg12 arg13 harg13 arg14 harg14 arg15 h f14).1 y = (0 : EReal) := by
  delta run4
  dsimp only
  refine read_fits arg14.view f14 (V := fun _ => (0 : EReal)) ?_ y ⟨_, List.mem_singleton.2 rfl, (Rect.mem_set_unit (inb := inb_S640x768_S640x768_0_0)).2 fun d => ?_⟩
  · intro p hp
    obtain rfl := List.mem_singleton.1 hp
    intro j
    show k0_pay3 (F := Ideal) j = (0 : EReal)
    pointwise [k0_pay3]
  · match d with
    | ⟨0, _⟩ => exact ⟨Nat.zero_le _, by have h : (y 0).val < 640 := (y 0).isLt; show (y 0).val < 0 + 640; omega⟩
    | ⟨1, _⟩ => exact ⟨Nat.zero_le _, by have h : (y 1).val < 768 := (y 1).isLt; show (y 1).val < 0 + 768; omega⟩

/-- A dequantised tile is the product the equation speaks of. -/
theorem tileV_gg (t : Fin cfg0.N) (ht : t.val < 9) (arg1 : Memref sig .tc .vmem S1x640x256 .fp8e4m3) (arg2 : Memref sig .tc .vmem S1x640x24 .f32)
    (f1 : Bf (F := Ideal) c arg1) (f2 : Bf (F := Ideal) c arg2) (h1 : arg1.view.read (Elt Ideal) f1 = iblk m c 0 t) (h2 : arg2.view.read (Elt Ideal) f2 = iblk m c 1 t)
    (R col : ℕ) (hc : col < 256) : tileV c arg1 arg2 f1 f2 t.val R col = gg (X0 m c) (S0 m c) t.val R col := by
  unfold tileV gg
  by_cases hR : 9 ≤ 40 * (R % 16) + R / 16 ∧ 40 * (R % 16) + R / 16 < 649
  · rw [if_pos hR, if_pos hR]
    unfold cdV scV
    rw [h1, h2, ib0 m c t ht, ib1 m c t ht]
    show X0 m c (t.val / 3) ((40 * (R % 16) + R / 16 - 9) % 640) (256 * (t.val % 3) + col % 256) * S0 m c (t.val / 3) ((40 * (R % 16) + R / 16 - 9) % 640) ((8 * (t.val % 3) + col / 32) % 24) = _
    rw [Nat.mod_eq_of_lt (show 40 * (R % 16) + R / 16 - 9 < 640 by omega), Nat.mod_eq_of_lt hc, Nat.mod_eq_of_lt (show 8 * (t.val % 3) + col / 32 < 24 by omega)]
  · rw [if_neg hR, if_neg hR]

theorem PV_ok : (PV m c).Ok m c where
  a0 f := by intro s hs h; omega
  c0 f := by intro h; omega
  n3 t h f hA := by
    have ht : ¬ t.val < 9 := fun h' => h ((cnd t).1.2 h')
    intro s hs hn y hy
    exact hA s hs (by omega) y hy
  n4 t h f hC := by
    have ht : ¬ t.val % 3 = 1 := fun h' => h ((cnd4 t).2 h')
    intro h1 y
    by_cases e : t.val = 1
    · omega
    · refine (hC (by omega) y).trans ?_
      rw [show t.val - 1 = (t.val - 2) + 1 by omega]
      exact (pre_succ (X0 m c) (S0 m c) (W0 m c) (t.val - 2) _ _ (by omega)).symm
  n5 t h f hD := by
    have ht : ¬ 1 ≤ t.val := fun h' => h ((cnd t).2.1.2 h')
    intro h2; omega
  n6 t h X := by
    intro h'; exact absurd ((cnd t).2.2.2 h') h
  p3 t arg1 harg1 arg2 harg2 arg3 harg3 arg5 harg5 arg6 harg6 arg7 harg7 h f1 f2 f8 f9 f10 f12 h1 h2 hA := by
    have ht : t.val < 9 := (cnd t).1.1 h
    intro s hs hn y hy
    rw [run3_apply, slot_val]
    have hy2 : (y 2).val < 256 := (y 2).isLt
    by_cases e : s = t.val
    · subst e
      rw [if_pos hy]
      unfold v12
      rw [coord_val]
      exact tileV_gg m c t ht arg1 arg2 f1 f2 h1 h2 _ _ hy2
    · rw [if_neg (by omega)]
      exact hA s hs (by omega) y hy
  p4 t arg1 harg1 arg2 harg2 arg3 harg3 arg5 harg5 arg6 harg6 arg7 harg7 h f hC := by
    have ht : t.val % 3 = 1 := (cnd4 t).1 h
    intro h1 y
    rw [run4_apply]
    unfold Conv.pre
    rw [if_pos (by omega)]
  p5 t arg1 harg1 arg2 harg2 arg3 harg3 arg5 harg5 arg6 harg6 arg7 harg7 h f12 f14 hA hD := by
    have ht : 1 ≤ t.val := (cnd t).2.1.1 h
    intro h2 y
    have hN : t.val < 10 := t.isLt
    rw [run5_apply (s := ⟨(t.val - 1) % 2, by omega⟩) (q := ⟨(t.val - 1) % 3, by omega⟩) (hs := by rw [k0_off99_eq, coord_val]; congr 1; show 1 - t.val % 2 = (t.val - 1) % 2; omega)
      (hq := by rw [k0_off100_eq, coord_val]; congr 1; show (t.val + 2) % 3 = (t.val - 1) % 3; omega)]
    unfold v14
    rw [show t.val + 1 - 2 = t.val - 1 by omega]
    unfold Conv.post
    rw [hD ht y]
    refine congrArg (fun z : EReal => Conv.pre (X0 m c) (S0 m c) (W0 m c) (t.val - 1) (y 0).val (y 1).val + z) ?_
    unfold term
    refine Finset.sum_congr rfl fun κ _ => ?_
    have hκ : κ.val < 1792 := κ.isLt
    refine congr (congrArg HMul.hMul ?_) ?_
    · exact hA (t.val - 1) (by omega) (Or.inr (by omega)) _ rfl
    · show WF c (V m c main_arg3) _ = _
      rw [V_main_arg3]
      refine at3_of (n0 := 7) (n1 := 768) (n2 := 768) _ _ _ _ _ ?_ ?_ ?_
      all_goals rfl
  p6 t arg1 harg1 arg2 harg2 arg3 harg3 arg5 harg5 arg6 harg6 arg7 harg7 h f3 f5 f6 f7 f11 f14 h3 h5 h6 hC := by
    intro ht y
    rw [run6_apply]
    have hy1 : (y 1).val < 640 := (y 1).isLt
    unfold v7
    rw [h3, h5, h6, hC (by omega), ib2, ib3, ib4]
    rw [show t.val + 1 - 2 = t.val - 1 by omega, show (t.val - 1) / 3 = t.val / 3 - 1 by omega]
    rfl

/-- The output is written back at the end of each batch, to a block of its own. -/
theorem flush5 : ∀ t : Fin cfg0.N, (t.val % 3 = 0 ∧ t.val ≠ 0) → (cfg0.win 5).flush t = true :=
  (by decide +kernel : ∀ t : Fin grid0.N, (t.val % 3 = 0 ∧ t.val ≠ 0) → win0_5.flush t = true)
theorem inj5 : ∀ t t' : Fin cfg0.N, (cfg0.win 5).flush t = true → (cfg0.win 5).flush t' = true → win0_5.index t = win0_5.index t' → t = t' :=
  (by decide +kernel : ∀ t t' : Fin grid0.N, win0_5.flush t = true → win0_5.flush t' = true → win0_5.index t = win0_5.index t' → t = t')
theorem disjoint5 : ∀ t t' : Fin cfg0.N, (cfg0.win 5).flush t = true → (cfg0.win 5).flush t' = true → t ≠ t' →
    Disjoint ((cfg0.win 5).blk t).view.set ((cfg0.win 5).blk t').view.set :=
  fun t t' hf hf' hne => (cfg0.win 5).disjoint_blk fun h => hne (inj5 t t' hf hf' h)

end

/-- The kernel's result. -/
theorem result (r : PUnit × MemSt nD τ sig (Elt Ideal))
    (h : Pipeline.RDat.FramePost cfg0 (fun c => (dat m c (PV m c)).toRRel fg (Rl c (PV m c))) (V m) r) (c : Dev nD) :
    r.2.mem ((c.tc : Thread nD τ).loc main_v2) = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  obtain ⟨after, ha, hm⟩ := h.exists_exact c
  refine (hm 5).trans (funext fun y => ?_)
  have hb : (y 0).val < 3 := (y 0).isLt
  have hT : (y 1).val < 640 := (y 1).isLt
  have hN : 3 * (y 0).val + 3 < 10 := by omega
  have hf := flush5 ⟨3 * (y 0).val + 3, hN⟩ ⟨by show (3 * (y 0).val + 3) % 3 = 0; omega, by show 3 * (y 0).val + 3 ≠ 0; omega⟩
  have hY : (PV m c).Y ⟨3 * (y 0).val + 3, hN⟩ (after 5 ⟨3 * (y 0).val + 3, hN⟩) := Pipeline.Dat.toRRel_leaves (dat m c (PV m c)) (w := 5) rfl (ha 5 _ hf)
  have hY' := hY ⟨by show (3 * (y 0).val + 3) % 3 = 0; omega, by show 3 * (y 0).val + 3 ≠ 0; omega⟩ (ix3 (n0 := 1) (n1 := 640) (n2 := 768) 0 (y 1) (y 2))
  have hk := congrFun ((((dat m c (PV m c)).toRRel fg (Rl c (PV m c))).withAfter after).read_blk_arrAt_eq_flushed 5 disjoint5 cfg0.N ⟨3 * (y 0).val + 3, hN⟩ hN hf)
    (ix3 (n0 := 1) (n1 := 640) (n2 := 768) 0 (y 1) (y 2))
  have ey : ((cfg0.win 5).blk ⟨3 * (y 0).val + 3, hN⟩).view.emb (ix3 (n0 := 1) (n1 := 640) (n2 := 768) 0 (y 1) (y 2)) = y := by
    funext d
    apply Fin.ext
    match d with
    | ⟨0, _⟩ =>
      show (((cfg0.win 5).blk ⟨3 * (y 0).val + 3, hN⟩).view.emb (ix3 (n0 := 1) (n1 := 640) (n2 := 768) 0 (y 1) (y 2)) 0).val = (y 0).val
      blk_simp [(idx ⟨3 * (y 0).val + 3, hN⟩).2.2.2.2.2]
      show (3 * (y 0).val + 3 - 1) / 3 + 0 = (y 0).val
      omega
    | ⟨1, _⟩ =>
      show (((cfg0.win 5).blk ⟨3 * (y 0).val + 3, hN⟩).view.emb (ix3 (n0 := 1) (n1 := 640) (n2 := 768) 0 (y 1) (y 2)) 1).val = (y 1).val
      blk_simp [(idx ⟨3 * (y 0).val + 3, hN⟩).2.2.2.2.2]
      try rfl
    | ⟨2, _⟩ =>
      show (((cfg0.win 5).blk ⟨3 * (y 0).val + 3, hN⟩).view.emb (ix3 (n0 := 1) (n1 := 640) (n2 := 768) 0 (y 1) (y 2)) 2).val = (y 2).val
      blk_simp [(idx ⟨3 * (y 0).val + 3, hN⟩).2.2.2.2.2]
      try rfl
  refine (congrArg ((((dat m c (PV m c)).toRRel fg (Rl c (PV m c))).withAfter after).arrAt 5 cfg0.N) ey.symm).trans (hk.trans (hY'.trans ?_))
  unfold G
  have e1 : (⟨3 * (y 0).val + 3, hN⟩ : Fin cfg0.N).val / 3 - 1 = (y 0).val := by show (3 * (y 0).val + 3) / 3 - 1 = _; omega
  have e2 : (⟨3 * (y 0).val + 3, hN⟩ : Fin cfg0.N).val - 1 = 3 * (y 0).val + 2 := by show (3 * (y 0).val + 3) - 1 = _; omega
  rw [e1, e2, show (ix3 (n0 := 1) (n1 := 640) (n2 := 768) 0 (y 1) (y 2)) 1 = y 1 from rfl, show (ix3 (n0 := 1) (n1 := 640) (n2 := 768) 0 (y 1) (y 2)) 2 = y 2 from rfl]
  have hp := post_eq (X0 m c) (S0 m c) (W0 m c) (y 0).val (y 1).val (y 2).val hT
  rw [show (y 1).val % 40 * 16 + (y 1).val / 40 = 16 * ((y 1).val % 40) + (y 1).val / 40 by omega, hp,
    at3_of (n0 := 3) (n1 := 640) (n2 := 768) (m ((c.tc : Thread nD τ).loc main_arg2)) y _ _ _ rfl rfl rfl]

end Cert.KernelIdeal.Prf
-- ==== Proof.RVal.lean ====
/- The reference's result, element by element. -/
module

public import proofs.«01_k».proof.Proof.Conv
public import proofs.«01_k».proof.Proof.Gen.ReferenceIdeal.Value
public import Idealize.ShloMosaic.Lib.Pointwise
public import Idealize.ShloMosaic.Lib.Pipeline.ValueKit
public import Idealize.ShloMosaic.Lib.StableHlo.ReadAt

@[expose] public section

set_option maxRecDepth 65536

noncomputable section

namespace Cert.ReferenceIdeal.Prf

open Cert.ReferenceIdeal Cert.ReferenceIdeal.Gen
open Idealize.ShloMosaic Idealize.ShloMosaic.TcCoe Idealize.ShloMosaic.Tactic

/-- One tap's product for one batch, as the body writes it. -/
def mm (b k : ℕ) (hb : S3x640x768.Slices ![b, 0, 0] S1x640x768) (hk : S7x768x768.Slices ![k, 0, 0] S1x768x768)
    (v5 : FVec Ideal S3x640x768 .bf16) (v7 : FVec Ideal S7x768x768 .bf16) : FVec Ideal S640x768 .f32 :=
  matmul dot_S640x768_S768x768_S640x768_1_0_0_1_n_n none
    (shapeCast S640x768 (extractStridedSlice S1x640x768 ![b, 0, 0] v5 hb) shapeCasts_S1x640x768_S640x768)
    (shapeCast S768x768 (extractStridedSlice S1x768x768 ![k, 0, 0] v7 hk) shapeCasts_S1x768x768_S768x768)
    (constant S640x768 .f32 0x00000000#32)

theorem mm_at (b : Fin 3) (k : Fin 7) (hb : S3x640x768.Slices ![b.val, 0, 0] S1x640x768) (hk : S7x768x768.Slices ![k.val, 0, 0] S1x768x768)
    (v5 : FVec Ideal S3x640x768 .bf16) (v7 : FVec Ideal S7x768x768 .bf16) (j : S640x768.Idx) :
    mm b.val k.val hb hk v5 v7 j = ∑ i : Fin 768, (v5 (ix3 (n0 := 3) (n1 := 640) (n2 := 768) b (j 0) i) * v7 (ix3 (n0 := 7) (n1 := 768) (n2 := 768) k i (j 1)) : EReal) := by
  pointwise [mm]

theorem pay11_at (a0 a1 a2 a3 a4 a5 a6 : FVec Ideal S640x768 .f32) (x : Vec Ideal S1x640x768 .bf16) (ws bs : Vec Ideal S1x768 .f32) (j : S1x640x768.Idx)
    (d : ℕ → ℕ → ℕ → EReal) (h0 : ∀ z : S640x768.Idx, a0 z = d 0 (z 0).val (z 1).val) (h1 : ∀ z : S640x768.Idx, a1 z = d 1 (z 0).val (z 1).val)
    (h2 : ∀ z : S640x768.Idx, a2 z = d 2 (z 0).val (z 1).val) (h3 : ∀ z : S640x768.Idx, a3 z = d 3 (z 0).val (z 1).val)
    (h4 : ∀ z : S640x768.Idx, a4 z = d 4 (z 0).val (z 1).val) (h5 : ∀ z : S640x768.Idx, a5 z = d 5 (z 0).val (z 1).val)
    (h6 : ∀ z : S640x768.Idx, a6 z = d 6 (z 0).val (z 1).val) :
    k0_pay11 (F := Ideal) a0 a1 a2 a3 a4 a5 a6 (Scalar.ofBits .f32 0x00000000#32) x ws bs j
      = (x j + ((d 3 (j 1).val (j 2).val + (if (j 1).val < 9 then 0 else d 0 ((j 1).val - 9) (j 2).val) + (if (j 1).val < 6 then 0 else d 1 ((j 1).val - 6) (j 2).val)
        + (if (j 1).val < 3 then 0 else d 2 ((j 1).val - 3) (j 2).val) + (if (j 1).val < 637 then d 4 ((j 1).val + 3) (j 2).val else 0)
        + (if (j 1).val < 634 then d 5 ((j 1).val + 6) (j 2).val else 0) + (if (j 1).val < 631 then d 6 ((j 1).val + 9) (j 2).val else 0))
          * ws (ix2 (n0 := 1) (n1 := 768) 0 (j 2)) + bs (ix2 (n0 := 1) (n1 := 768) 0 (j 2))) : EReal) := by
  pointwise [k0_pay11]
  simp only [h0, h1, h2, h3, h4, h5, h6]
  rw [Nat.add_comm (j 1).val 3, Nat.add_comm (j 1).val 6, Nat.add_comm (j 1).val 9]
  rfl

variable (x0 : Vec Ideal S3x640x768 .fp8e4m3) (x1 : Vec Ideal S3x640x768 .f32) (x2 : Vec Ideal S3x640x768 .bf16) (x3 : Vec Ideal S7x768x768 .fp8e4m3)
    (x4 x5 : Vec Ideal S1x768 .f32)

/-- One batch of the output. -/
def outB (b : ℕ) (hb : S3x640x768.Slices ![b, 0, 0] S1x640x768) (r : Vec Ideal S1x640x768 .bf16) : FVec Ideal S1x640x768 .bf16 :=
  k0_pay11 (mm b 0 hb slices_S7x768x768_o0_0_0_S1x768x768 (k0_pay2 (View.ld x0 r0_0) (View.ld x1 r0_0)) (k0_pay3 (View.ld x3 r0_1)))
    (mm b 1 hb slices_S7x768x768_o1_0_0_S1x768x768 (k0_pay2 (View.ld x0 r0_0) (View.ld x1 r0_0)) (k0_pay3 (View.ld x3 r0_1)))
    (mm b 2 hb slices_S7x768x768_o2_0_0_S1x768x768 (k0_pay2 (View.ld x0 r0_0) (View.ld x1 r0_0)) (k0_pay3 (View.ld x3 r0_1)))
    (mm b 3 hb slices_S7x768x768_o3_0_0_S1x768x768 (k0_pay2 (View.ld x0 r0_0) (View.ld x1 r0_0)) (k0_pay3 (View.ld x3 r0_1)))
    (mm b 4 hb slices_S7x768x768_o4_0_0_S1x768x768 (k0_pay2 (View.ld x0 r0_0) (View.ld x1 r0_0)) (k0_pay3 (View.ld x3 r0_1)))
    (mm b 5 hb slices_S7x768x768_o5_0_0_S1x768x768 (k0_pay2 (View.ld x0 r0_0) (View.ld x1 r0_0)) (k0_pay3 (View.ld x3 r0_1)))
    (mm b 6 hb slices_S7x768x768_o6_0_0_S1x768x768 (k0_pay2 (View.ld x0 r0_0) (View.ld x1 r0_0)) (k0_pay3 (View.ld x3 r0_1)))
    (Scalar.ofBits .f32 0x00000000#32) r (View.ld x4 r0_3) (View.ld x5 r0_3)

theorem out_eq : out0_6 x0 x1 x2 x3 x4 x5
    = View.canon [⟨r0_5, outB x0 x1 x3 x4 x5 2 slices_S3x640x768_o2_0_0_S1x640x768 (View.ld x2 r0_5)⟩,
      ⟨r0_4, outB x0 x1 x3 x4 x5 1 slices_S3x640x768_o1_0_0_S1x640x768 (View.ld x2 r0_4)⟩,
      ⟨r0_2, outB x0 x1 x3 x4 x5 0 slices_S3x640x768_o0_0_0_S1x640x768 (View.ld x2 r0_2)⟩] := rfl

open Cert.Conv

/-- One batch of the output, at an element. -/
theorem outB_at (b : Fin 3) (hb : S3x640x768.Slices ![b.val, 0, 0] S1x640x768) (r : Vec Ideal S1x640x768 .bf16) (j : S1x640x768.Idx)
    (S : ℕ → ℕ → ℕ → EReal) (hS : ∀ z : S3x640x768.Idx, x1 z = S (z 0).val (z 1).val ((z 2).val / 32)) :
    outB x0 x1 x3 x4 x5 b.val hb r j
      = (r j + (conv (at3 (n0 := 3) (n1 := 640) (n2 := 768) x0) S (at3 (n0 := 7) (n1 := 768) (n2 := 768) x3) b.val (j 1).val (j 2).val * x4 (ix2 (n0 := 1) (n1 := 768) 0 (j 2)) + x5 (ix2 (n0 := 1) (n1 := 768) 0 (j 2))) : EReal) := by
  have ld0 : View.ld x0 r0_0 = x0 := by
    funext z; refine congrArg x0 (funext fun d => Fin.ext ?_)
    match d with
    | ⟨0, _⟩ => show 0 + 1 * (z 0).val = (z 0).val; omega
    | ⟨1, _⟩ => show 0 + 1 * (z 1).val = (z 1).val; omega
    | ⟨2, _⟩ => show 0 + 1 * (z 2).val = (z 2).val; omega
  have ld1 : View.ld x1 r0_0 = x1 := by
    funext z; refine congrArg x1 (funext fun d => Fin.ext ?_)
    match d with
    | ⟨0, _⟩ => show 0 + 1 * (z 0).val = (z 0).val; omega
    | ⟨1, _⟩ => show 0 + 1 * (z 1).val = (z 1).val; omega
    | ⟨2, _⟩ => show 0 + 1 * (z 2).val = (z 2).val; omega
  have ld3 : View.ld x3 r0_1 = x3 := by
    funext z; refine congrArg x3 (funext fun d => Fin.ext ?_)
    match d with
    | ⟨0, _⟩ => show 0 + 1 * (z 0).val = (z 0).val; omega
    | ⟨1, _⟩ => show 0 + 1 * (z 1).val = (z 1).val; omega
    | ⟨2, _⟩ => show 0 + 1 * (z 2).val = (z 2).val; omega
  have ldr : ∀ x : Vec Ideal S1x768 .f32, View.ld x r0_3 = x := by
    intro x; funext z; refine congrArg x (funext fun d => Fin.ext ?_)
    match d with
    | ⟨0, _⟩ => show 0 + 1 * (z 0).val = (z 0).val; omega
    | ⟨1, _⟩ => show 0 + 1 * (z 1).val = (z 1).val; omega
  have p2 : ∀ z : S3x640x768.Idx, k0_pay2 (F := Ideal) x0 x1 z = (x0 z * x1 z : EReal) := by intro z; pointwise [k0_pay2]
  have p3 : ∀ z : S7x768x768.Idx, k0_pay3 (F := Ideal) x3 z = (x3 z : EReal) := by intro z; pointwise [k0_pay3]
  have hd : ∀ (k : Fin 7) (hk : S7x768x768.Slices ![k.val, 0, 0] S1x768x768) (z : S640x768.Idx), mm b.val k.val hb hk (k0_pay2 x0 x1) (k0_pay3 x3) z
      = dot (at3 (n0 := 3) (n1 := 640) (n2 := 768) x0) S (at3 (n0 := 7) (n1 := 768) (n2 := 768) x3) b.val k.val (z 0).val (z 1).val := by
    intro k hk z
    refine (mm_at b k hb hk _ _ z).trans ?_
    unfold dot
    refine Finset.sum_congr rfl fun i _ => ?_
    rw [p2, p3, hS]
    refine congr (congrArg HMul.hMul (congr (congrArg HMul.hMul ?_) ?_)) ?_
    · exact at3_of (n0 := 3) (n1 := 640) (n2 := 768) x0 _ _ _ _ rfl rfl rfl
    · rfl
    · exact at3_of (n0 := 7) (n1 := 768) (n2 := 768) x3 _ _ _ _ rfl rfl rfl
  unfold outB
  rw [ld0, ld1, ld3, ldr x4, ldr x5]
  exact pay11_at _ _ _ _ _ _ _ r x4 x5 j (fun k => dot (at3 (n0 := 3) (n1 := 640) (n2 := 768) x0) S (at3 (n0 := 7) (n1 := 768) (n2 := 768) x3) b.val k)
    (hd 0 _) (hd 1 _) (hd 2 _) (hd 3 _) (hd 4 _) (hd 5 _) (hd 6 _)

theorem emb_r (b : ℕ) (inb) (y : S3x640x768.Idx) (h : (y 0).val = b) :
    (Rect.unit (s := S3x640x768) ![b, 0, 0] S1x640x768.size inb).emb (ix3 (n0 := 1) (n1 := 640) (n2 := 768) 0 (y 1) (y 2)) = y := by
  funext d
  apply Fin.ext
  match d with
  | ⟨0, _⟩ => show b + 1 * 0 = (y 0).val; omega
  | ⟨1, _⟩ => show 0 + 1 * (y 1).val = (y 1).val; omega
  | ⟨2, _⟩ => show 0 + 1 * (y 2).val = (y 2).val; omega

theorem not_mem_r (b : ℕ) (inb) (y : S3x640x768.Idx) (h : (y 0).val ≠ b) : y ∉ (Rect.unit (s := S3x640x768) ![b, 0, 0] S1x640x768.size inb).set := by
  intro hm
  have h0 : b ≤ (y 0).val ∧ (y 0).val < b + 1 := (Rect.mem_set_unit (inb := inb)).1 hm 0
  omega

/-- Three stored batches, read at an element. -/
theorem canon3 (w0 w1 w2 : Vec Ideal S1x640x768 .bf16) (y : S3x640x768.Idx) :
    View.canon [⟨r0_5, w2⟩, ⟨r0_4, w1⟩, ⟨r0_2, w0⟩] y
      = (if (y 0).val = 2 then w2 else if (y 0).val = 1 then w1 else w0) (ix3 (n0 := 1) (n1 := 640) (n2 := 768) 0 (y 1) (y 2)) := by
  have hy0 : (y 0).val < 3 := (y 0).isLt
  by_cases e2 : (y 0).val = 2
  · rw [if_pos e2]
    exact (congrArg (View.canon [⟨r0_5, w2⟩, ⟨r0_4, w1⟩, ⟨r0_2, w0⟩]) (emb_r 2 _ y e2).symm).trans (View.canon_cons_emb r0_5 w2 _ _)
  rw [if_neg e2, View.canon_cons_of_not_mem ⟨r0_5, w2⟩ _ (not_mem_r 2 inb_S3x640x768_S1x640x768_2_0_0 y e2)]
  by_cases e1 : (y 0).val = 1
  · rw [if_pos e1]
    exact (congrArg (View.canon [⟨r0_4, w1⟩, ⟨r0_2, w0⟩]) (emb_r 1 _ y e1).symm).trans (View.canon_cons_emb r0_4 w1 _ _)
  rw [if_neg e1, View.canon_cons_of_not_mem ⟨r0_4, w1⟩ _ (not_mem_r 1 inb_S3x640x768_S1x640x768_1_0_0 y e1)]
  exact (congrArg (View.canon [⟨r0_2, w0⟩]) (emb_r 0 _ y (by omega)).symm).trans (View.canon_cons_emb r0_2 w0 _ _)

theorem ld_r (x2 : Vec Ideal S3x640x768 .bf16) (b : ℕ) (inb) (y : S3x640x768.Idx) (h : (y 0).val = b) :
    View.ld x2 (Rect.unit (s := S3x640x768) ![b, 0, 0] S1x640x768.size inb) (ix3 (n0 := 1) (n1 := 640) (n2 := 768) 0 (y 1) (y 2)) = x2 y :=
  congrArg x2 (emb_r b inb y h)

/-- The output at an element. -/
theorem out_at (y : S3x640x768.Idx)
    (S : ℕ → ℕ → ℕ → EReal) (hS : ∀ z : S3x640x768.Idx, x1 z = S (z 0).val (z 1).val ((z 2).val / 32)) :
    out0_6 x0 x1 x2 x3 x4 x5 y
      = (x2 y + (conv (at3 (n0 := 3) (n1 := 640) (n2 := 768) x0) S (at3 (n0 := 7) (n1 := 768) (n2 := 768) x3) (y 0).val (y 1).val (y 2).val * x4 (ix2 (n0 := 1) (n1 := 768) 0 (y 2)) + x5 (ix2 (n0 := 1) (n1 := 768) 0 (y 2))) : EReal) := by
  rw [out_eq, canon3]
  have hy0 : (y 0).val < 3 := (y 0).isLt
  by_cases e2 : (y 0).val = 2
  · rw [if_pos e2, e2]
    exact (outB_at x0 x1 x3 x4 x5 2 slices_S3x640x768_o2_0_0_S1x640x768 _ _ S hS).trans (congrArg (· + _) (ld_r x2 2 _ y e2))
  rw [if_neg e2]
  by_cases e1 : (y 0).val = 1
  · rw [if_pos e1, e1]
    exact (outB_at x0 x1 x3 x4 x5 1 slices_S3x640x768_o1_0_0_S1x640x768 _ _ S hS).trans (congrArg (· + _) (ld_r x2 1 _ y e1))
  have e0 : (y 0).val = 0 := by omega
  rw [if_neg e1, e0]
  exact (outB_at x0 x1 x3 x4 x5 0 slices_S3x640x768_o0_0_0_S1x640x768 _ _ S hS).trans (congrArg (· + _) (ld_r x2 0 _ y e0))

variable (m : (ℓ : Loc nD τ sig) → Buf (Elt Ideal) ℓ) (ρ : Dev nD → PrngReg)

/-- The broadcast scales, at an element. -/
theorem V2_at (c : Dev nD) (z : S3x640x768.Idx) :
    V m c main_v2 z = at3 (n0 := 3) (n1 := 640) (n2 := 24) (m ((c.tc : Thread nD τ).loc main_arg1)) (z 0).val (z 1).val ((z 2).val / 32) := by
  unfold V
  after_reads_at
  exact at3_of (n0 := 3) (n1 := 640) (n2 := 24) (m ((c.tc : Thread nD τ).loc main_arg1)) _ _ _ _ rfl rfl rfl

theorem V3_at (c : Dev nD) (z : S1x768.Idx) : V m c main_v3 z = at1 (n := 768) (m ((c.tc : Thread nD τ).loc main_arg4)) (z 1).val := by
  unfold V
  after_reads_at
  exact at1_of (n := 768) (m ((c.tc : Thread nD τ).loc main_arg4)) _ _ rfl

theorem V4_at (c : Dev nD) (z : S1x768.Idx) : V m c main_v4 z = at1 (n := 768) (m ((c.tc : Thread nD τ).loc main_arg5)) (z 1).val := by
  unfold V
  after_reads_at
  exact at1_of (n := 768) (m ((c.tc : Thread nD τ).loc main_arg5)) _ _ rfl

/-- Every window is the whole of its array. -/
theorem idx : ∀ t : Fin cfg0.N, win0_0.index t = ![0, 0, 0] ∧ win0_1.index t = ![0, 0, 0] ∧ win0_2.index t = ![0, 0, 0]
    ∧ win0_3.index t = ![0, 0, 0] ∧ win0_4.index t = ![0, 0] ∧ win0_5.index t = ![0, 0] :=
  (by decide +kernel : ∀ t : Fin grid0.N, _)

theorem ib0 (c : Dev nD) (t : Fin cfg0.N) (y : S3x640x768.Idx) : iblk m c 0 t y = V m c main_arg0 y := by
  show V m c main_arg0 (((cfg0.win 0).blk t).view.emb y) = _
  refine congrArg (V m c main_arg0) (funext fun d => Fin.ext ?_)
  match d with
  | ⟨0, _⟩ => show (((cfg0.win 0).blk t).view.emb y 0).val = (y 0).val; blk_simp [(idx t).1]; try omega
  | ⟨1, _⟩ => show (((cfg0.win 0).blk t).view.emb y 1).val = (y 1).val; blk_simp [(idx t).1]; try omega
  | ⟨2, _⟩ => show (((cfg0.win 0).blk t).view.emb y 2).val = (y 2).val; blk_simp [(idx t).1]; try omega

theorem ib1 (c : Dev nD) (t : Fin cfg0.N) (y : S3x640x768.Idx) : iblk m c 1 t y = V m c main_v2 y := by
  show V m c main_v2 (((cfg0.win 1).blk t).view.emb y) = _
  refine congrArg (V m c main_v2) (funext fun d => Fin.ext ?_)
  match d with
  | ⟨0, _⟩ => show (((cfg0.win 1).blk t).view.emb y 0).val = (y 0).val; blk_simp [(idx t).2.1]; try omega
  | ⟨1, _⟩ => show (((cfg0.win 1).blk t).view.emb y 1).val = (y 1).val; blk_simp [(idx t).2.1]; try omega
  | ⟨2, _⟩ => show (((cfg0.win 1).blk t).view.emb y 2).val = (y 2).val; blk_simp [(idx t).2.1]; try omega

theorem ib2 (c : Dev nD) (t : Fin cfg0.N) (y : S3x640x768.Idx) : iblk m c 2 t y = V m c main_arg2 y := by
  show V m c main_arg2 (((cfg0.win 2).blk t).view.emb y) = _
  refine congrArg (V m c main_arg2) (funext fun d => Fin.ext ?_)
  match d with
  | ⟨0, _⟩ => show (((cfg0.win 2).blk t).view.emb y 0).val = (y 0).val; blk_simp [(idx t).2.2.1]; try omega
  | ⟨1, _⟩ => show (((cfg0.win 2).blk t).view.emb y 1).val = (y 1).val; blk_simp [(idx t).2.2.1]; try omega
  | ⟨2, _⟩ => show (((cfg0.win 2).blk t).view.emb y 2).val = (y 2).val; blk_simp [(idx t).2.2.1]; try omega

theorem ib3 (c : Dev nD) (t : Fin cfg0.N) (y : S7x768x768.Idx) : iblk m c 3 t y = V m c main_arg3 y := by
  show V m c main_arg3 (((cfg0.win 3).blk t).view.emb y) = _
  refine congrArg (V m c main_arg3) (funext fun d => Fin.ext ?_)
  match d with
  | ⟨0, _⟩ => show (((cfg0.win 3).blk t).view.emb y 0).val = (y 0).val; blk_simp [(idx t).2.2.2.1]; try omega
  | ⟨1, _⟩ => show (((cfg0.win 3).blk t).view.emb y 1).val = (y 1).val; blk_simp [(idx t).2.2.2.1]; try omega
  | ⟨2, _⟩ => show (((cfg0.win 3).blk t).view.emb y 2).val = (y 2).val; blk_simp [(idx t).2.2.2.1]; try omega

theorem ib4 (c : Dev nD) (t : Fin cfg0.N) (y : S1x768.Idx) : iblk m c 4 t y = V m c main_v3 y := by
  show V m c main_v3 (((cfg0.win 4).blk t).view.emb y) = _
  refine congrArg (V m c main_v3) (funext fun d => Fin.ext ?_)
  match d with
  | ⟨0, _⟩ => show (((cfg0.win 4).blk t).view.emb y 0).val = (y 0).val; blk_simp [(idx t).2.2.2.2.1]; try omega
  | ⟨1, _⟩ => show (((cfg0.win 4).blk t).view.emb y 1).val = (y 1).val; blk_simp [(idx t).2.2.2.2.1]; try omega

theorem ib5 (c : Dev nD) (t : Fin cfg0.N) (y : S1x768.Idx) : iblk m c 5 t y = V m c main_v4 y := by
  show V m c main_v4 (((cfg0.win 5).blk t).view.emb y) = _
  refine congrArg (V m c main_v4) (funext fun d => Fin.ext ?_)
  match d with
  | ⟨0, _⟩ => show (((cfg0.win 5).blk t).view.emb y 0).val = (y 0).val; blk_simp [(idx t).2.2.2.2.2]; try omega
  | ⟨1, _⟩ => show (((cfg0.win 5).blk t).view.emb y 1).val = (y 1).val; blk_simp [(idx t).2.2.2.2.2]; try omega

/-- The block the body leaves, at an element. -/
theorem after_at (c : Dev nD) (t : Fin cfg0.N) (y : S3x640x768.Idx) : (dats m 0 c).after 6 t y = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) y := by
  rw [after0_6]
  have e0 : iblk m c 0 t = (m ((c.tc : Thread nD τ).loc main_arg0)) := (funext (ib0 m c t)).trans (V_main_arg0 m c)
  have e2 : iblk m c 2 t = (m ((c.tc : Thread nD τ).loc main_arg2)) := (funext (ib2 m c t)).trans (V_main_arg2 m c)
  have e3 : iblk m c 3 t = (m ((c.tc : Thread nD τ).loc main_arg3)) := (funext (ib3 m c t)).trans (V_main_arg3 m c)
  refine (out_at (iblk m c 0 t) (iblk m c 1 t) (iblk m c 2 t) (iblk m c 3 t) (iblk m c 4 t) (iblk m c 5 t) y (at3 (n0 := 3) (n1 := 640) (n2 := 24) (m ((c.tc : Thread nD τ).loc main_arg1)))
    (fun z => (ib1 m c t z).trans (V2_at m c z))).trans ?_
  rw [e0, e2, e3, ib4, ib5, V3_at, V4_at]
  rfl

/-- The reference's result. -/
theorem arr_out (c : Dev nD) : (dats m 0 c).arrAt 6 cfg0.N = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_after_last 6 (⟨0, by decide⟩ : Fin grid0.N) (by decide +kernel) _ (fun j => ?_)
  refine (after_at m c _ _).trans ?_
  refine congrArg (G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (funext fun d => Fin.ext ?_)
  match d with
  | ⟨0, _⟩ => rfl
  | ⟨1, _⟩ => rfl
  | ⟨2, _⟩ => rfl

end Cert.ReferenceIdeal.Prf
-- ==== Proof.lean ====
module

public import proofs.«01_k».proof.Proof.Gen.ReferenceIdeal.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.IFrame
public import proofs.«01_k».proof.Proof.KFrame
public import proofs.«01_k».proof.Proof.IVal
public import proofs.«01_k».proof.Proof.RVal
public import Idealize.ShloMosaic.Adequacy
public import Idealize.ShloMosaic.Init

@[expose] public section

noncomputable section

namespace Cert.Proof

open Idealize.ShloMosaic Idealize.SL.Sem Cert.Kernel

/-- Both programs leave the unit's output, written with the one formula `Cert.Conv.G`. -/
theorem algebraic : Cert.algebraic_KernelIdeal_ReferenceIdeal (hKernelIdeal := Cert.KernelIdeal.Gen.facts) (hReferenceIdeal := Cert.ReferenceIdeal.Gen.facts) := by
  intro m g m' g' _ hag
  refine ⟨fun c => Cert.Conv.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨Cert.KernelIdeal.Prf.result m r h.1 c, Cert.KernelIdeal.Prf.args_of m (fun c => Cert.KernelIdeal.Prf.PV m c) r h.1 c⟩)
      (Cert.KernelIdeal.Prf.run_main m g (fun c => Cert.KernelIdeal.Prf.PV m c) fun c => Cert.KernelIdeal.Prf.PV_ok m c)
  · refine (θ_run Cert.ReferenceIdeal.defs _ _).mono (fun r h c => ⟨(h c).1.trans ?_, (h c).2⟩) (Cert.ReferenceIdeal.Value.run_blocks m' g')
    obtain ⟨h0, h1, h2, h3, h4, h5⟩ := hag c
    rw [Cert.ReferenceIdeal.Prf.arr_out, h0, h1, h2, h3, h4, h5]

theorem claim : Cert.Claim := ⟨Cert.Kernel.Gen.facts, Cert.KernelIdeal.Gen.facts, Cert.ReferenceIdeal.Gen.facts,
  fun m ρ _ => Cert.Kernel.Prf.frame_main m ρ, fun m ρ _ => Cert.KernelIdeal.Prf.frame_main m ρ,
  fun m ρ _ => Cert.ReferenceIdeal.Gen.frame m ρ, trivial, algebraic⟩

end Cert.Proof

end
